-- ==== Defs.lean ====
def Pre_Mixer (m : (ℓ : Loc Cert.Mixer.nD Cert.Mixer.τ Cert.Mixer.sig) → Buf (Elt Bits) ℓ) : Prop :=
  True

def Pre_MixerIdeal (m : (ℓ : Loc Cert.MixerIdeal.nD Cert.MixerIdeal.τ Cert.MixerIdeal.sig) → Buf (Elt Ideal) ℓ) : Prop :=
  True

def Pre_MixerReferenceIdeal (m : (ℓ : Loc Cert.MixerReferenceIdeal.nD Cert.MixerReferenceIdeal.τ Cert.MixerReferenceIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def quiescent_Mixer [hMixer : Cert.Mixer.Facts] : Prop :=
  ∀ (m : (ℓ : Loc Cert.Mixer.nD Cert.Mixer.τ Cert.Mixer.sig) → Buf (Elt Bits) ℓ) (g : Dev Cert.Mixer.nD → PrngReg), Pre_Mixer m →
    θ_run (Cert.Mixer.defs (F := Bits)) (onTc (τ := Cert.Mixer.τ) (Cert.Mixer.main (F := Bits))) ⟨m, fun _ => 0, g⟩ (fun r => (∀ c : Dev Cert.Mixer.nD,
      r.2.mem ((c.tc : Thread Cert.Mixer.nD Cert.Mixer.τ).loc Cert.Mixer.main_arg0) = m ((c.tc : Thread Cert.Mixer.nD Cert.Mixer.τ).loc Cert.Mixer.main_arg0)
      ∧ r.2.mem ((c.tc : Thread Cert.Mixer.nD Cert.Mixer.τ).loc Cert.Mixer.main_arg1) = m ((c.tc : Thread Cert.Mixer.nD Cert.Mixer.τ).loc Cert.Mixer.main_arg1)
      ∧ r.2.mem ((c.tc : Thread Cert.Mixer.nD Cert.Mixer.τ).loc Cert.Mixer.main_arg2) = m ((c.tc : Thread Cert.Mixer.nD Cert.Mixer.τ).loc Cert.Mixer.main_arg2)
      ∧ r.2.mem ((c.tc : Thread Cert.Mixer.nD Cert.Mixer.τ).loc Cert.Mixer.main_arg3) = m ((c.tc : Thread Cert.Mixer.nD Cert.Mixer.τ).loc Cert.Mixer.main_arg3)
      ∧ r.2.mem ((c.tc : Thread Cert.Mixer.nD Cert.Mixer.τ).loc Cert.Mixer.main_arg4) = m ((c.tc : Thread Cert.Mixer.nD Cert.Mixer.τ).loc Cert.Mixer.main_arg4)
      ∧ r.2.mem ((c.tc : Thread Cert.Mixer.nD Cert.Mixer.τ).loc Cert.Mixer.main_arg5) = m ((c.tc : Thread Cert.Mixer.nD Cert.Mixer.τ).loc Cert.Mixer.main_arg5)
      ∧ r.2.mem ((c.tc : Thread Cert.Mixer.nD Cert.Mixer.τ).loc Cert.Mixer.main_arg6) = m ((c.tc : Thread Cert.Mixer.nD Cert.Mixer.τ).loc Cert.Mixer.main_arg6)
      ∧ r.2.mem ((c.tc : Thread Cert.Mixer.nD Cert.Mixer.τ).loc Cert.Mixer.main_arg7) = m ((c.tc : Thread Cert.Mixer.nD Cert.Mixer.τ).loc Cert.Mixer.main_arg7))
      ∧ r.2.sem = fun _ => 0)

def quiescent_MixerIdeal [hMixerIdeal : Cert.MixerIdeal.Facts] : Prop :=
  ∀ (m : (ℓ : Loc Cert.MixerIdeal.nD Cert.MixerIdeal.τ Cert.MixerIdeal.sig) → Buf (Elt Ideal) ℓ) (g : Dev Cert.MixerIdeal.nD → PrngReg), Pre_MixerIdeal m →
    θ_run (Cert.MixerIdeal.defs (F := Ideal)) (onTc (τ := Cert.MixerIdeal.τ) (Cert.MixerIdeal.main (F := Ideal))) ⟨m, fun _ => 0, g⟩ (fun r => (∀ c : Dev Cert.MixerIdeal.nD,
      r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
      ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
      ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
      ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
      ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4)
      ∧ r.2.mem ((c.tc : Thread Cert.MixerIdeal.nD Cert.MixerIdeal.τ).loc Cert.MixerIdeal.main_arg5) = m ((c.tc : Thread Cert.MixerIdeal.nD Cert.MixerIdeal.τ).loc Cert.MixerIdeal.main_arg5)
      ∧ r.2.mem ((c.tc : Thread Cert.MixerIdeal.nD Cert.MixerIdeal.τ).loc Cert.MixerIdeal.main_arg6) = m ((c.tc : Thread Cert.MixerIdeal.nD Cert.MixerIdeal.τ).loc Cert.MixerIdeal.main_arg6)
      ∧ r.2.mem ((c.tc : Thread Cert.MixerIdeal.nD Cert.MixerIdeal.τ).loc Cert.MixerIdeal.main_arg7) = m ((c.tc : Thread Cert.MixerIdeal.nD Cert.MixerIdeal.τ).loc Cert.MixerIdeal.main_arg7))
      ∧ r.2.sem = fun _ => 0)

def quiescent_MixerReferenceIdeal [hMixerReferenceIdeal : Cert.MixerReferenceIdeal.Facts] : Prop :=
  ∀ (m : (ℓ : Loc Cert.MixerReferenceIdeal.nD Cert.MixerReferenceIdeal.τ Cert.MixerReferenceIdeal.sig) → Buf (Elt Ideal) ℓ) (g : Dev Cert.MixerReferenceIdeal.nD → PrngReg), Pre_MixerReferenceIdeal m →
    θ_run (Cert.MixerReferenceIdeal.defs (F := Ideal)) (onTc (τ := Cert.MixerReferenceIdeal.τ) (Cert.MixerReferenceIdeal.main (F := Ideal))) ⟨m, fun _ => 0, g⟩ (fun r => (∀ c : Dev Cert.MixerReferenceIdeal.nD,
      r.2.mem ((c.tc : Thread Cert.MixerReferenceIdeal.nD Cert.MixerReferenceIdeal.τ).loc Cert.MixerReferenceIdeal.main_arg0) = m ((c.tc : Thread Cert.MixerReferenceIdeal.nD Cert.MixerReferenceIdeal.τ).loc Cert.MixerReferenceIdeal.main_arg0)
      ∧ r.2.mem ((c.tc : Thread Cert.MixerReferenceIdeal.nD Cert.MixerReferenceIdeal.τ).loc Cert.MixerReferenceIdeal.main_arg1) = m ((c.tc : Thread Cert.MixerReferenceIdeal.nD Cert.MixerReferenceIdeal.τ).loc Cert.MixerReferenceIdeal.main_arg1)
      ∧ r.2.mem ((c.tc : Thread Cert.MixerReferenceIdeal.nD Cert.MixerReferenceIdeal.τ).loc Cert.MixerReferenceIdeal.main_arg2) = m ((c.tc : Thread Cert.MixerReferenceIdeal.nD Cert.MixerReferenceIdeal.τ).loc Cert.MixerReferenceIdeal.main_arg2)
      ∧ r.2.mem ((c.tc : Thread Cert.MixerReferenceIdeal.nD Cert.MixerReferenceIdeal.τ).loc Cert.MixerReferenceIdeal.main_arg3) = m ((c.tc : Thread Cert.MixerReferenceIdeal.nD Cert.MixerReferenceIdeal.τ).loc Cert.MixerReferenceIdeal.main_arg3)
      ∧ r.2.mem ((c.tc : Thread Cert.MixerReferenceIdeal.nD Cert.MixerReferenceIdeal.τ).loc Cert.MixerReferenceIdeal.main_arg4) = m ((c.tc : Thread Cert.MixerReferenceIdeal.nD Cert.MixerReferenceIdeal.τ).loc Cert.MixerReferenceIdeal.main_arg4)
      ∧ r.2.mem ((c.tc : Thread Cert.MixerReferenceIdeal.nD Cert.MixerReferenceIdeal.τ).loc Cert.MixerReferenceIdeal.main_arg5) = m ((c.tc : Thread Cert.MixerReferenceIdeal.nD Cert.MixerReferenceIdeal.τ).loc Cert.MixerReferenceIdeal.main_arg5)
      ∧ r.2.mem ((c.tc : Thread Cert.MixerReferenceIdeal.nD Cert.MixerReferenceIdeal.τ).loc Cert.MixerReferenceIdeal.main_arg6) = m ((c.tc : Thread Cert.MixerReferenceIdeal.nD Cert.MixerReferenceIdeal.τ).loc Cert.MixerReferenceIdeal.main_arg6)
      ∧ r.2.mem ((c.tc : Thread Cert.MixerReferenceIdeal.nD Cert.MixerReferenceIdeal.τ).loc Cert.MixerReferenceIdeal.main_arg7) = m ((c.tc : Thread Cert.MixerReferenceIdeal.nD Cert.MixerReferenceIdeal.τ).loc Cert.MixerReferenceIdeal.main_arg7))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5))
      ∧ r.2.sem = fun _ => 0)

def preserves_Mixer_MixerIdeal : Prop :=
  True

def algebraic_MixerIdeal_MixerReferenceIdeal [hMixerIdeal : Cert.MixerIdeal.Facts] [hMixerReferenceIdeal : Cert.MixerReferenceIdeal.Facts] : Prop :=
  ∀ (m : (ℓ : Loc Cert.MixerIdeal.nD Cert.MixerIdeal.τ Cert.MixerIdeal.sig) → Buf (Elt Ideal) ℓ) (g : Dev Cert.MixerIdeal.nD → PrngReg)
    (m' : (ℓ : Loc Cert.MixerReferenceIdeal.nD Cert.MixerReferenceIdeal.τ Cert.MixerReferenceIdeal.sig) → Buf (Elt Ideal) ℓ) (g' : Dev Cert.MixerReferenceIdeal.nD → PrngReg), Pre_MixerIdeal m →
    (∀ c : Dev Cert.MixerIdeal.nD,
      m' ((c.tc : Thread Cert.MixerReferenceIdeal.nD Cert.MixerReferenceIdeal.τ).loc Cert.MixerReferenceIdeal.main_arg0) = m ((c.tc : Thread Cert.MixerIdeal.nD Cert.MixerIdeal.τ).loc Cert.MixerIdeal.main_arg0)
      ∧ m' ((c.tc : Thread Cert.MixerReferenceIdeal.nD Cert.MixerReferenceIdeal.τ).loc Cert.MixerReferenceIdeal.main_arg1) = m ((c.tc : Thread Cert.MixerIdeal.nD Cert.MixerIdeal.τ).loc Cert.MixerIdeal.main_arg1)
      ∧ m' ((c.tc : Thread Cert.MixerReferenceIdeal.nD Cert.MixerReferenceIdeal.τ).loc Cert.MixerReferenceIdeal.main_arg2) = m ((c.tc : Thread Cert.MixerIdeal.nD Cert.MixerIdeal.τ).loc Cert.MixerIdeal.main_arg2)
      ∧ m' ((c.tc : Thread Cert.MixerReferenceIdeal.nD Cert.MixerReferenceIdeal.τ).loc Cert.MixerReferenceIdeal.main_arg3) = m ((c.tc : Thread Cert.MixerIdeal.nD Cert.MixerIdeal.τ).loc Cert.MixerIdeal.main_arg3)
      ∧ m' ((c.tc : Thread Cert.MixerReferenceIdeal.nD Cert.MixerReferenceIdeal.τ).loc Cert.MixerReferenceIdeal.main_arg4) = m ((c.tc : Thread Cert.MixerIdeal.nD Cert.MixerIdeal.τ).loc Cert.MixerIdeal.main_arg4)
      ∧ m' ((c.tc : Thread Cert.MixerReferenceIdeal.nD Cert.MixerReferenceIdeal.τ).loc Cert.MixerReferenceIdeal.main_arg5) = m ((c.tc : Thread Cert.MixerIdeal.nD Cert.MixerIdeal.τ).loc Cert.MixerIdeal.main_arg5)
      ∧ m' ((c.tc : Thread Cert.MixerReferenceIdeal.nD Cert.MixerReferenceIdeal.τ).loc Cert.MixerReferenceIdeal.main_arg6) = m ((c.tc : Thread Cert.MixerIdeal.nD Cert.MixerIdeal.τ).loc Cert.MixerIdeal.main_arg6)
      ∧ m' ((c.tc : Thread Cert.MixerReferenceIdeal.nD Cert.MixerReferenceIdeal.τ).loc Cert.MixerReferenceIdeal.main_arg7) = m ((c.tc : Thread Cert.MixerIdeal.nD Cert.MixerIdeal.τ).loc Cert.MixerIdeal.main_arg7)) →
    ∃ (v0 : (c : Dev Cert.MixerIdeal.nD) → Buf (Elt Ideal) ((c.tc : Thread Cert.MixerIdeal.nD Cert.MixerIdeal.τ).loc Cert.MixerIdeal.main_v19)),
      θ_run (Cert.MixerIdeal.defs (F := Ideal)) (onTc (τ := Cert.MixerIdeal.τ) (Cert.MixerIdeal.main (F := Ideal))) ⟨m, fun _ => 0, g⟩ (fun r => ∀ c : Dev Cert.MixerIdeal.nD,
          r.2.mem ((c.tc : Thread Cert.MixerIdeal.nD Cert.MixerIdeal.τ).loc Cert.MixerIdeal.main_v19) = v0 c
          ∧ r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
          ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
          ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
          ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
          ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4)
          ∧ r.2.mem ((c.tc : Thread Cert.MixerIdeal.nD Cert.MixerIdeal.τ).loc Cert.MixerIdeal.main_arg5) = m ((c.tc : Thread Cert.MixerIdeal.nD Cert.MixerIdeal.τ).loc Cert.MixerIdeal.main_arg5)
          ∧ r.2.mem ((c.tc : Thread Cert.MixerIdeal.nD Cert.MixerIdeal.τ).loc Cert.MixerIdeal.main_arg6) = m ((c.tc : Thread Cert.MixerIdeal.nD Cert.MixerIdeal.τ).loc Cert.MixerIdeal.main_arg6)
          ∧ r.2.mem ((c.tc : Thread Cert.MixerIdeal.nD Cert.MixerIdeal.τ).loc Cert.MixerIdeal.main_arg7) = m ((c.tc : Thread Cert.MixerIdeal.nD Cert.MixerIdeal.τ).loc Cert.MixerIdeal.main_arg7))
      ∧ θ_run (Cert.MixerReferenceIdeal.defs (F := Ideal)) (onTc (τ := Cert.MixerReferenceIdeal.τ) (Cert.MixerReferenceIdeal.main (F := Ideal))) ⟨m', fun _ => 0, g'⟩ (fun r => ∀ c : Dev Cert.MixerReferenceIdeal.nD,
          r.2.mem ((c.tc : Thread Cert.MixerReferenceIdeal.nD Cert.MixerReferenceIdeal.τ).loc Cert.MixerReferenceIdeal.main_v118) = v0 c
          ∧ r.2.mem ((c.tc : Thread Cert.MixerReferenceIdeal.nD Cert.MixerReferenceIdeal.τ).loc Cert.MixerReferenceIdeal.main_arg0) = m' ((c.tc : Thread Cert.MixerReferenceIdeal.nD Cert.MixerReferenceIdeal.τ).loc Cert.MixerReferenceIdeal.main_arg0)
          ∧ r.2.mem ((c.tc : Thread Cert.MixerReferenceIdeal.nD Cert.MixerReferenceIdeal.τ).loc Cert.MixerReferenceIdeal.main_arg1) = m' ((c.tc : Thread Cert.MixerReferenceIdeal.nD Cert.MixerReferenceIdeal.τ).loc Cert.MixerReferenceIdeal.main_arg1)
          ∧ r.2.mem ((c.tc : Thread Cert.MixerReferenceIdeal.nD Cert.MixerReferenceIdeal.τ).loc Cert.MixerReferenceIdeal.main_arg2) = m' ((c.tc : Thread Cert.MixerReferenceIdeal.nD Cert.MixerReferenceIdeal.τ).loc Cert.MixerReferenceIdeal.main_arg2)
          ∧ r.2.mem ((c.tc : Thread Cert.MixerReferenceIdeal.nD Cert.MixerReferenceIdeal.τ).loc Cert.MixerReferenceIdeal.main_arg3) = m' ((c.tc : Thread Cert.MixerReferenceIdeal.nD Cert.MixerReferenceIdeal.τ).loc Cert.MixerReferenceIdeal.main_arg3)
          ∧ r.2.mem ((c.tc : Thread Cert.MixerReferenceIdeal.nD Cert.MixerReferenceIdeal.τ).loc Cert.MixerReferenceIdeal.main_arg4) = m' ((c.tc : Thread Cert.MixerReferenceIdeal.nD Cert.MixerReferenceIdeal.τ).loc Cert.MixerReferenceIdeal.main_arg4)
          ∧ r.2.mem ((c.tc : Thread Cert.MixerReferenceIdeal.nD Cert.MixerReferenceIdeal.τ).loc Cert.MixerReferenceIdeal.main_arg5) = m' ((c.tc : Thread Cert.MixerReferenceIdeal.nD Cert.MixerReferenceIdeal.τ).loc Cert.MixerReferenceIdeal.main_arg5)
          ∧ r.2.mem ((c.tc : Thread Cert.MixerReferenceIdeal.nD Cert.MixerReferenceIdeal.τ).loc Cert.MixerReferenceIdeal.main_arg6) = m' ((c.tc : Thread Cert.MixerReferenceIdeal.nD Cert.MixerReferenceIdeal.τ).loc Cert.MixerReferenceIdeal.main_arg6)
          ∧ r.2.mem ((c.tc : Thread Cert.MixerReferenceIdeal.nD Cert.MixerReferenceIdeal.τ).loc Cert.MixerReferenceIdeal.main_arg7) = m' ((c.tc : Thread Cert.MixerReferenceIdeal.nD Cert.MixerReferenceIdeal.τ).loc Cert.MixerReferenceIdeal.main_arg7))

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)
      ∧ m' ((c.tc : Thread Cert.FfnReferenceIdeal.nD Cert.FfnReferenceIdeal.τ).loc Cert.FfnReferenceIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v10)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v10) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v36) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5))

def Claim : Prop :=
  ∃ (hMixer : Cert.Mixer.Facts) (hMixerIdeal : Cert.MixerIdeal.Facts) (hMixerReferenceIdeal : Cert.MixerReferenceIdeal.Facts) (hFfn : Cert.Ffn.Facts) (hFfnIdeal : Cert.FfnIdeal.Facts) (hFfnReferenceIdeal : Cert.FfnReferenceIdeal.Facts),
    quiescent_Mixer (hMixer := hMixer)
    ∧ quiescent_MixerIdeal (hMixerIdeal := hMixerIdeal)
    ∧ quiescent_MixerReferenceIdeal (hMixerReferenceIdeal := hMixerReferenceIdeal)
    ∧ quiescent_Ffn (hFfn := hFfn)
    ∧ quiescent_FfnIdeal (hFfnIdeal := hFfnIdeal)
    ∧ quiescent_FfnReferenceIdeal (hFfnReferenceIdeal := hFfnReferenceIdeal)
    ∧ preserves_Mixer_MixerIdeal
    ∧ algebraic_MixerIdeal_MixerReferenceIdeal (hMixerIdeal := hMixerIdeal) (hMixerReferenceIdeal := hMixerReferenceIdeal)
    ∧ preserves_Ffn_FfnIdeal
    ∧ algebraic_FfnIdeal_FfnReferenceIdeal (hFfnIdeal := hFfnIdeal) (hFfnReferenceIdeal := hFfnReferenceIdeal)
-- ==== Mixer.lean ====
abbrev S16x2048x1024 : Shape := ⟨3, ![16, 2048, 1024]⟩
abbrev S1x1024 : Shape := ⟨2, ![1, 1024]⟩
abbrev S1x1024x3088 : Shape := ⟨3, ![1, 1024, 3088]⟩
abbrev S1x16x256 : Shape := ⟨3, ![1, 16, 256]⟩
abbrev S1x256 : Shape := ⟨2, ![1, 256]⟩
abbrev S1x128 : Shape := ⟨2, ![1, 128]⟩
abbrev S1x3x512 : Shape := ⟨3, ![1, 3, 512]⟩
abbrev S1x1024x1024 : Shape := ⟨3, ![1, 1024, 1024]⟩
abbrev S1024x3088 : Shape := ⟨2, ![1024, 3088]⟩
abbrev S1024x1536 : Shape := ⟨2, ![1024, 1536]⟩
abbrev S1024x16 : Shape := ⟨2, ![1024, 16]⟩
abbrev S_ : Shape := ⟨0, ![]⟩
abbrev S1024x128 : Shape := ⟨2, ![1024, 128]⟩
abbrev S1024x3200 : Shape := ⟨2, ![1024, 3200]⟩
abbrev S16x256 : Shape := ⟨2, ![16, 256]⟩
abbrev S128x256 : Shape := ⟨2, ![128, 256]⟩
abbrev S1024 : Shape := ⟨1, ![1024]⟩
abbrev S256 : Shape := ⟨1, ![256]⟩
abbrev S128 : Shape := ⟨1, ![128]⟩
abbrev S3x512 : Shape := ⟨2, ![3, 512]⟩
abbrev S1024x1024 : Shape := ⟨2, ![1024, 1024]⟩
abbrev S1x512x1024 : Shape := ⟨3, ![1, 512, 1024]⟩
abbrev S520x512 : Shape := ⟨2, ![520, 512]⟩
abbrev S4x128x128 : Shape := ⟨3, ![4, 128, 128]⟩
abbrev S512x1024 : Shape := ⟨2, ![512, 1024]⟩
abbrev S8x512 : Shape := ⟨2, ![8, 512]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩
abbrev S512x128 : Shape := ⟨2, ![512, 128]⟩
abbrev S512x256 : Shape := ⟨2, ![512, 256]⟩
abbrev S64x128 : Shape := ⟨2, ![64, 128]⟩
abbrev S64x256 : Shape := ⟨2, ![64, 256]⟩
abbrev S1024x256 : Shape := ⟨2, ![1024, 256]⟩
abbrev S128x128 : Shape := ⟨2, ![128, 128]⟩
abbrev S3x256 : Shape := ⟨2, ![3, 256]⟩
abbrev S8x256 : Shape := ⟨2, ![8, 256]⟩
abbrev S1x128x128 : Shape := ⟨3, ![1, 128, 128]⟩
abbrev S256x128 : Shape := ⟨2, ![256, 128]⟩
abbrev S64 : Shape := ⟨1, ![64]⟩
abbrev S64x1 : Shape := ⟨2, ![64, 1]⟩

abbrev nBuf : Space → Nat
  | .hbm => 32
  | .vmem => 14
  | .smem => 0
  | _ => 0

abbrev bufTy : (tb : Table) → Fin (tcTables nBuf tb) → BufTy
  | .hbm, ⟨0, _⟩ => ⟨S16x2048x1024, .f32⟩
  | .hbm, ⟨1, _⟩ => ⟨S1x1024, .f32⟩
  | .hbm, ⟨2, _⟩ => ⟨S1x1024x3088, .f32⟩
  | .hbm, ⟨3, _⟩ => ⟨S1x16x256, .f32⟩
  | .hbm, ⟨4, _⟩ => ⟨S1x256, .f32⟩
  | .hbm, ⟨5, _⟩ => ⟨S1x128, .f32⟩
  | .hbm, ⟨6, _⟩ => ⟨S1x3x512, .f32⟩
  | .hbm, ⟨7, _⟩ => ⟨S1x1024x1024, .f32⟩
  | .hbm, ⟨8, _⟩ => ⟨S1024x3088, .f32⟩
  | .hbm, ⟨9, _⟩ => ⟨S1024x1536, .f32⟩
  | .hbm, ⟨10, _⟩ => ⟨S1024x1536, .f32⟩
  | .hbm, ⟨11, _⟩ => ⟨S1024x16, .f32⟩
  | .hbm, ⟨12, _⟩ => ⟨S_, .i32⟩
  | .hbm, ⟨13, _⟩ => ⟨S_, .f32⟩
  | .hbm, ⟨14, _⟩ => ⟨S1024x128, .f32⟩
  | .hbm, ⟨15, _⟩ => ⟨S1024x3200, .f32⟩
  | .hbm, ⟨16, _⟩ => ⟨S1024x3200, .bf16⟩
  | .hbm, ⟨17, _⟩ => ⟨S16x256, .f32⟩
  | .hbm, ⟨18, _⟩ => ⟨S_, .i32⟩
  | .hbm, ⟨19, _⟩ => ⟨S_, .f32⟩
  | .hbm, ⟨20, _⟩ => ⟨S128x256, .f32⟩
  | .hbm, ⟨21, _⟩ => ⟨S128x256, .bf16⟩
  | .hbm, ⟨22, _⟩ => ⟨S1024, .f32⟩
  | .hbm, ⟨23, _⟩ => ⟨S1x1024, .f32⟩
  | .hbm, ⟨24, _⟩ => ⟨S256, .f32⟩
  | .hbm, ⟨25, _⟩ => ⟨S1x256, .f32⟩
  | .hbm, ⟨26, _⟩ => ⟨S128, .f32⟩
  | .hbm, ⟨27, _⟩ => ⟨S1x128, .f32⟩
  | .hbm, ⟨28, _⟩ => ⟨S3x512, .f32⟩
  | .hbm, ⟨29, _⟩ => ⟨S1024x1024, .f32⟩
  | .hbm, ⟨30, _⟩ => ⟨S1024x1024, .bf16⟩
  | .hbm, ⟨31, _⟩ => ⟨S16x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x3200, .bf16⟩
  | .local _ .vmem, ⟨4, _⟩ => ⟨S128x256, .bf16⟩
  | .local _ .vmem, ⟨5, _⟩ => ⟨S1x256, .f32⟩
  | .local _ .vmem, ⟨6, _⟩ => ⟨S1x128, .f32⟩
  | .local _ .vmem, ⟨7, _⟩ => ⟨S3x512, .f32⟩
  | .local _ .vmem, ⟨8, _⟩ => ⟨S1024x1024, .bf16⟩
  | .local _ .vmem, ⟨9, _⟩ => ⟨S1x512x1024, .f32⟩
  | .local _ .vmem, ⟨10, _⟩ => ⟨S1x512x1024, .f32⟩
  | .local _ .vmem, ⟨11, _⟩ => ⟨S520x512, .f32⟩
  | .local _ .vmem, ⟨12, _⟩ => ⟨S4x128x128, .f32⟩
  | .local _ .vmem, ⟨13, _⟩ => ⟨S512x1024, .bf16⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_call0_v0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c_0 : Ref sig .tc := ⟨.hbm, 18, rfl⟩
abbrev main_call1_v0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x3200 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S3x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== MixerReferenceIdeal.lean ====
abbrev S16x2048x1024 : Shape := ⟨3, ![16, 2048, 1024]⟩
abbrev S1x1024 : Shape := ⟨2, ![1, 1024]⟩
abbrev S1x1024x3088 : Shape := ⟨3, ![1, 1024, 3088]⟩
abbrev S1x16x256 : Shape := ⟨3, ![1, 16, 256]⟩
abbrev S1x256 : Shape := ⟨2, ![1, 256]⟩
abbrev S1x128 : Shape := ⟨2, ![1, 128]⟩
abbrev S1x3x512 : Shape := ⟨3, ![1, 3, 512]⟩
abbrev S1x1024x1024 : Shape := ⟨3, ![1, 1024, 1024]⟩
abbrev S1024 : Shape := ⟨1, ![1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S1024x3088 : Shape := ⟨2, ![1024, 3088]⟩
abbrev S16x2048x3088 : Shape := ⟨3, ![16, 2048, 3088]⟩
abbrev S16x2048x256 : Shape := ⟨3, ![16, 2048, 256]⟩
abbrev S16x2048x512 : Shape := ⟨3, ![16, 2048, 512]⟩
abbrev S16x2048x16 : Shape := ⟨3, ![16, 2048, 16]⟩
abbrev S16x2048x4x64 : Shape := ⟨4, ![16, 2048, 4, 64]⟩
abbrev S16x2048x4x128 : Shape := ⟨4, ![16, 2048, 4, 128]⟩
abbrev S16x256 : Shape := ⟨2, ![16, 256]⟩
abbrev S256 : Shape := ⟨1, ![256]⟩
abbrev S1x1x256 : Shape := ⟨3, ![1, 1, 256]⟩
abbrev S16x32x64x4x64 : Shape := ⟨5, ![16, 32, 64, 4, 64]⟩
abbrev S32x16x4x64x64 : Shape := ⟨5, ![32, 16, 4, 64, 64]⟩
abbrev S16x32x64x4x128 : Shape := ⟨5, ![16, 32, 64, 4, 128]⟩
abbrev S32x16x4x64x128 : Shape := ⟨5, ![32, 16, 4, 64, 128]⟩
abbrev S32x16x4x1x64 : Shape := ⟨5, ![32, 16, 4, 1, 64]⟩
abbrev S64x64 : Shape := ⟨2, ![64, 64]⟩
abbrev S32x16x4x64 : Shape := ⟨4, ![32, 16, 4, 64]⟩
abbrev S16x4x64x128 : Shape := ⟨4, ![16, 4, 64, 128]⟩
abbrev S1x16x4x64 : Shape := ⟨4, ![1, 16, 4, 64]⟩
abbrev S16x4x64 : Shape := ⟨3, ![16, 4, 64]⟩
abbrev S1x16x4x64x128 : Shape := ⟨5, ![1, 16, 4, 64, 128]⟩
abbrev S16x4x64x1 : Shape := ⟨4, ![16, 4, 64, 1]⟩
abbrev S128 : Shape := ⟨1, ![128]⟩
abbrev S16x2048x4 : Shape := ⟨3, ![16, 2048, 4]⟩
abbrev S16x2048x4x1 : Shape := ⟨4, ![16, 2048, 4, 1]⟩
abbrev S1x1x1x128 : Shape := ⟨4, ![1, 1, 1, 128]⟩
abbrev S3x512 : Shape := ⟨2, ![3, 512]⟩
abbrev S16x2050x512 : Shape := ⟨3, ![16, 2050, 512]⟩
abbrev S1x512 : Shape := ⟨2, ![1, 512]⟩
abbrev S512 : Shape := ⟨1, ![512]⟩
abbrev S1x1x512 : Shape := ⟨3, ![1, 1, 512]⟩
abbrev S1024x1024 : Shape := ⟨2, ![1024, 1024]⟩

abbrev nBuf : Space → Nat
  | .hbm => 207
  | .vmem => 0
  | .smem => 0
  | _ => 0

abbrev hbmTy0_0 (i : Nat) : BufTy := match i % 128 with
  | 0 => ⟨S16x2048x1024, .f32⟩
  | 1 => ⟨S1x1024, .f32⟩
  | 2 => ⟨S1x1024x3088, .f32⟩
  | 3 => ⟨S1x16x256, .f32⟩
  | 4 => ⟨S1x256, .f32⟩
  | 5 => ⟨S1x128, .f32⟩
  | 6 => ⟨S1x3x512, .f32⟩
  | 7 => ⟨S1x1024x1024, .f32⟩
  | 8 => ⟨S1024, .f32⟩
  | 9 => ⟨S16x2048x1024, .f32⟩
  | 10 => ⟨S_, .f32⟩
  | 11 => ⟨S16x2048, .f32⟩
  | 12 => ⟨S16x2048x1, .f32⟩
  | 13 => ⟨S_, .f32⟩
  | 14 => ⟨S16x2048x1, .f32⟩
  | 15 => ⟨S16x2048x1, .f32⟩
  | 16 => ⟨S_, .f32⟩
  | 17 => ⟨S16x2048x1, .f32⟩
  | 18 => ⟨S16x2048x1, .f32⟩
  | 19 => ⟨S16x2048x1, .f32⟩
  | 20 => ⟨S16x2048x1024, .f32⟩
  | 21 => ⟨S16x2048x1024, .f32⟩
  | 22 => ⟨S1x1x1024, .f32⟩
  | 23 => ⟨S16x2048x1024, .f32⟩
  | 24 => ⟨S16x2048x1024, .f32⟩
  | 25 => ⟨S1024x3088, .f32⟩
  | 26 => ⟨S16x2048x3088, .f32⟩
  | 27 => ⟨S16x2048x256, .f32⟩
  | 28 => ⟨S16x2048x256, .f32⟩
  | 29 => ⟨S16x2048x512, .f32⟩
  | 30 => ⟨S16x2048x512, .f32⟩
  | 31 => ⟨S16x2048x16, .f32⟩
  | 32 => ⟨S16x2048x512, .f32⟩
  | 33 => ⟨S16x2048x512, .f32⟩
  | 34 => ⟨S16x2048x512, .f32⟩
  | 35 => ⟨S16x2048x4x64, .f32⟩
  | 36 => ⟨S_, .f32⟩
  | 37 => ⟨S16x2048x4x64, .f32⟩
  | 38 => ⟨S16x2048x4x64, .f32⟩
  | 39 => ⟨S16x2048x4x64, .f32⟩
  | 40 => ⟨S16x2048x4x128, .f32⟩
  | 41 => ⟨S16x256, .f32⟩
  | 42 => ⟨S16x2048x256, .f32⟩
  | 43 => ⟨S256, .f32⟩
  | 44 => ⟨S1x1x256, .f32⟩
  | 45 => ⟨S16x2048x256, .f32⟩
  | 46 => ⟨S16x2048x256, .f32⟩
  | 47 => ⟨S16x2048x256, .f32⟩
  | 48 => ⟨S_, .f32⟩
  | 49 => ⟨S16x2048x256, .f32⟩
  | 50 => ⟨S16x2048x256, .f32⟩
  | 51 => ⟨S16x2048x256, .f32⟩
  | 52 => ⟨S16x2048x256, .f32⟩
  | 53 => ⟨S16x2048x256, .i1⟩
  | 54 => ⟨S16x2048x256, .f32⟩
  | 55 => ⟨S16x2048x256, .f32⟩
  | 56 => ⟨S16x2048x256, .f32⟩
  | 57 => ⟨S16x2048x256, .f32⟩
  | 58 => ⟨S16x2048x256, .f32⟩
  | 59 => ⟨S16x2048x256, .f32⟩
  | 60 => ⟨S16x2048x256, .f32⟩
  | 61 => ⟨S16x2048x256, .f32⟩
  | 62 => ⟨S16x2048x256, .f32⟩
  | 63 => ⟨S_, .f32⟩
  | 64 => ⟨S16x2048x256, .f32⟩
  | 65 => ⟨S16x2048x256, .f32⟩
  | 66 => ⟨S16x2048x4x64, .f32⟩
  | 67 => ⟨S16x32x64x4x64, .f32⟩
  | 68 => ⟨S32x16x4x64x64, .f32⟩
  | 69 => ⟨S16x32x64x4x64, .f32⟩
  | 70 => ⟨S32x16x4x64x64, .f32⟩
  | 71 => ⟨S16x32x64x4x128, .f32⟩
  | 72 => ⟨S32x16x4x64x128, .f32⟩
  | 73 => ⟨S16x32x64x4x64, .f32⟩
  | 74 => ⟨S32x16x4x64x64, .f32⟩
  | 75 => ⟨S_, .f32⟩
  | 76 => ⟨S_, .f32⟩
  | 77 => ⟨S32x16x4x64x64, .f32⟩
  | 78 => ⟨S32x16x4x1x64, .f32⟩
  | 79 => ⟨S32x16x4x64x64, .f32⟩
  | 80 => ⟨S32x16x4x64x64, .f32⟩
  | 81 => ⟨S32x16x4x64x64, .f32⟩
  | 82 => ⟨S32x16x4x64x64, .f32⟩
  | 83 => ⟨S32x16x4x64x64, .f32⟩
  | 84 => ⟨S32x16x4x64x64, .f32⟩
  | 85 => ⟨S32x16x4x64x64, .f32⟩
  | 86 => ⟨S32x16x4x64x64, .f32⟩
  | 87 => ⟨S32x16x4x64x64, .f32⟩
  | 88 => ⟨S_, .i1⟩
  | 89 => ⟨S64x64, .i1⟩
  | 90 => ⟨S64x64, .i32⟩
  | 91 => ⟨S_, .i32⟩
  | 92 => ⟨S64x64, .i32⟩
  | 93 => ⟨S64x64, .i32⟩
  | 94 => ⟨S64x64, .i32⟩
  | 95 => ⟨S64x64, .i1⟩
  | 96 => ⟨S_, .i1⟩
  | 97 => ⟨S64x64, .i1⟩
  | 98 => ⟨S64x64, .i1⟩
  | 99 => ⟨S32x16x4x64x64, .f32⟩
  | 100 => ⟨S_, .f32⟩
  | 101 => ⟨S_, .f32⟩
  | 102 => ⟨S32x16x4x64x64, .i1⟩
  | 103 => ⟨S32x16x4x64x64, .f32⟩
  | 104 => ⟨S32x16x4x64x64, .f32⟩
  | 105 => ⟨S32x16x4x64x128, .f32⟩
  | 106 => ⟨S32x16x4x64x128, .f32⟩
  | 107 => ⟨S32x16x4x64, .f32⟩
  | 108 => ⟨S32x16x4x64, .f32⟩
  | 109 => ⟨S_, .f32⟩
  | 110 => ⟨S16x4x64x128, .f32⟩
  | 111 => ⟨S_, .f32⟩
  | 112 => ⟨S32x16x4x64x128, .f32⟩
  | 113 => ⟨S_, .i32⟩
  | 114 => ⟨S32x16x4x64, .f32⟩
  | 115 => ⟨S32x16x4x64x128, .f32⟩
  | 116 => ⟨S_, .i32⟩
  | 117 => ⟨S16x4x64x128, .f32⟩
  | 118 => ⟨S32x16x4x64x128, .f32⟩
  | 119 => ⟨S_, .i32⟩
  | 120 => ⟨S_, .i1⟩
  | 121 => ⟨S_, .i32⟩
  | 122 => ⟨S_, .i32⟩
  | 123 => ⟨S_, .i32⟩
  | 124 => ⟨S1x16x4x64, .f32⟩
  | 125 => ⟨S16x4x64, .f32⟩
  | 126 => ⟨S_, .i32⟩
  | 127 => ⟨S_, .i32⟩
  | _ => ⟨S16x2048x1024, .f32⟩

abbrev hbmTy0_1 (i : Nat) : BufTy := match i % 128 with
  | 0 => ⟨S_, .i32⟩
  | 1 => ⟨S_, .i32⟩
  | 2 => ⟨S1x16x4x64x128, .f32⟩
  | 3 => ⟨S16x4x64x128, .f32⟩
  | 4 => ⟨S16x4x64x1, .f32⟩
  | 5 => ⟨S16x4x64x128, .f32⟩
  | 6 => ⟨S16x4x64x128, .f32⟩
  | 7 => ⟨S16x4x64x128, .f32⟩
  | 8 => ⟨S1x16x4x64x128, .f32⟩
  | 9 => ⟨S_, .i32⟩
  | 10 => ⟨S_, .i32⟩
  | 11 => ⟨S_, .i32⟩
  | 12 => ⟨S_, .i32⟩
  | 13 => ⟨S32x16x4x64x128, .f32⟩
  | 14 => ⟨S_, .i32⟩
  | 15 => ⟨S_, .i32⟩
  | 16 => ⟨S32x16x4x64x128, .f32⟩
  | 17 => ⟨S32x16x4x64x128, .f32⟩
  | 18 => ⟨S16x32x64x4x128, .f32⟩
  | 19 => ⟨S16x2048x4x128, .f32⟩
  | 20 => ⟨S128, .f32⟩
  | 21 => ⟨S16x2048x4x128, .f32⟩
  | 22 => ⟨S_, .f32⟩
  | 23 => ⟨S16x2048x4, .f32⟩
  | 24 => ⟨S16x2048x4x1, .f32⟩
  | 25 => ⟨S_, .f32⟩
  | 26 => ⟨S16x2048x4x1, .f32⟩
  | 27 => ⟨S16x2048x4x1, .f32⟩
  | 28 => ⟨S_, .f32⟩
  | 29 => ⟨S16x2048x4x1, .f32⟩
  | 30 => ⟨S16x2048x4x1, .f32⟩
  | 31 => ⟨S16x2048x4x1, .f32⟩
  | 32 => ⟨S16x2048x4x128, .f32⟩
  | 33 => ⟨S16x2048x4x128, .f32⟩
  | 34 => ⟨S1x1x1x128, .f32⟩
  | 35 => ⟨S16x2048x4x128, .f32⟩
  | 36 => ⟨S16x2048x4x128, .f32⟩
  | 37 => ⟨S16x2048x4x128, .f32⟩
  | 38 => ⟨S16x2048x4x128, .f32⟩
  | 39 => ⟨S16x2048x4x128, .f32⟩
  | 40 => ⟨S_, .f32⟩
  | 41 => ⟨S16x2048x4x128, .f32⟩
  | 42 => ⟨S16x2048x4x128, .f32⟩
  | 43 => ⟨S_, .f32⟩
  | 44 => ⟨S16x2048x4x128, .f32⟩
  | 45 => ⟨S16x2048x4x128, .f32⟩
  | 46 => ⟨S16x2048x4x128, .f32⟩
  | 47 => ⟨S16x2048x4x128, .f32⟩
  | 48 => ⟨S16x2048x512, .f32⟩
  | 49 => ⟨S16x2048x512, .f32⟩
  | 50 => ⟨S3x512, .f32⟩
  | 51 => ⟨S_, .i32⟩
  | 52 => ⟨S_, .f32⟩
  | 53 => ⟨S16x2050x512, .f32⟩
  | 54 => ⟨S1x512, .f32⟩
  | 55 => ⟨S512, .f32⟩
  | 56 => ⟨S16x2048x512, .f32⟩
  | 57 => ⟨S1x1x512, .f32⟩
  | 58 => ⟨S16x2048x512, .f32⟩
  | 59 => ⟨S16x2048x512, .f32⟩
  | 60 => ⟨S1x512, .f32⟩
  | 61 => ⟨S512, .f32⟩
  | 62 => ⟨S16x2048x512, .f32⟩
  | 63 => ⟨S1x1x512, .f32⟩
  | 64 => ⟨S16x2048x512, .f32⟩
  | 65 => ⟨S16x2048x512, .f32⟩
  | 66 => ⟨S16x2048x512, .f32⟩
  | 67 => ⟨S1x512, .f32⟩
  | 68 => ⟨S512, .f32⟩
  | 69 => ⟨S16x2048x512, .f32⟩
  | 70 => ⟨S1x1x512, .f32⟩
  | 71 => ⟨S16x2048x512, .f32⟩
  | 72 => ⟨S16x2048x512, .f32⟩
  | 73 => ⟨S16x2048x512, .f32⟩
  | 74 => ⟨S16x2048x512, .f32⟩
  | 75 => ⟨S16x2048x1024, .f32⟩
  | 76 => ⟨S1024x1024, .f32⟩
  | 77 => ⟨S16x2048x1024, .f32⟩
  | 78 => ⟨S16x2048x1024, .f32⟩
  | _ => ⟨S16x2048x1024, .f32⟩

abbrev hbmTy (i : Nat) : BufTy := match i / 128 with
  | 0 => hbmTy0_0 i
  | 1 => hbmTy0_1 i
  | _ => ⟨S16x2048x1024, .f32⟩

abbrev bufTy : (tb : Table) → Fin (tcTables nBuf tb) → BufTy
  | .hbm, ⟨i, _⟩ => hbmTy i
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_2 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_call0_v0 : Ref sig .tc := ⟨.hbm, 47, rfl⟩
abbrev main_call0_call0_cst : Ref sig .tc := ⟨.hbm, 48, rfl⟩
abbrev main_call0_call0_v0 : Ref sig .tc := ⟨.hbm, 49, rfl⟩
abbrev main_call0_call0_v1 : Ref sig .tc := ⟨.hbm, 50, rfl⟩
abbrev main_call0_call0_v2 : Ref sig .tc := ⟨.hbm, 51, rfl⟩
abbrev main_call0_call0_v3 : Ref sig .tc := ⟨.hbm, 52, rfl⟩
abbrev main_call0_call0_v4 : Ref sig .tc := ⟨.hbm, 53, rfl⟩
abbrev main_call0_call0_v5 : Ref sig .tc := ⟨.hbm, 54, rfl⟩
abbrev main_call0_call0_v6 : Ref sig .tc := ⟨.hbm, 55, rfl⟩
abbrev main_call0_call0_v7 : Ref sig .tc := ⟨.hbm, 56, rfl⟩
abbrev main_call0_call0_v8 : Ref sig .tc := ⟨.hbm, 57, rfl⟩
abbrev main_call0_call0_v9 : Ref sig .tc := ⟨.hbm, 58, rfl⟩
abbrev main_call0_call0_v10 : Ref sig .tc := ⟨.hbm, 59, rfl⟩
abbrev main_call0_call0_v11 : Ref sig .tc := ⟨.hbm, 60, rfl⟩
abbrev main_call0_v1 : Ref sig .tc := ⟨.hbm, 61, rfl⟩
abbrev main_v35 : Ref sig .tc := ⟨.hbm, 62, rfl⟩
abbrev main_cst_3 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_call1_call0_cst : Ref sig .tc := ⟨.hbm, 75, rfl⟩
abbrev main_call1_call0_v0 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_c : Ref sig .tc := ⟨.hbm, 88, rfl⟩
abbrev main_v58 : Ref sig .tc := ⟨.hbm, 89, rfl⟩
abbrev main_call2_v0 : Ref sig .tc := ⟨.hbm, 90, rfl⟩
abbrev main_call2_c : Ref sig .tc := ⟨.hbm, 91, rfl⟩
abbrev main_call2_v1 : Ref sig .tc := ⟨.hbm, 92, rfl⟩
abbrev main_call2_v2 : Ref sig .tc := ⟨.hbm, 93, rfl⟩
abbrev main_call2_v3 : Ref sig .tc := ⟨.hbm, 94, rfl⟩
abbrev main_call2_v4 : Ref sig .tc := ⟨.hbm, 95, rfl⟩
abbrev main_call2_c_0 : Ref sig .tc := ⟨.hbm, 96, rfl⟩
abbrev main_call2_v5 : Ref sig .tc := ⟨.hbm, 97, rfl⟩
abbrev main_v59 : Ref sig .tc := ⟨.hbm, 98, rfl⟩
abbrev main_v60 : Ref sig .tc := ⟨.hbm, 99, rfl⟩
abbrev main_cst_4 : Ref sig .tc := ⟨.hbm, 100, rfl⟩
abbrev main_call3_v0 : Ref sig .tc := ⟨.hbm, 101, rfl⟩
abbrev main_call3_v1 : Ref sig .tc := ⟨.hbm, 102, rfl⟩
abbrev main_call3_v2 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_cst_5 : Ref sig .tc := ⟨.hbm, 109, rfl⟩
abbrev main_v66 : Ref sig .tc := ⟨.hbm, 110, rfl⟩
abbrev main_cst_6 : Ref sig .tc := ⟨.hbm, 111, rfl⟩
abbrev main_v67 : Ref sig .tc := ⟨.hbm, 112, rfl⟩
abbrev main_c_7 : Ref sig .tc := ⟨.hbm, 113, rfl⟩
abbrev main_v68_0 : Ref sig .tc := ⟨.hbm, 114, rfl⟩
abbrev main_v68_1 : Ref sig .tc := ⟨.hbm, 115, rfl⟩
abbrev main_v68_2 : Ref sig .tc := ⟨.hbm, 116, rfl⟩
abbrev main_v68_3 : Ref sig .tc := ⟨.hbm, 117, rfl⟩
abbrev main_v68_4 : Ref sig .tc := ⟨.hbm, 118, rfl⟩
abbrev main_while0c_c_16 : Ref sig .tc := ⟨.hbm, 119, rfl⟩
abbrev main_while0c_v119 : Ref sig .tc := ⟨.hbm, 120, rfl⟩
abbrev main_while0b_call4_c : Ref sig .tc := ⟨.hbm, 121, rfl⟩
abbrev main_while0b_call4_c_0 : Ref sig .tc := ⟨.hbm, 122, rfl⟩
abbrev main_while0b_call4_c_1 : Ref sig .tc := ⟨.hbm, 123, rfl⟩
abbrev main_while0b_call4_v0 : Ref sig .tc := ⟨.hbm, 124, rfl⟩
abbrev main_while0b_v119 : Ref sig .tc := ⟨.hbm, 125, rfl⟩
abbrev main_while0b_call5_c : Ref sig .tc := ⟨.hbm, 126, rfl⟩
abbrev main_while0b_call5_c_0 : Ref sig .tc := ⟨.hbm, 127, rfl⟩
abbrev main_while0b_call5_c_1 : Ref sig .tc := ⟨.hbm, 128, rfl⟩
abbrev main_while0b_call5_c_2 : Ref sig .tc := ⟨.hbm, 129, rfl⟩
abbrev main_while0b_call5_v0 : Ref sig .tc := ⟨.hbm, 130, rfl⟩
abbrev main_while0b_v120 : Ref sig .tc := ⟨.hbm, 131, rfl⟩
abbrev main_while0b_v121 : Ref sig .tc := ⟨.hbm, 132, rfl⟩
abbrev main_while0b_v122 : Ref sig .tc := ⟨.hbm, 133, rfl⟩
abbrev main_while0b_v123 : Ref sig .tc := ⟨.hbm, 134, rfl⟩
abbrev main_while0b_v124 : Ref sig .tc := ⟨.hbm, 135, rfl⟩
abbrev main_while0b_call6_v0 : Ref sig .tc := ⟨.hbm, 136, rfl⟩
abbrev main_while0b_call6_c : Ref sig .tc := ⟨.hbm, 137, rfl⟩
abbrev main_while0b_call6_c_0 : Ref sig .tc := ⟨.hbm, 138, rfl⟩
abbrev main_while0b_call6_c_1 : Ref sig .tc := ⟨.hbm, 139, rfl⟩
abbrev main_while0b_call6_c_2 : Ref sig .tc := ⟨.hbm, 140, rfl⟩
abbrev main_while0b_v125 : Ref sig .tc := ⟨.hbm, 141, rfl⟩
abbrev main_while0b_c_16 : Ref sig .tc := ⟨.hbm, 142, rfl⟩
abbrev main_while0b_v126 : Ref sig .tc := ⟨.hbm, 143, rfl⟩
abbrev main_v69 : Ref sig .tc := ⟨.hbm, 144, rfl⟩
abbrev main_v70 : Ref sig .tc := ⟨.hbm, 145, rfl⟩
abbrev main_v71 : Ref sig .tc := ⟨.hbm, 146, rfl⟩
abbrev main_v72 : Ref sig .tc := ⟨.hbm, 147, rfl⟩
abbrev main_v73 : Ref sig .tc := ⟨.hbm, 148, rfl⟩
abbrev main_v74 : Ref sig .tc := ⟨.hbm, 149, rfl⟩
abbrev main_cst_8 : Ref sig .tc := ⟨.hbm, 150, rfl⟩
abbrev main_v75 : Ref sig .tc := ⟨.hbm, 151, rfl⟩
abbrev main_v76 : Ref sig .tc := ⟨.hbm, 152, rfl⟩
abbrev main_cst_9 : Ref sig .tc := ⟨.hbm, 153, rfl⟩
abbrev main_v77 : Ref sig .tc := ⟨.hbm, 154, rfl⟩
abbrev main_v78 : Ref sig .tc := ⟨.hbm, 155, rfl⟩
abbrev main_cst_10 : Ref sig .tc := ⟨.hbm, 156, rfl⟩
abbrev main_v79 : Ref sig .tc := ⟨.hbm, 157, rfl⟩
abbrev main_v80 : Ref sig .tc := ⟨.hbm, 158, rfl⟩
abbrev main_v81 : Ref sig .tc := ⟨.hbm, 159, rfl⟩
abbrev main_v82 : Ref sig .tc := ⟨.hbm, 160, rfl⟩
abbrev main_v83 : Ref sig .tc := ⟨.hbm, 161, rfl⟩
abbrev main_v84 : Ref sig .tc := ⟨.hbm, 162, rfl⟩
abbrev main_v85 : Ref sig .tc := ⟨.hbm, 163, rfl⟩
abbrev main_v86 : Ref sig .tc := ⟨.hbm, 164, rfl⟩
abbrev main_v87 : Ref sig .tc := ⟨.hbm, 165, rfl⟩
abbrev main_call7_v0 : Ref sig .tc := ⟨.hbm, 166, rfl⟩
abbrev main_call7_v1 : Ref sig .tc := ⟨.hbm, 167, rfl⟩
abbrev main_call7_cst : Ref sig .tc := ⟨.hbm, 168, rfl⟩
abbrev main_call7_v2 : Ref sig .tc := ⟨.hbm, 169, rfl⟩
abbrev main_call7_v3 : Ref sig .tc := ⟨.hbm, 170, rfl⟩
abbrev main_call7_cst_0 : Ref sig .tc := ⟨.hbm, 171, rfl⟩
abbrev main_call7_v4 : Ref sig .tc := ⟨.hbm, 172, rfl⟩
abbrev main_call7_v5 : Ref sig .tc := ⟨.hbm, 173, rfl⟩
abbrev main_v88 : Ref sig .tc := ⟨.hbm, 174, rfl⟩
abbrev main_v89 : Ref sig .tc := ⟨.hbm, 175, rfl⟩
abbrev main_v90 : Ref sig .tc := ⟨.hbm, 176, rfl⟩
abbrev main_v91 : Ref sig .tc := ⟨.hbm, 177, rfl⟩
abbrev main_v92 : Ref sig .tc := ⟨.hbm, 178, rfl⟩
abbrev main_c_11 : Ref sig .tc := ⟨.hbm, 179, rfl⟩
abbrev main_call8_v0 : Ref sig .tc := ⟨.hbm, 180, rfl⟩
abbrev main_v93 : Ref sig .tc := ⟨.hbm, 181, rfl⟩
abbrev main_v94 : Ref sig .tc := ⟨.hbm, 182, rfl⟩
abbrev main_v95 : Ref sig .tc := ⟨.hbm, 183, rfl⟩
abbrev main_v96 : Ref sig .tc := ⟨.hbm, 184, rfl⟩
abbrev main_v97 : Ref sig .tc := ⟨.hbm, 185, rfl⟩
abbrev main_v98 : Ref sig .tc := ⟨.hbm, 186, rfl⟩
abbrev main_v99 : Ref sig .tc := ⟨.hbm, 187, rfl⟩
abbrev main_v100 : Ref sig .tc := ⟨.hbm, 188, rfl⟩
abbrev main_v101 : Ref sig .tc := ⟨.hbm, 189, rfl⟩
abbrev main_v102 : Ref sig .tc := ⟨.hbm, 190, rfl⟩
abbrev main_v103 : Ref sig .tc := ⟨.hbm, 191, rfl⟩
abbrev main_v104 : Ref sig .tc := ⟨.hbm, 192, rfl⟩
abbrev main_v105 : Ref sig .tc := ⟨.hbm, 193, rfl⟩
abbrev main_v106 : Ref sig .tc := ⟨.hbm, 194, rfl⟩
abbrev main_v107 : Ref sig .tc := ⟨.hbm, 195, rfl⟩
abbrev main_v108 : Ref sig .tc := ⟨.hbm, 196, rfl⟩
abbrev main_v109 : Ref sig .tc := ⟨.hbm, 197, rfl⟩
abbrev main_v110 : Ref sig .tc := ⟨.hbm, 198, rfl⟩
abbrev main_v111 : Ref sig .tc := ⟨.hbm, 199, rfl⟩
abbrev main_v112 : Ref sig .tc := ⟨.hbm, 200, rfl⟩
abbrev main_v113 : Ref sig .tc := ⟨.hbm, 201, rfl⟩
abbrev main_v114 : Ref sig .tc := ⟨.hbm, 202, rfl⟩
abbrev main_v115 : Ref sig .tc := ⟨.hbm, 203, rfl⟩
abbrev main_v116 : Ref sig .tc := ⟨.hbm, 204, rfl⟩
abbrev main_v117 : Ref sig .tc := ⟨.hbm, 205, rfl⟩
abbrev main_v118 : Ref sig .tc := ⟨.hbm, 206, rfl⟩

abbrev nD : Nat := 1
abbrev τ : Topo := Topo.v7x

variable {F : FTy → Type} [FloatOps F]

abbrev main_while0_count : Scf.Loop 32 := ⟨0#32, 32#32, 1#32⟩
-- ==== Ffn.lean ====
abbrev S16x2048x1024 : Shape := ⟨3, ![16, 2048, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S32768x1024 : Shape := ⟨2, ![32768, 1024]⟩
abbrev S1024x2816 : Shape := ⟨2, ![1024, 2816]⟩
abbrev S2816x1024 : Shape := ⟨2, ![2816, 1024]⟩
abbrev S512x1024 : Shape := ⟨2, ![512, 1024]⟩
abbrev S512 : Shape := ⟨1, ![512]⟩
abbrev S512x1 : Shape := ⟨2, ![512, 1]⟩
abbrev S512x2816 : Shape := ⟨2, ![512, 2816]⟩

abbrev nBuf : Space → Nat
  | .hbm => 17
  | .vmem => 9
  | .smem => 0
  | _ => 0

abbrev bufTy : (tb : Table) → Fin (tcTables nBuf tb) → BufTy
  | .hbm, ⟨0, _⟩ => ⟨S16x2048x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S1x2816x1024, .f32⟩
  | .hbm, ⟨5, _⟩ => ⟨S1024, .f32⟩
  | .hbm, ⟨6, _⟩ => ⟨S32768x1024, .f32⟩
  | .hbm, ⟨7, _⟩ => ⟨S1024, .f32⟩
  | .hbm, ⟨8, _⟩ => ⟨S1x1024, .f32⟩
  | .hbm, ⟨9, _⟩ => ⟨S1024x2816, .f32⟩
  | .hbm, ⟨10, _⟩ => ⟨S1024x2816, .bf16⟩
  | .hbm, ⟨11, _⟩ => ⟨S1024x2816, .f32⟩
  | .hbm, ⟨12, _⟩ => ⟨S1024x2816, .bf16⟩
  | .hbm, ⟨13, _⟩ => ⟨S2816x1024, .f32⟩
  | .hbm, ⟨14, _⟩ => ⟨S2816x1024, .bf16⟩
  | .hbm, ⟨15, _⟩ => ⟨S1x1024, .f32⟩
  | .hbm, ⟨16, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== FfnReferenceIdeal.lean ====
abbrev S16x2048x1024 : Shape := ⟨3, ![16, 2048, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S1024x2816 : Shape := ⟨2, ![1024, 2816]⟩
abbrev S16x2048x2816 : Shape := ⟨3, ![16, 2048, 2816]⟩
abbrev S2816x1024 : Shape := ⟨2, ![2816, 1024]⟩
abbrev S32768x1024 : Shape := ⟨2, ![32768, 1024]⟩

abbrev nBuf : Space → Nat
  | .hbm => 57
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S1x2816x1024, .f32⟩
  | .hbm, ⟨5, _⟩ => ⟨S1024, .f32⟩
  | .hbm, ⟨6, _⟩ => ⟨S1024, .f32⟩
  | .hbm, ⟨7, _⟩ => ⟨S16x2048x1024, .f32⟩
  | .hbm, ⟨8, _⟩ => ⟨S_, .f32⟩
  | .hbm, ⟨9, _⟩ => ⟨S16x2048, .f32⟩
  | .hbm, ⟨10, _⟩ => ⟨S16x2048x1, .f32⟩
  | .hbm, ⟨11, _⟩ => ⟨S_, .f32⟩
  | .hbm, ⟨12, _⟩ => ⟨S16x2048x1, .f32⟩
  | .hbm, ⟨13, _⟩ => ⟨S16x2048x1, .f32⟩
  | .hbm, ⟨14, _⟩ => ⟨S_, .f32⟩
  | .hbm, ⟨15, _⟩ => ⟨S16x2048x1, .f32⟩
  | .hbm, ⟨16, _⟩ => ⟨S16x2048x1, .f32⟩
  | .hbm, ⟨17, _⟩ => ⟨S16x2048x1, .f32⟩
  | .hbm, ⟨18, _⟩ => ⟨S16x2048x1024, .f32⟩
  | .hbm, ⟨19, _⟩ => ⟨S16x2048x1024, .f32⟩
  | .hbm, ⟨20, _⟩ => ⟨S1x1x1024, .f32⟩
  | .hbm, ⟨21, _⟩ => ⟨S16x2048x1024, .f32⟩
  | .hbm, ⟨22, _⟩ => ⟨S16x2048x1024, .f32⟩
  | .hbm, ⟨23, _⟩ => ⟨S1024x2816, .f32⟩
  | .hbm, ⟨24, _⟩ => ⟨S16x2048x2816, .f32⟩
  | .hbm, ⟨25, _⟩ => ⟨S16x2048x2816, .f32⟩
  | .hbm, ⟨26, _⟩ => ⟨S16x2048x2816, .f32⟩
  | .hbm, ⟨27, _⟩ => ⟨S_, .f32⟩
  | .hbm, ⟨28, _⟩ => ⟨S16x2048x2816, .f32⟩
  | .hbm, ⟨29, _⟩ => ⟨S16x2048x2816, .f32⟩
  | .hbm, ⟨30, _⟩ => ⟨S_, .f32⟩
  | .hbm, ⟨31, _⟩ => ⟨S16x2048x2816, .f32⟩
  | .hbm, ⟨32, _⟩ => ⟨S16x2048x2816, .f32⟩
  | .hbm, ⟨33, _⟩ => ⟨S16x2048x2816, .f32⟩
  | .hbm, ⟨34, _⟩ => ⟨S1024x2816, .f32⟩
  | .hbm, ⟨35, _⟩ => ⟨S16x2048x2816, .f32⟩
  | .hbm, ⟨36, _⟩ => ⟨S16x2048x2816, .f32⟩
  | .hbm, ⟨37, _⟩ => ⟨S2816x1024, .f32⟩
  | .hbm, ⟨38, _⟩ => ⟨S16x2048x1024, .f32⟩
  | .hbm, ⟨39, _⟩ => ⟨S16x2048x1024, .f32⟩
  | .hbm, ⟨40, _⟩ => ⟨S16x2048x1024, .f32⟩
  | .hbm, ⟨41, _⟩ => ⟨S_, .f32⟩
  | .hbm, ⟨42, _⟩ => ⟨S16x2048, .f32⟩
  | .hbm, ⟨43, _⟩ => ⟨S16x2048x1, .f32⟩
  | .hbm, ⟨44, _⟩ => ⟨S_, .f32⟩
  | .hbm, ⟨45, _⟩ => ⟨S16x2048x1, .f32⟩
  | .hbm, ⟨46, _⟩ => ⟨S16x2048x1, .f32⟩
  | .hbm, ⟨47, _⟩ => ⟨S_, .f32⟩
  | .hbm, ⟨48, _⟩ => ⟨S16x2048x1, .f32⟩
  | .hbm, ⟨49, _⟩ => ⟨S16x2048x1, .f32⟩
  | .hbm, ⟨50, _⟩ => ⟨S16x2048x1, .f32⟩
  | .hbm, ⟨51, _⟩ => ⟨S16x2048x1024, .f32⟩
  | .hbm, ⟨52, _⟩ => ⟨S16x2048x1024, .f32⟩
  | .hbm, ⟨53, _⟩ => ⟨S1x1x1024, .f32⟩
  | .hbm, ⟨54, _⟩ => ⟨S16x2048x1024, .f32⟩
  | .hbm, ⟨55, _⟩ => ⟨S16x2048x1024, .f32⟩
  | .hbm, ⟨56, _⟩ => ⟨S32768x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_2 : Ref sig .tc := ⟨.hbm, 41, rfl⟩
abbrev main_v24 : Ref sig .tc := ⟨.hbm, 42, rfl⟩
abbrev main_v25 : Ref sig .tc := ⟨.hbm, 43, rfl⟩
abbrev main_cst_3 : Ref sig .tc := ⟨.hbm, 44, rfl⟩
abbrev main_v26 : Ref sig .tc := ⟨.hbm, 45, rfl⟩
abbrev main_v27 : Ref sig .tc := ⟨.hbm, 46, rfl⟩
abbrev main_cst_4 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩

abbrev nD : Nat := 1
abbrev τ : Topo := Topo.v7x

variable {F : FTy → Type} [FloatOps F]
-- ==== Proof.FfnValue.lean ====
/- The feed-forward half of the layer: what its kernel leaves in the result array is the reference's feed-forward
   value, final normalisation included.

   The kernel works on tiles of 512 token rows of the flattened array; the reference works on the array by sequence and
   position. Row `R` of the flattened array is position `R % 2048` of sequence `R / 2048`, and both programs do the same
   arithmetic in one row. -/
module

public import proofs.«01_k».proof.Proof.Gen.FfnIdeal.Frame
public import proofs.«01_k».proof.Proof.Gen.FfnIdeal.Value
public import proofs.«01_k».proof.Proof.Gen.FfnReferenceIdeal
public import proofs.«01_k».proof.Proof.Gen.FfnReferenceIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.FfnRows

/-- One row normalised by its root mean square (1024 entries) and scaled. -/
def nrm (f w : Fin 1024 → EReal) (j : Fin 1024) : EReal :=
  f j * Ideal.rsqrt (Ideal.div (∑ k, f k * f k) (Ideal.ofBits FTy.f32 0x44800000#32) + Ideal.ofBits FTy.f32 0x358637BD#32) * w j

/-- One row plus its gated feed-forward value. -/
def ffn (f g : Fin 1024 → EReal) (wg wu : Fin 1024 → Fin 2816 → EReal) (wd : Fin 2816 → Fin 1024 → EReal) (j : Fin 1024) : EReal :=
  f j + ∑ l, ((∑ k, nrm f g k * wg k l) * Ideal.div 1 (1 + Ideal.exp (-∑ k, nrm f g k * wg k l)) * ∑ k, nrm f g k * wu k l) * wd l j

end Cert.FfnRows

namespace Cert.FfnReferenceIdeal.FfnValue

open Cert.FfnReferenceIdeal Cert.FfnReferenceIdeal.Gen

/-- Root-mean-square normalisation of the rows of `y`, scaled by `w`. -/
def rowNorm (y : FVec Ideal S16x2048x1024 .f32) (w : FVec Ideal S1024 .f32) : FVec Ideal S16x2048x1024 .f32 :=
  mulf (mulf y (broadcastInDim S16x2048x1024 ![0, 1, 2] bcast_S16x2048x1_S16x2048x1024_0_1_2 (Host.rsqrt (addf (Host.divf (broadcastInDim S16x2048x1 ![0, 1] bcast_S16x2048_S16x2048x1_0_1 (Host.reduceAdd (mulf y y) (constant S_ .f32 0x00000000#32) reducesTo_S16x2048x1024_S16x2048_d2 h_S_)) (broadcastInDim S16x2048x1 ![] bcast_S_S16x2048x1 (constant S_ .f32 0x44800000#32))) (broadcastInDim S16x2048x1 ![] bcast_S_S16x2048x1 (constant S_ .f32 0x358637BD#32)))))) (broadcastInDim S16x2048x1024 ![0, 1, 2] bcast_S1x1x1024_S16x2048x1024_0_1_2 (broadcastInDim S1x1x1024 ![2] bcast_S1024_S1x1x1024_2 w))

/-- The normalised input of the feed-forward part. -/
def hid (x : FVec Ideal S16x2048x1024 .f32) (g : FVec Ideal S1x1024 .f32) : FVec Ideal S16x2048x1024 .f32 :=
  rowNorm x (shapeCast _ g shapeCasts_S1x1024_S1024)

/-- The gate projection. -/
def gate (x : FVec Ideal S16x2048x1024 .f32) (g : FVec Ideal S1x1024 .f32) (wg : FVec Ideal S1x1024x2816 .f32) : FVec Ideal S16x2048x2816 .f32 :=
  Host.dotGeneral dot_S16x2048x1024_S1024x2816_S16x2048x2816_2_0_01_1_n_n none (hid x g) (shapeCast _ wg shapeCasts_S1x1024x2816_S1024x2816)

/-- The input plus the gated feed-forward output. -/
def withFfn (x : FVec Ideal S16x2048x1024 .f32) (g : FVec Ideal S1x1024 .f32) (wg wu : FVec Ideal S1x1024x2816 .f32) (wd : FVec Ideal S1x2816x1024 .f32) : FVec Ideal S16x2048x1024 .f32 :=
  addf x (Host.dotGeneral dot_S16x2048x2816_S2816x1024_S16x2048x1024_2_0_01_1_n_n none (mulf (mulf (gate x g wg) (Host.divf (broadcastInDim S16x2048x2816 ![] bcast_S_S16x2048x2816 (constant S_ .f32 0x3F800000#32)) (addf (broadcastInDim S16x2048x2816 ![] bcast_S_S16x2048x2816 (constant S_ .f32 0x3F800000#32)) (Host.exp (Host.negf (gate x g wg)))))) (Host.dotGeneral dot_S16x2048x1024_S1024x2816_S16x2048x2816_2_0_01_1_n_n none (hid x g) (shapeCast _ wu shapeCasts_S1x1024x2816_S1024x2816))) (shapeCast _ wd shapeCasts_S1x2816x1024_S2816x1024))

/-- The reference's result as a function of its six arguments. -/
def REF (x : FVec Ideal S16x2048x1024 .f32) (g : FVec Ideal S1x1024 .f32) (wg wu : FVec Ideal S1x1024x2816 .f32) (wd : FVec Ideal S1x2816x1024 .f32) (gf : FVec Ideal S1024 .f32) : FVec Ideal S32768x1024 .f32 :=
  shapeCast _ (rowNorm (withFfn x g wg wu wd) gf) shapeCasts_S16x2048x1024_S32768x1024

/-- The reference's composed value is `REF` of its arguments. -/
theorem res_eq (m : (ℓ : Loc nD τ sig) → Buf (Elt Ideal) ℓ) (c : Dev nD) : Cert.FfnReferenceIdeal.Value.res_out0 m c
    = REF (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := rfl

/-- The reference at row `R` and lane `j`: the row's feed-forward value, normalised. -/
theorem REF_at (x : FVec Ideal S16x2048x1024 .f32) (g : FVec Ideal S1x1024 .f32) (wg wu : FVec Ideal S1x1024x2816 .f32) (wd : FVec Ideal S1x2816x1024 .f32) (gf : FVec Ideal S1024 .f32) (R : Fin 32768) (j : Fin 1024) :
    REF x g wg wu wd gf (ix2 R j) = Cert.FfnRows.nrm (Cert.FfnRows.ffn
      (fun k => x (ix3 ⟨R.val / 2048, by omega⟩ ⟨R.val % 2048, by omega⟩ k)) (fun k => g (ix2 0 k))
      (fun k l => wg (ix3 0 k l)) (fun k l => wu (ix3 0 k l)) (fun l k => wd (ix3 0 l k))) (fun k => gf (ix1 k)) j := by
  pointwise [REF, withFfn, gate, hid, rowNorm]
  rfl

end Cert.FfnReferenceIdeal.FfnValue

namespace Cert.FfnIdeal.FfnValue

open Cert.FfnIdeal Cert.FfnIdeal.Gen Cert.FfnReferenceIdeal.FfnValue

variable (m : (ℓ : Loc nD τ sig) → Buf (Elt Ideal) ℓ)

/-- The index maps of the seven windows: the token tiles move with the grid point, the weights stay. -/
theorem idx_val : ∀ t : Fin cfg0.N, win0_0.index t = ![t.val, 0]
    ∧ win0_1.index t = ![0, 0] ∧ win0_2.index t = ![0, 0] ∧ win0_3.index t = ![0, 0]
    ∧ win0_4.index t = ![0, 0] ∧ win0_5.index t = ![0, 0] ∧ win0_6.index t = ![t.val, 0] :=
  (by decide +kernel : ∀ t : Fin grid0.N, _)

/-- The kernel's stored value at row `r` and lane `j` of a tile: the row's feed-forward value, normalised. -/
theorem pay_at (x : Vec Ideal S512x1024 .f32) (g : Vec Ideal S1x1024 .f32) (wg wu : Vec Ideal S1024x2816 .bf16) (wd : Vec Ideal S2816x1024 .bf16) (gf : Vec Ideal S1x1024 .f32) (r : Fin 512) (j : Fin 1024) :
    k0_pay1 (k0_pay2 x g wg wu wd) gf (ix2 r j) = Cert.FfnRows.nrm (Cert.FfnRows.ffn
      (fun k => x (ix2 r k)) (fun k => g (ix2 0 k))
      (fun k l => wg (ix2 k l)) (fun k l => wu (ix2 k l)) (fun l k => wd (ix2 l k))) (fun k => gf (ix2 0 k)) j := by
  pointwise [k0_pay1, k0_pay2]
  simp only [zero_sub]
  rfl

/-- A place of the token tile is a place of the input array. -/
theorem read0 (c : Dev nD) (t : Fin cfg0.N) (r : Fin 512) (k : Fin 1024) : iblk m c 0 t (ix2 r k)
    = m ((c : Thread nD τ).loc main_arg0) (ix3 ⟨(512 * t.val + r.val) / 2048, by have : t.val < 64 := t.isLt; omega⟩ ⟨(512 * t.val + r.val) % 2048, by omega⟩ k) := by
  blk_point [iblk, V, idx_val t]

/-- The first normalisation's weights. -/
theorem read1 (c : Dev nD) (t : Fin cfg0.N) (k : Fin 1024) : iblk m c 1 t (ix2 0 k)
    = m ((c : Thread nD τ).loc main_arg1) (ix2 0 k) := by
  blk_point [iblk, V, idx_val t]

/-- The gate weights. -/
theorem read2 (c : Dev nD) (t : Fin cfg0.N) (k : Fin 1024) (l : Fin 2816) : iblk m c 2 t (ix2 k l)
    = m ((c : Thread nD τ).loc main_arg2) (ix3 0 k l) := by
  blk_point [iblk, V, idx_val t]

/-- The up-projection weights. -/
theorem read3 (c : Dev nD) (t : Fin cfg0.N) (k : Fin 1024) (l : Fin 2816) : iblk m c 3 t (ix2 k l)
    = m ((c : Thread nD τ).loc main_arg3) (ix3 0 k l) := by
  blk_point [iblk, V, idx_val t]

/-- The down-projection weights. -/
theorem read4 (c : Dev nD) (t : Fin cfg0.N) (l : Fin 2816) (k : Fin 1024) : iblk m c 4 t (ix2 l k)
    = m ((c : Thread nD τ).loc main_arg4) (ix3 0 l k) := by
  blk_point [iblk, V, idx_val t]

/-- The final normalisation's weights. -/
theorem read5 (c : Dev nD) (t : Fin cfg0.N) (k : Fin 1024) : iblk m c 5 t (ix2 0 k)
    = m ((c : Thread nD τ).loc main_arg5) (ix1 k) := by
  blk_point [iblk, V, idx_val t]

/-- The place of the result array under row `r`, lane `j` of grid point `t`'s tile. -/
theorem emb6 (t : Fin cfg0.N) (r : Fin 512) (j : Fin 1024) : ((cfg0.win 6).blk t).view.emb (ix2 r j)
    = (ix2 ⟨512 * t.val + r.val, by have : t.val < 64 := t.isLt; omega⟩ j : S32768x1024.Idx) := by
  blk_ext [idx_val t]

/-- What a grid point stores at a place of its block is the reference at the place of the array under it. -/
theorem point (c : Dev nD) (t : Fin cfg0.N) (r : Fin 512) (j : Fin 1024) :
    k0_pay1 (k0_pay2 (iblk m c 0 t) (iblk m c 1 t) (iblk m c 2 t) (iblk m c 3 t) (iblk m c 4 t)) (iblk m c 5 t) (ix2 r j)
      = REF (m ((c : Thread nD τ).loc main_arg0)) (m ((c : Thread nD τ).loc main_arg1)) (m ((c : Thread nD τ).loc
        main_arg2)) (m ((c : Thread nD τ).loc main_arg3)) (m ((c : Thread nD τ).loc main_arg4)) (m ((c : Thread nD
        τ).loc main_arg5)) (((cfg0.win 6).blk t).view.emb (ix2 r j)) := by
  rw [emb6]
  refine (pay_at _ _ _ _ _ _ r j).trans (Eq.trans ?_ (REF_at _ _ _ _ _ _ _ j).symm)
  simp only [read0, read1, read2, read3, read4, read5]

/-- The result array after the run is the reference's value. -/
theorem final (c : Dev nD) : (dats m 0 c).arrAt 6 (cfgs 0).N = REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 6 _ (by decide +kernel) fun t hf y => ?_
  blk_simp; rw [after0_6]; frame_out
  obtain ⟨r, j, rfl⟩ : ∃ (r : Fin 512) (j : Fin 1024), y = ix2 r j := ⟨y 0, y 1, eq_ix2 y⟩
  exact point m c t r j

end Cert.FfnIdeal.FfnValue

end
-- ==== Proof.MixerRefRun.lean ====
/- The reference's run of the token-mixing lines: which buffers its loop and its later operations leave alone, and the
   frame of the program. -/
module

public import proofs.«01_k».proof.Defs
public import proofs.«01_k».proof.Proof.Gen.MixerReferenceIdeal
public import proofs.«01_k».proof.Proof.Gen.MixerReferenceIdeal.Run

@[expose] public section

set_option maxRecDepth 16384

noncomputable section

namespace Cert.MixerReferenceIdeal.Kept

open Cert.MixerReferenceIdeal Cert.MixerReferenceIdeal.Gen Cert.MixerReferenceIdeal.Value
open Idealize.ShloMosaic Idealize.ShloMosaic.TcCoe Idealize.SL.Sem Idealize.ShloMosaic.StableHlo

variable {F : FTy → Type} [FloatOps F] (m : (ℓ : Loc nD τ sig) → Buf (Elt F) ℓ)

/-- The buffers the loop writes: its condition's and its body's. -/
abbrev loopW : List (Ref sig .tc) := condOps_W ++ while0Ops0_W ++ while0Ops0_1_W ++ while0Ops0_2_W ++ while0Ops0_3_W ++ while0Ops0_4_W

/-- A buffer the loop does not write is after `k` trips what it was at the loop's entry. -/
theorem atK_kept (c : Dev nD) (b : Ref sig .tc) (hb : b ∉ loopW) :
    ∀ k, atK m k c (Proc.devRef .tc b) = entryContents preI m c (Proc.devRef .tc b)
  | 0 => rfl
  | k + 1 => by
    simp only [loopW, List.mem_append, not_or] at hb
    obtain ⟨⟨⟨⟨⟨h0, h1⟩, h2⟩, h3⟩, h4⟩, h5⟩ := hb
    rw [show atK m (k + 1) c = afterL bodyI (after condOps (atK m k c)) from rfl]
    show after while0Ops0_4 (after while0Ops0_3 (after while0Ops0_2 (after while0Ops0_1 (after while0Ops0 (after condOps (atK m k c)))))) (Proc.devRef .tc b) = _
    rw [after_of_writes_sub _ _ while0Ops0_4_writes h5, after_of_writes_sub _ _ while0Ops0_3_writes h4,
      after_of_writes_sub _ _ while0Ops0_2_writes h3, after_of_writes_sub _ _ while0Ops0_1_writes h2,
      after_of_writes_sub _ _ while0Ops0_writes h1, after_of_writes_sub _ _ condOps_writes h0, atK_kept c b
        (by simp only [loopW, List.mem_append, not_or]; exact ⟨⟨⟨⟨⟨h0, h1⟩, h2⟩, h3⟩, h4⟩, h5⟩) k]

/-- The buffers one stretch of operations after the loop writes, in order. -/
abbrev hostOps0_9_W : List (Ref sig .tc) := [main_v69, main_v70, main_v71, main_v72, main_v73, main_v74, main_cst_8, main_v75, main_v76, main_cst_9, main_v77, main_v78, main_cst_10, main_v79, main_v80, main_v81, main_v82, main_v83, main_v84, main_v85, main_v86, main_v87]
/-- The stretch writes those buffers only. -/
theorem hostOps0_9_writes : (hostOps0_9 : List (HloOp τ sig (Elt F))).Forall fun op => op.writes ⊆ (hostOps0_9_W.map (Proc.devRef (τ := τ) .tc)).toFinset :=
  StableHlo.forall_writes_sub_of_map rfl

/-- The buffers one stretch of operations after the loop writes, in order. -/
abbrev hostOps0_10_W : List (Ref sig .tc) := [main_call7_v0, main_call7_v1, main_call7_cst, main_call7_v2, main_call7_v3, main_call7_cst_0, main_call7_v4, main_call7_v5, main_v88]
/-- The stretch writes those buffers only. -/
theorem hostOps0_10_writes : (hostOps0_10 : List (HloOp τ sig (Elt F))).Forall fun op => op.writes ⊆ (hostOps0_10_W.map (Proc.devRef (τ := τ) .tc)).toFinset :=
  StableHlo.forall_writes_sub_of_map rfl

/-- The buffers one stretch of operations after the loop writes, in order. -/
abbrev hostOps0_11_W : List (Ref sig .tc) := [main_v89, main_v90, main_v91, main_v92, main_c_11]
/-- The stretch writes those buffers only. -/
theorem hostOps0_11_writes : (hostOps0_11 : List (HloOp τ sig (Elt F))).Forall fun op => op.writes ⊆ (hostOps0_11_W.map (Proc.devRef (τ := τ) .tc)).toFinset :=
  StableHlo.forall_writes_sub_of_map rfl

/-- The buffers one stretch of operations after the loop writes, in order. -/
abbrev hostOps0_12_W : List (Ref sig .tc) := [main_call8_v0, main_v93]
/-- The stretch writes those buffers only. -/
theorem hostOps0_12_writes : (hostOps0_12 : List (HloOp τ sig (Elt F))).Forall fun op => op.writes ⊆ (hostOps0_12_W.map (Proc.devRef (τ := τ) .tc)).toFinset :=
  StableHlo.forall_writes_sub_of_map rfl

/-- The buffers one stretch of operations after the loop writes, in order. -/
abbrev hostOps0_13_W : List (Ref sig .tc) := [main_v94, main_v95, main_v96, main_v97, main_v98, main_v99, main_v100, main_v101, main_v102, main_v103, main_v104, main_v105, main_v106, main_v107, main_v108, main_v109, main_v110, main_v111, main_v112, main_v113, main_v114, main_v115, main_v116, main_v117, main_v118]
/-- The stretch writes those buffers only. -/
theorem hostOps0_13_writes : (hostOps0_13 : List (HloOp τ sig (Elt F))).Forall fun op => op.writes ⊆ (hostOps0_13_W.map (Proc.devRef (τ := τ) .tc)).toFinset :=
  StableHlo.forall_writes_sub_of_map rfl

/-- The buffers the operations after the loop write. -/
abbrev postW : List (Ref sig .tc) := hostOps0_9_W ++ hostOps0_10_W ++ hostOps0_11_W ++ hostOps0_12_W ++ hostOps0_13_W

/-- A buffer that neither the loop nor the later operations write ends as it was at the loop's entry. -/
theorem final_kept (c : Dev nD) (b : Ref sig .tc) (hb : b ∉ loopW) (hp : b ∉ postW) :
    finalContents condOps preI bodyI postI 32 m c (Proc.devRef .tc b) = entryContents preI m c (Proc.devRef .tc b) := by
  simp only [postW, List.mem_append, not_or] at hp
  obtain ⟨⟨⟨⟨h1, h2⟩, h3⟩, h4⟩, h5⟩ := hp
  show after hostOps0_13 (after hostOps0_12 (after hostOps0_11 (after hostOps0_10 (after hostOps0_9 (after condOps (atK m 32 c)))))) (Proc.devRef .tc b) = _
  have h0 : b ∉ condOps_W := fun h => hb (by simp only [loopW, List.mem_append]; tauto)
  rw [after_of_writes_sub _ _ hostOps0_13_writes h5, after_of_writes_sub _ _ hostOps0_12_writes h4,
    after_of_writes_sub _ _ hostOps0_11_writes h3, after_of_writes_sub _ _ hostOps0_10_writes h2,
    after_of_writes_sub _ _ hostOps0_9_writes h1, after_of_writes_sub _ _ condOps_writes h0]
  exact atK_kept m c b hb 32

/-- The buffers the operations before the loop write. -/
abbrev preW : List (Ref sig .tc) := hostOps0_W ++ hostOps0_1_W ++ hostOps0_2_W ++ hostOps0_3_W ++ hostOps0_4_W ++ hostOps0_5_W ++ hostOps0_6_W ++ hostOps0_7_W ++ hostOps0_8_W

/-- A buffer no operation writes ends as launched. -/
theorem arg_kept (c : Dev nD) (b : Ref sig .tc) (hq : b ∉ preW) (hb : b ∉ loopW) (hp : b ∉ postW) :
    finalContents condOps preI bodyI postI 32 m c (Proc.devRef .tc b) = m ((c.tc : Thread nD τ).loc b) := by
  rw [final_kept m c b hb hp]
  simp only [preW, List.mem_append, not_or] at hq
  obtain ⟨⟨⟨⟨⟨⟨⟨⟨h0, h1⟩, h2⟩, h3⟩, h4⟩, h5⟩, h6⟩, h7⟩, h8⟩ := hq
  simp only [entryContents, afterL_cons, afterL_nil]
  rw [after_of_writes_sub _ _ hostOps0_8_writes h8, after_of_writes_sub _ _ hostOps0_7_writes h7,
    after_of_writes_sub _ _ hostOps0_6_writes h6, after_of_writes_sub _ _ hostOps0_5_writes h5,
    after_of_writes_sub _ _ hostOps0_4_writes h4, after_of_writes_sub _ _ hostOps0_3_writes h3,
    after_of_writes_sub _ _ hostOps0_2_writes h2, after_of_writes_sub _ _ hostOps0_1_writes h1,
    after_of_writes_sub _ _ hostOps0_writes h0]

/-- The run with the result buffer at its final contents, the arguments unchanged and every counter at zero. -/
theorem run_kept (ρ : Dev nD → PrngReg) : θ_run (defs (F := F)) (onTc (τ := τ) (main (F := F))) ⟨m, fun _ => 0, ρ⟩
    (fun r => (∀ c : Dev nD,
      r.2.mem ((c.tc : Thread nD τ).loc main_v118) = finalContents condOps preI bodyI postI 32 m c (Proc.devRef .tc main_v118)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun r h => ⟨fun c => ⟨h c main_v118 rfl,
      (h c main_arg0 rfl).trans (arg_kept m c _ (by decide +kernel) (by decide +kernel) (by decide +kernel)),
      (h c main_arg1 rfl).trans (arg_kept m c _ (by decide +kernel) (by decide +kernel) (by decide +kernel)),
      (h c main_arg2 rfl).trans (arg_kept m c _ (by decide +kernel) (by decide +kernel) (by decide +kernel)),
      (h c main_arg3 rfl).trans (arg_kept m c _ (by decide +kernel) (by decide +kernel) (by decide +kernel)),
      (h c main_arg4 rfl).trans (arg_kept m c _ (by decide +kernel) (by decide +kernel) (by decide +kernel)),
      (h c main_arg5 rfl).trans (arg_kept m c _ (by decide +kernel) (by decide +kernel) (by decide +kernel)),
      (h c main_arg6 rfl).trans (arg_kept m c _ (by decide +kernel) (by decide +kernel) (by decide +kernel)),
      (h c main_arg7 rfl).trans (arg_kept m c _ (by decide +kernel) (by decide +kernel) (by decide +kernel))⟩,
      funext fun g => by
        obtain ⟨t, s⟩ := g
        cases s <;> (rename_i i; exact i.elim0)⟩)
    (run_fold m ρ)

end Cert.MixerReferenceIdeal.Kept

end
-- ==== Proof.MixerRows.lean ====
/- The arithmetic of the token mixer, row by row and chunk by chunk, in plain functions.

   A chunk is 64 consecutive tokens. `D r j` is column `j` of the projected token `r` of the chunk (columns 0–255 the
   queries, 256–511 the keys, 512–1023 the values, 1024–1535 the output gate), `L r j` the logarithm of the forget gate
   of lane `j`. Lane `64 * h + d` belongs to head `h`. -/
module

public import Idealize.ShloMosaic.Lib.Pipeline.ValueKit

@[expose] public section

noncomputable section

open Idealize.ShloMosaic
open scoped BigOperators

namespace Cert.MixRows

/-- A row of 1024 entries normalised by its root mean square and scaled. -/
def nrm (f w : Fin 1024 → EReal) (j : Fin 1024) : EReal :=
  f j * Ideal.rsqrt (Ideal.div (∑ k, f k * f k) (Ideal.ofBits FTy.f32 0x44800000#32) + Ideal.ofBits FTy.f32 0x358637BD#32) * w j

/-- The logarithm of a forget gate, from its logit. -/
def gate (g : EReal) : EReal :=
  (min g 0 - Ideal.log1p (Ideal.exp (0 - FloatOps.absf (F := Ideal) (φ := FTy.f32) g))) * Ideal.ofBits FTy.f32 0x3D800000#32

/-- The running sum of the gate logarithms in a chunk. -/
def cB (L : Fin 64 → ℕ → EReal) (r : Fin 64) (j : ℕ) : EReal := ∑ l : Fin 64, if (l : ℕ) ≤ r then L l j else 0

/-- The scaled queries, decayed from the chunk's start. -/
def cQ (D L : Fin 64 → ℕ → EReal) (r : Fin 64) (j : ℕ) : EReal := D r j * Ideal.ofBits FTy.f32 0x3E000000#32 * Ideal.exp (cB L r j)

/-- The keys with the decay from the chunk's start divided out. -/
def cI (D L : Fin 64 → ℕ → EReal) (r : Fin 64) (j : ℕ) : EReal := D r (256 + j) * Ideal.exp (0 - cB L r j)

/-- The keys decayed to the chunk's end. -/
def cE (D L : Fin 64 → ℕ → EReal) (r : Fin 64) (j : ℕ) : EReal := D r (256 + j) * Ideal.exp (cB L 63 j - cB L r j)

/-- The decay over a whole chunk. -/
def cD (L : Fin 64 → ℕ → EReal) (j : ℕ) : EReal := Ideal.exp (cB L 63 j)

/-- What a chunk adds to the state of head `h`: value lane `e` against key lane `a`. -/
def cK (D L : Fin 64 → ℕ → EReal) (h e a : ℕ) : EReal := ∑ l : Fin 64, D l (512 + 128 * h + e) * cE D L l a

/-- The state after a chunk. -/
def cN (D L : Fin 64 → ℕ → EReal) (S : ℕ → ℕ → ℕ → EReal) (h e a : ℕ) : EReal := S h e a * cD L a + cK D L h e a

/-- The attention value of head `h` in a chunk entered with state `S`. -/
def cO (D L : Fin 64 → ℕ → EReal) (S : ℕ → ℕ → ℕ → EReal) (h : ℕ) (r : Fin 64) (e : ℕ) : EReal :=
  (∑ l : Fin 64, (if (l : ℕ) ≤ r then ∑ d : Fin 64, cQ D L r (64 * h + d) * cI D L l (64 * h + d) else 0) * D l (512 + 128 * h + e))
    + ∑ d : Fin 64, cQ D L r (64 * h + d) * S h e (64 * h + d)

/-- One head's row normalised over its 128 lanes and scaled. -/
def nrmH (o : ℕ → EReal) (gn : Fin 128 → EReal) (e : Fin 128) : EReal :=
  o e * Ideal.rsqrt (Ideal.div (∑ x : Fin 128, o x * o x) (Ideal.ofBits FTy.f32 0x43000000#32) + Ideal.ofBits FTy.f32 0x358637BD#32) * gn e

/-- What the attention heads hand to the output projection: the normalised value times the swish of its gate. -/
def cM (D L : Fin 64 → ℕ → EReal) (S : ℕ → ℕ → ℕ → EReal) (gn : Fin 128 → EReal) (h : ℕ) (r : Fin 64) (e : Fin 128) : EReal :=
  nrmH (fun x => cO D L S h r x) gn e
    * (D r (1024 + 128 * h + e) * Ideal.div 1 (1 + Ideal.exp (0 - D r (1024 + 128 * h + e))))

/-! ## Two heads side by side in 128 lanes -/

/-- The first 64 lanes kept. -/
def lo (f : ℕ → EReal) (a : ℕ) : EReal := if a < 64 then f a else 0

/-- The last 64 lanes kept. -/
def hi (f : ℕ → EReal) (a : ℕ) : EReal := if a < 64 then 0 else f a

/-- Two copies of the keys stacked, each with the lanes of one head. -/
def kk (k : Fin 64 → ℕ → EReal) (m : Fin 128) (a : ℕ) : EReal :=
  if h : (m : ℕ) < 64 then lo (k ⟨m, h⟩) a else hi (k ⟨m - 64, by omega⟩) a

/-- Two copies of the values stacked, each with the lanes of one head. -/
def vv (v : Fin 64 → ℕ → EReal) (m : Fin 128) (e : ℕ) : EReal :=
  if h : (m : ℕ) < 64 then (if e < 128 then v ⟨m, h⟩ e else 0) else (if e < 128 then 0 else v ⟨m - 64, by omega⟩ e)

/-- The scores of two heads side by side. -/
def ss (q k : Fin 64 → ℕ → EReal) (r : Fin 64) (m : Fin 128) : EReal :=
  if h : (m : ℕ) < 64 then ∑ d : Fin 64, q r d * k ⟨m, h⟩ d else ∑ d : Fin 64, q r (64 + d) * k ⟨m - 64, by omega⟩ (64 + d)

/-- The scores with the future masked. -/
def sm (q k : Fin 64 → ℕ → EReal) (r : Fin 64) (m : Fin 128) : EReal := if (m : ℕ) % 64 ≤ r then ss q k r m else 0

/-- The states of two heads stacked. -/
def tt (s t : ℕ → ℕ → EReal) (m : Fin 256) (a : ℕ) : EReal :=
  if (m : ℕ) < 128 then lo (s m) a else hi (t (m - 128)) a

/-- The intra-chunk part of two heads' values side by side. -/
def oi (q k v : Fin 64 → ℕ → EReal) (r : Fin 64) (e : ℕ) : EReal :=
  if e < 128 then ∑ l : Fin 64, (if (l : ℕ) ≤ r then ∑ d : Fin 64, q r d * k l d else 0) * v l e
  else ∑ l : Fin 64, (if (l : ℕ) ≤ r then ∑ d : Fin 64, q r (64 + d) * k l (64 + d) else 0) * v l e

/-- The part of two heads' values that comes from the states. -/
def ox (q : Fin 64 → ℕ → EReal) (s t : ℕ → ℕ → EReal) (r : Fin 64) (e : ℕ) : EReal :=
  if e < 128 then ∑ d : Fin 64, q r d * s e d else ∑ d : Fin 64, q r (64 + d) * t (e - 128) (64 + d)

/-- A sum over 128 lanes is the sum over the first 64 and the last 64. -/
theorem sum_halves (f : Fin 128 → EReal) : ∑ x, f x = ∑ d : Fin 64, f ⟨d, by omega⟩ + ∑ d : Fin 64, f ⟨64 + d, by omega⟩ := by
  rw [Fin.sum_univ_add (a := 64) (b := 64) f]
  rfl

/-- The scores of two heads from one product over the 128 lanes. -/
theorem ss_of (q k : Fin 64 → ℕ → EReal) (r : Fin 64) (m : Fin 128) : ∑ x : Fin 128, q r x * kk k m x = ss q k r m := by
  rw [sum_halves]
  unfold kk ss lo hi
  by_cases h : (m : ℕ) < 64
  · simp only [h, dif_pos]
    rw [Finset.sum_eq_zero (s := Finset.univ) (f := fun d : Fin 64 => q r (64 + d) * _) (fun d _ => by simp), add_zero]
    exact Finset.sum_congr rfl (fun d _ => by rw [if_pos d.isLt])
  · simp only [h, dif_neg, not_false_eq_true]
    rw [Finset.sum_eq_zero (s := Finset.univ) (f := fun d : Fin 64 => q r d * _) (fun d _ => by simp [d.isLt]), zero_add]
    exact Finset.sum_congr rfl (fun d _ => by simp)

/-- The intra-chunk values of two heads from one product over the 128 stacked keys. -/
theorem oi_of (q k v : Fin 64 → ℕ → EReal) (r : Fin 64) (e : ℕ) : ∑ m : Fin 128, sm q k r m * vv v m e = oi q k v r e := by
  rw [sum_halves]
  unfold vv oi
  by_cases he : e < 128
  · simp only [he, if_true]
    rw [Finset.sum_eq_zero (s := Finset.univ) (f := fun d : Fin 64 => sm q k r ⟨64 + d, by omega⟩ * _) (fun d _ => by simp), add_zero]
    refine Finset.sum_congr rfl fun l _ => ?_
    have hl := l.isLt
    simp [sm, ss, Nat.mod_eq_of_lt hl]
  · simp only [he, if_false]
    rw [Finset.sum_eq_zero (s := Finset.univ) (f := fun d : Fin 64 => sm q k r ⟨d, by omega⟩ * _) (fun d _ => by simp), zero_add]
    refine Finset.sum_congr rfl fun l _ => ?_
    have hl := l.isLt
    simp [sm, ss, Nat.mod_eq_of_lt hl]

/-- The state part of two heads' values from one product over the 128 lanes. -/
theorem ox_of (q : Fin 64 → ℕ → EReal) (s t : ℕ → ℕ → EReal) (r : Fin 64) (m : Fin 256) :
    ∑ x : Fin 128, q r x * tt s t m x = ox q s t r m := by
  rw [sum_halves]
  unfold tt ox lo hi
  by_cases he : (m : ℕ) < 128
  · simp only [he, if_true]
    rw [Finset.sum_eq_zero (s := Finset.univ) (f := fun d : Fin 64 => q r (64 + d) * _) (fun d _ => by simp), add_zero]
    exact Finset.sum_congr rfl (fun d _ => by simp)
  · simp only [he, if_false]
    rw [Finset.sum_eq_zero (s := Finset.univ) (f := fun d : Fin 64 => q r d * _) (fun d _ => by simp [d.isLt]), zero_add]
    exact Finset.sum_congr rfl (fun d _ => by simp)

/-- The first of two heads' values. -/
theorem head0 (q k v : Fin 64 → ℕ → EReal) (s t : ℕ → ℕ → EReal) (r : Fin 64) (e : Fin 128) :
    oi q k v r e + ox q s t r e
      = (∑ l : Fin 64, (if (l : ℕ) ≤ r then ∑ d : Fin 64, q r d * k l d else 0) * v l e) + ∑ d : Fin 64, q r d * s e d := by
  unfold oi ox
  rw [if_pos e.isLt, if_pos e.isLt]

/-- The second of two heads' values. -/
theorem head1 (q k v : Fin 64 → ℕ → EReal) (s t : ℕ → ℕ → EReal) (r : Fin 64) (e : Fin 128) :
    oi q k v r (128 + e) + ox q s t r (128 + e)
      = (∑ l : Fin 64, (if (l : ℕ) ≤ r then ∑ d : Fin 64, q r (64 + d) * k l (64 + d) else 0) * v l (128 + e))
        + ∑ d : Fin 64, q r (64 + d) * t e (64 + d) := by
  unfold oi ox
  rw [if_neg (by omega), if_neg (by omega), Nat.add_sub_cancel_left]

/-- A sum of products with the kept lanes, first head. -/
theorem lo_sum (v : Fin 64 → EReal) (k : Fin 64 → ℕ → EReal) (a : ℕ) : ∑ x, v x * lo (k x) a = lo (fun a => ∑ x, v x * k x a) a := by
  unfold lo; split <;> simp

/-- A sum of products with the kept lanes, second head. -/
theorem hi_sum (v : Fin 64 → EReal) (k : Fin 64 → ℕ → EReal) (a : ℕ) : ∑ x, v x * hi (k x) a = hi (fun a => ∑ x, v x * k x a) a := by
  unfold hi; split <;> simp

/-- The state's step on the kept lanes, first head. -/
theorem lo_step (s d k : ℕ → EReal) (a : ℕ) : lo s a * d a + lo k a = lo (fun a => s a * d a + k a) a := by
  unfold lo; split <;> simp

/-- The state's step on the kept lanes, second head. -/
theorem hi_step (s d k : ℕ → EReal) (a : ℕ) : hi s a * d a + hi k a = hi (fun a => s a * d a + k a) a := by
  unfold hi; split <;> simp

/-- The constant by which the gate's logarithm is scaled. -/
theorem sixteenth : Ideal.ofBits FTy.f32 0x3D800000#32 = ((1 / 16 : ℝ) : EReal) := by
  simp [Ideal.ofBits, Ideal.ieee, -EReal.coe_mul]; norm_num

/-- The softplus part of a gate's logarithm is a real number. -/
theorem soft_real (g : EReal) : ∃ p : ℝ, Ideal.log1p (Ideal.exp (0 - FloatOps.absf (F := Ideal) (φ := FTy.f32) g)) = (p : EReal) := by
  show ∃ p : ℝ, Ideal.log (1 + Ideal.exp (0 - max g (-g))) = (p : EReal)
  induction g using EReal.rec with
  | bot => exact ⟨Real.log 1, by simp [← EReal.coe_one]⟩
  | top => exact ⟨Real.log 1, by simp [← EReal.coe_one]⟩
  | coe x =>
    have hp := Real.exp_pos (0 - max x (-x))
    refine ⟨Real.log (1 + Real.exp (0 - max x (-x))), ?_⟩
    have e : (0 : EReal) - max (x : EReal) (-(x : EReal)) = ((0 - max x (-x) : ℝ) : EReal) := by
      rw [EReal.coe_sub, EReal.coe_zero, ← EReal.coe_neg]
      congr 1
    rw [e, Ideal.exp_coe, ← EReal.coe_one, ← EReal.coe_add, Ideal.log_coe, if_neg (by linarith)]

/-- A gate's logarithm is never `⊤`. -/
theorem gate_ne_top (g : EReal) : gate g ≠ ⊤ := by
  obtain ⟨p, hp⟩ := soft_real g
  unfold gate
  rw [hp, sixteenth]
  have h : min g 0 ≠ ⊤ := fun e => by
    have := min_le_right g 0
    rw [e] at this
    exact absurd this (by simp)
  generalize min g 0 = z at h
  induction z using EReal.rec with
  | bot => rw [EReal.bot_sub, EReal.bot_mul_coe_of_pos (by norm_num)]; simp
  | top => exact absurd rfl h
  | coe z => rw [← EReal.coe_sub, ← EReal.coe_mul]; exact EReal.coe_ne_top _

/-- Below `⊤`, splitting a value into a rounded part and its rest loses nothing. -/
theorem add_sub_self {x : EReal} (h : x ≠ ⊤) : x + (x - x) = x := by
  induction x using EReal.rec with
  | bot => simp
  | top => exact absurd rfl h
  | coe x => rw [← EReal.coe_sub, sub_self, EReal.coe_zero, add_zero]

/-- The running sum as the kernel forms it: one product of a doubled triangle with the two halves of the logarithms. -/
theorem cB_of (f : Fin 64 → EReal) (r : Fin 64) (hf : ∀ l, f l ≠ ⊤) :
    (∑ x : Fin 64, (if (x : ℕ) % 64 ≤ r then (1 : EReal) else 0) * f x)
      + ∑ x : Fin 64, (if (64 + (x : ℕ)) % 64 ≤ r then (1 : EReal) else 0) * (f x - f x)
    = ∑ l : Fin 64, if (l : ℕ) ≤ r then f l else 0 := by
  rw [← Finset.sum_add_distrib]
  refine Finset.sum_congr rfl fun l _ => ?_
  have hl := l.isLt
  rw [Nat.add_mod_left, Nat.mod_eq_of_lt hl]
  split
  · rw [one_mul, one_mul, add_sub_self (hf l)]
  · rw [zero_mul, zero_mul, add_zero]

end Cert.MixRows
-- ==== Proof.MixerNet.lean ====
/- The token mixing half of the layer in plain functions of its operands, row by row of the flattened array: row `R` is
   position `R % 2048` of sequence `R / 2048`, and chunk `C` holds the rows `64 * C` to `64 * C + 63`. -/
module

public import proofs.«01_k».proof.Proof.MixerRows

@[expose] public section

noncomputable section

open Idealize.ShloMosaic
open scoped BigOperators

namespace Cert.MixNet

open Cert.MixRows

/-- The operands. The input projection's columns are numbered queries, keys, values, output gate, the three of the short
    convolution, the sixteen of the forget gate, then zeros up to 3200. -/
structure Net where
  X : ℕ → Fin 1024 → EReal
  G1 : Fin 1024 → EReal
  W : Fin 1024 → ℕ → EReal
  WU : Fin 16 → Fin 256 → EReal
  BG : Fin 256 → EReal
  GN : Fin 128 → EReal
  CW : Fin 3 → Fin 512 → EReal
  WO : Fin 1024 → Fin 1024 → EReal

/-- The columns of an input projection in the order above: the sixteen columns of the forget gate stand after the output
    gate's in the operand. -/
def order (w : Fin 1024 → Fin 3088 → EReal) (k : Fin 1024) (j : ℕ) : EReal :=
  if h : j < 1536 then w k ⟨j, by omega⟩
  else if h : j < 3072 then w k ⟨j + 16, by omega⟩
  else if h : j < 3088 then w k ⟨j - 1536, by omega⟩ else 0

/-- A projected token. -/
def P (N : Net) (R j : ℕ) : EReal := ∑ k : Fin 1024, nrm (N.X R) N.G1 k * N.W k (j % 3200)

/-- The logarithm of a forget gate. -/
def G (N : Net) (R j : ℕ) : EReal :=
  gate ((∑ a : Fin 16, P N R (3072 + a) * N.WU a ⟨j % 256, Nat.mod_lt _ (by decide)⟩) + N.BG ⟨j % 256, Nat.mod_lt _ (by decide)⟩)

/-- The projected tokens of a chunk. -/
def D (N : Net) (C : ℕ) : Fin 64 → ℕ → EReal := fun r j => P N (64 * C + r) j

/-- The gate logarithms of a chunk. -/
def L (N : Net) (C : ℕ) : Fin 64 → ℕ → EReal := fun r j => G N (64 * C + r) j

/-- The state a chunk is entered with: zero at a sequence's first chunk. -/
def St (N : Net) : ℕ → ℕ → ℕ → ℕ → EReal
  | 0 => fun _ _ _ => 0
  | C + 1 => if (C + 1) % 32 = 0 then fun _ _ _ => 0 else cN (D N C) (L N C) (St N C)

/-- The short convolution's input. -/
def U (N : Net) (R d : ℕ) : EReal := P N R (2048 + d) * P N R (2560 + d)

/-- The short convolution's input `k` rows back, zero before the sequence's start. -/
def back (N : Net) (k R d : ℕ) : EReal := if R % 2048 < k then 0 else U N (R - k) d

/-- What row `R` hands to the output projection: the attention heads' lanes, then the convolution's. -/
def M (N : Net) (R j : ℕ) : EReal :=
  if j < 512 then
    cM (D N (R / 64)) (L N (R / 64)) (St N (R / 64)) N.GN (j / 128) ⟨R % 64, Nat.mod_lt _ (by decide)⟩ ⟨j % 128, Nat.mod_lt _ (by decide)⟩
  else
    P N R (1536 + (j - 512)) * (N.CW 0 ⟨(j - 512) % 512, Nat.mod_lt _ (by decide)⟩ * back N 2 R (j - 512)
      + N.CW 1 ⟨(j - 512) % 512, Nat.mod_lt _ (by decide)⟩ * back N 1 R (j - 512)
      + N.CW 2 ⟨(j - 512) % 512, Nat.mod_lt _ (by decide)⟩ * U N R (j - 512))

/-- The layer's token mixing: the row plus its output projection. -/
def Out (N : Net) (R : ℕ) (j : Fin 1024) : EReal := N.X R j + ∑ k : Fin 1024, M N R k * N.WO k j

/-- A sequence starts from the zero state. -/
theorem St_start (N : Net) (C : ℕ) (h : C % 32 = 0) : St N C = fun _ _ _ => 0 := by
  cases C with
  | zero => rfl
  | succ C => unfold St; rw [if_pos h]

/-- The state after a chunk inside a sequence. -/
theorem St_next (N : Net) (C : ℕ) (h : (C + 1) % 32 ≠ 0) : St N (C + 1) = cN (D N C) (L N C) (St N C) := by
  rw [St, if_neg h]

end Cert.MixNet
-- ==== Proof.MixerRefPre.lean ====
/- The reference's operations before its loop, read at an index. -/
module

public import proofs.«01_k».proof.Proof.MixerRefRun
public import proofs.«01_k».proof.Proof.MixerNet
public import Idealize.ShloMosaic.Lib.StableHlo.ReadAt
public import Idealize.ShloMosaic.Lib.Pipeline.ValueKit

@[expose] public section

set_option maxRecDepth 16384

noncomputable section

namespace Cert.MixerReferenceIdeal.Pre

open Cert.MixerReferenceIdeal Cert.MixerReferenceIdeal.Gen Cert.MixerReferenceIdeal.Value Cert.MixerReferenceIdeal.Kept Cert.MixRows Cert.MixNet
open Idealize.ShloMosaic Idealize.ShloMosaic.TcCoe Idealize.SL.Sem
open scoped BigOperators

variable (V : Valuation τ sig (Elt Ideal))

/-- The operands as the reference's arrays hold them. -/
def netV : Net where
  X R k := V (Proc.devRef .tc main_arg0) (ix3 ⟨R / 2048 % 16, Nat.mod_lt _ (by decide)⟩ ⟨R % 2048, Nat.mod_lt _ (by decide)⟩ k)
  G1 k := V (Proc.devRef .tc main_arg1) (ix2 0 k)
  W := order (fun x j => V (Proc.devRef .tc main_arg2) (ix3 0 x j))
  WU a k := V (Proc.devRef .tc main_arg3) (ix3 0 a k)
  BG k := V (Proc.devRef .tc main_arg4) (ix2 0 k)
  GN k := V (Proc.devRef .tc main_arg5) (ix2 0 k)
  CW i k := V (Proc.devRef .tc main_arg6) (ix3 0 i k)
  WO i k := V (Proc.devRef .tc main_arg7) (ix3 0 i k)

/-- One entry of the projection as the reference forms it. -/
theorem P_at (x0 : FVec Ideal S16x2048x1024 .f32) (x1 : FVec Ideal S1x1024 .f32) (x2 : FVec Ideal S1x1024x3088 .f32)
    (h0 : V (Proc.devRef .tc main_arg0) = x0) (h1 : V (Proc.devRef .tc main_arg1) = x1) (h2 : V (Proc.devRef .tc main_arg2) = x2)
    (b : Fin 16) (s : Fin 2048) (j R : ℕ) (i : Fin 3088) (hR : R = 2048 * b + s) (hj : j < 3088)
    (hi : (i : ℕ) = if j < 1536 then j else if j < 3072 then j + 16 else j - 1536) :
    (∑ x : Fin 1024, x0 (ix3 b s x)
        * Ideal.rsqrt (Ideal.div (∑ x : Fin 1024, x0 (ix3 b s x) * x0 (ix3 b s x)) (Ideal.ofBits FTy.f32 1149239296#32)
          + Ideal.ofBits FTy.f32 897988541#32) * x1 (ix2 0 x) * x2 (ix3 0 x i) : EReal) = P (netV V) R j := by
  subst h0 h1 h2
  subst hR
  have hb := b.isLt
  have hs := s.isLt
  have e0 : (netV V).X (2048 * b + s) = fun k => V (Proc.devRef .tc main_arg0) (ix3 b s k) := by
    funext k
    exact congrArg₂ (fun x y => V (Proc.devRef .tc main_arg0) (ix3 x y k)) (Fin.ext (by show (2048 * (b : ℕ) + s) / 2048 % 16 = b; omega))
      (Fin.ext (by show (2048 * (b : ℕ) + s) % 2048 = s; omega))
  have eW : ∀ x, (netV V).W x (j % 3200) = V (Proc.devRef .tc main_arg2) (ix3 0 x i) := by
    intro x
    rw [Nat.mod_eq_of_lt (by omega)]
    show order (fun x j => V (Proc.devRef .tc main_arg2) (ix3 0 x j)) x j = _
    unfold order
    by_cases h1 : j < 1536
    · simp only [h1, ↓reduceDIte]
      exact congrArg (fun y => V (Proc.devRef .tc main_arg2) (ix3 0 x y)) (Fin.ext (by rw [hi, if_pos h1]))
    · by_cases h2 : j < 3072
      · simp only [h1, h2, ↓reduceDIte]
        exact congrArg (fun y => V (Proc.devRef .tc main_arg2) (ix3 0 x y)) (Fin.ext (by rw [hi, if_neg h1, if_pos h2]))
      · simp only [h1, h2, hj, ↓reduceDIte]
        exact congrArg (fun y => V (Proc.devRef .tc main_arg2) (ix3 0 x y)) (Fin.ext (by rw [hi, if_neg h1, if_neg h2]))
  unfold P nrm
  rw [e0]
  simp only [eW]
  rfl

/-- The contents after each stretch of operations before the loop. -/
def e1 : Valuation τ sig (Elt Ideal) := StableHlo.after hostOps0 V
/-- After the second stretch. -/
def e2 : Valuation τ sig (Elt Ideal) := StableHlo.after hostOps0_1 (e1 V)
/-- After the third stretch. -/
def e3 : Valuation τ sig (Elt Ideal) := StableHlo.after hostOps0_2 (e2 V)
/-- After the fourth stretch. -/
def e4 : Valuation τ sig (Elt Ideal) := StableHlo.after hostOps0_3 (e3 V)
/-- After the fifth stretch. -/
def e5 : Valuation τ sig (Elt Ideal) := StableHlo.after hostOps0_4 (e4 V)
/-- After the sixth stretch. -/
def e6 : Valuation τ sig (Elt Ideal) := StableHlo.after hostOps0_5 (e5 V)
/-- After the seventh stretch. -/
def e7 : Valuation τ sig (Elt Ideal) := StableHlo.after hostOps0_6 (e6 V)
/-- After the eighth stretch. -/
def e8 : Valuation τ sig (Elt Ideal) := StableHlo.after hostOps0_7 (e7 V)
/-- After the ninth stretch: the loop's entry. -/
def e9 : Valuation τ sig (Elt Ideal) := StableHlo.after hostOps0_8 (e8 V)

/-- The scaled queries. -/
theorem v26_e1 (b : Fin 16) (s : Fin 2048) (h : Fin 4) (d : Fin 64) :
    (e1 V (Proc.devRef .tc main_v26) : FVec Ideal S16x2048x4x64 .f32) (ix4 b s h d)
      = (P (netV V) (2048 * b + s) (64 * h + d) * Ideal.ofBits FTy.f32 0x3E000000#32 : EReal) := by
  unfold e1
  after_reads_at
  have hb := b.isLt
  have hs := s.isLt
  have hh := h.isLt
  have hd := d.isLt
  exact congrArg (fun z : EReal => z * Ideal.ofBits FTy.f32 0x3E000000#32) (P_at V _ _ _ rfl rfl rfl b s (64 * h + d) _ ⟨(h : ℕ) * 64 + (d : ℕ), by omega⟩ rfl (by omega) (by rw [if_pos (by omega)]; dsimp only; omega))

/-- The keys. -/
theorem v27_e1 (b : Fin 16) (s : Fin 2048) (h : Fin 4) (d : Fin 64) :
    (e1 V (Proc.devRef .tc main_v27) : FVec Ideal S16x2048x4x64 .f32) (ix4 b s h d)
      = (P (netV V) (2048 * b + s) (256 + (64 * h + d)) : EReal) := by
  unfold e1
  after_reads_at
  have hb := b.isLt
  have hs := s.isLt
  have hh := h.isLt
  have hd := d.isLt
  exact P_at V _ _ _ rfl rfl rfl b s (256 + (64 * h + d)) _ ⟨256 + ((h : ℕ) * 64 + (d : ℕ)), by omega⟩ rfl (by omega) (by rw [if_pos (by omega)]; dsimp only; omega)

/-- The values. -/
theorem v28_e1 (b : Fin 16) (s : Fin 2048) (h : Fin 4) (e : Fin 128) :
    (e1 V (Proc.devRef .tc main_v28) : FVec Ideal S16x2048x4x128 .f32) (ix4 b s h e)
      = (P (netV V) (2048 * b + s) (512 + 128 * h + e) : EReal) := by
  unfold e1
  after_reads_at
  have hb := b.isLt
  have hs := s.isLt
  have hh := h.isLt
  have hd := e.isLt
  exact P_at V _ _ _ rfl rfl rfl b s (512 + 128 * h + e) _ ⟨512 + ((h : ℕ) * 128 + (e : ℕ)), by omega⟩ rfl (by omega) (by rw [if_pos (by omega)]; dsimp only; omega)

/-- The output gate. -/
theorem v19_e1 (b : Fin 16) (s : Fin 2048) (j : Fin 512) :
    (e1 V (Proc.devRef .tc main_v19) : FVec Ideal S16x2048x512 .f32) (ix3 b s j)
      = (P (netV V) (2048 * b + s) (1024 + j) : EReal) := by
  unfold e1
  after_reads_at
  have hb := b.isLt
  have hs := s.isLt
  have hj := j.isLt
  exact P_at V _ _ _ rfl rfl rfl b s (1024 + j) _ ⟨1024 + (j : ℕ), by omega⟩ rfl (by omega) (by rw [if_pos (by omega)])

/-- The convolution's outer factor. -/
theorem v21_e1 (b : Fin 16) (s : Fin 2048) (j : Fin 512) :
    (e1 V (Proc.devRef .tc main_v21) : FVec Ideal S16x2048x512 .f32) (ix3 b s j)
      = (P (netV V) (2048 * b + s) (1536 + j) : EReal) := by
  unfold e1
  after_reads_at
  have hb := b.isLt
  have hs := s.isLt
  have hj := j.isLt
  exact P_at V _ _ _ rfl rfl rfl b s (1536 + j) _ ⟨1552 + (j : ℕ), by omega⟩ rfl (by omega) (by rw [if_neg (by omega), if_pos (by omega)]; dsimp only; omega)

/-- The convolution's first inner factor. -/
theorem v22_e1 (b : Fin 16) (s : Fin 2048) (j : Fin 512) :
    (e1 V (Proc.devRef .tc main_v22) : FVec Ideal S16x2048x512 .f32) (ix3 b s j)
      = (P (netV V) (2048 * b + s) (2048 + j) : EReal) := by
  unfold e1
  after_reads_at
  have hb := b.isLt
  have hs := s.isLt
  have hj := j.isLt
  exact P_at V _ _ _ rfl rfl rfl b s (2048 + j) _ ⟨2064 + (j : ℕ), by omega⟩ rfl (by omega) (by rw [if_neg (by omega), if_pos (by omega)]; dsimp only; omega)

/-- The convolution's second inner factor. -/
theorem v23_e1 (b : Fin 16) (s : Fin 2048) (j : Fin 512) :
    (e1 V (Proc.devRef .tc main_v23) : FVec Ideal S16x2048x512 .f32) (ix3 b s j)
      = (P (netV V) (2048 * b + s) (2560 + j) : EReal) := by
  unfold e1
  after_reads_at
  have hb := b.isLt
  have hs := s.isLt
  have hj := j.isLt
  exact P_at V _ _ _ rfl rfl rfl b s (2560 + j) _ ⟨2576 + (j : ℕ), by omega⟩ rfl (by omega) (by rw [if_neg (by omega), if_pos (by omega)]; dsimp only; omega)

/-- The gate logits. -/
theorem v34_e1 (b : Fin 16) (s : Fin 2048) (d : Fin 256) :
    (e1 V (Proc.devRef .tc main_v34) : FVec Ideal S16x2048x256 .f32) (ix3 b s d)
      = ((∑ a : Fin 16, P (netV V) (2048 * b + s) (3072 + a) * (netV V).WU a d) + (netV V).BG d : EReal) := by
  unfold e1
  after_reads_at
  have hb := b.isLt
  have hs := s.isLt
  refine congrArg (fun z : EReal => z + (netV V).BG d) (Finset.sum_congr rfl fun a _ => ?_)
  have ha := a.isLt
  exact congrArg (fun z : EReal => z * (netV V).WU a d) (P_at V _ _ _ rfl rfl rfl b s (3072 + a) _ ⟨1536 + (a : ℕ), by omega⟩ rfl (by omega) (by rw [if_neg (by omega), if_neg (by omega)]; dsimp only; omega))

/-- The gate's logarithm as the reference forms it. -/
theorem gate_ref (g : EReal) :
    Ideal.div (-(if -g ≠ -g then -g else max (-g) 0 + Ideal.log1p (Ideal.exp (-FloatOps.absf (F := Ideal) (φ := FTy.f32) (-g)))))
      (Ideal.ofBits FTy.f32 1098907648#32) = gate g := by
  have e16 : Ideal.ofBits FTy.f32 1098907648#32 = ((16 : ℝ) : EReal) := by
    simp [Ideal.ofBits, Ideal.ieee, -EReal.coe_mul]; norm_num
  have ea : FloatOps.absf (F := Ideal) (φ := FTy.f32) (-g) = FloatOps.absf (F := Ideal) (φ := FTy.f32) g := by
    show max (-g) (- -g) = max g (-g)
    rw [neg_neg, max_comm]
  obtain ⟨p, hp⟩ := soft_real g
  rw [zero_sub] at hp
  unfold gate
  rw [if_neg (not_not.mpr rfl), ea, zero_sub, hp, e16, sixteenth, Ideal.div, if_neg (by norm_num)]
  have hm : -(max (-g) 0 + (p : EReal)) = min g 0 - (p : EReal) := by
    rw [EReal.neg_add (Or.inr (EReal.coe_ne_top p)) (Or.inr (EReal.coe_ne_bot p)), ← EReal.min_neg_neg]
    simp
  rw [hm]
  congr 1
  rw [← EReal.coe_inv]
  norm_num

/-- The gates' logarithms. -/
theorem v35_e2 (b : Fin 16) (s : Fin 2048) (d : Fin 256) :
    Ideal.div ((e2 V (Proc.devRef .tc main_v35) : FVec Ideal S16x2048x256 .f32) (ix3 b s d)) (Ideal.ofBits FTy.f32 1098907648#32)
      = (G (netV V) (2048 * b + s) d : EReal) := by
  unfold e2
  after_reads_at
  refine (gate_ref _).trans ?_
  unfold G
  refine congrArg gate ((v34_e1 V b s d).trans ?_)
  have hd : (⟨(d : ℕ) % 256, Nat.mod_lt _ (by decide)⟩ : Fin 256) = d := Fin.ext (Nat.mod_eq_of_lt d.isLt)
  simp only [hd]

end Cert.MixerReferenceIdeal.Pre

end
-- ==== Proof.MixerRefCumsum.lean ====
/- A running sum over the 64 rows of a chunk, read at an index. -/
module

public import proofs.«01_k».proof.Defs
public import proofs.«01_k».proof.Proof.Gen.MixerReferenceIdeal
public import Idealize.ShloMosaic.Lib.Pipeline.ValueKit

@[expose] public section

set_option maxRecDepth 16384

noncomputable section

namespace Cert.MixerReferenceIdeal.Sums

open Cert.MixerReferenceIdeal Cert.MixerReferenceIdeal.Gen
open Idealize.ShloMosaic Idealize.ShloMosaic.TcCoe Idealize.SL.Sem
open scoped BigOperators

/-- A left fold of additions is the start plus the sum. -/
theorem foldl_add {ι : Type} (g : ι → EReal) : ∀ (L : List ι) (v : EReal), L.foldl (fun r n => r + g n) v = v + (L.map g).sum
  | [], v => by simp
  | a :: L, v => by rw [List.foldl_cons, foldl_add g L, List.map_cons, List.sum_cons, add_assoc]

/-- The window's shape: the 64 rows. -/
abbrev Win : Shape := ⟨5, ![1, 1, 1, 64, 1]⟩

/-- A window position is a row. -/
def winEquiv : Win.Idx ≃ Fin 64 where
  toFun i := i 3
  invFun k := (ix5 0 0 0 k 0 : (⟨5, ![1, 1, 1, 64, 1]⟩ : Shape).Idx)
  left_inv i := by
    funext a
    fin_cases a
    · exact Subsingleton.elim (α := Fin 1) _ _
    · exact Subsingleton.elim (α := Fin 1) _ _
    · exact Subsingleton.elim (α := Fin 1) _ _
    · rfl
    · exact Subsingleton.elim (α := Fin 1) _ _
  right_inv k := rfl

/-- The running sum at row `r` is the sum over the rows up to `r`. -/
theorem running (x : FVec Ideal S32x16x4x64x64 .f32) (v : FVec Ideal S_ .f32) (hv : ∀ i, v i = (0 : EReal))
    (n : Fin 32) (b : Fin 16) (h : Fin 4) (r d : Fin 64) :
    Host.reduceWindowAdd ![1, 1, 1, 64, 1] ![1, 1, 1, 1, 1] ![0, 0, 0, 63, 0] ![0, 0, 0, 0, 0] x v
      reduceWindows_S32x16x4x64x64_S32x16x4x64x64_w1s1p0_0_w1s1p0_0_w1s1p0_0_w64s1p63_0_w1s1p0_0 h_S_ (ix5 n b h r d)
    = (∑ l : Fin 64, if (l : ℕ) ≤ r then x (ix5 n b h l d) else 0 : EReal) := by
  let g : Win.Idx → EReal := fun i =>
    if 63 ≤ (r : ℕ) + (i 3).val then x (ix5 n b h ⟨((r : ℕ) + (i 3).val - 63) % 64, Nat.mod_lt _ (by decide)⟩ d) else 0
  have key : Host.reduceWindowAdd ![1, 1, 1, 64, 1] ![1, 1, 1, 1, 1] ![0, 0, 0, 63, 0] ![0, 0, 0, 0, 0] x v
      reduceWindows_S32x16x4x64x64_S32x16x4x64x64_w1s1p0_0_w1s1p0_0_w1s1p0_0_w64s1p63_0_w1s1p0_0 h_S_ (ix5 n b h r d)
      = (List.finRange Win.numel).foldl (fun q k => q + g (Win.rowMajor.symm k)) (0 : EReal) := by
    unfold Host.reduceWindowAdd
    rw [Ideal.hostReduceWindowAdd_def]
    unfold Ideal.hostReduceWindowAdd Host.reduceWindow
    simp only [hv]
    congr 1
    funext q k
    congr 1
    have z0 : (Win.rowMajor.symm k 0).val = 0 := Nat.lt_one_iff.mp (Win.rowMajor.symm k 0).isLt
    have z1 : (Win.rowMajor.symm k 1).val = 0 := Nat.lt_one_iff.mp (Win.rowMajor.symm k 1).isLt
    have z2 : (Win.rowMajor.symm k 2).val = 0 := Nat.lt_one_iff.mp (Win.rowMajor.symm k 2).isLt
    have z4 : (Win.rowMajor.symm k 4).val = 0 := Nat.lt_one_iff.mp (Win.rowMajor.symm k 4).isLt
    have k3 : (Win.rowMajor.symm k 3).val < 64 := (Win.rowMajor.symm k 3).isLt
    have hr := r.isLt
    have hn := n.isLt
    have hb := b.isLt
    have hh := h.isLt
    have hd := d.isLt
    show _ = if 63 ≤ (r : ℕ) + (Win.rowMajor.symm k 3).val then _ else _
    by_cases hc : 63 ≤ (r : ℕ) + (Win.rowMajor.symm k 3).val
    · rw [if_pos hc, dif_pos]
      · refine congrArg x (funext fun a => Fin.ext ?_)
        fin_cases a
        · show (n : ℕ) * 1 + (Win.rowMajor.symm k 0).val - 0 = n
          omega
        · show (b : ℕ) * 1 + (Win.rowMajor.symm k 1).val - 0 = b
          omega
        · show (h : ℕ) * 1 + (Win.rowMajor.symm k 2).val - 0 = h
          omega
        · show (r : ℕ) * 1 + (Win.rowMajor.symm k 3).val - 63 = ((r : ℕ) + (Win.rowMajor.symm k 3).val - 63) % 64
          omega
        · show (d : ℕ) * 1 + (Win.rowMajor.symm k 4).val - 0 = d
          omega
      · intro a
        fin_cases a
        · show 0 ≤ (n : ℕ) * 1 + (Win.rowMajor.symm k 0).val ∧ (n : ℕ) * 1 + (Win.rowMajor.symm k 0).val - 0 < 32
          omega
        · show 0 ≤ (b : ℕ) * 1 + (Win.rowMajor.symm k 1).val ∧ (b : ℕ) * 1 + (Win.rowMajor.symm k 1).val - 0 < 16
          omega
        · show 0 ≤ (h : ℕ) * 1 + (Win.rowMajor.symm k 2).val ∧ (h : ℕ) * 1 + (Win.rowMajor.symm k 2).val - 0 < 4
          omega
        · show 63 ≤ (r : ℕ) * 1 + (Win.rowMajor.symm k 3).val ∧ (r : ℕ) * 1 + (Win.rowMajor.symm k 3).val - 63 < 64
          omega
        · show 0 ≤ (d : ℕ) * 1 + (Win.rowMajor.symm k 4).val ∧ (d : ℕ) * 1 + (Win.rowMajor.symm k 4).val - 0 < 64
          omega
    · rw [if_neg hc, dif_neg]
      intro hin
      have h3 := (hin 3).1
      change 63 ≤ (r : ℕ) * 1 + (Win.rowMajor.symm k 3).val at h3
      omega
  rw [key, foldl_add, zero_add, ← List.ofFn_eq_map, List.sum_ofFn, Equiv.sum_comp Win.rowMajor.symm g, ← Equiv.sum_comp winEquiv.symm g]
  refine Fintype.sum_equiv (Equiv.addRight (r + 1)) _ _ fun k => ?_
  show (if 63 ≤ (r : ℕ) + (k : ℕ) then x (ix5 n b h ⟨((r : ℕ) + (k : ℕ) - 63) % 64, _⟩ d) else 0) = if ((k + (r + 1) : Fin 64) : ℕ) ≤ r then x (ix5 n b h (k + (r + 1)) d) else 0
  have hk := k.isLt
  have hr := r.isLt
  have e : ((k + (r + 1) : Fin 64) : ℕ) = (k + (r + 1)) % 64 := by
    rw [Fin.val_add, Fin.val_add]
    simp
  by_cases hc : 63 ≤ (r : ℕ) + (k : ℕ)
  · rw [if_pos hc, if_pos (by omega)]
    exact congrArg (fun l => x (ix5 n b h l d)) (Fin.ext (by rw [e]; show ((r : ℕ) + (k : ℕ) - 63) % 64 = _; omega))
  · rw [if_neg hc, if_neg (by omega)]

end Cert.MixerReferenceIdeal.Sums

end
-- ==== Proof.MixerRefChunk.lean ====
/- The reference's chunks before its loop: the running sums, the masked scores and what each chunk adds to the state. -/
module

public import proofs.«01_k».proof.Proof.MixerRefPre
public import proofs.«01_k».proof.Proof.MixerRefCumsum
public import Idealize.ShloMosaic.Lib.StableHlo.ReadAt
public import Idealize.ShloMosaic.Lib.Pipeline.ValueKit

@[expose] public section

set_option maxRecDepth 16384

noncomputable section

namespace Cert.MixerReferenceIdeal.Pre

open Cert.MixerReferenceIdeal Cert.MixerReferenceIdeal.Gen Cert.MixerReferenceIdeal.Value Cert.MixerReferenceIdeal.Kept Cert.MixRows Cert.MixNet
open Idealize.ShloMosaic Idealize.ShloMosaic.TcCoe Idealize.SL.Sem
open scoped BigOperators

variable (V : Valuation τ sig (Elt Ideal))

/-- What the stretch does not write it keeps. -/
theorem keep2 (b : Ref sig .tc) (h : b ∉ hostOps0_1_W) : e2 V (Proc.devRef .tc b) = e1 V (Proc.devRef .tc b) :=
  StableHlo.after_of_writes_sub _ _ hostOps0_1_writes h
/-- What the stretch does not write it keeps. -/
theorem keep3 (b : Ref sig .tc) (h : b ∉ hostOps0_2_W) : e3 V (Proc.devRef .tc b) = e2 V (Proc.devRef .tc b) :=
  StableHlo.after_of_writes_sub _ _ hostOps0_2_writes h
/-- What the stretch does not write it keeps. -/
theorem keep4 (b : Ref sig .tc) (h : b ∉ hostOps0_3_W) : e4 V (Proc.devRef .tc b) = e3 V (Proc.devRef .tc b) :=
  StableHlo.after_of_writes_sub _ _ hostOps0_3_writes h
/-- What the stretch does not write it keeps. -/
theorem keep5 (b : Ref sig .tc) (h : b ∉ hostOps0_4_W) : e5 V (Proc.devRef .tc b) = e4 V (Proc.devRef .tc b) :=
  StableHlo.after_of_writes_sub _ _ hostOps0_4_writes h
/-- What the stretch does not write it keeps. -/
theorem keep6 (b : Ref sig .tc) (h : b ∉ hostOps0_5_W) : e6 V (Proc.devRef .tc b) = e5 V (Proc.devRef .tc b) :=
  StableHlo.after_of_writes_sub _ _ hostOps0_5_writes h
/-- What the stretch does not write it keeps. -/
theorem keep7 (b : Ref sig .tc) (h : b ∉ hostOps0_6_W) : e7 V (Proc.devRef .tc b) = e6 V (Proc.devRef .tc b) :=
  StableHlo.after_of_writes_sub _ _ hostOps0_6_writes h
/-- What the stretch does not write it keeps. -/
theorem keep8 (b : Ref sig .tc) (h : b ∉ hostOps0_7_W) : e8 V (Proc.devRef .tc b) = e7 V (Proc.devRef .tc b) :=
  StableHlo.after_of_writes_sub _ _ hostOps0_7_writes h
/-- What the stretch does not write it keeps. -/
theorem keep9 (b : Ref sig .tc) (h : b ∉ hostOps0_8_W) : e9 V (Proc.devRef .tc b) = e8 V (Proc.devRef .tc b) :=
  StableHlo.after_of_writes_sub _ _ hostOps0_8_writes h

/-- Row `r` of chunk `n` of sequence `b`, counted from the first sequence. -/
theorem row_eq (b n r : ℕ) : 2048 * b + (n * 64 + r) = 64 * (32 * b + n) + r := by omega

/-- The scaled queries by chunk. -/
theorem v40_e3 (n : Fin 32) (b : Fin 16) (h : Fin 4) (r d : Fin 64) :
    (e3 V (Proc.devRef .tc main_v40) : FVec Ideal S32x16x4x64x64 .f32) (ix5 n b h r d)
      = (D (netV V) (32 * b + n) r (64 * h + d) * Ideal.ofBits FTy.f32 0x3E000000#32 : EReal) := by
  unfold e3
  after_reads_at
  have hn := n.isLt
  have hr := r.isLt
  have hh := h.isLt
  refine (congrFun (keep2 V main_v26 (by decide +kernel)) _).trans ?_
  refine (v26_e1 V b ⟨(n : ℕ) * 64 + (r : ℕ), by omega⟩ h d).trans ?_
  show P (netV V) (2048 * (b : ℕ) + ((n : ℕ) * 64 + (r : ℕ))) _ * _ = _
  rw [row_eq]
  rfl

/-- The keys by chunk. -/
theorem v42_e3 (n : Fin 32) (b : Fin 16) (h : Fin 4) (r d : Fin 64) :
    (e3 V (Proc.devRef .tc main_v42) : FVec Ideal S32x16x4x64x64 .f32) (ix5 n b h r d)
      = (D (netV V) (32 * b + n) r (256 + (64 * h + d)) : EReal) := by
  unfold e3
  after_reads_at
  have hn := n.isLt
  have hr := r.isLt
  have hh := h.isLt
  refine (congrFun (keep2 V main_v27 (by decide +kernel)) _).trans ?_
  refine (v27_e1 V b ⟨(n : ℕ) * 64 + (r : ℕ), by omega⟩ h d).trans ?_
  show P (netV V) (2048 * (b : ℕ) + ((n : ℕ) * 64 + (r : ℕ))) _ = _
  rw [row_eq]
  rfl

/-- The values by chunk. -/
theorem v44_e3 (n : Fin 32) (b : Fin 16) (h : Fin 4) (r : Fin 64) (e : Fin 128) :
    (e3 V (Proc.devRef .tc main_v44) : FVec Ideal S32x16x4x64x128 .f32) (ix5 n b h r e)
      = (D (netV V) (32 * b + n) r (512 + 128 * h + e) : EReal) := by
  unfold e3
  after_reads_at
  have hn := n.isLt
  have hr := r.isLt
  have hh := h.isLt
  refine (congrFun (keep2 V main_v28 (by decide +kernel)) _).trans ?_
  refine (v28_e1 V b ⟨(n : ℕ) * 64 + (r : ℕ), by omega⟩ h e).trans ?_
  show P (netV V) (2048 * (b : ℕ) + ((n : ℕ) * 64 + (r : ℕ))) _ = _
  rw [row_eq]
  rfl

/-- The gates' logarithms by chunk. -/
theorem v46_e3 (n : Fin 32) (b : Fin 16) (h : Fin 4) (r d : Fin 64) :
    (e3 V (Proc.devRef .tc main_v46) : FVec Ideal S32x16x4x64x64 .f32) (ix5 n b h r d)
      = (L (netV V) (32 * b + n) r (64 * h + d) : EReal) := by
  unfold e3
  after_reads_at
  have hn := n.isLt
  have hr := r.isLt
  have hh := h.isLt
  have hd := d.isLt
  refine (v35_e2 V b ⟨(n : ℕ) * 64 + (r : ℕ), by omega⟩ ⟨(h : ℕ) * 64 + (d : ℕ), by omega⟩).trans ?_
  show G (netV V) (2048 * (b : ℕ) + ((n : ℕ) * 64 + (r : ℕ))) ((h : ℕ) * 64 + (d : ℕ)) = _
  rw [row_eq, Nat.mul_comm (h : ℕ) 64]
  rfl

/-- The running sums of the gates' logarithms. -/
theorem v47_e4 (n : Fin 32) (b : Fin 16) (h : Fin 4) (r d : Fin 64) :
    (e4 V (Proc.devRef .tc main_v47) : FVec Ideal S32x16x4x64x64 .f32) (ix5 n b h r d)
      = (cB (L (netV V) (32 * b + n)) r (64 * h + d) : EReal) := by
  unfold e4
  after_reads_simp
  simp -implicitDefEqProofs only [StableHlo.TRef.toBuf, StableHlo.TRef.ofBuf, cast_cast, cast_eq]
  refine (Sums.running _ _ ?_ n b h r d).trans ?_
  · intro i
    pointwise
  · unfold cB
    refine Finset.sum_congr rfl fun l _ => ?_
    rw [v46_e3 V n b h l d]

/-- The running sums at the chunks' ends. -/
theorem v48_e5 (n : Fin 32) (b : Fin 16) (h : Fin 4) (d : Fin 64) :
    (e5 V (Proc.devRef .tc main_v48) : FVec Ideal S32x16x4x1x64 .f32) (ix5 n b h 0 d)
      = (cB (L (netV V) (32 * b + n)) 63 (64 * h + d) : EReal) := by
  unfold e5
  after_reads_at
  exact v47_e4 V n b h 63 d

/-- The decayed queries. -/
theorem v50_e5 (n : Fin 32) (b : Fin 16) (h : Fin 4) (r d : Fin 64) :
    (e5 V (Proc.devRef .tc main_v50) : FVec Ideal S32x16x4x64x64 .f32) (ix5 n b h r d)
      = (cQ (D (netV V) (32 * b + n)) (L (netV V) (32 * b + n)) r (64 * h + d) : EReal) := by
  unfold e5
  after_reads_at
  exact congrArg₂ (fun x y : EReal => x * Ideal.exp y) ((congrFun (keep4 V main_v40 (by decide +kernel)) _).trans (v40_e3 V n b h r d)) (v47_e4 V n b h r d)

/-- The keys with the decay divided out. -/
theorem v53_e5 (n : Fin 32) (b : Fin 16) (h : Fin 4) (r d : Fin 64) :
    (e5 V (Proc.devRef .tc main_v53) : FVec Ideal S32x16x4x64x64 .f32) (ix5 n b h r d)
      = (cI (D (netV V) (32 * b + n)) (L (netV V) (32 * b + n)) r (64 * h + d) : EReal) := by
  unfold e5
  after_reads_at
  unfold cI
  rw [zero_sub]
  exact congrArg₂ (fun x y : EReal => x * Ideal.exp (-y)) ((congrFun (keep4 V main_v42 (by decide +kernel)) _).trans (v42_e3 V n b h r d)) (v47_e4 V n b h r d)

/-- The keys decayed to the chunk's end. -/
theorem v57_e5 (n : Fin 32) (b : Fin 16) (h : Fin 4) (r d : Fin 64) :
    (e5 V (Proc.devRef .tc main_v57) : FVec Ideal S32x16x4x64x64 .f32) (ix5 n b h r d)
      = (cE (D (netV V) (32 * b + n)) (L (netV V) (32 * b + n)) r (64 * h + d) : EReal) := by
  unfold e5
  after_reads_at
  unfold cE
  rw [← v47_e4 V n b h 63 d, ← v47_e4 V n b h r d, ← v42_e3 V n b h r d, ← keep4 V main_v42 (by decide +kernel)]

/-- The comparison of two rows' numbers. -/
theorem tri (r l : Fin 64) : Scalar.select (IntOp.cmpi CmpIPredicate.sge (IntOp.addi (BitVec.ofNat 32 (r : ℕ)) 0#32) (BitVec.ofNat 32 (l : ℕ))) 1#1 0#1
    = if (l : ℕ) ≤ r then 1#1 else 0#1 := by
  revert r l
  decide +kernel

/-- The mask of the lower triangle. -/
theorem v59_e6 (r l : Fin 64) : (e6 V (Proc.devRef .tc main_v59) : IVec S64x64 1) (ix2 r l) = if (l : ℕ) ≤ r then 1#1 else 0#1 := by
  unfold e6
  after_reads_at
  refine (congrArg (fun z => Scalar.select (IntOp.cmpi CmpIPredicate.sge (IntOp.addi (BitVec.ofNat 32 (r : ℕ)) 0#32) (BitVec.ofNat 32 (l : ℕ))) z 0#1) ?_).trans (tri r l)
  unfold e5
  after_reads_at

/-- The scores. -/
theorem v60_e7 (n : Fin 32) (b : Fin 16) (h : Fin 4) (r l : Fin 64) :
    (e7 V (Proc.devRef .tc main_v60) : FVec Ideal S32x16x4x64x64 .f32) (ix5 n b h r l)
      = (∑ d : Fin 64, cQ (D (netV V) (32 * b + n)) (L (netV V) (32 * b + n)) r (64 * h + d) * cI (D (netV V) (32 * b + n)) (L (netV V) (32 * b + n)) l (64 * h + d) : EReal) := by
  unfold e7
  after_reads_at
  refine Finset.sum_congr rfl fun d _ => ?_
  exact congrArg₂ (fun x y : EReal => x * y) ((congrFun (keep6 V main_v50 (by decide +kernel)) _).trans (v50_e5 V n b h r d)) ((congrFun (keep6 V main_v53 (by decide +kernel)) _).trans (v53_e5 V n b h l d))

/-- The scores with the future masked. -/
theorem v61_e8 (n : Fin 32) (b : Fin 16) (h : Fin 4) (r l : Fin 64) :
    (e8 V (Proc.devRef .tc main_v61) : FVec Ideal S32x16x4x64x64 .f32) (ix5 n b h r l)
      = (if (l : ℕ) ≤ r then ∑ d : Fin 64, cQ (D (netV V) (32 * b + n)) (L (netV V) (32 * b + n)) r (64 * h + d) * cI (D (netV V) (32 * b + n)) (L (netV V) (32 * b + n)) l (64 * h + d) else 0 : EReal) := by
  unfold e8
  after_reads_at
  rw [← v60_e7 V n b h r l]
  have e : (e7 V (Proc.devRef .tc main_v59) : IVec S64x64 1) (ix2 r l) = if (l : ℕ) ≤ r then 1#1 else 0#1 :=
    (congrFun (keep7 V main_v59 (by decide +kernel)) _).trans (v59_e6 V r l)
  have z : (e7 V (Proc.devRef .tc main_cst_4) : FVec Ideal S_ .f32) ix0 = (0 : EReal) := by
    unfold e7
    after_reads_at
  refine (congrArg₂ (fun c t => Scalar.select c _ t) e z).trans ?_
  split <;> rfl

/-- The values' part from inside the chunk. -/
theorem v62_e9 (n : Fin 32) (b : Fin 16) (h : Fin 4) (r : Fin 64) (e : Fin 128) :
    (e9 V (Proc.devRef .tc main_v62) : FVec Ideal S32x16x4x64x128 .f32) (ix5 n b h r e)
      = (∑ l : Fin 64, (if (l : ℕ) ≤ r then ∑ d : Fin 64, cQ (D (netV V) (32 * b + n)) (L (netV V) (32 * b + n)) r (64 * h + d) * cI (D (netV V) (32 * b + n)) (L (netV V) (32 * b + n)) l (64 * h + d) else 0) * D (netV V) (32 * b + n) l (512 + 128 * h + e) : EReal) := by
  unfold e9
  after_reads_at
  refine Finset.sum_congr rfl fun l _ => ?_
  exact congrArg₂ (fun x y : EReal => x * y) (v61_e8 V n b h r l) ((congrFun ((keep8 V main_v44 (by decide +kernel)).trans ((keep7 V main_v44 (by decide +kernel)).trans ((keep6 V main_v44 (by decide +kernel)).trans ((keep5 V main_v44 (by decide +kernel)).trans (keep4 V main_v44 (by decide +kernel)))))) _).trans (v44_e3 V n b h l e))

/-- The decayed queries, kept to the loop's entry. -/
theorem v50_e9 (n : Fin 32) (b : Fin 16) (h : Fin 4) (r d : Fin 64) :
    (e9 V (Proc.devRef .tc main_v50) : FVec Ideal S32x16x4x64x64 .f32) (ix5 n b h r d)
      = (cQ (D (netV V) (32 * b + n)) (L (netV V) (32 * b + n)) r (64 * h + d) : EReal) := by
  exact (congrFun ((keep9 V main_v50 (by decide +kernel)).trans ((keep8 V main_v50 (by decide +kernel)).trans ((keep7 V main_v50 (by decide +kernel)).trans (keep6 V main_v50 (by decide +kernel))))) _).trans (v50_e5 V n b h r d)

/-- What a chunk adds to the state. -/
theorem v63_e9 (n : Fin 32) (b : Fin 16) (h : Fin 4) (a : Fin 64) (e : Fin 128) :
    (e9 V (Proc.devRef .tc main_v63) : FVec Ideal S32x16x4x64x128 .f32) (ix5 n b h a e)
      = (cK (D (netV V) (32 * b + n)) (L (netV V) (32 * b + n)) h e (64 * h + a) : EReal) := by
  unfold e9
  after_reads_at
  unfold cK
  refine Finset.sum_congr rfl fun l _ => ?_
  rw [mul_comm]
  exact congrArg₂ (fun x y : EReal => x * y) ((congrFun ((keep8 V main_v44 (by decide +kernel)).trans ((keep7 V main_v44 (by decide +kernel)).trans ((keep6 V main_v44 (by decide +kernel)).trans ((keep5 V main_v44 (by decide +kernel)).trans (keep4 V main_v44 (by decide +kernel)))))) _).trans (v44_e3 V n b h l e)) ((congrFun ((keep8 V main_v57 (by decide +kernel)).trans ((keep7 V main_v57 (by decide +kernel)).trans (keep6 V main_v57 (by decide +kernel)))) _).trans (v57_e5 V n b h l a))

/-- The same in the loop's buffer. -/
theorem v68_1_e9 (n : Fin 32) (b : Fin 16) (h : Fin 4) (a : Fin 64) (e : Fin 128) :
    (e9 V (Proc.devRef .tc main_v68_1) : FVec Ideal S32x16x4x64x128 .f32) (ix5 n b h a e)
      = (cK (D (netV V) (32 * b + n)) (L (netV V) (32 * b + n)) h e (64 * h + a) : EReal) := by
  refine Eq.trans ?_ (v63_e9 V n b h a e)
  unfold e9
  after_reads_simp
  rfl

/-- The decay over a chunk. -/
theorem v65_e9 (n : Fin 32) (b : Fin 16) (h : Fin 4) (a : Fin 64) :
    (e9 V (Proc.devRef .tc main_v65) : FVec Ideal S32x16x4x64 .f32) (ix4 n b h a)
      = (cD (L (netV V) (32 * b + n)) (64 * h + a) : EReal) := by
  unfold e9
  after_reads_at
  unfold cD
  exact congrArg Ideal.exp ((congrFun ((keep8 V main_v48 (by decide +kernel)).trans ((keep7 V main_v48 (by decide +kernel)).trans (keep6 V main_v48 (by decide +kernel)))) _).trans (v48_e5 V n b h a))

/-- The same in the loop's buffer. -/
theorem v68_0_e9 (n : Fin 32) (b : Fin 16) (h : Fin 4) (a : Fin 64) :
    (e9 V (Proc.devRef .tc main_v68_0) : FVec Ideal S32x16x4x64 .f32) (ix4 n b h a)
      = (cD (L (netV V) (32 * b + n)) (64 * h + a) : EReal) := by
  refine Eq.trans ?_ (v65_e9 V n b h a)
  unfold e9
  after_reads_simp
  rfl

/-- The loop starts from the zero state. -/
theorem v68_3_e9 (b : Fin 16) (h : Fin 4) (a : Fin 64) (e : Fin 128) :
    (e9 V (Proc.devRef .tc main_v68_3) : FVec Ideal S16x4x64x128 .f32) (ix4 b h a e)
      = (0 : EReal) := by
  unfold e9
  after_reads_simp
  show (broadcastInDim S16x4x64x128 ![] bcast_S_S16x4x64x128 (constant S_ FTy.f32 0#32) : FVec Ideal S16x4x64x128 .f32) (ix4 b h a e) = (0 : EReal)
  pointwise

/-- Kept to the loop's entry. -/
theorem v19_e9 (b : Fin 16) (s : Fin 2048) (j : Fin 512) :
    (e9 V (Proc.devRef .tc main_v19) : FVec Ideal S16x2048x512 .f32) (ix3 b s j)
      = (P (netV V) (2048 * b + s) (1024 + j) : EReal) := by
  exact (congrFun ((keep9 V main_v19 (by decide +kernel)).trans ((keep8 V main_v19 (by decide +kernel)).trans ((keep7 V main_v19 (by decide +kernel)).trans ((keep6 V main_v19 (by decide +kernel)).trans ((keep5 V main_v19 (by decide +kernel)).trans ((keep4 V main_v19 (by decide +kernel)).trans ((keep3 V main_v19 (by decide +kernel)).trans (keep2 V main_v19 (by decide +kernel))))))))) _).trans (v19_e1 V b s j)

/-- Kept to the loop's entry. -/
theorem v21_e9 (b : Fin 16) (s : Fin 2048) (j : Fin 512) :
    (e9 V (Proc.devRef .tc main_v21) : FVec Ideal S16x2048x512 .f32) (ix3 b s j)
      = (P (netV V) (2048 * b + s) (1536 + j) : EReal) := by
  exact (congrFun ((keep9 V main_v21 (by decide +kernel)).trans ((keep8 V main_v21 (by decide +kernel)).trans ((keep7 V main_v21 (by decide +kernel)).trans ((keep6 V main_v21 (by decide +kernel)).trans ((keep5 V main_v21 (by decide +kernel)).trans ((keep4 V main_v21 (by decide +kernel)).trans ((keep3 V main_v21 (by decide +kernel)).trans (keep2 V main_v21 (by decide +kernel))))))))) _).trans (v21_e1 V b s j)

/-- Kept to the loop's entry. -/
theorem v22_e9 (b : Fin 16) (s : Fin 2048) (j : Fin 512) :
    (e9 V (Proc.devRef .tc main_v22) : FVec Ideal S16x2048x512 .f32) (ix3 b s j)
      = (P (netV V) (2048 * b + s) (2048 + j) : EReal) := by
  exact (congrFun ((keep9 V main_v22 (by decide +kernel)).trans ((keep8 V main_v22 (by decide +kernel)).trans ((keep7 V main_v22 (by decide +kernel)).trans ((keep6 V main_v22 (by decide +kernel)).trans ((keep5 V main_v22 (by decide +kernel)).trans ((keep4 V main_v22 (by decide +kernel)).trans ((keep3 V main_v22 (by decide +kernel)).trans (keep2 V main_v22 (by decide +kernel))))))))) _).trans (v22_e1 V b s j)

/-- Kept to the loop's entry. -/
theorem v23_e9 (b : Fin 16) (s : Fin 2048) (j : Fin 512) :
    (e9 V (Proc.devRef .tc main_v23) : FVec Ideal S16x2048x512 .f32) (ix3 b s j)
      = (P (netV V) (2048 * b + s) (2560 + j) : EReal) := by
  exact (congrFun ((keep9 V main_v23 (by decide +kernel)).trans ((keep8 V main_v23 (by decide +kernel)).trans ((keep7 V main_v23 (by decide +kernel)).trans ((keep6 V main_v23 (by decide +kernel)).trans ((keep5 V main_v23 (by decide +kernel)).trans ((keep4 V main_v23 (by decide +kernel)).trans ((keep3 V main_v23 (by decide +kernel)).trans (keep2 V main_v23 (by decide +kernel))))))))) _).trans (v23_e1 V b s j)

/-- An argument is at the loop's entry what it was at the start. -/
theorem arg_e9 (b : Ref sig .tc) (hq : b ∉ preW) : e9 V (Proc.devRef .tc b) = V (Proc.devRef .tc b) := by
  simp only [preW, List.mem_append, not_or] at hq
  obtain ⟨⟨⟨⟨⟨⟨⟨⟨h0, h1⟩, h2⟩, h3⟩, h4⟩, h5⟩, h6⟩, h7⟩, h8⟩ := hq
  rw [keep9 V b h8, keep8 V b h7, keep7 V b h6, keep6 V b h5, keep5 V b h4, keep4 V b h3, keep3 V b h2, keep2 V b h1]
  exact StableHlo.after_of_writes_sub _ _ hostOps0_writes h0

end Cert.MixerReferenceIdeal.Pre

end
-- ==== Proof.MixerRefLoop.lean ====
/- The reference's loop over the chunks: the carried state and the stacked states. -/
module

public import proofs.«01_k».proof.Proof.MixerRefChunk
public import Idealize.ShloMosaic.Lib.DynamicIndex
public import Idealize.ShloMosaic.Lib.StableHlo.ReadAt
public import Idealize.ShloMosaic.Lib.Pipeline.ValueKit

@[expose] public section

set_option maxRecDepth 16384

noncomputable section

namespace Cert.MixerReferenceIdeal.Pre

open Cert.MixerReferenceIdeal Cert.MixerReferenceIdeal.Gen Cert.MixerReferenceIdeal.Value Cert.MixerReferenceIdeal.Kept Cert.MixRows Cert.MixNet
open Idealize.ShloMosaic Idealize.ShloMosaic.TcCoe Idealize.SL.Sem
open scoped BigOperators

/-- A chunk's slice of the decays. -/
theorem slice4 (x : FVec Ideal S32x16x4x64 .f32) (st : Fin 4 → Int) (k : Fin 32) (h0 : st 0 = ((k : ℕ) : Int)) (h1 : st 1 = 0) (h2 : st 2 = 0)
    (h3 : st 3 = 0) (z : Fin 1) (b : Fin 16) (h : Fin 4) (a : Fin 64) :
    Host.dynamicSlice S1x16x4x64 x st sliceFits_S32x16x4x64_S1x16x4x64 (ix4 z b h a) = x (ix4 k b h a) := by
  have hk := k.isLt
  have hz := z.isLt
  rw [Host.dynamicSlice_eq_extractStridedSlice S1x16x4x64 x st ![(k : ℕ), 0, 0, 0] sliceFits_S32x16x4x64_S1x16x4x64 ⟨rfl, fun i => by
    fin_cases i
    · show (k : ℕ) + 1 ≤ 32; omega
    · show 0 + 16 ≤ 16; omega
    · show 0 + 4 ≤ 4; omega
    · show 0 + 64 ≤ 64; omega⟩ (fun i => by
    fin_cases i
    · exact h0
    · exact h1
    · exact h2
    · exact h3)]
  refine congrArg x (funext fun i => Fin.ext ?_)
  fin_cases i
  · show (k : ℕ) + (z : ℕ) = k; omega
  · show 0 + (b : ℕ) = b; omega
  · show 0 + (h : ℕ) = h; omega
  · show 0 + (a : ℕ) = a; omega

/-- A chunk's slice of the additions. -/
theorem slice5 (x : FVec Ideal S32x16x4x64x128 .f32) (st : Fin 5 → Int) (k : Fin 32) (h0 : st 0 = ((k : ℕ) : Int)) (h1 : st 1 = 0) (h2 : st 2 = 0)
    (h3 : st 3 = 0) (h4 : st 4 = 0) (z : Fin 1) (b : Fin 16) (h : Fin 4) (a : Fin 64) (e : Fin 128) :
    Host.dynamicSlice S1x16x4x64x128 x st sliceFits_S32x16x4x64x128_S1x16x4x64x128 (ix5 z b h a e) = x (ix5 k b h a e) := by
  have hk := k.isLt
  have hz := z.isLt
  rw [Host.dynamicSlice_eq_extractStridedSlice S1x16x4x64x128 x st ![(k : ℕ), 0, 0, 0, 0] sliceFits_S32x16x4x64x128_S1x16x4x64x128 ⟨rfl, fun i => by
    fin_cases i
    · show (k : ℕ) + 1 ≤ 32; omega
    · show 0 + 16 ≤ 16; omega
    · show 0 + 4 ≤ 4; omega
    · show 0 + 64 ≤ 64; omega
    · show 0 + 128 ≤ 128; omega⟩ (fun i => by
    fin_cases i
    · exact h0
    · exact h1
    · exact h2
    · exact h3
    · exact h4)]
  refine congrArg x (funext fun i => Fin.ext ?_)
  fin_cases i
  · show (k : ℕ) + (z : ℕ) = k; omega
  · show 0 + (b : ℕ) = b; omega
  · show 0 + (h : ℕ) = h; omega
  · show 0 + (a : ℕ) = a; omega
  · show 0 + (e : ℕ) = e; omega

/-- The stacked states after one more is written. -/
theorem stack5 (x : FVec Ideal S32x16x4x64x128 .f32) (u : FVec Ideal S1x16x4x64x128 .f32) (st : Fin 5 → Int) (k : Fin 32)
    (h0 : st 0 = ((k : ℕ) : Int)) (h1 : st 1 = 0) (h2 : st 2 = 0) (h3 : st 3 = 0) (h4 : st 4 = 0)
    (n : Fin 32) (b : Fin 16) (h : Fin 4) (a : Fin 64) (e : Fin 128) :
    Host.dynamicUpdateSlice x u st updateFits_S32x16x4x64x128_S1x16x4x64x128 (ix5 n b h a e)
      = if (n : ℕ) = k then u (ix5 0 b h a e) else x (ix5 n b h a e) := by
  have hk := k.isLt
  have hn := n.isLt
  have hb := b.isLt
  have hh := h.isLt
  have ha := a.isLt
  have he := e.isLt
  rw [Host.dynamicUpdateSlice_apply]
  have c0 := Host.clampedStart_of_le (s := S32x16x4x64x128) (t := S1x16x4x64x128) rfl st 0 k h0 (by show (k : ℕ) + 1 ≤ 32; omega)
  have c1 := Host.clampedStart_of_le (s := S32x16x4x64x128) (t := S1x16x4x64x128) rfl st 1 0 h1 (by show 0 + 16 ≤ 16; omega)
  have c2 := Host.clampedStart_of_le (s := S32x16x4x64x128) (t := S1x16x4x64x128) rfl st 2 0 h2 (by show 0 + 4 ≤ 4; omega)
  have c3 := Host.clampedStart_of_le (s := S32x16x4x64x128) (t := S1x16x4x64x128) rfl st 3 0 h3 (by show 0 + 64 ≤ 64; omega)
  have c4 := Host.clampedStart_of_le (s := S32x16x4x64x128) (t := S1x16x4x64x128) rfl st 4 0 h4 (by show 0 + 128 ≤ 128; omega)
  by_cases hc : (n : ℕ) = k
  · rw [if_pos hc, dif_pos]
    · refine congrArg u (funext fun i => Fin.ext ?_)
      fin_cases i
      · exact Nat.lt_one_iff.mp (Fin.isLt _)
      · show (b : ℕ) - Host.clampedStart S32x16x4x64x128 S1x16x4x64x128 rfl st 1 = b
        rw [c1]; omega
      · show (h : ℕ) - Host.clampedStart S32x16x4x64x128 S1x16x4x64x128 rfl st 2 = h
        rw [c2]; omega
      · show (a : ℕ) - Host.clampedStart S32x16x4x64x128 S1x16x4x64x128 rfl st 3 = a
        rw [c3]; omega
      · show (e : ℕ) - Host.clampedStart S32x16x4x64x128 S1x16x4x64x128 rfl st 4 = e
        rw [c4]; omega
    · intro i
      fin_cases i
      · show Host.clampedStart S32x16x4x64x128 S1x16x4x64x128 rfl st 0 ≤ (n : ℕ) ∧ (n : ℕ) < Host.clampedStart S32x16x4x64x128 S1x16x4x64x128 rfl st 0 + 1
        rw [c0]; omega
      · show Host.clampedStart S32x16x4x64x128 S1x16x4x64x128 rfl st 1 ≤ (b : ℕ) ∧ (b : ℕ) < Host.clampedStart S32x16x4x64x128 S1x16x4x64x128 rfl st 1 + 16
        rw [c1]; omega
      · show Host.clampedStart S32x16x4x64x128 S1x16x4x64x128 rfl st 2 ≤ (h : ℕ) ∧ (h : ℕ) < Host.clampedStart S32x16x4x64x128 S1x16x4x64x128 rfl st 2 + 4
        rw [c2]; omega
      · show Host.clampedStart S32x16x4x64x128 S1x16x4x64x128 rfl st 3 ≤ (a : ℕ) ∧ (a : ℕ) < Host.clampedStart S32x16x4x64x128 S1x16x4x64x128 rfl st 3 + 64
        rw [c3]; omega
      · show Host.clampedStart S32x16x4x64x128 S1x16x4x64x128 rfl st 4 ≤ (e : ℕ) ∧ (e : ℕ) < Host.clampedStart S32x16x4x64x128 S1x16x4x64x128 rfl st 4 + 128
        rw [c4]; omega
  · rw [if_neg hc, dif_neg]
    intro hin
    have h := hin 0
    change Host.clampedStart S32x16x4x64x128 S1x16x4x64x128 rfl st 0 ≤ (n : ℕ) ∧ (n : ℕ) < Host.clampedStart S32x16x4x64x128 S1x16x4x64x128 rfl st 0 + 1 at h
    rw [c0] at h
    omega

/-- The loop's counter as a number. -/
theorem ctr_val (k : Fin 32) : (Scf.iv 0#32 1#32 (k : ℕ)).toInt = ((k : ℕ) : Int) := by
  revert k
  decide +kernel

/-- The body's arithmetic at an index: the decay times the state, plus the addition. -/
theorem step_form (A : FVec Ideal S1x16x4x64 .f32) (X : FVec Ideal S16x4x64x128 .f32) (B : FVec Ideal S1x16x4x64x128 .f32)
    (b : Fin 16) (h : Fin 4) (a : Fin 64) (e : Fin 128) :
    (addf (mulf (broadcastInDim S16x4x64x128 ![0, 1, 2, 3] bcast_S16x4x64x1_S16x4x64x128_0_1_2_3
        (broadcastInDim S16x4x64x1 ![0, 1, 2] bcast_S16x4x64_S16x4x64x1_0_1_2 (shapeCast S16x4x64 A shapeCasts_S1x16x4x64_S16x4x64))) X)
      (shapeCast S16x4x64x128 B shapeCasts_S1x16x4x64x128_S16x4x64x128) : FVec Ideal S16x4x64x128 .f32) (ix4 b h a e)
      = (A (ix4 0 b h a) * X (ix4 b h a e) + B (ix5 0 b h a e) : EReal) := by
  pointwise

variable (T : Valuation τ sig (Elt Ideal)) (k : Fin 32) (hc : T (Proc.devRef .tc main_v68_2) = fun _ => Scf.iv 0#32 1#32 k)
include hc

/-- The carried state after one trip. -/
theorem step3_at (x0 : FVec Ideal S32x16x4x64 .f32) (x1 : FVec Ideal S32x16x4x64x128 .f32) (x3 : FVec Ideal S16x4x64x128 .f32)
    (h0 : T (Proc.devRef .tc main_v68_0) = x0) (h1 : T (Proc.devRef .tc main_v68_1) = x1) (h3 : T (Proc.devRef .tc main_v68_3) = x3)
    (b : Fin 16) (h : Fin 4) (a : Fin 64) (e : Fin 128) :
    (step_main_v68_3 T : FVec Ideal S16x4x64x128 .f32) (ix4 b h a e) = (x0 (ix4 k b h a) * x3 (ix4 b h a e) + x1 (ix5 k b h a e) : EReal) := by
  subst h0 h1 h3
  unfold step_main_v68_3
  rw [hc]
  refine (step_form _ _ _ b h a e).trans ?_
  refine congrArg₂ (fun x y : EReal => x * (T (Proc.devRef .tc main_v68_3) : FVec Ideal S16x4x64x128 .f32) (ix4 b h a e) + y) ?_ ?_
  · exact slice4 _ _ k (ctr_val k) rfl rfl rfl 0 b h a
  · exact slice5 _ _ k (ctr_val k) rfl rfl rfl rfl 0 b h a e

/-- The stacked states after one trip. -/
theorem step4_at (n : Fin 32) (b : Fin 16) (h : Fin 4) (a : Fin 64) (e : Fin 128) :
    (step_main_v68_4 T : FVec Ideal S32x16x4x64x128 .f32) (ix5 n b h a e)
      = (if (n : ℕ) = k then (T (Proc.devRef .tc main_v68_3) : FVec Ideal S16x4x64x128 .f32) (ix4 b h a e)
        else (T (Proc.devRef .tc main_v68_4) : FVec Ideal S32x16x4x64x128 .f32) (ix5 n b h a e) : EReal) := by
  unfold step_main_v68_4
  rw [hc]
  refine (stack5 _ _ _ k (ctr_val k) rfl rfl rfl rfl n b h a e).trans ?_
  split
  · pointwise
  · rfl

omit hc
variable (m : (ℓ : Loc nD τ sig) → Buf (Elt Ideal) ℓ) (c : Dev nD)

/-- The contents the program starts from. -/
abbrev v0 : Valuation τ sig (Elt Ideal) := fun b => m (c, b)

/-- The loop's entry. -/
theorem entry_eq : StableHlo.entryContents preI m c = e9 (v0 m c) := by
  simp only [StableHlo.entryContents, StableHlo.afterL_cons, StableHlo.afterL_nil]
  rfl

/-- The loop's counter before trip `k`. -/
theorem T_ctr (k : ℕ) : (STEP^[k] (e9 (v0 m c))) (Proc.devRef .tc main_v68_2) = fun _ => Scf.iv 0#32 1#32 k := by
  rw [← entry_eq]
  exact (atK_agree m c k main_v68_2 (by decide)).symm.trans (atK_ctr m c k)

/-- The decays stay. -/
theorem T_0 : ∀ k, (STEP^[k] (e9 (v0 m c))) (Proc.devRef .tc main_v68_0) = e9 (v0 m c) (Proc.devRef .tc main_v68_0)
  | 0 => rfl
  | k + 1 => by rw [Function.iterate_succ_apply', STEP_main_v68_0, T_0 k]

/-- The additions stay. -/
theorem T_1 : ∀ k, (STEP^[k] (e9 (v0 m c))) (Proc.devRef .tc main_v68_1) = e9 (v0 m c) (Proc.devRef .tc main_v68_1)
  | 0 => rfl
  | k + 1 => by rw [Function.iterate_succ_apply', STEP_main_v68_1, T_1 k]

/-- The carried state before trip `k` is the state chunk `k` is entered with. -/
theorem T_3 (b : Fin 16) (h : Fin 4) (a : Fin 64) (e : Fin 128) : ∀ k, k < 32 →
    ((STEP^[k] (e9 (v0 m c))) (Proc.devRef .tc main_v68_3) : FVec Ideal S16x4x64x128 .f32) (ix4 b h a e)
      = (St (netV (v0 m c)) (32 * b + k) h e (64 * h + a) : EReal)
  | 0, _ => by
    rw [St_start _ _ (by omega)]
    exact v68_3_e9 (v0 m c) b h a e
  | k + 1, hk => by
    rw [Function.iterate_succ_apply', STEP_main_v68_3]
    refine (step3_at _ ⟨k, by omega⟩ (T_ctr m c k) _ _ _ (T_0 m c k) (T_1 m c k) rfl b h a e).trans ?_
    rw [T_3 b h a e k (by omega), v68_0_e9, v68_1_e9, ← Nat.add_assoc, St_next _ _ (by omega), mul_comm]
    rfl

/-- The stacked states before trip `k` hold, for the chunks before `k`, the states they were entered with. -/
theorem T_4 (n : Fin 32) (b : Fin 16) (h : Fin 4) (a : Fin 64) (e : Fin 128) : ∀ k, k ≤ 32 → (n : ℕ) < k →
    ((STEP^[k] (e9 (v0 m c))) (Proc.devRef .tc main_v68_4) : FVec Ideal S32x16x4x64x128 .f32) (ix5 n b h a e)
      = (St (netV (v0 m c)) (32 * b + n) h e (64 * h + a) : EReal)
  | 0, _, hn => absurd hn (Nat.not_lt_zero _)
  | k + 1, hk, hn => by
    rw [Function.iterate_succ_apply', STEP_main_v68_4]
    refine (step4_at _ ⟨k, by omega⟩ (T_ctr m c k) n b h a e).trans ?_
    by_cases hc : (n : ℕ) = k
    · rw [if_pos hc, T_3 m c b h a e k (by omega), hc]
    · rw [if_neg hc, T_4 n b h a e k (by omega) (by omega)]

end Cert.MixerReferenceIdeal.Pre

end
-- ==== Proof.MixerRefPost.lean ====
/- The reference's operations after its loop, read at an index, and its result. -/
module

public import proofs.«01_k».proof.Proof.MixerRefLoop
public import Idealize.ShloMosaic.Lib.StableHlo.ReadAt
public import Idealize.ShloMosaic.Lib.Pipeline.ValueKit

@[expose] public section

set_option maxRecDepth 16384

noncomputable section

namespace Cert.MixerReferenceIdeal.Pre

open Cert.MixerReferenceIdeal Cert.MixerReferenceIdeal.Gen Cert.MixerReferenceIdeal.Value Cert.MixerReferenceIdeal.Kept Cert.MixRows Cert.MixNet
open Idealize.ShloMosaic Idealize.ShloMosaic.TcCoe Idealize.SL.Sem
open scoped BigOperators

variable (m : (ℓ : Loc nD τ sig) → Buf (Elt Ideal) ℓ) (c : Dev nD)

/-- The contents after the loop. -/
def f0 : Valuation τ sig (Elt Ideal) := StableHlo.after condOps (atK m 32 c)
/-- After the first stretch behind the loop. -/
def f1 : Valuation τ sig (Elt Ideal) := StableHlo.after hostOps0_9 (f0 m c)
/-- After the second stretch. -/
def f2 : Valuation τ sig (Elt Ideal) := StableHlo.after hostOps0_10 (f1 m c)
/-- After the third stretch. -/
def f3 : Valuation τ sig (Elt Ideal) := StableHlo.after hostOps0_11 (f2 m c)
/-- After the fourth stretch. -/
def f4 : Valuation τ sig (Elt Ideal) := StableHlo.after hostOps0_12 (f3 m c)
/-- After the last stretch. -/
def f5 : Valuation τ sig (Elt Ideal) := StableHlo.after hostOps0_13 (f4 m c)

/-- What the stretch does not write it keeps. -/
theorem kept1 (b : Ref sig .tc) (h : b ∉ hostOps0_9_W) : f1 m c (Proc.devRef .tc b) = f0 m c (Proc.devRef .tc b) :=
  StableHlo.after_of_writes_sub _ _ hostOps0_9_writes h
/-- What the stretch does not write it keeps. -/
theorem kept2 (b : Ref sig .tc) (h : b ∉ hostOps0_10_W) : f2 m c (Proc.devRef .tc b) = f1 m c (Proc.devRef .tc b) :=
  StableHlo.after_of_writes_sub _ _ hostOps0_10_writes h
/-- What the stretch does not write it keeps. -/
theorem kept3 (b : Ref sig .tc) (h : b ∉ hostOps0_11_W) : f3 m c (Proc.devRef .tc b) = f2 m c (Proc.devRef .tc b) :=
  StableHlo.after_of_writes_sub _ _ hostOps0_11_writes h
/-- What the stretch does not write it keeps. -/
theorem kept4 (b : Ref sig .tc) (h : b ∉ hostOps0_12_W) : f4 m c (Proc.devRef .tc b) = f3 m c (Proc.devRef .tc b) :=
  StableHlo.after_of_writes_sub _ _ hostOps0_12_writes h
/-- What the stretch does not write it keeps. -/
theorem kept5 (b : Ref sig .tc) (h : b ∉ hostOps0_13_W) : f5 m c (Proc.devRef .tc b) = f4 m c (Proc.devRef .tc b) :=
  StableHlo.after_of_writes_sub _ _ hostOps0_13_writes h
/-- What the loop does not write is after it what it was at its entry. -/
theorem kept0 (b : Ref sig .tc) (h : b ∉ loopW) (h' : b ∉ condOps_W) : f0 m c (Proc.devRef .tc b) = e9 (v0 m c) (Proc.devRef .tc b) := by
  rw [← entry_eq]
  exact (StableHlo.after_of_writes_sub _ _ condOps_writes h').trans (atK_kept m c b h 32)

/-- The stacked states after the loop. -/
theorem v68_4_f0 (n : Fin 32) (b : Fin 16) (h : Fin 4) (a : Fin 64) (e : Fin 128) :
    (f0 m c (Proc.devRef .tc main_v68_4) : FVec Ideal S32x16x4x64x128 .f32) (ix5 n b h a e)
      = (St (netV (v0 m c)) (32 * b + n) h e (64 * h + a) : EReal) := by
  refine (congrFun ((cond_keeps _ main_v68_4 (by decide)).trans ((atK_agree m c 32 main_v68_4 (by decide)).trans ?_)) _).trans (T_4 m c n b h a e 32 (le_refl _) n.isLt)
  rw [entry_eq]

/-- The attention value before its normalisation. -/
theorem o_f0 (x62 : FVec Ideal S32x16x4x64x128 .f32) (x50 : FVec Ideal S32x16x4x64x64 .f32) (x68 : FVec Ideal S32x16x4x64x128 .f32)
    (h62 : f0 m c (Proc.devRef .tc main_v62) = x62) (h50 : f0 m c (Proc.devRef .tc main_v50) = x50) (h68 : f0 m c (Proc.devRef .tc main_v68_4) = x68)
    (b : Fin 16) (s : Fin 2048) (h : Fin 4) (e : Fin 128) :
    (x62 (ix5 ⟨(s : ℕ) / 64, by omega⟩ b h ⟨(s : ℕ) % 64, Nat.mod_lt _ (by decide)⟩ e) + ∑ x : Fin 64, x50 (ix5 ⟨(s : ℕ) / 64, by omega⟩ b h ⟨(s : ℕ) % 64, Nat.mod_lt _ (by decide)⟩ x) * x68 (ix5 ⟨(s : ℕ) / 64, by omega⟩ b h x e) : EReal)
    = cO (D (netV (v0 m c)) (32 * b + s / 64)) (L (netV (v0 m c)) (32 * b + s / 64)) (St (netV (v0 m c)) (32 * b + s / 64)) h ⟨(s : ℕ) % 64, Nat.mod_lt _ (by decide)⟩ e := by
  subst h62 h50 h68
  unfold cO
  refine congrArg₂ (fun x y : EReal => x + y) ?_ (Finset.sum_congr rfl fun x _ => congrArg₂ (fun x y : EReal => x * y) ?_ ?_)
  · exact (congrFun (kept0 m c main_v62 (by decide +kernel) (by decide +kernel)) _).trans (v62_e9 (v0 m c) ⟨(s : ℕ) / 64, by omega⟩ b h ⟨(s : ℕ) % 64, Nat.mod_lt _ (by decide)⟩ e)
  · exact (congrFun (kept0 m c main_v50 (by decide +kernel) (by decide +kernel)) _).trans (v50_e9 (v0 m c) ⟨(s : ℕ) / 64, by omega⟩ b h ⟨(s : ℕ) % 64, Nat.mod_lt _ (by decide)⟩ x)
  · exact v68_4_f0 m c ⟨(s : ℕ) / 64, by omega⟩ b h x e

/-- The normalised attention value. -/
theorem v86_f1 (b : Fin 16) (s : Fin 2048) (h : Fin 4) (e : Fin 128) :
    (f1 m c (Proc.devRef .tc main_v86) : FVec Ideal S16x2048x4x128 .f32) (ix4 b s h e)
      = (nrmH (fun x => cO (D (netV (v0 m c)) (32 * b + s / 64)) (L (netV (v0 m c)) (32 * b + s / 64)) (St (netV (v0 m c)) (32 * b + s / 64)) h ⟨(s : ℕ) % 64, Nat.mod_lt _ (by decide)⟩ x) (netV (v0 m c)).GN e : EReal) := by
  unfold f1
  after_reads_at
  simp only [o_f0 m c _ _ _ rfl rfl rfl b s h]
  unfold nrmH
  refine congrArg₂ (fun x y : EReal => x * y) rfl ?_
  exact congrFun ((kept0 m c main_arg5 (by decide +kernel) (by decide +kernel)).trans (arg_e9 (v0 m c) main_arg5 (by decide +kernel))) _

/-- The output gate's logit. -/
theorem v87_f1 (b : Fin 16) (s : Fin 2048) (h : Fin 4) (e : Fin 128) :
    (f1 m c (Proc.devRef .tc main_v87) : FVec Ideal S16x2048x4x128 .f32) (ix4 b s h e)
      = (D (netV (v0 m c)) (32 * b + s / 64) ⟨(s : ℕ) % 64, Nat.mod_lt _ (by decide)⟩ (1024 + 128 * h + e) : EReal) := by
  unfold f1
  after_reads_at
  have hs := s.isLt
  have hh := h.isLt
  have he := e.isLt
  refine (congrFun (kept0 m c main_v19 (by decide +kernel) (by decide +kernel)) _).trans ((v19_e9 (v0 m c) b s ⟨(h : ℕ) * 128 + (e : ℕ), by omega⟩).trans ?_)
  unfold D
  exact congrArg₂ (P (netV (v0 m c))) (by dsimp only; omega) (by dsimp only; omega)

/-- The swish of the output gate. -/
theorem v88_f2 (b : Fin 16) (s : Fin 2048) (h : Fin 4) (e : Fin 128) :
    (f2 m c (Proc.devRef .tc main_v88) : FVec Ideal S16x2048x4x128 .f32) (ix4 b s h e)
      = (D (netV (v0 m c)) (32 * b + s / 64) ⟨(s : ℕ) % 64, Nat.mod_lt _ (by decide)⟩ (1024 + 128 * h + e) * Ideal.div 1 (1 + Ideal.exp (0 - D (netV (v0 m c)) (32 * b + s / 64) ⟨(s : ℕ) % 64, Nat.mod_lt _ (by decide)⟩ (1024 + 128 * h + e))) : EReal) := by
  unfold f2
  after_reads_at
  rw [← v87_f1 m c b s h e, zero_sub]

/-- The attention heads' lanes of the output projection's input. -/
theorem v90_f3 (b : Fin 16) (s : Fin 2048) (d : Fin 512) :
    (f3 m c (Proc.devRef .tc main_v90) : FVec Ideal S16x2048x512 .f32) (ix3 b s d)
      = (Cert.MixNet.M (netV (v0 m c)) (2048 * b + s) d : EReal) := by
  unfold f3
  after_reads_at
  have hs := s.isLt
  have hd := d.isLt
  have e1 : (2048 * (b : ℕ) + s) / 64 = 32 * b + s / 64 := by omega
  have e2 : (2048 * (b : ℕ) + s) % 64 = s % 64 := by omega
  unfold Cert.MixNet.M cM
  rw [if_pos hd]
  simp only [e1, e2]
  exact congrArg₂ (fun x y : EReal => x * y)
    ((congrFun (kept2 m c main_v86 (by decide +kernel)) _).trans (v86_f1 m c b s ⟨(d : ℕ) / 128, by omega⟩ ⟨(d : ℕ) % 128, by omega⟩))
    (v88_f2 m c b s ⟨(d : ℕ) / 128, by omega⟩ ⟨(d : ℕ) % 128, by omega⟩)

/-- The short convolution's input. -/
theorem v91_f3 (b : Fin 16) (s : Fin 2048) (d : Fin 512) :
    (f3 m c (Proc.devRef .tc main_v91) : FVec Ideal S16x2048x512 .f32) (ix3 b s d)
      = (U (netV (v0 m c)) (2048 * b + s) d : EReal) := by
  unfold f3
  after_reads_at
  unfold U
  exact congrArg₂ (fun x y : EReal => x * y)
    ((congrFun ((kept2 m c main_v22 (by decide +kernel)).trans ((kept1 m c main_v22 (by decide +kernel)).trans (kept0 m c main_v22 (by decide +kernel) (by decide +kernel)))) _).trans (v22_e9 (v0 m c) b s d))
    ((congrFun ((kept2 m c main_v23 (by decide +kernel)).trans ((kept1 m c main_v23 (by decide +kernel)).trans (kept0 m c main_v23 (by decide +kernel) (by decide +kernel)))) _).trans (v23_e9 (v0 m c) b s d))

/-- The short convolution's weights. -/
theorem v92_f4 (i : Fin 3) (d : Fin 512) :
    (f4 m c (Proc.devRef .tc main_v92) : FVec Ideal S3x512 .f32) (ix2 i d)
      = ((netV (v0 m c)).CW i d : EReal) := by
  refine (congrFun (kept4 m c main_v92 (by decide +kernel)) _).trans ?_
  unfold f3
  after_reads_at
  exact congrFun (((kept2 m c main_arg6 (by decide +kernel)).trans ((kept1 m c main_arg6 (by decide +kernel)).trans (kept0 m c main_arg6 (by decide +kernel) (by decide +kernel)))).trans (arg_e9 (v0 m c) main_arg6 (by decide +kernel))) _

/-- The short convolution's input with two zero rows before each sequence. -/
theorem v93_f4 (b : Fin 16) (q : Fin 2050) (d : Fin 512) :
    (f4 m c (Proc.devRef .tc main_v93) : FVec Ideal S16x2050x512 .f32) (ix3 b q d)
      = (if (q : ℕ) < 2 then 0 else U (netV (v0 m c)) (2048 * b + (q - 2)) d : EReal) := by
  unfold f4
  after_reads_at
  have hq := q.isLt
  by_cases h : (q : ℕ) < 2
  · rw [if_pos h, dif_neg (by omega)]
    have z : f3 m c (Proc.devRef .tc main_c_11) = constantI S_ 32 0#32 := by
      unfold f3
      after_reads_simp
    rw [z]
    show (((0#32 : BitVec 32).toInt : ℝ) : EReal) = 0
    simp
  · rw [if_neg h, dif_pos (by omega)]
    exact v91_f3 m c b ⟨(q : ℕ) - 2, by omega⟩ d

/-- The convolution's lanes of the output projection's input. -/
theorem v114_f5 (b : Fin 16) (s : Fin 2048) (d : Fin 512) :
    (f5 m c (Proc.devRef .tc main_v114) : FVec Ideal S16x2048x512 .f32) (ix3 b s d)
      = (Cert.MixNet.M (netV (v0 m c)) (2048 * b + s) (512 + d) : EReal) := by
  unfold f5
  after_reads_at
  have hs := s.isLt
  have hd := d.isLt
  have em : (2048 * (b : ℕ) + s) % 2048 = s := by omega
  have ed : (⟨(d : ℕ) % 512, Nat.mod_lt _ (by decide)⟩ : Fin 512) = d := Fin.ext (Nat.mod_eq_of_lt hd)
  unfold Cert.MixNet.M
  rw [if_neg (by omega)]
  simp only [Nat.add_sub_cancel_left, ed]
  refine congrArg₂ (fun x y : EReal => x * y) ?_ (congrArg₂ (fun x y : EReal => x + y) (congrArg₂ (fun x y : EReal => x + y) ?_ ?_) ?_)
  · exact (congrFun ((kept4 m c main_v21 (by decide +kernel)).trans ((kept3 m c main_v21 (by decide +kernel)).trans ((kept2 m c main_v21 (by decide +kernel)).trans ((kept1 m c main_v21 (by decide +kernel)).trans (kept0 m c main_v21 (by decide +kernel) (by decide +kernel)))))) _).trans (v21_e9 (v0 m c) b s d)
  · refine congrArg₂ (fun x y : EReal => x * y) (v92_f4 m c 0 d) ((v93_f4 m c b ⟨(s : ℕ), by omega⟩ d).trans ?_)
    unfold back
    rw [em]
    by_cases h : (s : ℕ) < 2
    · rw [if_pos h, if_pos h]
    · rw [if_neg h, if_neg h]
      exact congrArg (fun R => U (netV (v0 m c)) R d) (by dsimp only; omega)
  · refine congrArg₂ (fun x y : EReal => x * y) (v92_f4 m c 1 d) ((v93_f4 m c b ⟨1 + (s : ℕ), by omega⟩ d).trans ?_)
    unfold back
    rw [em]
    by_cases h : (s : ℕ) < 1
    · rw [if_pos h, if_pos (by dsimp only; omega)]
    · rw [if_neg h, if_neg (by dsimp only; omega)]
      exact congrArg (fun R => U (netV (v0 m c)) R d) (by dsimp only; omega)
  · refine congrArg₂ (fun x y : EReal => x * y) (v92_f4 m c 2 d) ((v93_f4 m c b ⟨2 + (s : ℕ), by omega⟩ d).trans ?_)
    rw [if_neg (by dsimp only; omega)]
    exact congrArg (fun R => U (netV (v0 m c)) R d) (by dsimp only; omega)

/-- The attention heads' lanes, kept to the end. -/
theorem v90_f5 (b : Fin 16) (s : Fin 2048) (d : Fin 512) :
    (f5 m c (Proc.devRef .tc main_v90) : FVec Ideal S16x2048x512 .f32) (ix3 b s d)
      = (Cert.MixNet.M (netV (v0 m c)) (2048 * b + s) d : EReal) := by
  exact (congrFun ((kept5 m c main_v90 (by decide +kernel)).trans (kept4 m c main_v90 (by decide +kernel))) _).trans (v90_f3 m c b s d)

/-- The result at an index. -/
theorem v118_f5 (b : Fin 16) (s : Fin 2048) (j : Fin 1024) :
    (f5 m c (Proc.devRef .tc main_v118) : FVec Ideal S16x2048x1024 .f32) (ix3 b s j)
      = (Out (netV (v0 m c)) (2048 * b + s) j : EReal) := by
  have h90 : ∀ x : Fin 512, (StableHlo.upto hostOps0_13 (f4 m c) 21 (Proc.devRef .tc main_v90) : FVec Ideal S16x2048x512 .f32) (ix3 b s x) = (Cert.MixNet.M (netV (v0 m c)) (2048 * b + s) x : EReal) := by
    intro x
    rw [← v90_f5 m c b s x]
    unfold f5
    after_reads_at
  have h114 : ∀ x : Fin 512, (StableHlo.upto hostOps0_13 (f4 m c) 21 (Proc.devRef .tc main_v114) : FVec Ideal S16x2048x512 .f32) (ix3 b s x) = (Cert.MixNet.M (netV (v0 m c)) (2048 * b + s) (512 + x) : EReal) := by
    intro x
    rw [← v114_f5 m c b s x]
    unfold f5
    after_reads_at
  have h0 : f4 m c (Proc.devRef .tc main_arg0) = v0 m c (Proc.devRef .tc main_arg0) := ((kept4 m c main_arg0 (by decide +kernel)).trans ((kept3 m c main_arg0 (by decide +kernel)).trans ((kept2 m c main_arg0 (by decide +kernel)).trans ((kept1 m c main_arg0 (by decide +kernel)).trans (kept0 m c main_arg0 (by decide +kernel) (by decide +kernel)))))).trans (arg_e9 (v0 m c) main_arg0 (by decide +kernel))
  have h7 : f4 m c (Proc.devRef .tc main_arg7) = v0 m c (Proc.devRef .tc main_arg7) := ((kept4 m c main_arg7 (by decide +kernel)).trans ((kept3 m c main_arg7 (by decide +kernel)).trans ((kept2 m c main_arg7 (by decide +kernel)).trans ((kept1 m c main_arg7 (by decide +kernel)).trans (kept0 m c main_arg7 (by decide +kernel) (by decide +kernel)))))).trans (arg_e9 (v0 m c) main_arg7 (by decide +kernel))
  have hb := b.isLt
  have hs := s.isLt
  unfold f5
  after_reads_at
  unfold Out
  rw [Fin.sum_univ_add (a := 512) (b := 512)]
  refine congrArg₂ (fun x y : EReal => x + y) ?_ (congrArg₂ (fun x y : EReal => x + y)
    (Finset.sum_congr rfl fun x _ => congrArg₂ (fun x y : EReal => x * y) (h90 x) (congrFun h7 _))
    (Finset.sum_congr rfl fun x _ => congrArg₂ (fun x y : EReal => x * y) (h114 x) (congrFun h7 _)))
  refine (congrFun h0 _).trans ?_
  exact congrArg₂ (fun x y => v0 m c (Proc.devRef .tc main_arg0) (ix3 x y j)) (Fin.ext (by show (b : ℕ) = (2048 * (b : ℕ) + s) / 2048 % 16; omega))
    (Fin.ext (by show (s : ℕ) = (2048 * (b : ℕ) + s) % 2048; omega))

/-- The reference's result, as a function of its operands. -/
theorem res_eq : StableHlo.finalContents condOps preI bodyI postI 32 m c (Proc.devRef .tc main_v118)
    = (fun i => Out (netV (v0 m c)) (2048 * (i 0).val + (i 1).val) (i 2) : FVec Ideal S16x2048x1024 .f32) := by
  show f5 m c (Proc.devRef .tc main_v118) = _
  funext i
  obtain ⟨b, s, j, rfl⟩ : ∃ b s j, i = ix3 (n0 := 16) (n1 := 2048) (n2 := 1024) b s j := ⟨i 0, i 1, i 2, by funext a; fin_cases a <;> rfl⟩
  exact v118_f5 m c b s j

end Cert.MixerReferenceIdeal.Pre

end
-- ==== Proof.MixerTile.lean ====
/- One grid point of the token mixer's kernel: its blocks, and the plain functions its values are stated with. -/
module

public import proofs.«01_k».proof.Proof.Gen.MixerIdeal.Frame
public import proofs.«01_k».proof.Proof.Gen.MixerIdeal.Value
public import proofs.«01_k».proof.Proof.MixerRows
public import Idealize.ShloMosaic.Lib.Pipeline.ValueKit

@[expose] public section

set_option maxRecDepth 16384

noncomputable section

open Idealize.ShloMosaic Idealize.ShloMosaic.TcCoe Idealize.SL.Sem
open scoped BigOperators

namespace Cert.MixerIdeal.Tile

open Cert.MixerIdeal Cert.MixerIdeal.Gen Cert.MixRows

/-- What one grid point reads: its blocks of the eight operands, the four states it is entered with, and the shifted
    rows of the short convolution's input (each half of the channels, two rows and one row back). -/
structure Ins where
  x0 : FVec Ideal S1x512x1024 .f32
  x1 : FVec Ideal S1x1024 .f32
  x2 : FVec Ideal S1024x3200 .bf16
  x3 : FVec Ideal S128x256 .bf16
  x4 : FVec Ideal S1x256 .f32
  x5 : FVec Ideal S1x128 .f32
  x6 : FVec Ideal S3x512 .f32
  x7 : FVec Ideal S1024x1024 .bf16
  s0 : FVec Ideal S1x128x128 .f32
  s1 : FVec Ideal S1x128x128 .f32
  s2 : FVec Ideal S1x128x128 .f32
  s3 : FVec Ideal S1x128x128 .f32
  u_6_0 : FVec Ideal S512x256 .f32
  u_7_0 : FVec Ideal S512x256 .f32
  u_6_256 : FVec Ideal S512x256 .f32
  u_7_256 : FVec Ideal S512x256 .f32

/-- The normalised token of row `R` of the tile. -/
def hb (I : Ins) (R : ℕ) : Fin 1024 → EReal :=
  nrm (fun k => I.x0 (ix3 0 ⟨R % 512, Nat.mod_lt _ (by decide)⟩ k)) (fun k => I.x1 (ix2 0 k))

/-- Column `j` of the projected token of row `R`. -/
def pr (I : Ins) (R j : ℕ) : EReal := ∑ k : Fin 1024, hb I R k * I.x2 (ix2 k ⟨j % 3200, Nat.mod_lt _ (by decide)⟩)

/-- The logarithm of the forget gate, lane `j` of row `R`. -/
def lg (I : Ins) (R j : ℕ) : EReal :=
  gate ((∑ x : Fin 128, pr I R (3072 + x) * I.x3 (ix2 x ⟨j % 256, Nat.mod_lt _ (by decide)⟩)) + I.x4 (ix2 0 ⟨j % 256, Nat.mod_lt _ (by decide)⟩))

/-- The projected tokens of the chunk that starts at row `o`. -/
def dc (I : Ins) (o : ℕ) : Fin 64 → ℕ → EReal := fun r j => pr I (o + r) j

/-- The gate logarithms of the chunk that starts at row `o`. -/
def lc (I : Ins) (o : ℕ) : Fin 64 → ℕ → EReal := fun r j => lg I (o + r) j

/-- One entry of a chunk's projected tokens. -/
theorem dc_at (I : Ins) (o : ℕ) (r : Fin 64) (j : ℕ) : dc I o r j = pr I (o + r) j := rfl

/-- One entry of a chunk's gate logarithms. -/
theorem lc_at (I : Ins) (o : ℕ) (r : Fin 64) (j : ℕ) : lc I o r j = lg I (o + r) j := rfl

/-- The state before chunk `n` of the tile, entered with state `S`. -/
def stA (I : Ins) (S : ℕ → ℕ → ℕ → EReal) : ℕ → ℕ → ℕ → ℕ → EReal
  | 0 => S
  | n + 1 => cN (dc I (64 * n)) (lc I (64 * n)) (stA I S n)

/-- The per-head scale of the attention heads' normalisation. -/
def gn (I : Ins) : Fin 128 → EReal := fun e => I.x5 (ix2 0 e)

/-- The four blocks of states hold the state `S`, each head in its own half of the lanes. -/
structure Holds (I : Ins) (S : ℕ → ℕ → ℕ → EReal) : Prop where
  h0 : ∀ e a : Fin 128, I.s0 (ix3 0 e a) = lo (fun a => S 0 e a) a
  h1 : ∀ e a : Fin 128, I.s1 (ix3 0 e a) = hi (fun a => S 1 e a) a
  h2 : ∀ e a : Fin 128, I.s2 (ix3 0 e a) = lo (fun a => S 2 e (128 + a)) a
  h3 : ∀ e a : Fin 128, I.s3 (ix3 0 e a) = hi (fun a => S 3 e (128 + a)) a

/-! ## The masks -/

/-- The causal mask over two heads' lanes. -/
theorem mask_causal (r : Fin 64) (m : Fin 128) : k0_pay12 (ix2 r m) = if (m : ℕ) % 64 ≤ r then 1#1 else 0#1 := by
  pointwise [k0_pay12]
  revert r m
  decide +kernel

/-- The mask of the first head's key lanes. -/
theorem mask_keys (r : Fin 64) (m : Fin 128) : k0_pay14 (ix2 r m) = if (m : ℕ) < 64 then 1#1 else 0#1 := by
  pointwise [k0_pay14]
  clear r
  revert m
  decide +kernel

/-- The mask of the first head's value lanes. -/
theorem mask_vals (r : Fin 64) (m : Fin 256) : k0_pay15 (ix2 r m) = if (m : ℕ) < 128 then 1#1 else 0#1 := by
  pointwise [k0_pay15]
  clear r
  revert m
  decide +kernel

/-- A choice by a mask's bit is the choice by the bit's condition. -/
theorem select_bit {α : Type} (p : Prop) [Decidable p] (a b : α) : Scalar.select (if p then 1#1 else 0#1) a b = if p then a else b := by
  by_cases h : p <;> simp [h, Scalar.select]

/-- The doubled triangle of the running sum. -/
theorem tri_at (r : Fin 64) (m : Fin 128) : k0_pay13 (F := Ideal) (ix2 r m) = if (m : ℕ) % 64 ≤ r then 1 else 0 := by
  pointwise [k0_pay13]
  rw [mask_causal]
  split
  · show (((BitVec.setWidth 32 1#1).toInt : ℝ) : EReal) = 1
    simp
  · show (((BitVec.setWidth 32 0#1).toInt : ℝ) : EReal) = 0
    simp

end Cert.MixerIdeal.Tile
-- ==== Proof.MixerTileA.lean ====
/- Tile values, first part: projections, gates and their running sums. -/
module

public import proofs.«01_k».proof.Proof.MixerTile

@[expose] public section

set_option maxRecDepth 16384

noncomputable section

open Idealize.ShloMosaic Idealize.ShloMosaic.TcCoe Idealize.SL.Sem
open scoped BigOperators

namespace Cert.MixerIdeal.Tile

open Cert.MixerIdeal Cert.MixerIdeal.Gen Cert.MixRows

/-- Columns 2304 to 2559 of a block. -/
def ld_x2_S1024x3200_S1024x256_0_2304 (I : Ins) : FVec Ideal S1024x256 .bf16 := View.ld (Val := Elt Ideal) (e' := EltTy.bf16) (S := S1024x3200) I.x2 (Rect.unit ![0, 2304] ![1024, 256] inb_S1024x3200_S1024x256_0_2304)
/-- One entry of it. -/
theorem ld_x2_S1024x3200_S1024x256_0_2304_at (I : Ins) (r : Fin 1024) (j : Fin 256) : ld_x2_S1024x3200_S1024x256_0_2304 I (ix2 r j) = I.x2 (ix2 r ⟨2304 + j, by omega⟩) :=
  View.ld_unit_apply_of (Val := Elt Ideal) (e := EltTy.bf16) _ _ _ _ _ _ (by
    intro a
    match a with
    | ⟨0, _⟩ => exact (Nat.zero_add _).symm
    | ⟨1, _⟩ => rfl)
/-- Columns 2816 to 3071 of a block. -/
def ld_x2_S1024x3200_S1024x256_0_2816 (I : Ins) : FVec Ideal S1024x256 .bf16 := View.ld (Val := Elt Ideal) (e' := EltTy.bf16) (S := S1024x3200) I.x2 (Rect.unit ![0, 2816] ![1024, 256] inb_S1024x3200_S1024x256_0_2816)
/-- One entry of it. -/
theorem ld_x2_S1024x3200_S1024x256_0_2816_at (I : Ins) (r : Fin 1024) (j : Fin 256) : ld_x2_S1024x3200_S1024x256_0_2816 I (ix2 r j) = I.x2 (ix2 r ⟨2816 + j, by omega⟩) :=
  View.ld_unit_apply_of (Val := Elt Ideal) (e := EltTy.bf16) _ _ _ _ _ _ (by
    intro a
    match a with
    | ⟨0, _⟩ => exact (Nat.zero_add _).symm
    | ⟨1, _⟩ => rfl)
/-- Columns 1792 to 2047 of a block. -/
def ld_x2_S1024x3200_S1024x256_0_1792 (I : Ins) : FVec Ideal S1024x256 .bf16 := View.ld (Val := Elt Ideal) (e' := EltTy.bf16) (S := S1024x3200) I.x2 (Rect.unit ![0, 1792] ![1024, 256] inb_S1024x3200_S1024x256_0_1792)
/-- One entry of it. -/
theorem ld_x2_S1024x3200_S1024x256_0_1792_at (I : Ins) (r : Fin 1024) (j : Fin 256) : ld_x2_S1024x3200_S1024x256_0_1792 I (ix2 r j) = I.x2 (ix2 r ⟨1792 + j, by omega⟩) :=
  View.ld_unit_apply_of (Val := Elt Ideal) (e := EltTy.bf16) _ _ _ _ _ _ (by
    intro a
    match a with
    | ⟨0, _⟩ => exact (Nat.zero_add _).symm
    | ⟨1, _⟩ => rfl)
/-- Columns 256 to 511 of a block. -/
def ld_x6_S3x512_S3x256_0_256 (I : Ins) : FVec Ideal S3x256 .f32 := View.ld (Val := Elt Ideal) (e' := EltTy.f32) (S := S3x512) I.x6 (Rect.unit ![0, 256] ![3, 256] inb_S3x512_S3x256_0_256)
/-- One entry of it. -/
theorem ld_x6_S3x512_S3x256_0_256_at (I : Ins) (r : Fin 3) (j : Fin 256) : ld_x6_S3x512_S3x256_0_256 I (ix2 r j) = I.x6 (ix2 r ⟨256 + j, by omega⟩) :=
  View.ld_unit_apply_of (Val := Elt Ideal) (e := EltTy.f32) _ _ _ _ _ _ (by
    intro a
    match a with
    | ⟨0, _⟩ => exact (Nat.zero_add _).symm
    | ⟨1, _⟩ => rfl)
/-- Columns 2048 to 2303 of a block. -/
def ld_x2_S1024x3200_S1024x256_0_2048 (I : Ins) : FVec Ideal S1024x256 .bf16 := View.ld (Val := Elt Ideal) (e' := EltTy.bf16) (S := S1024x3200) I.x2 (Rect.unit ![0, 2048] ![1024, 256] inb_S1024x3200_S1024x256_0_2048)
/-- One entry of it. -/
theorem ld_x2_S1024x3200_S1024x256_0_2048_at (I : Ins) (r : Fin 1024) (j : Fin 256) : ld_x2_S1024x3200_S1024x256_0_2048 I (ix2 r j) = I.x2 (ix2 r ⟨2048 + j, by omega⟩) :=
  View.ld_unit_apply_of (Val := Elt Ideal) (e := EltTy.bf16) _ _ _ _ _ _ (by
    intro a
    match a with
    | ⟨0, _⟩ => exact (Nat.zero_add _).symm
    | ⟨1, _⟩ => rfl)
/-- Columns 2560 to 2815 of a block. -/
def ld_x2_S1024x3200_S1024x256_0_2560 (I : Ins) : FVec Ideal S1024x256 .bf16 := View.ld (Val := Elt Ideal) (e' := EltTy.bf16) (S := S1024x3200) I.x2 (Rect.unit ![0, 2560] ![1024, 256] inb_S1024x3200_S1024x256_0_2560)
/-- One entry of it. -/
theorem ld_x2_S1024x3200_S1024x256_0_2560_at (I : Ins) (r : Fin 1024) (j : Fin 256) : ld_x2_S1024x3200_S1024x256_0_2560 I (ix2 r j) = I.x2 (ix2 r ⟨2560 + j, by omega⟩) :=
  View.ld_unit_apply_of (Val := Elt Ideal) (e := EltTy.bf16) _ _ _ _ _ _ (by
    intro a
    match a with
    | ⟨0, _⟩ => exact (Nat.zero_add _).symm
    | ⟨1, _⟩ => rfl)
/-- Columns 1024 to 1535 of a block. -/
def ld_x2_S1024x3200_S1024x512_0_1024 (I : Ins) : FVec Ideal S1024x512 .bf16 := View.ld (Val := Elt Ideal) (e' := EltTy.bf16) (S := S1024x3200) I.x2 (Rect.unit ![0, 1024] ![1024, 512] inb_S1024x3200_S1024x512_0_1024)
/-- One entry of it. -/
theorem ld_x2_S1024x3200_S1024x512_0_1024_at (I : Ins) (r : Fin 1024) (j : Fin 512) : ld_x2_S1024x3200_S1024x512_0_1024 I (ix2 r j) = I.x2 (ix2 r ⟨1024 + j, by omega⟩) :=
  View.ld_unit_apply_of (Val := Elt Ideal) (e := EltTy.bf16) _ _ _ _ _ _ (by
    intro a
    match a with
    | ⟨0, _⟩ => exact (Nat.zero_add _).symm
    | ⟨1, _⟩ => rfl)
/-- Columns 0 to 511 of a block. -/
def ld_x2_S1024x3200_S1024x512_0_0 (I : Ins) : FVec Ideal S1024x512 .bf16 := View.ld (Val := Elt Ideal) (e' := EltTy.bf16) (S := S1024x3200) I.x2 (Rect.unit ![0, 0] ![1024, 512] inb_S1024x3200_S1024x512_0_0)
/-- One entry of it. -/
theorem ld_x2_S1024x3200_S1024x512_0_0_at (I : Ins) (r : Fin 1024) (j : Fin 512) : ld_x2_S1024x3200_S1024x512_0_0 I (ix2 r j) = I.x2 (ix2 r ⟨j, by omega⟩) :=
  View.ld_unit_apply_of (Val := Elt Ideal) (e := EltTy.bf16) _ _ _ _ _ _ (by
    intro a
    match a with
    | ⟨0, _⟩ => exact (Nat.zero_add _).symm
    | ⟨1, _⟩ => exact (Nat.zero_add _).symm)
/-- Columns 3072 to 3199 of a block. -/
def ld_x2_S1024x3200_S1024x128_0_3072 (I : Ins) : FVec Ideal S1024x128 .bf16 := View.ld (Val := Elt Ideal) (e' := EltTy.bf16) (S := S1024x3200) I.x2 (Rect.unit ![0, 3072] ![1024, 128] inb_S1024x3200_S1024x128_0_3072)
/-- One entry of it. -/
theorem ld_x2_S1024x3200_S1024x128_0_3072_at (I : Ins) (r : Fin 1024) (j : Fin 128) : ld_x2_S1024x3200_S1024x128_0_3072 I (ix2 r j) = I.x2 (ix2 r ⟨3072 + j, by omega⟩) :=
  View.ld_unit_apply_of (Val := Elt Ideal) (e := EltTy.bf16) _ _ _ _ _ _ (by
    intro a
    match a with
    | ⟨0, _⟩ => exact (Nat.zero_add _).symm
    | ⟨1, _⟩ => rfl)
/-- Columns 512 to 1023 of a block. -/
def ld_x2_S1024x3200_S1024x512_0_512 (I : Ins) : FVec Ideal S1024x512 .bf16 := View.ld (Val := Elt Ideal) (e' := EltTy.bf16) (S := S1024x3200) I.x2 (Rect.unit ![0, 512] ![1024, 512] inb_S1024x3200_S1024x512_0_512)
/-- One entry of it. -/
theorem ld_x2_S1024x3200_S1024x512_0_512_at (I : Ins) (r : Fin 1024) (j : Fin 512) : ld_x2_S1024x3200_S1024x512_0_512 I (ix2 r j) = I.x2 (ix2 r ⟨512 + j, by omega⟩) :=
  View.ld_unit_apply_of (Val := Elt Ideal) (e := EltTy.bf16) _ _ _ _ _ _ (by
    intro a
    match a with
    | ⟨0, _⟩ => exact (Nat.zero_add _).symm
    | ⟨1, _⟩ => rfl)
/-- Columns 1536 to 1791 of a block. -/
def ld_x2_S1024x3200_S1024x256_0_1536 (I : Ins) : FVec Ideal S1024x256 .bf16 := View.ld (Val := Elt Ideal) (e' := EltTy.bf16) (S := S1024x3200) I.x2 (Rect.unit ![0, 1536] ![1024, 256] inb_S1024x3200_S1024x256_0_1536)
/-- One entry of it. -/
theorem ld_x2_S1024x3200_S1024x256_0_1536_at (I : Ins) (r : Fin 1024) (j : Fin 256) : ld_x2_S1024x3200_S1024x256_0_1536 I (ix2 r j) = I.x2 (ix2 r ⟨1536 + j, by omega⟩) :=
  View.ld_unit_apply_of (Val := Elt Ideal) (e := EltTy.bf16) _ _ _ _ _ _ (by
    intro a
    match a with
    | ⟨0, _⟩ => exact (Nat.zero_add _).symm
    | ⟨1, _⟩ => rfl)
/-- Columns 0 to 255 of a block. -/
def ld_x6_S3x512_S3x256_0_0 (I : Ins) : FVec Ideal S3x256 .f32 := View.ld (Val := Elt Ideal) (e' := EltTy.f32) (S := S3x512) I.x6 (Rect.unit ![0, 0] ![3, 256] inb_S3x512_S3x256_0_0)
/-- One entry of it. -/
theorem ld_x6_S3x512_S3x256_0_0_at (I : Ins) (r : Fin 3) (j : Fin 256) : ld_x6_S3x512_S3x256_0_0 I (ix2 r j) = I.x6 (ix2 r ⟨j, by omega⟩) :=
  View.ld_unit_apply_of (Val := Elt Ideal) (e := EltTy.f32) _ _ _ _ _ _ (by
    intro a
    match a with
    | ⟨0, _⟩ => exact (Nat.zero_add _).symm
    | ⟨1, _⟩ => exact (Nat.zero_add _).symm)

def n3 (I : Ins) := k0_pay3 (F := Ideal) I.x0
/-- The token block. -/
theorem n3_at (I : Ins) (r : Fin 512) (j : Fin 1024) : n3 I (ix2 r j) = I.x0 (ix3 0 r j) := by
  unfold n3
  pointwise [k0_pay3]
  try simp only [zero_add, ← Nat.add_assoc, Nat.reduceAdd, Nat.reduceMul, zero_mul]
  try rfl
/-- The same value where it is formed in place. -/
theorem n3_at' (I : Ins) (r : Fin 512) (j : Fin 1024) : k0_pay3 (F := Ideal) I.x0 (ix2 r j) = I.x0 (ix3 0 r j) := n3_at I r j

def n4 (I : Ins) := k0_pay4 (F := Ideal) I.x0 I.x1
/-- The normalised tokens. -/
theorem n4_at (I : Ins) (r : Fin 512) (j : Fin 1024) : n4 I (ix2 r j) = hb I r j := by
  unfold n4
  pointwise [k0_pay4]
  simp only [n3_at, n3_at']
  unfold hb nrm
  simp only [Nat.mod_eq_of_lt r.isLt]
/-- The same value where it is formed in place. -/
theorem n4_at' (I : Ins) (r : Fin 512) (j : Fin 1024) : k0_pay4 (F := Ideal) I.x0 I.x1 (ix2 r j) = hb I r j := n4_at I r j

def n5 (I : Ins) := k0_pay5 (F := Ideal) I.x0 I.x1 (ld_x2_S1024x3200_S1024x512_0_0 I)
/-- Projected columns. -/
theorem n5_at (I : Ins) (r : Fin 512) (j : Fin 512) : n5 I (ix2 r j) = pr I r (j) := by
  unfold n5
  pointwise [k0_pay5]
  simp only [n4_at I, n4_at' I, ld_x2_S1024x3200_S1024x512_0_0_at, zero_add]
  unfold pr
  refine Finset.sum_congr rfl fun k _ => ?_
  simp (disch := omega) only [Nat.mod_eq_of_lt]

def n6 (I : Ins) := k0_pay6 (F := Ideal) I.x0 I.x1 (ld_x2_S1024x3200_S1024x512_0_512 I)
/-- Projected columns. -/
theorem n6_at (I : Ins) (r : Fin 512) (j : Fin 512) : n6 I (ix2 r j) = pr I r (512 + j) := by
  unfold n6
  pointwise [k0_pay6]
  simp only [n4_at I, n4_at' I, ld_x2_S1024x3200_S1024x512_0_512_at, zero_add]
  unfold pr
  refine Finset.sum_congr rfl fun k _ => ?_
  simp (disch := omega) only [Nat.mod_eq_of_lt]

def n7 (I : Ins) := k0_pay7 (F := Ideal) I.x0 I.x1 (ld_x2_S1024x3200_S1024x512_0_1024 I)
/-- Projected columns. -/
theorem n7_at (I : Ins) (r : Fin 512) (j : Fin 512) : n7 I (ix2 r j) = pr I r (1024 + j) := by
  unfold n7
  pointwise [k0_pay7]
  simp only [n4_at I, n4_at' I, ld_x2_S1024x3200_S1024x512_0_1024_at, zero_add]
  unfold pr
  refine Finset.sum_congr rfl fun k _ => ?_
  simp (disch := omega) only [Nat.mod_eq_of_lt]

def n8 (I : Ins) := k0_pay8 (F := Ideal) I.x0 I.x1 (ld_x2_S1024x3200_S1024x128_0_3072 I)
/-- Projected columns. -/
theorem n8_at (I : Ins) (r : Fin 512) (j : Fin 128) : n8 I (ix2 r j) = pr I r (3072 + j) := by
  unfold n8
  pointwise [k0_pay8]
  simp only [n4_at I, n4_at' I, ld_x2_S1024x3200_S1024x128_0_3072_at, zero_add]
  unfold pr
  refine Finset.sum_congr rfl fun k _ => ?_
  simp (disch := omega) only [Nat.mod_eq_of_lt]

def n9 (I : Ins) := k0_pay9 (F := Ideal) (n8 I) I.x3 I.x4
/-- The gate logarithms. -/
theorem n9_at (I : Ins) (r : Fin 512) (j : Fin 256) : n9 I (ix2 r j) = lg I r j := by
  unfold n9
  pointwise [k0_pay9]
  simp only [n8_at I]
  unfold lg gate
  simp (disch := omega) only [Nat.mod_eq_of_lt]
/-- The same value where it is formed in place. -/
theorem n9_at' (I : Ins) (r : Fin 512) (j : Fin 256) : k0_pay9 (F := Ideal) (n8 I) I.x3 I.x4 (ix2 r j) = lg I r j := n9_at I r j

def n10 (I : Ins) := k0_pay10 (F := Ideal) (n8 I) I.x3 I.x4
/-- The gate logarithms. -/
theorem n10_at (I : Ins) (r : Fin 512) (j : Fin 256) : n10 I (ix2 r j) = lg I r j := by
  unfold n10
  pointwise [k0_pay10]
  try simp only [n8_at I, n9_at I, n9_at' I, zero_add, ← Nat.add_assoc, Nat.reduceAdd, Nat.reduceMul, zero_mul]
  try rfl
/-- The same value where it is formed in place. -/
theorem n10_at' (I : Ins) (r : Fin 512) (j : Fin 256) : k0_pay10 (F := Ideal) (n8 I) I.x3 I.x4 (ix2 r j) = lg I r j := n10_at I r j

def n11 (I : Ins) := k0_pay11 (F := Ideal) (n8 I) I.x3 I.x4
/-- What rounding takes off the gate logarithms. -/
theorem n11_at (I : Ins) (r : Fin 512) (j : Fin 256) : n11 I (ix2 r j) = lg I r j - lg I r j := by
  unfold n11
  pointwise [k0_pay11]
  try simp only [n8_at I, n10_at I, n10_at' I, n9_at I, n9_at' I, zero_add, ← Nat.add_assoc, Nat.reduceAdd, Nat.reduceMul, zero_mul]
  try rfl
/-- The same value where it is formed in place. -/
theorem n11_at' (I : Ins) (r : Fin 512) (j : Fin 256) : k0_pay11 (F := Ideal) (n8 I) I.x3 I.x4 (ix2 r j) = lg I r j - lg I r j := n11_at I r j

def n16 (I : Ins) := k0_pay16 (F := Ideal) I.x5
/-- The head scale. -/
theorem n16_at (I : Ins) (j : Fin 128) : n16 I (ix2 0 j) = gn I j := by
  unfold n16
  pointwise [k0_pay16]
  try simp only [zero_add, ← Nat.add_assoc, Nat.reduceAdd, Nat.reduceMul, zero_mul]
  try rfl

def n19 (I : Ins) := k0_pay19 (F := Ideal) (n8 I) I.x3 I.x4
/-- The running sum of the gate logarithms, chunk 0. -/
theorem n19_at (I : Ins) (r : Fin 64) (j : Fin 256) : n19 I (ix2 r j) = cB (lc I 0) r j := by
  unfold n19
  pointwise [k0_pay19]
  simp only [n8_at I, n10_at I, n10_at' I, n11_at I, n11_at' I, tri_at, cB, lc_at, zero_add]
  exact cB_of (fun l => lg I (l) j) r (fun l => gate_ne_top _)

def n20 (I : Ins) := k0_pay20 (F := Ideal) (n8 I) I.x3 I.x4
/-- The gate logarithms and their rests, stacked, chunk 1. -/
theorem n20_at (I : Ins) (r : Fin 128) (j : Fin 256) : n20 I (ix2 r j) = if (r : ℕ) < 64 then lg I (64 + r) j else lg I (64 + (r - 64)) j - lg I (64 + (r - 64)) j := by
  unfold n20
  pointwise [k0_pay20]
  simp only [n8_at I, n11_at I, n11_at' I, n10_at I, n10_at' I]
  split <;> rfl

def n21 (I : Ins) := k0_pay21 (F := Ideal) (k0_pay13 (F := Ideal)) (n20 I)
/-- The running sum of the gate logarithms, chunk 1. -/
theorem n21_at (I : Ins) (r : Fin 64) (j : Fin 256) : n21 I (ix2 r j) = cB (lc I 64) r j := by
  unfold n21
  pointwise [k0_pay21]
  rw [sum_halves]
  simp only [n20_at I, tri_at, cB, lc_at, Fin.is_lt, if_true, Nat.add_sub_cancel_left, not_lt.mpr (Nat.le_add_right _ _), if_false]
  exact cB_of (fun l => lg I (64 + l) j) r (fun l => gate_ne_top _)

def n22 (I : Ins) := k0_pay22 (F := Ideal) (n10 I) (n11 I) (k0_pay13 (F := Ideal))
/-- The running sum of the gate logarithms, chunk 2. -/
theorem n22_at (I : Ins) (r : Fin 64) (j : Fin 256) : n22 I (ix2 r j) = cB (lc I 128) r j := by
  unfold n22
  pointwise [k0_pay22]
  simp only [n10_at I, n11_at I, tri_at, cB, lc_at, zero_add]
  exact cB_of (fun l => lg I (128 + l) j) r (fun l => gate_ne_top _)

def n23 (I : Ins) := k0_pay23 (F := Ideal) (n10 I) (n11 I) (k0_pay13 (F := Ideal))
/-- The running sum of the gate logarithms, chunk 3. -/
theorem n23_at (I : Ins) (r : Fin 64) (j : Fin 256) : n23 I (ix2 r j) = cB (lc I 192) r j := by
  unfold n23
  pointwise [k0_pay23]
  simp only [n10_at I, n11_at I, tri_at, cB, lc_at, zero_add]
  exact cB_of (fun l => lg I (192 + l) j) r (fun l => gate_ne_top _)

def n24 (I : Ins) := k0_pay24 (F := Ideal) (n10 I) (n11 I) (k0_pay13 (F := Ideal))
/-- The running sum of the gate logarithms, chunk 4. -/
theorem n24_at (I : Ins) (r : Fin 64) (j : Fin 256) : n24 I (ix2 r j) = cB (lc I 256) r j := by
  unfold n24
  pointwise [k0_pay24]
  simp only [n10_at I, n11_at I, tri_at, cB, lc_at, zero_add]
  exact cB_of (fun l => lg I (256 + l) j) r (fun l => gate_ne_top _)

def n25 (I : Ins) := k0_pay25 (F := Ideal) (n10 I) (n11 I) (k0_pay13 (F := Ideal))
/-- The running sum of the gate logarithms, chunk 5. -/
theorem n25_at (I : Ins) (r : Fin 64) (j : Fin 256) : n25 I (ix2 r j) = cB (lc I 320) r j := by
  unfold n25
  pointwise [k0_pay25]
  simp only [n10_at I, n11_at I, tri_at, cB, lc_at, zero_add]
  exact cB_of (fun l => lg I (320 + l) j) r (fun l => gate_ne_top _)

def n26 (I : Ins) := k0_pay26 (F := Ideal) (n10 I) (n11 I) (k0_pay13 (F := Ideal))
/-- The running sum of the gate logarithms, chunk 6. -/
theorem n26_at (I : Ins) (r : Fin 64) (j : Fin 256) : n26 I (ix2 r j) = cB (lc I 384) r j := by
  unfold n26
  pointwise [k0_pay26]
  simp only [n10_at I, n11_at I, tri_at, cB, lc_at, zero_add]
  exact cB_of (fun l => lg I (384 + l) j) r (fun l => gate_ne_top _)

def n27 (I : Ins) := k0_pay27 (F := Ideal) (n10 I) (n11 I) (k0_pay13 (F := Ideal))
/-- The running sum of the gate logarithms, chunk 7. -/
theorem n27_at (I : Ins) (r : Fin 64) (j : Fin 256) : n27 I (ix2 r j) = cB (lc I 448) r j := by
  unfold n27
  pointwise [k0_pay27]
  simp only [n10_at I, n11_at I, tri_at, cB, lc_at, zero_add]
  exact cB_of (fun l => lg I (448 + l) j) r (fun l => gate_ne_top _)

def n28 (I : Ins) := k0_pay28 (F := Ideal) (n4 I) (ld_x2_S1024x3200_S1024x256_0_2048 I)
/-- Projected columns. -/
theorem n28_at (I : Ins) (r : Fin 512) (j : Fin 256) : n28 I (ix2 r j) = pr I r (2048 + j) := by
  unfold n28
  pointwise [k0_pay28]
  simp only [n4_at I, ld_x2_S1024x3200_S1024x256_0_2048_at, zero_add]
  unfold pr
  refine Finset.sum_congr rfl fun k _ => ?_
  simp (disch := omega) only [Nat.mod_eq_of_lt]

def n180 (I : Ins) := k0_pay180 (F := Ideal) (n4 I) (ld_x2_S1024x3200_S1024x256_0_2560 I)
/-- Projected columns. -/
theorem n180_at (I : Ins) (r : Fin 512) (j : Fin 256) : n180 I (ix2 r j) = pr I r (2560 + j) := by
  unfold n180
  pointwise [k0_pay180]
  simp only [n4_at I, ld_x2_S1024x3200_S1024x256_0_2560_at, zero_add]
  unfold pr
  refine Finset.sum_congr rfl fun k _ => ?_
  simp (disch := omega) only [Nat.mod_eq_of_lt]

def n231 (I : Ins) := k0_pay231 (F := Ideal) (n4 I) (ld_x2_S1024x3200_S1024x256_0_1536 I)
/-- Projected columns. -/
theorem n231_at (I : Ins) (r : Fin 512) (j : Fin 256) : n231 I (ix2 r j) = pr I r (1536 + j) := by
  unfold n231
  pointwise [k0_pay231]
  simp only [n4_at I, ld_x2_S1024x3200_S1024x256_0_1536_at, zero_add]
  unfold pr
  refine Finset.sum_congr rfl fun k _ => ?_
  simp (disch := omega) only [Nat.mod_eq_of_lt]

def n232 (I : Ins) := k0_pay232 (F := Ideal) (n28 I) (n180 I)
/-- The input of the short convolution. -/
theorem n232_at (I : Ins) (r : Fin 512) (j : Fin 256) : n232 I (ix2 r j) = pr I r (2048 + j) * pr I r (2560 + j) := by
  unfold n232
  pointwise [k0_pay232]
  try simp only [n28_at I, n180_at I, zero_add, ← Nat.add_assoc, Nat.reduceAdd, Nat.reduceMul, zero_mul]
  try rfl
/-- The same value where it is formed in place. -/
theorem n232_at' (I : Ins) (r : Fin 512) (j : Fin 256) : k0_pay232 (F := Ideal) (n28 I) (n180 I) (ix2 r j) = pr I r (2048 + j) * pr I r (2560 + j) := n232_at I r j

def n233 (I : Ins) := k0_pay233 (F := Ideal) (n28 I) (n180 I)
/-- The input of the short convolution. -/
theorem n233_at (I : Ins) (r : Fin 512) (j : Fin 256) : n233 I (ix2 r j) = pr I r (2048 + j) * pr I r (2560 + j) := by
  unfold n233
  pointwise [k0_pay233]
  try simp only [n28_at I, n180_at I, n232_at I, n232_at' I, zero_add, ← Nat.add_assoc, Nat.reduceAdd, Nat.reduceMul, zero_mul]
  try rfl

def n234 (I : Ins) := k0_pay234 (F := Ideal) (ld_x6_S3x512_S3x256_0_0 I)
/-- The taps of the short convolution. -/
theorem n234_at (I : Ins) (r : Fin 3) (j : Fin 256) : n234 I (ix2 r j) = I.x6 (ix2 r ⟨j, by omega⟩) := by
  unfold n234
  pointwise [k0_pay234]
  try simp only [ld_x6_S3x512_S3x256_0_0_at, zero_add, ← Nat.add_assoc, Nat.reduceAdd, Nat.reduceMul, zero_mul]
  try rfl
/-- The same value where it is formed in place. -/
theorem n234_at' (I : Ins) (r : Fin 3) (j : Fin 256) : k0_pay234 (F := Ideal) (ld_x6_S3x512_S3x256_0_0 I) (ix2 r j) = I.x6 (ix2 r ⟨j, by omega⟩) := n234_at I r j

def n235 (I : Ins) := k0_pay235 (F := Ideal) (ld_x6_S3x512_S3x256_0_0 I)
/-- The taps of the short convolution. -/
theorem n235_at (I : Ins) (j : Fin 256) : n235 I (ix2 0 j) = I.x6 (ix2 0 ⟨j, by omega⟩) := by
  unfold n235
  pointwise [k0_pay235]
  try simp only [n234_at I, n234_at' I, ld_x6_S3x512_S3x256_0_0_at, zero_add, ← Nat.add_assoc, Nat.reduceAdd, Nat.reduceMul, zero_mul]
  try rfl

def n236 (I : Ins) := k0_pay236 (F := Ideal) (n231 I) (n232 I) (n234 I) (n235 I) I.u_6_0 I.u_7_0
/-- The short convolution, gated. -/
theorem n236_at (I : Ins) (r : Fin 512) (j : Fin 256) : n236 I (ix2 r j) = pr I r (1536 + j) * (I.x6 (ix2 0 ⟨j, by omega⟩) * I.u_6_0 (ix2 r j) + I.x6 (ix2 1 ⟨j, by omega⟩) * I.u_7_0 (ix2 r j) + I.x6 (ix2 2 ⟨j, by omega⟩) * (pr I r (2048 + j) * pr I r (2560 + j))) := by
  unfold n236
  pointwise [k0_pay236]
  try simp only [n231_at I, n232_at I, n234_at I, n235_at I, zero_add, ← Nat.add_assoc, Nat.reduceAdd, Nat.reduceMul, zero_mul]
  try rfl

def n311 (I : Ins) := k0_pay311 (F := Ideal) (n4 I) (ld_x2_S1024x3200_S1024x256_0_2304 I)
/-- Projected columns. -/
theorem n311_at (I : Ins) (r : Fin 512) (j : Fin 256) : n311 I (ix2 r j) = pr I r (2304 + j) := by
  unfold n311
  pointwise [k0_pay311]
  simp only [n4_at I, ld_x2_S1024x3200_S1024x256_0_2304_at, zero_add]
  unfold pr
  refine Finset.sum_congr rfl fun k _ => ?_
  simp (disch := omega) only [Nat.mod_eq_of_lt]

def n329 (I : Ins) := k0_pay329 (F := Ideal) (n4 I) (ld_x2_S1024x3200_S1024x256_0_2816 I)
/-- Projected columns. -/
theorem n329_at (I : Ins) (r : Fin 512) (j : Fin 256) : n329 I (ix2 r j) = pr I r (2816 + j) := by
  unfold n329
  pointwise [k0_pay329]
  simp only [n4_at I, ld_x2_S1024x3200_S1024x256_0_2816_at, zero_add]
  unfold pr
  refine Finset.sum_congr rfl fun k _ => ?_
  simp (disch := omega) only [Nat.mod_eq_of_lt]

def n407 (I : Ins) := k0_pay407 (F := Ideal) (n311 I) (n329 I)
/-- The input of the short convolution. -/
theorem n407_at (I : Ins) (r : Fin 512) (j : Fin 256) : n407 I (ix2 r j) = pr I r (2304 + j) * pr I r (2816 + j) := by
  unfold n407
  pointwise [k0_pay407]
  try simp only [n311_at I, n329_at I, zero_add, ← Nat.add_assoc, Nat.reduceAdd, Nat.reduceMul, zero_mul]
  try rfl
/-- The same value where it is formed in place. -/
theorem n407_at' (I : Ins) (r : Fin 512) (j : Fin 256) : k0_pay407 (F := Ideal) (n311 I) (n329 I) (ix2 r j) = pr I r (2304 + j) * pr I r (2816 + j) := n407_at I r j

def n408 (I : Ins) := k0_pay408 (F := Ideal) (n311 I) (n329 I)
/-- The input of the short convolution. -/
theorem n408_at (I : Ins) (r : Fin 512) (j : Fin 256) : n408 I (ix2 r j) = pr I r (2304 + j) * pr I r (2816 + j) := by
  unfold n408
  pointwise [k0_pay408]
  try simp only [n311_at I, n329_at I, n407_at I, n407_at' I, zero_add, ← Nat.add_assoc, Nat.reduceAdd, Nat.reduceMul, zero_mul]
  try rfl

def n409 (I : Ins) := k0_pay409 (F := Ideal) (n4 I) (n311 I) (n329 I) (ld_x2_S1024x3200_S1024x256_0_1792 I) (ld_x6_S3x512_S3x256_0_256 I) I.u_6_256 I.u_7_256
/-- The short convolution, gated. -/
theorem n409_at (I : Ins) (r : Fin 512) (j : Fin 256) : n409 I (ix2 r j) = pr I r (1792 + j) * (I.x6 (ix2 0 ⟨256 + j, by omega⟩) * I.u_6_256 (ix2 r j) + I.x6 (ix2 1 ⟨256 + j, by omega⟩) * I.u_7_256 (ix2 r j) + I.x6 (ix2 2 ⟨256 + j, by omega⟩) * (pr I r (2304 + j) * pr I r (2816 + j))) := by
  unfold n409
  pointwise [k0_pay409]
  simp only [n4_at I, n311_at I, n329_at I, n407_at I, n407_at' I, ld_x2_S1024x3200_S1024x256_0_1792_at, ld_x6_S3x512_S3x256_0_256_at, zero_add, ← Nat.add_assoc, Nat.reduceAdd, Nat.reduceMul, zero_mul]
  refine congrArg (· * _) ?_
  unfold pr
  refine Finset.sum_congr rfl fun k _ => ?_
  simp (disch := omega) only [Nat.mod_eq_of_lt]

end Cert.MixerIdeal.Tile
-- ==== Proof.MixerTileB.lean ====
/- Tile values, second part: queries, keys, values, scores and what each chunk adds to the state. -/
module

public import proofs.«01_k».proof.Proof.MixerTileA

@[expose] public section

set_option maxRecDepth 16384

noncomputable section

open Idealize.ShloMosaic Idealize.ShloMosaic.TcCoe Idealize.SL.Sem
open scoped BigOperators

namespace Cert.MixerIdeal.Tile

open Cert.MixerIdeal Cert.MixerIdeal.Gen Cert.MixRows

def n29 (I : Ins) := k0_pay29 (F := Ideal) (n19 I)
/-- The last running sum, chunk 0. -/
theorem n29_at (I : Ins) (j : Fin 256) : n29 I (ix2 0 j) = cB (lc I 0) 63 j := by
  unfold n29
  pointwise [k0_pay29]
  try simp only [n19_at I, zero_add, ← Nat.add_assoc, Nat.reduceAdd, Nat.reduceMul, zero_mul]
  try rfl
/-- The same value where it is formed in place. -/
theorem n29_at' (I : Ins) (j : Fin 256) : k0_pay29 (F := Ideal) (n19 I) (ix2 0 j) = cB (lc I 0) 63 j := n29_at I j

def n30 (I : Ins) := k0_pay30 (F := Ideal) (n5 I) (n19 I)
/-- The decayed queries, chunk 0. -/
theorem n30_at (I : Ins) (r : Fin 64) (j : Fin 256) : n30 I (ix2 r j) = cQ (dc I 0) (lc I 0) r j := by
  unfold n30
  pointwise [k0_pay30]
  try simp only [n5_at I, n19_at I, cQ, dc_at, zero_add, ← Nat.add_assoc, Nat.reduceAdd, Nat.reduceMul, zero_mul]
  try rfl
/-- The same value where it is formed in place. -/
theorem n30_at' (I : Ins) (r : Fin 64) (j : Fin 256) : k0_pay30 (F := Ideal) (n5 I) (n19 I) (ix2 r j) = cQ (dc I 0) (lc I 0) r j := n30_at I r j

def n31 (I : Ins) := k0_pay31 (F := Ideal) (n5 I)
/-- The keys, chunk 0. -/
theorem n31_at (I : Ins) (r : Fin 64) (j : Fin 256) : n31 I (ix2 r j) = dc I 0 r (256 + j) := by
  unfold n31
  pointwise [k0_pay31]
  try simp only [n5_at I, dc_at, zero_add, ← Nat.add_assoc, Nat.reduceAdd, Nat.reduceMul, zero_mul]
  try rfl
/-- The same value where it is formed in place. -/
theorem n31_at' (I : Ins) (r : Fin 64) (j : Fin 256) : k0_pay31 (F := Ideal) (n5 I) (ix2 r j) = dc I 0 r (256 + j) := n31_at I r j

def n32 (I : Ins) := k0_pay32 (F := Ideal) (n5 I) (n19 I)
/-- The keys with the decay divided out, chunk 0. -/
theorem n32_at (I : Ins) (r : Fin 64) (j : Fin 256) : n32 I (ix2 r j) = cI (dc I 0) (lc I 0) r j := by
  unfold n32
  pointwise [k0_pay32]
  try simp only [n5_at I, n19_at I, n31_at I, n31_at' I, cI, dc_at, zero_add, ← Nat.add_assoc, Nat.reduceAdd, Nat.reduceMul, zero_mul]
  try rfl

def n33 (I : Ins) := k0_pay33 (F := Ideal) (n5 I) (n19 I)
/-- The keys decayed to the end of the chunk, chunk 0. -/
theorem n33_at (I : Ins) (r : Fin 64) (j : Fin 256) : n33 I (ix2 r j) = cE (dc I 0) (lc I 0) r j := by
  unfold n33
  pointwise [k0_pay33]
  try simp only [n5_at I, n19_at I, n29_at I, n29_at' I, n31_at I, n31_at' I, cE, dc_at, zero_add, ← Nat.add_assoc, Nat.reduceAdd, Nat.reduceMul, zero_mul]
  try rfl

def n34 (I : Ins) := k0_pay34 (F := Ideal) (n19 I)
/-- The decay over the chunk, chunk 0. -/
theorem n34_at (I : Ins) (j : Fin 256) : n34 I (ix2 0 j) = cD (lc I 0) j := by
  unfold n34
  pointwise [k0_pay34]
  try simp only [n19_at I, n29_at I, n29_at' I, cD, zero_add, ← Nat.add_assoc, Nat.reduceAdd, Nat.reduceMul, zero_mul]
  try rfl

def n35 (I : Ins) := k0_pay35 (F := Ideal) (n5 I) (n19 I)
/-- Two heads of the decayed queries, chunk 0, heads 0 and 1. -/
theorem n35_at (I : Ins) (r : Fin 64) (j : Fin 128) : n35 I (ix2 r j) = cQ (dc I 0) (lc I 0) r (j) := by
  unfold n35
  pointwise [k0_pay35]
  try simp only [n5_at I, n19_at I, n30_at I, n30_at' I, zero_add, ← Nat.add_assoc, Nat.reduceAdd, Nat.reduceMul, zero_mul]
  try rfl

def n36 (I : Ins) := k0_pay36 (F := Ideal) (n34 I)
/-- Two heads of the decay, chunk 0, heads 0 and 1. -/
theorem n36_at (I : Ins) (j : Fin 128) : n36 I (ix2 0 j) = cD (lc I 0) (j) := by
  unfold n36
  pointwise [k0_pay36]
  try simp only [n34_at I, zero_add, ← Nat.add_assoc, Nat.reduceAdd, Nat.reduceMul, zero_mul]
  try rfl

def n37 (I : Ins) := k0_pay37 (F := Ideal) k0_pay14 (k0_pay17 (F := Ideal)) (n32 I)
/-- Two heads of the keys, stacked, chunk 0, heads 0 and 1. -/
theorem n37_at (I : Ins) (r : Fin 128) (j : Fin 128) : n37 I (ix2 r j) = kk (fun r a => cI (dc I 0) (lc I 0) r (a)) r j := by
  unfold n37
  pointwise [k0_pay37, k0_pay17]
  try simp only [n32_at I, mask_keys, select_bit, kk, lo, hi, zero_add, ← Nat.add_assoc, Nat.reduceAdd, Nat.reduceMul, zero_mul]
  try rfl

def n38 (I : Ins) := k0_pay38 (F := Ideal) (n6 I) k0_pay15 (k0_pay18 (F := Ideal))
/-- Two heads of the values, stacked, chunk 0, heads 0 and 1. -/
theorem n38_at (I : Ins) (r : Fin 128) (j : Fin 256) : n38 I (ix2 r j) = vv (fun r e => dc I 0 r (512 + e)) r j := by
  unfold n38
  pointwise [k0_pay38, k0_pay18]
  try simp only [n6_at I, mask_vals, select_bit, vv, dc_at, zero_add, ← Nat.add_assoc, Nat.reduceAdd, Nat.reduceMul, zero_mul]
  try rfl

def n39 (I : Ins) := k0_pay39 (F := Ideal) k0_pay14 (k0_pay17 (F := Ideal)) (n33 I)
/-- One head of the decayed keys, chunk 0, head 0. -/
theorem n39_at (I : Ins) (r : Fin 64) (j : Fin 128) : n39 I (ix2 r j) = lo ((fun r a => cE (dc I 0) (lc I 0) r (a)) r) j := by
  unfold n39
  pointwise [k0_pay39, k0_pay17]
  try simp only [n33_at I, mask_keys, select_bit, lo, zero_add, ← Nat.add_assoc, Nat.reduceAdd, Nat.reduceMul, zero_mul]
  try rfl

def n40 (I : Ins) := k0_pay40 (F := Ideal) k0_pay14 (k0_pay17 (F := Ideal)) (n33 I)
/-- One head of the decayed keys, chunk 0, head 1. -/
theorem n40_at (I : Ins) (r : Fin 64) (j : Fin 128) : n40 I (ix2 r j) = hi ((fun r a => cE (dc I 0) (lc I 0) r (a)) r) j := by
  unfold n40
  pointwise [k0_pay40, k0_pay17]
  try simp only [n33_at I, mask_keys, select_bit, hi, zero_add, ← Nat.add_assoc, Nat.reduceAdd, Nat.reduceMul, zero_mul]
  try rfl

def n41 (I : Ins) := k0_pay41 (F := Ideal) (n30 I)
/-- Two heads of the decayed queries, chunk 0, heads 2 and 3. -/
theorem n41_at (I : Ins) (r : Fin 64) (j : Fin 128) : n41 I (ix2 r j) = cQ (dc I 0) (lc I 0) r (128 + j) := by
  unfold n41
  pointwise [k0_pay41]
  try simp only [n30_at I, zero_add, ← Nat.add_assoc, Nat.reduceAdd, Nat.reduceMul, zero_mul]
  try rfl

def n42 (I : Ins) := k0_pay42 (F := Ideal) (n34 I)
/-- Two heads of the decay, chunk 0, heads 2 and 3. -/
theorem n42_at (I : Ins) (j : Fin 128) : n42 I (ix2 0 j) = cD (lc I 0) (128 + j) := by
  unfold n42
  pointwise [k0_pay42]
  try simp only [n34_at I, zero_add, ← Nat.add_assoc, Nat.reduceAdd, Nat.reduceMul, zero_mul]
  try rfl

def n43 (I : Ins) := k0_pay43 (F := Ideal) k0_pay14 (k0_pay17 (F := Ideal)) (n32 I)
/-- Two heads of the keys, stacked, chunk 0, heads 2 and 3. -/
theorem n43_at (I : Ins) (r : Fin 128) (j : Fin 128) : n43 I (ix2 r j) = kk (fun r a => cI (dc I 0) (lc I 0) r (128 + a)) r j := by
  unfold n43
  pointwise [k0_pay43, k0_pay17]
  try simp only [n32_at I, mask_keys, select_bit, kk, lo, hi, zero_add, ← Nat.add_assoc, Nat.reduceAdd, Nat.reduceMul, zero_mul]
  try rfl

def n44 (I : Ins) := k0_pay44 (F := Ideal) (n6 I) k0_pay15 (k0_pay18 (F := Ideal))
/-- Two heads of the values, stacked, chunk 0, heads 2 and 3. -/
theorem n44_at (I : Ins) (r : Fin 128) (j : Fin 256) : n44 I (ix2 r j) = vv (fun r e => dc I 0 r (768 + e)) r j := by
  unfold n44
  pointwise [k0_pay44, k0_pay18]
  try simp only [n6_at I, mask_vals, select_bit, vv, dc_at, zero_add, ← Nat.add_assoc, Nat.reduceAdd, Nat.reduceMul, zero_mul]
  try rfl

def n45 (I : Ins) := k0_pay45 (F := Ideal) k0_pay14 (k0_pay17 (F := Ideal)) (n33 I)
/-- One head of the decayed keys, chunk 0, head 2. -/
theorem n45_at (I : Ins) (r : Fin 64) (j : Fin 128) : n45 I (ix2 r j) = lo ((fun r a => cE (dc I 0) (lc I 0) r (128 + a)) r) j := by
  unfold n45
  pointwise [k0_pay45, k0_pay17]
  try simp only [n33_at I, mask_keys, select_bit, lo, zero_add, ← Nat.add_assoc, Nat.reduceAdd, Nat.reduceMul, zero_mul]
  try rfl

def n46 (I : Ins) := k0_pay46 (F := Ideal) k0_pay14 (k0_pay17 (F := Ideal)) (n33 I)
/-- One head of the decayed keys, chunk 0, head 3. -/
theorem n46_at (I : Ins) (r : Fin 64) (j : Fin 128) : n46 I (ix2 r j) = hi ((fun r a => cE (dc I 0) (lc I 0) r (128 + a)) r) j := by
  unfold n46
  pointwise [k0_pay46, k0_pay17]
  try simp only [n33_at I, mask_keys, select_bit, hi, zero_add, ← Nat.add_assoc, Nat.reduceAdd, Nat.reduceMul, zero_mul]
  try rfl

def n47 (I : Ins) := k0_pay47 (F := Ideal) (n21 I)
/-- The last running sum, chunk 1. -/
theorem n47_at (I : Ins) (j : Fin 256) : n47 I (ix2 0 j) = cB (lc I 64) 63 j := by
  unfold n47
  pointwise [k0_pay47]
  try simp only [n21_at I, zero_add, ← Nat.add_assoc, Nat.reduceAdd, Nat.reduceMul, zero_mul]
  try rfl
/-- The same value where it is formed in place. -/
theorem n47_at' (I : Ins) (j : Fin 256) : k0_pay47 (F := Ideal) (n21 I) (ix2 0 j) = cB (lc I 64) 63 j := n47_at I j

def n48 (I : Ins) := k0_pay48 (F := Ideal) (n5 I) (n21 I)
/-- The decayed queries, chunk 1. -/
theorem n48_at (I : Ins) (r : Fin 64) (j : Fin 256) : n48 I (ix2 r j) = cQ (dc I 64) (lc I 64) r j := by
  unfold n48
  pointwise [k0_pay48]
  try simp only [n5_at I, n21_at I, cQ, dc_at, zero_add, ← Nat.add_assoc, Nat.reduceAdd, Nat.reduceMul, zero_mul]
  try rfl
/-- The same value where it is formed in place. -/
theorem n48_at' (I : Ins) (r : Fin 64) (j : Fin 256) : k0_pay48 (F := Ideal) (n5 I) (n21 I) (ix2 r j) = cQ (dc I 64) (lc I 64) r j := n48_at I r j

def n49 (I : Ins) := k0_pay49 (F := Ideal) (n5 I)
/-- The keys, chunk 1. -/
theorem n49_at (I : Ins) (r : Fin 64) (j : Fin 256) : n49 I (ix2 r j) = dc I 64 r (256 + j) := by
  unfold n49
  pointwise [k0_pay49]
  try simp only [n5_at I, dc_at, zero_add, ← Nat.add_assoc, Nat.reduceAdd, Nat.reduceMul, zero_mul]
  try rfl
/-- The same value where it is formed in place. -/
theorem n49_at' (I : Ins) (r : Fin 64) (j : Fin 256) : k0_pay49 (F := Ideal) (n5 I) (ix2 r j) = dc I 64 r (256 + j) := n49_at I r j

def n50 (I : Ins) := k0_pay50 (F := Ideal) (n5 I) (n21 I)
/-- The keys with the decay divided out, chunk 1. -/
theorem n50_at (I : Ins) (r : Fin 64) (j : Fin 256) : n50 I (ix2 r j) = cI (dc I 64) (lc I 64) r j := by
  unfold n50
  pointwise [k0_pay50]
  try simp only [n5_at I, n21_at I, n49_at I, n49_at' I, cI, dc_at, zero_add, ← Nat.add_assoc, Nat.reduceAdd, Nat.reduceMul, zero_mul]
  try rfl
/-- The same value where it is formed in place. -/
theorem n50_at' (I : Ins) (r : Fin 64) (j : Fin 256) : k0_pay50 (F := Ideal) (n5 I) (n21 I) (ix2 r j) = cI (dc I 64) (lc I 64) r j := n50_at I r j

def n51 (I : Ins) := k0_pay51 (F := Ideal) (n5 I) (n21 I)
/-- The keys decayed to the end of the chunk, chunk 1. -/
theorem n51_at (I : Ins) (r : Fin 64) (j : Fin 256) : n51 I (ix2 r j) = cE (dc I 64) (lc I 64) r j := by
  unfold n51
  pointwise [k0_pay51]
  try simp only [n5_at I, n21_at I, n49_at I, n49_at' I, n47_at I, n47_at' I, cE, dc_at, zero_add, ← Nat.add_assoc, Nat.reduceAdd, Nat.reduceMul, zero_mul]
  try rfl

def n52 (I : Ins) := k0_pay52 (F := Ideal) (n21 I)
/-- The decay over the chunk, chunk 1. -/
theorem n52_at (I : Ins) (j : Fin 256) : n52 I (ix2 0 j) = cD (lc I 64) j := by
  unfold n52
  pointwise [k0_pay52]
  try simp only [n21_at I, n47_at I, n47_at' I, cD, zero_add, ← Nat.add_assoc, Nat.reduceAdd, Nat.reduceMul, zero_mul]
  try rfl
/-- The same value where it is formed in place. -/
theorem n52_at' (I : Ins) (j : Fin 256) : k0_pay52 (F := Ideal) (n21 I) (ix2 0 j) = cD (lc I 64) j := n52_at I j

def n53 (I : Ins) := k0_pay53 (F := Ideal) (n5 I) (n21 I)
/-- Two heads of the decayed queries, chunk 1, heads 0 and 1. -/
theorem n53_at (I : Ins) (r : Fin 64) (j : Fin 128) : n53 I (ix2 r j) = cQ (dc I 64) (lc I 64) r (j) := by
  unfold n53
  pointwise [k0_pay53]
  try simp only [n5_at I, n21_at I, n48_at I, n48_at' I, zero_add, ← Nat.add_assoc, Nat.reduceAdd, Nat.reduceMul, zero_mul]
  try rfl

def n54 (I : Ins) := k0_pay54 (F := Ideal) (n21 I)
/-- Two heads of the decay, chunk 1, heads 0 and 1. -/
theorem n54_at (I : Ins) (j : Fin 128) : n54 I (ix2 0 j) = cD (lc I 64) (j) := by
  unfold n54
  pointwise [k0_pay54]
  try simp only [n21_at I, n52_at I, n52_at' I, zero_add, ← Nat.add_assoc, Nat.reduceAdd, Nat.reduceMul, zero_mul]
  try rfl

def n55 (I : Ins) := k0_pay55 (F := Ideal) (n5 I) k0_pay14 (k0_pay17 (F := Ideal)) (n21 I)
/-- Two heads of the keys, stacked, chunk 1, heads 0 and 1. -/
theorem n55_at (I : Ins) (r : Fin 128) (j : Fin 128) : n55 I (ix2 r j) = kk (fun r a => cI (dc I 64) (lc I 64) r (a)) r j := by
  unfold n55
  pointwise [k0_pay55, k0_pay17]
  try simp only [n5_at I, n21_at I, n50_at I, n50_at' I, mask_keys, select_bit, kk, lo, hi, zero_add, ← Nat.add_assoc, Nat.reduceAdd, Nat.reduceMul, zero_mul]
  try rfl

def n56 (I : Ins) := k0_pay56 (F := Ideal) (n6 I)
/-- Two heads of the values, chunk 1, heads 0 and 1. -/
theorem n56_at (I : Ins) (r : Fin 64) (j : Fin 256) : n56 I (ix2 r j) = dc I 64 r (512 + j) := by
  unfold n56
  pointwise [k0_pay56]
  try simp only [n6_at I, dc_at, zero_add, ← Nat.add_assoc, Nat.reduceAdd, Nat.reduceMul, zero_mul]
  try rfl
/-- The same value where it is formed in place. -/
theorem n56_at' (I : Ins) (r : Fin 64) (j : Fin 256) : k0_pay56 (F := Ideal) (n6 I) (ix2 r j) = dc I 64 r (512 + j) := n56_at I r j

def n57 (I : Ins) := k0_pay57 (F := Ideal) (n6 I) k0_pay15 (k0_pay18 (F := Ideal))
/-- The values of a first head, chunk 1, heads 0 and 1. -/
theorem n57_at (I : Ins) (r : Fin 64) (j : Fin 256) : n57 I (ix2 r j) = if (j : ℕ) < 128 then dc I 64 r (512 + j) else 0 := by
  unfold n57
  pointwise [k0_pay57, k0_pay18]
  try simp only [n6_at I, n56_at I, n56_at' I, mask_vals, select_bit, dc_at, zero_add, ← Nat.add_assoc, Nat.reduceAdd, Nat.reduceMul, zero_mul]
  try rfl

def n58 (I : Ins) := k0_pay58 (F := Ideal) (n6 I) k0_pay15 (k0_pay18 (F := Ideal))
/-- The values of a second head, chunk 1, heads 0 and 1. -/
theorem n58_at (I : Ins) (r : Fin 64) (j : Fin 256) : n58 I (ix2 r j) = if (j : ℕ) < 128 then 0 else dc I 64 r (512 + j) := by
  unfold n58
  pointwise [k0_pay58, k0_pay18]
  try simp only [n6_at I, n56_at I, n56_at' I, mask_vals, select_bit, dc_at, zero_add, ← Nat.add_assoc, Nat.reduceAdd, Nat.reduceMul, zero_mul]
  try rfl

def n59 (I : Ins) := k0_pay59 (F := Ideal) (n57 I) (n58 I)
/-- Two heads of the values, stacked, chunk 1, heads 0 and 1. -/
theorem n59_at (I : Ins) (r : Fin 128) (j : Fin 256) : n59 I (ix2 r j) = vv (fun r e => dc I 64 r (512 + e)) r j := by
  unfold n59
  pointwise [k0_pay59]
  try simp only [n57_at I, n58_at I, vv, dc_at, zero_add, ← Nat.add_assoc, Nat.reduceAdd, Nat.reduceMul, zero_mul]
  try rfl

def n60 (I : Ins) := k0_pay60 (F := Ideal) k0_pay14 (k0_pay17 (F := Ideal)) (n51 I)
/-- One head of the decayed keys, chunk 1, head 0. -/
theorem n60_at (I : Ins) (r : Fin 64) (j : Fin 128) : n60 I (ix2 r j) = lo ((fun r a => cE (dc I 64) (lc I 64) r (a)) r) j := by
  unfold n60
  pointwise [k0_pay60, k0_pay17]
  try simp only [n51_at I, mask_keys, select_bit, lo, zero_add, ← Nat.add_assoc, Nat.reduceAdd, Nat.reduceMul, zero_mul]
  try rfl

def n61 (I : Ins) := k0_pay61 (F := Ideal) k0_pay14 (k0_pay17 (F := Ideal)) (n51 I)
/-- One head of the decayed keys, chunk 1, head 1. -/
theorem n61_at (I : Ins) (r : Fin 64) (j : Fin 128) : n61 I (ix2 r j) = hi ((fun r a => cE (dc I 64) (lc I 64) r (a)) r) j := by
  unfold n61
  pointwise [k0_pay61, k0_pay17]
  try simp only [n51_at I, mask_keys, select_bit, hi, zero_add, ← Nat.add_assoc, Nat.reduceAdd, Nat.reduceMul, zero_mul]
  try rfl

def n62 (I : Ins) := k0_pay62 (F := Ideal) (n48 I)
/-- Two heads of the decayed queries, chunk 1, heads 2 and 3. -/
theorem n62_at (I : Ins) (r : Fin 64) (j : Fin 128) : n62 I (ix2 r j) = cQ (dc I 64) (lc I 64) r (128 + j) := by
  unfold n62
  pointwise [k0_pay62]
  try simp only [n48_at I, zero_add, ← Nat.add_assoc, Nat.reduceAdd, Nat.reduceMul, zero_mul]
  try rfl

def n63 (I : Ins) := k0_pay63 (F := Ideal) (n52 I)
/-- Two heads of the decay, chunk 1, heads 2 and 3. -/
theorem n63_at (I : Ins) (j : Fin 128) : n63 I (ix2 0 j) = cD (lc I 64) (128 + j) := by
  unfold n63
  pointwise [k0_pay63]
  try simp only [n52_at I, zero_add, ← Nat.add_assoc, Nat.reduceAdd, Nat.reduceMul, zero_mul]
  try rfl

def n64 (I : Ins) := k0_pay64 (F := Ideal) k0_pay14 (k0_pay17 (F := Ideal)) (n50 I)
/-- Two heads of the keys, stacked, chunk 1, heads 2 and 3. -/
theorem n64_at (I : Ins) (r : Fin 128) (j : Fin 128) : n64 I (ix2 r j) = kk (fun r a => cI (dc I 64) (lc I 64) r (128 + a)) r j := by
  unfold n64
  pointwise [k0_pay64, k0_pay17]
  try simp only [n50_at I, mask_keys, select_bit, kk, lo, hi, zero_add, ← Nat.add_assoc, Nat.reduceAdd, Nat.reduceMul, zero_mul]
  try rfl

def n65 (I : Ins) := k0_pay65 (F := Ideal) (n6 I) k0_pay15 (k0_pay18 (F := Ideal))
/-- Two heads of the values, stacked, chunk 1, heads 2 and 3. -/
theorem n65_at (I : Ins) (r : Fin 128) (j : Fin 256) : n65 I (ix2 r j) = vv (fun r e => dc I 64 r (768 + e)) r j := by
  unfold n65
  pointwise [k0_pay65, k0_pay18]
  try simp only [n6_at I, mask_vals, select_bit, vv, dc_at, zero_add, ← Nat.add_assoc, Nat.reduceAdd, Nat.reduceMul, zero_mul]
  try rfl

def n66 (I : Ins) := k0_pay66 (F := Ideal) k0_pay14 (k0_pay17 (F := Ideal)) (n51 I)
/-- One head of the decayed keys, chunk 1, head 2. -/
theorem n66_at (I : Ins) (r : Fin 64) (j : Fin 128) : n66 I (ix2 r j) = lo ((fun r a => cE (dc I 64) (lc I 64) r (128 + a)) r) j := by
  unfold n66
  pointwise [k0_pay66, k0_pay17]
  try simp only [n51_at I, mask_keys, select_bit, lo, zero_add, ← Nat.add_assoc, Nat.reduceAdd, Nat.reduceMul, zero_mul]
  try rfl

def n67 (I : Ins) := k0_pay67 (F := Ideal) k0_pay14 (k0_pay17 (F := Ideal)) (n51 I)
/-- One head of the decayed keys, chunk 1, head 3. -/
theorem n67_at (I : Ins) (r : Fin 64) (j : Fin 128) : n67 I (ix2 r j) = hi ((fun r a => cE (dc I 64) (lc I 64) r (128 + a)) r) j := by
  unfold n67
  pointwise [k0_pay67, k0_pay17]
  try simp only [n51_at I, mask_keys, select_bit, hi, zero_add, ← Nat.add_assoc, Nat.reduceAdd, Nat.reduceMul, zero_mul]
  try rfl

def n68 (I : Ins) := k0_pay68 (F := Ideal) (n22 I)
/-- The last running sum, chunk 2. -/
theorem n68_at (I : Ins) (j : Fin 256) : n68 I (ix2 0 j) = cB (lc I 128) 63 j := by
  unfold n68
  pointwise [k0_pay68]
  try simp only [n22_at I, zero_add, ← Nat.add_assoc, Nat.reduceAdd, Nat.reduceMul, zero_mul]
  try rfl
/-- The same value where it is formed in place. -/
theorem n68_at' (I : Ins) (j : Fin 256) : k0_pay68 (F := Ideal) (n22 I) (ix2 0 j) = cB (lc I 128) 63 j := n68_at I j

def n69 (I : Ins) := k0_pay69 (F := Ideal) (n5 I) (n22 I)
/-- The decayed queries, chunk 2. -/
theorem n69_at (I : Ins) (r : Fin 64) (j : Fin 256) : n69 I (ix2 r j) = cQ (dc I 128) (lc I 128) r j := by
  unfold n69
  pointwise [k0_pay69]
  try simp only [n5_at I, n22_at I, cQ, dc_at, zero_add, ← Nat.add_assoc, Nat.reduceAdd, Nat.reduceMul, zero_mul]
  try rfl
/-- The same value where it is formed in place. -/
theorem n69_at' (I : Ins) (r : Fin 64) (j : Fin 256) : k0_pay69 (F := Ideal) (n5 I) (n22 I) (ix2 r j) = cQ (dc I 128) (lc I 128) r j := n69_at I r j

def n70 (I : Ins) := k0_pay70 (F := Ideal) (n5 I)
/-- The keys, chunk 2. -/
theorem n70_at (I : Ins) (r : Fin 64) (j : Fin 256) : n70 I (ix2 r j) = dc I 128 r (256 + j) := by
  unfold n70
  pointwise [k0_pay70]
  try simp only [n5_at I, dc_at, zero_add, ← Nat.add_assoc, Nat.reduceAdd, Nat.reduceMul, zero_mul]
  try rfl
/-- The same value where it is formed in place. -/
theorem n70_at' (I : Ins) (r : Fin 64) (j : Fin 256) : k0_pay70 (F := Ideal) (n5 I) (ix2 r j) = dc I 128 r (256 + j) := n70_at I r j

def n71 (I : Ins) := k0_pay71 (F := Ideal) (n5 I) (n22 I)
/-- The keys with the decay divided out, chunk 2. -/
theorem n71_at (I : Ins) (r : Fin 64) (j : Fin 256) : n71 I (ix2 r j) = cI (dc I 128) (lc I 128) r j := by
  unfold n71
  pointwise [k0_pay71]
  try simp only [n5_at I, n22_at I, n70_at I, n70_at' I, cI, dc_at, zero_add, ← Nat.add_assoc, Nat.reduceAdd, Nat.reduceMul, zero_mul]
  try rfl
/-- The same value where it is formed in place. -/
theorem n71_at' (I : Ins) (r : Fin 64) (j : Fin 256) : k0_pay71 (F := Ideal) (n5 I) (n22 I) (ix2 r j) = cI (dc I 128) (lc I 128) r j := n71_at I r j

def n72 (I : Ins) := k0_pay72 (F := Ideal) (n5 I) (n22 I)
/-- The keys decayed to the end of the chunk, chunk 2. -/
theorem n72_at (I : Ins) (r : Fin 64) (j : Fin 256) : n72 I (ix2 r j) = cE (dc I 128) (lc I 128) r j := by
  unfold n72
  pointwise [k0_pay72]
  try simp only [n5_at I, n22_at I, n68_at I, n68_at' I, n70_at I, n70_at' I, cE, dc_at, zero_add, ← Nat.add_assoc, Nat.reduceAdd, Nat.reduceMul, zero_mul]
  try rfl
/-- The same value where it is formed in place. -/
theorem n72_at' (I : Ins) (r : Fin 64) (j : Fin 256) : k0_pay72 (F := Ideal) (n5 I) (n22 I) (ix2 r j) = cE (dc I 128) (lc I 128) r j := n72_at I r j

def n73 (I : Ins) := k0_pay73 (F := Ideal) (n22 I)
/-- The decay over the chunk, chunk 2. -/
theorem n73_at (I : Ins) (j : Fin 256) : n73 I (ix2 0 j) = cD (lc I 128) j := by
  unfold n73
  pointwise [k0_pay73]
  try simp only [n22_at I, n68_at I, n68_at' I, cD, zero_add, ← Nat.add_assoc, Nat.reduceAdd, Nat.reduceMul, zero_mul]
  try rfl
/-- The same value where it is formed in place. -/
theorem n73_at' (I : Ins) (j : Fin 256) : k0_pay73 (F := Ideal) (n22 I) (ix2 0 j) = cD (lc I 128) j := n73_at I j

def n74 (I : Ins) := k0_pay74 (F := Ideal) (n5 I) (n22 I)
/-- Two heads of the decayed queries, chunk 2, heads 0 and 1. -/
theorem n74_at (I : Ins) (r : Fin 64) (j : Fin 128) : n74 I (ix2 r j) = cQ (dc I 128) (lc I 128) r (j) := by
  unfold n74
  pointwise [k0_pay74]
  try simp only [n5_at I, n22_at I, n69_at I, n69_at' I, zero_add, ← Nat.add_assoc, Nat.reduceAdd, Nat.reduceMul, zero_mul]
  try rfl

def n75 (I : Ins) := k0_pay75 (F := Ideal) (n22 I)
/-- Two heads of the decay, chunk 2, heads 0 and 1. -/
theorem n75_at (I : Ins) (j : Fin 128) : n75 I (ix2 0 j) = cD (lc I 128) (j) := by
  unfold n75
  pointwise [k0_pay75]
  try simp only [n22_at I, n73_at I, n73_at' I, zero_add, ← Nat.add_assoc, Nat.reduceAdd, Nat.reduceMul, zero_mul]
  try rfl

def n76 (I : Ins) := k0_pay76 (F := Ideal) (n5 I) k0_pay14 (k0_pay17 (F := Ideal)) (n22 I)
/-- Two heads of the keys, stacked, chunk 2, heads 0 and 1. -/
theorem n76_at (I : Ins) (r : Fin 128) (j : Fin 128) : n76 I (ix2 r j) = kk (fun r a => cI (dc I 128) (lc I 128) r (a)) r j := by
  unfold n76
  pointwise [k0_pay76, k0_pay17]
  try simp only [n5_at I, n22_at I, n71_at I, n71_at' I, mask_keys, select_bit, kk, lo, hi, zero_add, ← Nat.add_assoc, Nat.reduceAdd, Nat.reduceMul, zero_mul]
  try rfl

def n77 (I : Ins) := k0_pay77 (F := Ideal) (n6 I) k0_pay15 (k0_pay18 (F := Ideal))
/-- Two heads of the values, stacked, chunk 2, heads 0 and 1. -/
theorem n77_at (I : Ins) (r : Fin 128) (j : Fin 256) : n77 I (ix2 r j) = vv (fun r e => dc I 128 r (512 + e)) r j := by
  unfold n77
  pointwise [k0_pay77, k0_pay18]
  try simp only [n6_at I, mask_vals, select_bit, vv, dc_at, zero_add, ← Nat.add_assoc, Nat.reduceAdd, Nat.reduceMul, zero_mul]
  try rfl

def n78 (I : Ins) := k0_pay78 (F := Ideal) (n5 I) k0_pay14 (k0_pay17 (F := Ideal)) (n22 I)
/-- One head of the decayed keys, chunk 2, head 0. -/
theorem n78_at (I : Ins) (r : Fin 64) (j : Fin 128) : n78 I (ix2 r j) = lo ((fun r a => cE (dc I 128) (lc I 128) r (a)) r) j := by
  unfold n78
  pointwise [k0_pay78, k0_pay17]
  try simp only [n5_at I, n22_at I, n72_at I, n72_at' I, mask_keys, select_bit, lo, zero_add, ← Nat.add_assoc, Nat.reduceAdd, Nat.reduceMul, zero_mul]
  try rfl

def n79 (I : Ins) := k0_pay79 (F := Ideal) (n5 I) k0_pay14 (k0_pay17 (F := Ideal)) (n22 I)
/-- One head of the decayed keys, chunk 2, head 1. -/
theorem n79_at (I : Ins) (r : Fin 64) (j : Fin 128) : n79 I (ix2 r j) = hi ((fun r a => cE (dc I 128) (lc I 128) r (a)) r) j := by
  unfold n79
  pointwise [k0_pay79, k0_pay17]
  try simp only [n5_at I, n22_at I, n72_at I, n72_at' I, mask_keys, select_bit, hi, zero_add, ← Nat.add_assoc, Nat.reduceAdd, Nat.reduceMul, zero_mul]
  try rfl

def n80 (I : Ins) := k0_pay80 (F := Ideal) (n5 I) (n22 I)
/-- Two heads of the decayed queries, chunk 2, heads 2 and 3. -/
theorem n80_at (I : Ins) (r : Fin 64) (j : Fin 128) : n80 I (ix2 r j) = cQ (dc I 128) (lc I 128) r (128 + j) := by
  unfold n80
  pointwise [k0_pay80]
  try simp only [n5_at I, n22_at I, n69_at I, n69_at' I, zero_add, ← Nat.add_assoc, Nat.reduceAdd, Nat.reduceMul, zero_mul]
  try rfl

def n81 (I : Ins) := k0_pay81 (F := Ideal) (n22 I)
/-- Two heads of the decay, chunk 2, heads 2 and 3. -/
theorem n81_at (I : Ins) (j : Fin 128) : n81 I (ix2 0 j) = cD (lc I 128) (128 + j) := by
  unfold n81
  pointwise [k0_pay81]
  try simp only [n22_at I, n73_at I, n73_at' I, zero_add, ← Nat.add_assoc, Nat.reduceAdd, Nat.reduceMul, zero_mul]
  try rfl

def n82 (I : Ins) := k0_pay82 (F := Ideal) (n5 I) k0_pay14 (k0_pay17 (F := Ideal)) (n22 I)
/-- The keys of a first head, chunk 2, heads 2 and 3. -/
theorem n82_at (I : Ins) (r : Fin 64) (j : Fin 128) : n82 I (ix2 r j) = lo ((fun r a => cI (dc I 128) (lc I 128) r (128 + a)) r) j := by
  unfold n82
  pointwise [k0_pay82, k0_pay17]
  try simp only [n5_at I, n22_at I, n71_at I, n71_at' I, mask_keys, select_bit, lo, zero_add, ← Nat.add_assoc, Nat.reduceAdd, Nat.reduceMul, zero_mul]
  try rfl

def n83 (I : Ins) := k0_pay83 (F := Ideal) k0_pay14 (k0_pay17 (F := Ideal)) (n71 I) (n82 I)
/-- Two heads of the keys, stacked, chunk 2, heads 2 and 3. -/
theorem n83_at (I : Ins) (r : Fin 128) (j : Fin 128) : n83 I (ix2 r j) = kk (fun r a => cI (dc I 128) (lc I 128) r (128 + a)) r j := by
  unfold n83
  pointwise [k0_pay83, k0_pay17]
  try simp only [n71_at I, n82_at I, mask_keys, select_bit, kk, lo, hi, zero_add, ← Nat.add_assoc, Nat.reduceAdd, Nat.reduceMul, zero_mul]
  try rfl

def n84 (I : Ins) := k0_pay84 (F := Ideal) (n6 I) k0_pay15 (k0_pay18 (F := Ideal))
/-- Two heads of the values, stacked, chunk 2, heads 2 and 3. -/
theorem n84_at (I : Ins) (r : Fin 128) (j : Fin 256) : n84 I (ix2 r j) = vv (fun r e => dc I 128 r (768 + e)) r j := by
  unfold n84
  pointwise [k0_pay84, k0_pay18]
  try simp only [n6_at I, mask_vals, select_bit, vv, dc_at, zero_add, ← Nat.add_assoc, Nat.reduceAdd, Nat.reduceMul, zero_mul]
  try rfl

def n85 (I : Ins) := k0_pay85 (F := Ideal) k0_pay14 (k0_pay17 (F := Ideal)) (n72 I)
/-- One head of the decayed keys, chunk 2, head 2. -/
theorem n85_at (I : Ins) (r : Fin 64) (j : Fin 128) : n85 I (ix2 r j) = lo ((fun r a => cE (dc I 128) (lc I 128) r (128 + a)) r) j := by
  unfold n85
  pointwise [k0_pay85, k0_pay17]
  try simp only [n72_at I, mask_keys, select_bit, lo, zero_add, ← Nat.add_assoc, Nat.reduceAdd, Nat.reduceMul, zero_mul]
  try rfl

def n86 (I : Ins) := k0_pay86 (F := Ideal) k0_pay14 (k0_pay17 (F := Ideal)) (n72 I)
/-- One head of the decayed keys, chunk 2, head 3. -/
theorem n86_at (I : Ins) (r : Fin 64) (j : Fin 128) : n86 I (ix2 r j) = hi ((fun r a => cE (dc I 128) (lc I 128) r (128 + a)) r) j := by
  unfold n86
  pointwise [k0_pay86, k0_pay17]
  try simp only [n72_at I, mask_keys, select_bit, hi, zero_add, ← Nat.add_assoc, Nat.reduceAdd, Nat.reduceMul, zero_mul]
  try rfl

def n87 (I : Ins) := k0_pay87 (F := Ideal) (n23 I)
/-- The last running sum, chunk 3. -/
theorem n87_at (I : Ins) (j : Fin 256) : n87 I (ix2 0 j) = cB (lc I 192) 63 j := by
  unfold n87
  pointwise [k0_pay87]
  try simp only [n23_at I, zero_add, ← Nat.add_assoc, Nat.reduceAdd, Nat.reduceMul, zero_mul]
  try rfl
/-- The same value where it is formed in place. -/
theorem n87_at' (I : Ins) (j : Fin 256) : k0_pay87 (F := Ideal) (n23 I) (ix2 0 j) = cB (lc I 192) 63 j := n87_at I j

def n88 (I : Ins) := k0_pay88 (F := Ideal) (n5 I) (n23 I)
/-- The decayed queries, chunk 3. -/
theorem n88_at (I : Ins) (r : Fin 64) (j : Fin 256) : n88 I (ix2 r j) = cQ (dc I 192) (lc I 192) r j := by
  unfold n88
  pointwise [k0_pay88]
  try simp only [n5_at I, n23_at I, cQ, dc_at, zero_add, ← Nat.add_assoc, Nat.reduceAdd, Nat.reduceMul, zero_mul]
  try rfl
/-- The same value where it is formed in place. -/
theorem n88_at' (I : Ins) (r : Fin 64) (j : Fin 256) : k0_pay88 (F := Ideal) (n5 I) (n23 I) (ix2 r j) = cQ (dc I 192) (lc I 192) r j := n88_at I r j

def n89 (I : Ins) := k0_pay89 (F := Ideal) (n5 I)
/-- The keys, chunk 3. -/
theorem n89_at (I : Ins) (r : Fin 64) (j : Fin 256) : n89 I (ix2 r j) = dc I 192 r (256 + j) := by
  unfold n89
  pointwise [k0_pay89]
  try simp only [n5_at I, dc_at, zero_add, ← Nat.add_assoc, Nat.reduceAdd, Nat.reduceMul, zero_mul]
  try rfl
/-- The same value where it is formed in place. -/
theorem n89_at' (I : Ins) (r : Fin 64) (j : Fin 256) : k0_pay89 (F := Ideal) (n5 I) (ix2 r j) = dc I 192 r (256 + j) := n89_at I r j

def n90 (I : Ins) := k0_pay90 (F := Ideal) (n5 I) (n23 I)
/-- The keys with the decay divided out, chunk 3. -/
theorem n90_at (I : Ins) (r : Fin 64) (j : Fin 256) : n90 I (ix2 r j) = cI (dc I 192) (lc I 192) r j := by
  unfold n90
  pointwise [k0_pay90]
  try simp only [n5_at I, n23_at I, n89_at I, n89_at' I, cI, dc_at, zero_add, ← Nat.add_assoc, Nat.reduceAdd, Nat.reduceMul, zero_mul]
  try rfl
/-- The same value where it is formed in place. -/
theorem n90_at' (I : Ins) (r : Fin 64) (j : Fin 256) : k0_pay90 (F := Ideal) (n5 I) (n23 I) (ix2 r j) = cI (dc I 192) (lc I 192) r j := n90_at I r j

def n91 (I : Ins) := k0_pay91 (F := Ideal) (n5 I) (n23 I)
/-- The keys decayed to the end of the chunk, chunk 3. -/
theorem n91_at (I : Ins) (r : Fin 64) (j : Fin 256) : n91 I (ix2 r j) = cE (dc I 192) (lc I 192) r j := by
  unfold n91
  pointwise [k0_pay91]
  try simp only [n5_at I, n23_at I, n87_at I, n87_at' I, n89_at I, n89_at' I, cE, dc_at, zero_add, ← Nat.add_assoc, Nat.reduceAdd, Nat.reduceMul, zero_mul]
  try rfl
/-- The same value where it is formed in place. -/
theorem n91_at' (I : Ins) (r : Fin 64) (j : Fin 256) : k0_pay91 (F := Ideal) (n5 I) (n23 I) (ix2 r j) = cE (dc I 192) (lc I 192) r j := n91_at I r j

def n92 (I : Ins) := k0_pay92 (F := Ideal) (n23 I)
/-- The decay over the chunk, chunk 3. -/
theorem n92_at (I : Ins) (j : Fin 256) : n92 I (ix2 0 j) = cD (lc I 192) j := by
  unfold n92
  pointwise [k0_pay92]
  try simp only [n23_at I, n87_at I, n87_at' I, cD, zero_add, ← Nat.add_assoc, Nat.reduceAdd, Nat.reduceMul, zero_mul]
  try rfl
/-- The same value where it is formed in place. -/
theorem n92_at' (I : Ins) (j : Fin 256) : k0_pay92 (F := Ideal) (n23 I) (ix2 0 j) = cD (lc I 192) j := n92_at I j

def n93 (I : Ins) := k0_pay93 (F := Ideal) (n5 I) (n23 I)
/-- Two heads of the decayed queries, chunk 3, heads 0 and 1. -/
theorem n93_at (I : Ins) (r : Fin 64) (j : Fin 128) : n93 I (ix2 r j) = cQ (dc I 192) (lc I 192) r (j) := by
  unfold n93
  pointwise [k0_pay93]
  try simp only [n5_at I, n23_at I, n88_at I, n88_at' I, zero_add, ← Nat.add_assoc, Nat.reduceAdd, Nat.reduceMul, zero_mul]
  try rfl

def n94 (I : Ins) := k0_pay94 (F := Ideal) (n23 I)
/-- Two heads of the decay, chunk 3, heads 0 and 1. -/
theorem n94_at (I : Ins) (j : Fin 128) : n94 I (ix2 0 j) = cD (lc I 192) (j) := by
  unfold n94
  pointwise [k0_pay94]
  try simp only [n23_at I, n92_at I, n92_at' I, zero_add, ← Nat.add_assoc, Nat.reduceAdd, Nat.reduceMul, zero_mul]
  try rfl

def n95 (I : Ins) := k0_pay95 (F := Ideal) (n5 I) k0_pay14 (k0_pay17 (F := Ideal)) (n23 I)
/-- Two heads of the keys, stacked, chunk 3, heads 0 and 1. -/
theorem n95_at (I : Ins) (r : Fin 128) (j : Fin 128) : n95 I (ix2 r j) = kk (fun r a => cI (dc I 192) (lc I 192) r (a)) r j := by
  unfold n95
  pointwise [k0_pay95, k0_pay17]
  try simp only [n5_at I, n23_at I, n90_at I, n90_at' I, mask_keys, select_bit, kk, lo, hi, zero_add, ← Nat.add_assoc, Nat.reduceAdd, Nat.reduceMul, zero_mul]
  try rfl

def n96 (I : Ins) := k0_pay96 (F := Ideal) (n6 I) k0_pay15 (k0_pay18 (F := Ideal))
/-- Two heads of the values, stacked, chunk 3, heads 0 and 1. -/
theorem n96_at (I : Ins) (r : Fin 128) (j : Fin 256) : n96 I (ix2 r j) = vv (fun r e => dc I 192 r (512 + e)) r j := by
  unfold n96
  pointwise [k0_pay96, k0_pay18]
  try simp only [n6_at I, mask_vals, select_bit, vv, dc_at, zero_add, ← Nat.add_assoc, Nat.reduceAdd, Nat.reduceMul, zero_mul]
  try rfl

def n97 (I : Ins) := k0_pay97 (F := Ideal) (n5 I) k0_pay14 (k0_pay17 (F := Ideal)) (n23 I)
/-- One head of the decayed keys, chunk 3, head 0. -/
theorem n97_at (I : Ins) (r : Fin 64) (j : Fin 128) : n97 I (ix2 r j) = lo ((fun r a => cE (dc I 192) (lc I 192) r (a)) r) j := by
  unfold n97
  pointwise [k0_pay97, k0_pay17]
  try simp only [n5_at I, n23_at I, n91_at I, n91_at' I, mask_keys, select_bit, lo, zero_add, ← Nat.add_assoc, Nat.reduceAdd, Nat.reduceMul, zero_mul]
  try rfl

def n98 (I : Ins) := k0_pay98 (F := Ideal) (n5 I) k0_pay14 (k0_pay17 (F := Ideal)) (n23 I)
/-- One head of the decayed keys, chunk 3, head 1. -/
theorem n98_at (I : Ins) (r : Fin 64) (j : Fin 128) : n98 I (ix2 r j) = hi ((fun r a => cE (dc I 192) (lc I 192) r (a)) r) j := by
  unfold n98
  pointwise [k0_pay98, k0_pay17]
  try simp only [n5_at I, n23_at I, n91_at I, n91_at' I, mask_keys, select_bit, hi, zero_add, ← Nat.add_assoc, Nat.reduceAdd, Nat.reduceMul, zero_mul]
  try rfl

def n99 (I : Ins) := k0_pay99 (F := Ideal) (n5 I) (n23 I)
/-- Two heads of the decayed queries, chunk 3, heads 2 and 3. -/
theorem n99_at (I : Ins) (r : Fin 64) (j : Fin 128) : n99 I (ix2 r j) = cQ (dc I 192) (lc I 192) r (128 + j) := by
  unfold n99
  pointwise [k0_pay99]
  try simp only [n5_at I, n23_at I, n88_at I, n88_at' I, zero_add, ← Nat.add_assoc, Nat.reduceAdd, Nat.reduceMul, zero_mul]
  try rfl

def n100 (I : Ins) := k0_pay100 (F := Ideal) (n23 I)
/-- Two heads of the decay, chunk 3, heads 2 and 3. -/
theorem n100_at (I : Ins) (j : Fin 128) : n100 I (ix2 0 j) = cD (lc I 192) (128 + j) := by
  unfold n100
  pointwise [k0_pay100]
  try simp only [n23_at I, n92_at I, n92_at' I, zero_add, ← Nat.add_assoc, Nat.reduceAdd, Nat.reduceMul, zero_mul]
  try rfl

def n101 (I : Ins) := k0_pay101 (F := Ideal) (n5 I) k0_pay14 (k0_pay17 (F := Ideal)) (n23 I)
/-- Two heads of the keys, stacked, chunk 3, heads 2 and 3. -/
theorem n101_at (I : Ins) (r : Fin 128) (j : Fin 128) : n101 I (ix2 r j) = kk (fun r a => cI (dc I 192) (lc I 192) r (128 + a)) r j := by
  unfold n101
  pointwise [k0_pay101, k0_pay17]
  try simp only [n5_at I, n23_at I, n90_at I, n90_at' I, mask_keys, select_bit, kk, lo, hi, zero_add, ← Nat.add_assoc, Nat.reduceAdd, Nat.reduceMul, zero_mul]
  try rfl

def n102 (I : Ins) := k0_pay102 (F := Ideal) (n6 I) k0_pay15 (k0_pay18 (F := Ideal))
/-- Two heads of the values, stacked, chunk 3, heads 2 and 3. -/
theorem n102_at (I : Ins) (r : Fin 128) (j : Fin 256) : n102 I (ix2 r j) = vv (fun r e => dc I 192 r (768 + e)) r j := by
  unfold n102
  pointwise [k0_pay102, k0_pay18]
  try simp only [n6_at I, mask_vals, select_bit, vv, dc_at, zero_add, ← Nat.add_assoc, Nat.reduceAdd, Nat.reduceMul, zero_mul]
  try rfl

def n103 (I : Ins) := k0_pay103 (F := Ideal) (n5 I) k0_pay14 (k0_pay17 (F := Ideal)) (n23 I)
/-- One head of the decayed keys, chunk 3, head 2. -/
theorem n103_at (I : Ins) (r : Fin 64) (j : Fin 128) : n103 I (ix2 r j) = lo ((fun r a => cE (dc I 192) (lc I 192) r (128 + a)) r) j := by
  unfold n103
  pointwise [k0_pay103, k0_pay17]
  try simp only [n5_at I, n23_at I, n91_at I, n91_at' I, mask_keys, select_bit, lo, zero_add, ← Nat.add_assoc, Nat.reduceAdd, Nat.reduceMul, zero_mul]
  try rfl

def n104 (I : Ins) := k0_pay104 (F := Ideal) k0_pay14 (k0_pay17 (F := Ideal)) (n91 I)
/-- One head of the decayed keys, chunk 3, head 3. -/
theorem n104_at (I : Ins) (r : Fin 64) (j : Fin 128) : n104 I (ix2 r j) = hi ((fun r a => cE (dc I 192) (lc I 192) r (128 + a)) r) j := by
  unfold n104
  pointwise [k0_pay104, k0_pay17]
  try simp only [n91_at I, mask_keys, select_bit, hi, zero_add, ← Nat.add_assoc, Nat.reduceAdd, Nat.reduceMul, zero_mul]
  try rfl

def n105 (I : Ins) := k0_pay105 (F := Ideal) (n24 I)
/-- The last running sum, chunk 4. -/
theorem n105_at (I : Ins) (j : Fin 256) : n105 I (ix2 0 j) = cB (lc I 256) 63 j := by
  unfold n105
  pointwise [k0_pay105]
  try simp only [n24_at I, zero_add, ← Nat.add_assoc, Nat.reduceAdd, Nat.reduceMul, zero_mul]
  try rfl
/-- The same value where it is formed in place. -/
theorem n105_at' (I : Ins) (j : Fin 256) : k0_pay105 (F := Ideal) (n24 I) (ix2 0 j) = cB (lc I 256) 63 j := n105_at I j

def n106 (I : Ins) := k0_pay106 (F := Ideal) (n5 I) (n24 I)
/-- The decayed queries, chunk 4. -/
theorem n106_at (I : Ins) (r : Fin 64) (j : Fin 256) : n106 I (ix2 r j) = cQ (dc I 256) (lc I 256) r j := by
  unfold n106
  pointwise [k0_pay106]
  try simp only [n5_at I, n24_at I, cQ, dc_at, zero_add, ← Nat.add_assoc, Nat.reduceAdd, Nat.reduceMul, zero_mul]
  try rfl
/-- The same value where it is formed in place. -/
theorem n106_at' (I : Ins) (r : Fin 64) (j : Fin 256) : k0_pay106 (F := Ideal) (n5 I) (n24 I) (ix2 r j) = cQ (dc I 256) (lc I 256) r j := n106_at I r j

def n107 (I : Ins) := k0_pay107 (F := Ideal) (n5 I)
/-- The keys, chunk 4. -/
theorem n107_at (I : Ins) (r : Fin 64) (j : Fin 256) : n107 I (ix2 r j) = dc I 256 r (256 + j) := by
  unfold n107
  pointwise [k0_pay107]
  try simp only [n5_at I, dc_at, zero_add, ← Nat.add_assoc, Nat.reduceAdd, Nat.reduceMul, zero_mul]
  try rfl
/-- The same value where it is formed in place. -/
theorem n107_at' (I : Ins) (r : Fin 64) (j : Fin 256) : k0_pay107 (F := Ideal) (n5 I) (ix2 r j) = dc I 256 r (256 + j) := n107_at I r j

def n108 (I : Ins) := k0_pay108 (F := Ideal) (n5 I) (n24 I)
/-- The keys with the decay divided out, chunk 4. -/
theorem n108_at (I : Ins) (r : Fin 64) (j : Fin 256) : n108 I (ix2 r j) = cI (dc I 256) (lc I 256) r j := by
  unfold n108
  pointwise [k0_pay108]
  try simp only [n5_at I, n24_at I, n107_at I, n107_at' I, cI, dc_at, zero_add, ← Nat.add_assoc, Nat.reduceAdd, Nat.reduceMul, zero_mul]
  try rfl
/-- The same value where it is formed in place. -/
theorem n108_at' (I : Ins) (r : Fin 64) (j : Fin 256) : k0_pay108 (F := Ideal) (n5 I) (n24 I) (ix2 r j) = cI (dc I 256) (lc I 256) r j := n108_at I r j

def n109 (I : Ins) := k0_pay109 (F := Ideal) (n5 I) (n24 I)
/-- The keys decayed to the end of the chunk, chunk 4. -/
theorem n109_at (I : Ins) (r : Fin 64) (j : Fin 256) : n109 I (ix2 r j) = cE (dc I 256) (lc I 256) r j := by
  unfold n109
  pointwise [k0_pay109]
  try simp only [n5_at I, n24_at I, n105_at I, n105_at' I, n107_at I, n107_at' I, cE, dc_at, zero_add, ← Nat.add_assoc, Nat.reduceAdd, Nat.reduceMul, zero_mul]
  try rfl
/-- The same value where it is formed in place. -/
theorem n109_at' (I : Ins) (r : Fin 64) (j : Fin 256) : k0_pay109 (F := Ideal) (n5 I) (n24 I) (ix2 r j) = cE (dc I 256) (lc I 256) r j := n109_at I r j

def n110 (I : Ins) := k0_pay110 (F := Ideal) (n24 I)
/-- The decay over the chunk, chunk 4. -/
theorem n110_at (I : Ins) (j : Fin 256) : n110 I (ix2 0 j) = cD (lc I 256) j := by
  unfold n110
  pointwise [k0_pay110]
  try simp only [n24_at I, n105_at I, n105_at' I, cD, zero_add, ← Nat.add_assoc, Nat.reduceAdd, Nat.reduceMul, zero_mul]
  try rfl
/-- The same value where it is formed in place. -/
theorem n110_at' (I : Ins) (j : Fin 256) : k0_pay110 (F := Ideal) (n24 I) (ix2 0 j) = cD (lc I 256) j := n110_at I j

def n111 (I : Ins) := k0_pay111 (F := Ideal) (n5 I) (n24 I)
/-- Two heads of the decayed queries, chunk 4, heads 0 and 1. -/
theorem n111_at (I : Ins) (r : Fin 64) (j : Fin 128) : n111 I (ix2 r j) = cQ (dc I 256) (lc I 256) r (j) := by
  unfold n111
  pointwise [k0_pay111]
  try simp only [n5_at I, n24_at I, n106_at I, n106_at' I, zero_add, ← Nat.add_assoc, Nat.reduceAdd, Nat.reduceMul, zero_mul]
  try rfl

def n112 (I : Ins) := k0_pay112 (F := Ideal) (n24 I)
/-- Two heads of the decay, chunk 4, heads 0 and 1. -/
theorem n112_at (I : Ins) (j : Fin 128) : n112 I (ix2 0 j) = cD (lc I 256) (j) := by
  unfold n112
  pointwise [k0_pay112]
  try simp only [n24_at I, n110_at I, n110_at' I, zero_add, ← Nat.add_assoc, Nat.reduceAdd, Nat.reduceMul, zero_mul]
  try rfl

def n113 (I : Ins) := k0_pay113 (F := Ideal) (n5 I) k0_pay14 (k0_pay17 (F := Ideal)) (n24 I)
/-- Two heads of the keys, stacked, chunk 4, heads 0 and 1. -/
theorem n113_at (I : Ins) (r : Fin 128) (j : Fin 128) : n113 I (ix2 r j) = kk (fun r a => cI (dc I 256) (lc I 256) r (a)) r j := by
  unfold n113
  pointwise [k0_pay113, k0_pay17]
  try simp only [n5_at I, n24_at I, n108_at I, n108_at' I, mask_keys, select_bit, kk, lo, hi, zero_add, ← Nat.add_assoc, Nat.reduceAdd, Nat.reduceMul, zero_mul]
  try rfl

def n114 (I : Ins) := k0_pay114 (F := Ideal) (n6 I) k0_pay15 (k0_pay18 (F := Ideal))
/-- Two heads of the values, stacked, chunk 4, heads 0 and 1. -/
theorem n114_at (I : Ins) (r : Fin 128) (j : Fin 256) : n114 I (ix2 r j) = vv (fun r e => dc I 256 r (512 + e)) r j := by
  unfold n114
  pointwise [k0_pay114, k0_pay18]
  try simp only [n6_at I, mask_vals, select_bit, vv, dc_at, zero_add, ← Nat.add_assoc, Nat.reduceAdd, Nat.reduceMul, zero_mul]
  try rfl

def n115 (I : Ins) := k0_pay115 (F := Ideal) (n5 I) k0_pay14 (k0_pay17 (F := Ideal)) (n24 I)
/-- One head of the decayed keys, chunk 4, head 0. -/
theorem n115_at (I : Ins) (r : Fin 64) (j : Fin 128) : n115 I (ix2 r j) = lo ((fun r a => cE (dc I 256) (lc I 256) r (a)) r) j := by
  unfold n115
  pointwise [k0_pay115, k0_pay17]
  try simp only [n5_at I, n24_at I, n109_at I, n109_at' I, mask_keys, select_bit, lo, zero_add, ← Nat.add_assoc, Nat.reduceAdd, Nat.reduceMul, zero_mul]
  try rfl

def n116 (I : Ins) := k0_pay116 (F := Ideal) (n5 I) k0_pay14 (k0_pay17 (F := Ideal)) (n24 I)
/-- One head of the decayed keys, chunk 4, head 1. -/
theorem n116_at (I : Ins) (r : Fin 64) (j : Fin 128) : n116 I (ix2 r j) = hi ((fun r a => cE (dc I 256) (lc I 256) r (a)) r) j := by
  unfold n116
  pointwise [k0_pay116, k0_pay17]
  try simp only [n5_at I, n24_at I, n109_at I, n109_at' I, mask_keys, select_bit, hi, zero_add, ← Nat.add_assoc, Nat.reduceAdd, Nat.reduceMul, zero_mul]
  try rfl

def n117 (I : Ins) := k0_pay117 (F := Ideal) (n5 I) (n24 I)
/-- Two heads of the decayed queries, chunk 4, heads 2 and 3. -/
theorem n117_at (I : Ins) (r : Fin 64) (j : Fin 128) : n117 I (ix2 r j) = cQ (dc I 256) (lc I 256) r (128 + j) := by
  unfold n117
  pointwise [k0_pay117]
  try simp only [n5_at I, n24_at I, n106_at I, n106_at' I, zero_add, ← Nat.add_assoc, Nat.reduceAdd, Nat.reduceMul, zero_mul]
  try rfl

def n118 (I : Ins) := k0_pay118 (F := Ideal) (n24 I)
/-- Two heads of the decay, chunk 4, heads 2 and 3. -/
theorem n118_at (I : Ins) (j : Fin 128) : n118 I (ix2 0 j) = cD (lc I 256) (128 + j) := by
  unfold n118
  pointwise [k0_pay118]
  try simp only [n24_at I, n110_at I, n110_at' I, zero_add, ← Nat.add_assoc, Nat.reduceAdd, Nat.reduceMul, zero_mul]
  try rfl

def n119 (I : Ins) := k0_pay119 (F := Ideal) (n5 I) k0_pay14 (k0_pay17 (F := Ideal)) (n24 I)
/-- Two heads of the keys, stacked, chunk 4, heads 2 and 3. -/
theorem n119_at (I : Ins) (r : Fin 128) (j : Fin 128) : n119 I (ix2 r j) = kk (fun r a => cI (dc I 256) (lc I 256) r (128 + a)) r j := by
  unfold n119
  pointwise [k0_pay119, k0_pay17]
  try simp only [n5_at I, n24_at I, n108_at I, n108_at' I, mask_keys, select_bit, kk, lo, hi, zero_add, ← Nat.add_assoc, Nat.reduceAdd, Nat.reduceMul, zero_mul]
  try rfl

def n120 (I : Ins) := k0_pay120 (F := Ideal) (n6 I) k0_pay15 (k0_pay18 (F := Ideal))
/-- Two heads of the values, stacked, chunk 4, heads 2 and 3. -/
theorem n120_at (I : Ins) (r : Fin 128) (j : Fin 256) : n120 I (ix2 r j) = vv (fun r e => dc I 256 r (768 + e)) r j := by
  unfold n120
  pointwise [k0_pay120, k0_pay18]
  try simp only [n6_at I, mask_vals, select_bit, vv, dc_at, zero_add, ← Nat.add_assoc, Nat.reduceAdd, Nat.reduceMul, zero_mul]
  try rfl

def n121 (I : Ins) := k0_pay121 (F := Ideal) (n5 I) k0_pay14 (k0_pay17 (F := Ideal)) (n24 I)
/-- One head of the decayed keys, chunk 4, head 2. -/
theorem n121_at (I : Ins) (r : Fin 64) (j : Fin 128) : n121 I (ix2 r j) = lo ((fun r a => cE (dc I 256) (lc I 256) r (128 + a)) r) j := by
  unfold n121
  pointwise [k0_pay121, k0_pay17]
  try simp only [n5_at I, n24_at I, n109_at I, n109_at' I, mask_keys, select_bit, lo, zero_add, ← Nat.add_assoc, Nat.reduceAdd, Nat.reduceMul, zero_mul]
  try rfl

def n122 (I : Ins) := k0_pay122 (F := Ideal) (n5 I) k0_pay14 (k0_pay17 (F := Ideal)) (n24 I)
/-- One head of the decayed keys, chunk 4, head 3. -/
theorem n122_at (I : Ins) (r : Fin 64) (j : Fin 128) : n122 I (ix2 r j) = hi ((fun r a => cE (dc I 256) (lc I 256) r (128 + a)) r) j := by
  unfold n122
  pointwise [k0_pay122, k0_pay17]
  try simp only [n5_at I, n24_at I, n109_at I, n109_at' I, mask_keys, select_bit, hi, zero_add, ← Nat.add_assoc, Nat.reduceAdd, Nat.reduceMul, zero_mul]
  try rfl

def n123 (I : Ins) := k0_pay123 (F := Ideal) (n25 I)
/-- The last running sum, chunk 5. -/
theorem n123_at (I : Ins) (j : Fin 256) : n123 I (ix2 0 j) = cB (lc I 320) 63 j := by
  unfold n123
  pointwise [k0_pay123]
  try simp only [n25_at I, zero_add, ← Nat.add_assoc, Nat.reduceAdd, Nat.reduceMul, zero_mul]
  try rfl

def n124 (I : Ins) := k0_pay124 (F := Ideal) (n5 I) (n25 I)
/-- The decayed queries, chunk 5. -/
theorem n124_at (I : Ins) (r : Fin 64) (j : Fin 256) : n124 I (ix2 r j) = cQ (dc I 320) (lc I 320) r j := by
  unfold n124
  pointwise [k0_pay124]
  try simp only [n5_at I, n25_at I, cQ, dc_at, zero_add, ← Nat.add_assoc, Nat.reduceAdd, Nat.reduceMul, zero_mul]
  try rfl

def n125 (I : Ins) := k0_pay125 (F := Ideal) (n124 I)
/-- The decayed queries, chunk 5. -/
theorem n125_at (I : Ins) (r : Fin 64) (j : Fin 256) : n125 I (ix2 r j) = cQ (dc I 320) (lc I 320) r j := by
  unfold n125
  pointwise [k0_pay125]
  try simp only [n124_at I, cQ, dc_at, zero_add, ← Nat.add_assoc, Nat.reduceAdd, Nat.reduceMul, zero_mul]
  try rfl
/-- The same value where it is formed in place. -/
theorem n125_at' (I : Ins) (r : Fin 64) (j : Fin 256) : k0_pay125 (F := Ideal) (n124 I) (ix2 r j) = cQ (dc I 320) (lc I 320) r j := n125_at I r j

def n126 (I : Ins) := k0_pay126 (F := Ideal) (n5 I)
/-- The keys, chunk 5. -/
theorem n126_at (I : Ins) (r : Fin 64) (j : Fin 256) : n126 I (ix2 r j) = dc I 320 r (256 + j) := by
  unfold n126
  pointwise [k0_pay126]
  try simp only [n5_at I, dc_at, zero_add, ← Nat.add_assoc, Nat.reduceAdd, Nat.reduceMul, zero_mul]
  try rfl
/-- The same value where it is formed in place. -/
theorem n126_at' (I : Ins) (r : Fin 64) (j : Fin 256) : k0_pay126 (F := Ideal) (n5 I) (ix2 r j) = dc I 320 r (256 + j) := n126_at I r j

def n127 (I : Ins) := k0_pay127 (F := Ideal) (n5 I) (n25 I)
/-- The keys with the decay divided out, chunk 5. -/
theorem n127_at (I : Ins) (r : Fin 64) (j : Fin 256) : n127 I (ix2 r j) = cI (dc I 320) (lc I 320) r j := by
  unfold n127
  pointwise [k0_pay127]
  try simp only [n5_at I, n25_at I, n126_at I, n126_at' I, cI, dc_at, zero_add, ← Nat.add_assoc, Nat.reduceAdd, Nat.reduceMul, zero_mul]
  try rfl
/-- The same value where it is formed in place. -/
theorem n127_at' (I : Ins) (r : Fin 64) (j : Fin 256) : k0_pay127 (F := Ideal) (n5 I) (n25 I) (ix2 r j) = cI (dc I 320) (lc I 320) r j := n127_at I r j

def n128 (I : Ins) := k0_pay128 (F := Ideal) (n5 I) (n25 I) (n123 I)
/-- The keys decayed to the end of the chunk, chunk 5. -/
theorem n128_at (I : Ins) (r : Fin 64) (j : Fin 256) : n128 I (ix2 r j) = cE (dc I 320) (lc I 320) r j := by
  unfold n128
  pointwise [k0_pay128]
  try simp only [n5_at I, n25_at I, n123_at I, n126_at I, n126_at' I, cE, dc_at, zero_add, ← Nat.add_assoc, Nat.reduceAdd, Nat.reduceMul, zero_mul]
  try rfl
/-- The same value where it is formed in place. -/
theorem n128_at' (I : Ins) (r : Fin 64) (j : Fin 256) : k0_pay128 (F := Ideal) (n5 I) (n25 I) (n123 I) (ix2 r j) = cE (dc I 320) (lc I 320) r j := n128_at I r j

def n129 (I : Ins) := k0_pay129 (F := Ideal) (n123 I)
/-- The decay over the chunk, chunk 5. -/
theorem n129_at (I : Ins) (j : Fin 256) : n129 I (ix2 0 j) = cD (lc I 320) j := by
  unfold n129
  pointwise [k0_pay129]
  try simp only [n123_at I, cD, zero_add, ← Nat.add_assoc, Nat.reduceAdd, Nat.reduceMul, zero_mul]
  try rfl
/-- The same value where it is formed in place. -/
theorem n129_at' (I : Ins) (j : Fin 256) : k0_pay129 (F := Ideal) (n123 I) (ix2 0 j) = cD (lc I 320) j := n129_at I j

def n130 (I : Ins) := k0_pay130 (F := Ideal) (n124 I)
/-- Two heads of the decayed queries, chunk 5, heads 0 and 1. -/
theorem n130_at (I : Ins) (r : Fin 64) (j : Fin 128) : n130 I (ix2 r j) = cQ (dc I 320) (lc I 320) r (j) := by
  unfold n130
  pointwise [k0_pay130]
  try simp only [n124_at I, n125_at I, n125_at' I, zero_add, ← Nat.add_assoc, Nat.reduceAdd, Nat.reduceMul, zero_mul]
  try rfl

def n131 (I : Ins) := k0_pay131 (F := Ideal) (n123 I)
/-- Two heads of the decay, chunk 5, heads 0 and 1. -/
theorem n131_at (I : Ins) (j : Fin 128) : n131 I (ix2 0 j) = cD (lc I 320) (j) := by
  unfold n131
  pointwise [k0_pay131]
  try simp only [n123_at I, n129_at I, n129_at' I, zero_add, ← Nat.add_assoc, Nat.reduceAdd, Nat.reduceMul, zero_mul]
  try rfl

def n132 (I : Ins) := k0_pay132 (F := Ideal) (n5 I) k0_pay14 (k0_pay17 (F := Ideal)) (n25 I)
/-- Two heads of the keys, stacked, chunk 5, heads 0 and 1. -/
theorem n132_at (I : Ins) (r : Fin 128) (j : Fin 128) : n132 I (ix2 r j) = kk (fun r a => cI (dc I 320) (lc I 320) r (a)) r j := by
  unfold n132
  pointwise [k0_pay132, k0_pay17]
  try simp only [n5_at I, n25_at I, n127_at I, n127_at' I, mask_keys, select_bit, kk, lo, hi, zero_add, ← Nat.add_assoc, Nat.reduceAdd, Nat.reduceMul, zero_mul]
  try rfl

def n133 (I : Ins) := k0_pay133 (F := Ideal) (n6 I) k0_pay15 (k0_pay18 (F := Ideal))
/-- Two heads of the values, stacked, chunk 5, heads 0 and 1. -/
theorem n133_at (I : Ins) (r : Fin 128) (j : Fin 256) : n133 I (ix2 r j) = vv (fun r e => dc I 320 r (512 + e)) r j := by
  unfold n133
  pointwise [k0_pay133, k0_pay18]
  try simp only [n6_at I, mask_vals, select_bit, vv, dc_at, zero_add, ← Nat.add_assoc, Nat.reduceAdd, Nat.reduceMul, zero_mul]
  try rfl

def n134 (I : Ins) := k0_pay134 (F := Ideal) (n5 I) k0_pay14 (k0_pay17 (F := Ideal)) (n25 I) (n123 I)
/-- One head of the decayed keys, chunk 5, head 0. -/
theorem n134_at (I : Ins) (r : Fin 64) (j : Fin 128) : n134 I (ix2 r j) = lo ((fun r a => cE (dc I 320) (lc I 320) r (a)) r) j := by
  unfold n134
  pointwise [k0_pay134, k0_pay17]
  try simp only [n5_at I, n25_at I, n123_at I, n128_at I, n128_at' I, mask_keys, select_bit, lo, zero_add, ← Nat.add_assoc, Nat.reduceAdd, Nat.reduceMul, zero_mul]
  try rfl

def n135 (I : Ins) := k0_pay135 (F := Ideal) (n5 I) k0_pay14 (k0_pay17 (F := Ideal)) (n25 I) (n123 I)
/-- One head of the decayed keys, chunk 5, head 1. -/
theorem n135_at (I : Ins) (r : Fin 64) (j : Fin 128) : n135 I (ix2 r j) = hi ((fun r a => cE (dc I 320) (lc I 320) r (a)) r) j := by
  unfold n135
  pointwise [k0_pay135, k0_pay17]
  try simp only [n5_at I, n25_at I, n123_at I, n128_at I, n128_at' I, mask_keys, select_bit, hi, zero_add, ← Nat.add_assoc, Nat.reduceAdd, Nat.reduceMul, zero_mul]
  try rfl

def n136 (I : Ins) := k0_pay136 (F := Ideal) (n124 I)
/-- Two heads of the decayed queries, chunk 5, heads 2 and 3. -/
theorem n136_at (I : Ins) (r : Fin 64) (j : Fin 128) : n136 I (ix2 r j) = cQ (dc I 320) (lc I 320) r (128 + j) := by
  unfold n136
  pointwise [k0_pay136]
  try simp only [n124_at I, n125_at I, n125_at' I, zero_add, ← Nat.add_assoc, Nat.reduceAdd, Nat.reduceMul, zero_mul]
  try rfl

def n137 (I : Ins) := k0_pay137 (F := Ideal) (n123 I)
/-- Two heads of the decay, chunk 5, heads 2 and 3. -/
theorem n137_at (I : Ins) (j : Fin 128) : n137 I (ix2 0 j) = cD (lc I 320) (128 + j) := by
  unfold n137
  pointwise [k0_pay137]
  try simp only [n123_at I, n129_at I, n129_at' I, zero_add, ← Nat.add_assoc, Nat.reduceAdd, Nat.reduceMul, zero_mul]
  try rfl

def n138 (I : Ins) := k0_pay138 (F := Ideal) (n5 I) k0_pay14 (k0_pay17 (F := Ideal)) (n25 I)
/-- Two heads of the keys, stacked, chunk 5, heads 2 and 3. -/
theorem n138_at (I : Ins) (r : Fin 128) (j : Fin 128) : n138 I (ix2 r j) = kk (fun r a => cI (dc I 320) (lc I 320) r (128 + a)) r j := by
  unfold n138
  pointwise [k0_pay138, k0_pay17]
  try simp only [n5_at I, n25_at I, n127_at I, n127_at' I, mask_keys, select_bit, kk, lo, hi, zero_add, ← Nat.add_assoc, Nat.reduceAdd, Nat.reduceMul, zero_mul]
  try rfl

def n139 (I : Ins) := k0_pay139 (F := Ideal) (n6 I) k0_pay15 (k0_pay18 (F := Ideal))
/-- Two heads of the values, stacked, chunk 5, heads 2 and 3. -/
theorem n139_at (I : Ins) (r : Fin 128) (j : Fin 256) : n139 I (ix2 r j) = vv (fun r e => dc I 320 r (768 + e)) r j := by
  unfold n139
  pointwise [k0_pay139, k0_pay18]
  try simp only [n6_at I, mask_vals, select_bit, vv, dc_at, zero_add, ← Nat.add_assoc, Nat.reduceAdd, Nat.reduceMul, zero_mul]
  try rfl

def n140 (I : Ins) := k0_pay140 (F := Ideal) (n5 I) k0_pay14 (k0_pay17 (F := Ideal)) (n25 I) (n123 I)
/-- One head of the decayed keys, chunk 5, head 2. -/
theorem n140_at (I : Ins) (r : Fin 64) (j : Fin 128) : n140 I (ix2 r j) = lo ((fun r a => cE (dc I 320) (lc I 320) r (128 + a)) r) j := by
  unfold n140
  pointwise [k0_pay140, k0_pay17]
  try simp only [n5_at I, n25_at I, n123_at I, n128_at I, n128_at' I, mask_keys, select_bit, lo, zero_add, ← Nat.add_assoc, Nat.reduceAdd, Nat.reduceMul, zero_mul]
  try rfl

def n141 (I : Ins) := k0_pay141 (F := Ideal) (n5 I) k0_pay14 (k0_pay17 (F := Ideal)) (n25 I) (n123 I)
/-- One head of the decayed keys, chunk 5, head 3. -/
theorem n141_at (I : Ins) (r : Fin 64) (j : Fin 128) : n141 I (ix2 r j) = hi ((fun r a => cE (dc I 320) (lc I 320) r (128 + a)) r) j := by
  unfold n141
  pointwise [k0_pay141, k0_pay17]
  try simp only [n5_at I, n25_at I, n123_at I, n128_at I, n128_at' I, mask_keys, select_bit, hi, zero_add, ← Nat.add_assoc, Nat.reduceAdd, Nat.reduceMul, zero_mul]
  try rfl

def n142 (I : Ins) := k0_pay142 (F := Ideal) (n26 I)
/-- The last running sum, chunk 6. -/
theorem n142_at (I : Ins) (j : Fin 256) : n142 I (ix2 0 j) = cB (lc I 384) 63 j := by
  unfold n142
  pointwise [k0_pay142]
  try simp only [n26_at I, zero_add, ← Nat.add_assoc, Nat.reduceAdd, Nat.reduceMul, zero_mul]
  try rfl
/-- The same value where it is formed in place. -/
theorem n142_at' (I : Ins) (j : Fin 256) : k0_pay142 (F := Ideal) (n26 I) (ix2 0 j) = cB (lc I 384) 63 j := n142_at I j

def n143 (I : Ins) := k0_pay143 (F := Ideal) (n5 I) (n26 I)
/-- The decayed queries, chunk 6. -/
theorem n143_at (I : Ins) (r : Fin 64) (j : Fin 256) : n143 I (ix2 r j) = cQ (dc I 384) (lc I 384) r j := by
  unfold n143
  pointwise [k0_pay143]
  try simp only [n5_at I, n26_at I, cQ, dc_at, zero_add, ← Nat.add_assoc, Nat.reduceAdd, Nat.reduceMul, zero_mul]
  try rfl

def n144 (I : Ins) := k0_pay144 (F := Ideal) (n5 I)
/-- The keys, chunk 6. -/
theorem n144_at (I : Ins) (r : Fin 64) (j : Fin 256) : n144 I (ix2 r j) = dc I 384 r (256 + j) := by
  unfold n144
  pointwise [k0_pay144]
  try simp only [n5_at I, dc_at, zero_add, ← Nat.add_assoc, Nat.reduceAdd, Nat.reduceMul, zero_mul]
  try rfl
/-- The same value where it is formed in place. -/
theorem n144_at' (I : Ins) (r : Fin 64) (j : Fin 256) : k0_pay144 (F := Ideal) (n5 I) (ix2 r j) = dc I 384 r (256 + j) := n144_at I r j

def n145 (I : Ins) := k0_pay145 (F := Ideal) (n5 I) (n26 I)
/-- The keys with the decay divided out, chunk 6. -/
theorem n145_at (I : Ins) (r : Fin 64) (j : Fin 256) : n145 I (ix2 r j) = cI (dc I 384) (lc I 384) r j := by
  unfold n145
  pointwise [k0_pay145]
  try simp only [n5_at I, n26_at I, n144_at I, n144_at' I, cI, dc_at, zero_add, ← Nat.add_assoc, Nat.reduceAdd, Nat.reduceMul, zero_mul]
  try rfl

def n146 (I : Ins) := k0_pay146 (F := Ideal) (n26 I)
/-- The last running sum, on every row, chunk 6. -/
theorem n146_at (I : Ins) (r : Fin 64) (j : Fin 256) : n146 I (ix2 r j) = cB (lc I 384) 63 j := by
  unfold n146
  pointwise [k0_pay146]
  try simp only [n26_at I, n142_at I, n142_at' I, zero_add, ← Nat.add_assoc, Nat.reduceAdd, Nat.reduceMul, zero_mul]
  try rfl

def n147 (I : Ins) := k0_pay147 (F := Ideal) (n26 I) (n144 I) (n146 I)
/-- The keys decayed to the end of the chunk, chunk 6. -/
theorem n147_at (I : Ins) (r : Fin 64) (j : Fin 256) : n147 I (ix2 r j) = cE (dc I 384) (lc I 384) r j := by
  unfold n147
  pointwise [k0_pay147]
  try simp only [n26_at I, n144_at I, n146_at I, cE, dc_at, zero_add, ← Nat.add_assoc, Nat.reduceAdd, Nat.reduceMul, zero_mul]
  try rfl
/-- The same value where it is formed in place. -/
theorem n147_at' (I : Ins) (r : Fin 64) (j : Fin 256) : k0_pay147 (F := Ideal) (n26 I) (n144 I) (n146 I) (ix2 r j) = cE (dc I 384) (lc I 384) r j := n147_at I r j

def n148 (I : Ins) := k0_pay148 (F := Ideal) (n142 I)
/-- The decay over the chunk, chunk 6. -/
theorem n148_at (I : Ins) (j : Fin 256) : n148 I (ix2 0 j) = cD (lc I 384) j := by
  unfold n148
  pointwise [k0_pay148]
  try simp only [n142_at I, cD, zero_add, ← Nat.add_assoc, Nat.reduceAdd, Nat.reduceMul, zero_mul]
  try rfl
/-- The same value where it is formed in place. -/
theorem n148_at' (I : Ins) (j : Fin 256) : k0_pay148 (F := Ideal) (n142 I) (ix2 0 j) = cD (lc I 384) j := n148_at I j

def n149 (I : Ins) := k0_pay149 (F := Ideal) (n143 I)
/-- Two heads of the decayed queries, chunk 6, heads 0 and 1. -/
theorem n149_at (I : Ins) (r : Fin 64) (j : Fin 128) : n149 I (ix2 r j) = cQ (dc I 384) (lc I 384) r (j) := by
  unfold n149
  pointwise [k0_pay149]
  try simp only [n143_at I, zero_add, ← Nat.add_assoc, Nat.reduceAdd, Nat.reduceMul, zero_mul]
  try rfl

def n150 (I : Ins) := k0_pay150 (F := Ideal) (n142 I)
/-- Two heads of the decay, chunk 6, heads 0 and 1. -/
theorem n150_at (I : Ins) (j : Fin 128) : n150 I (ix2 0 j) = cD (lc I 384) (j) := by
  unfold n150
  pointwise [k0_pay150]
  try simp only [n142_at I, n148_at I, n148_at' I, zero_add, ← Nat.add_assoc, Nat.reduceAdd, Nat.reduceMul, zero_mul]
  try rfl

def n151 (I : Ins) := k0_pay151 (F := Ideal) k0_pay14 (k0_pay17 (F := Ideal)) (n145 I)
/-- Two heads of the keys, stacked, chunk 6, heads 0 and 1. -/
theorem n151_at (I : Ins) (r : Fin 128) (j : Fin 128) : n151 I (ix2 r j) = kk (fun r a => cI (dc I 384) (lc I 384) r (a)) r j := by
  unfold n151
  pointwise [k0_pay151, k0_pay17]
  try simp only [n145_at I, mask_keys, select_bit, kk, lo, hi, zero_add, ← Nat.add_assoc, Nat.reduceAdd, Nat.reduceMul, zero_mul]
  try rfl

def n152 (I : Ins) := k0_pay152 (F := Ideal) (n6 I) k0_pay15 (k0_pay18 (F := Ideal))
/-- Two heads of the values, stacked, chunk 6, heads 0 and 1. -/
theorem n152_at (I : Ins) (r : Fin 128) (j : Fin 256) : n152 I (ix2 r j) = vv (fun r e => dc I 384 r (512 + e)) r j := by
  unfold n152
  pointwise [k0_pay152, k0_pay18]
  try simp only [n6_at I, mask_vals, select_bit, vv, dc_at, zero_add, ← Nat.add_assoc, Nat.reduceAdd, Nat.reduceMul, zero_mul]
  try rfl

def n153 (I : Ins) := k0_pay153 (F := Ideal) k0_pay14 (k0_pay17 (F := Ideal)) (n26 I) (n144 I) (n146 I)
/-- One head of the decayed keys, chunk 6, head 0. -/
theorem n153_at (I : Ins) (r : Fin 64) (j : Fin 128) : n153 I (ix2 r j) = lo ((fun r a => cE (dc I 384) (lc I 384) r (a)) r) j := by
  unfold n153
  pointwise [k0_pay153, k0_pay17]
  try simp only [n26_at I, n144_at I, n146_at I, n147_at I, n147_at' I, mask_keys, select_bit, lo, zero_add, ← Nat.add_assoc, Nat.reduceAdd, Nat.reduceMul, zero_mul]
  try rfl

def n154 (I : Ins) := k0_pay154 (F := Ideal) k0_pay14 (k0_pay17 (F := Ideal)) (n26 I) (n144 I) (n146 I)
/-- One head of the decayed keys, chunk 6, head 1. -/
theorem n154_at (I : Ins) (r : Fin 64) (j : Fin 128) : n154 I (ix2 r j) = hi ((fun r a => cE (dc I 384) (lc I 384) r (a)) r) j := by
  unfold n154
  pointwise [k0_pay154, k0_pay17]
  try simp only [n26_at I, n144_at I, n146_at I, n147_at I, n147_at' I, mask_keys, select_bit, hi, zero_add, ← Nat.add_assoc, Nat.reduceAdd, Nat.reduceMul, zero_mul]
  try rfl

def n155 (I : Ins) := k0_pay155 (F := Ideal) (n143 I)
/-- Two heads of the decayed queries, chunk 6, heads 2 and 3. -/
theorem n155_at (I : Ins) (r : Fin 64) (j : Fin 128) : n155 I (ix2 r j) = cQ (dc I 384) (lc I 384) r (128 + j) := by
  unfold n155
  pointwise [k0_pay155]
  try simp only [n143_at I, zero_add, ← Nat.add_assoc, Nat.reduceAdd, Nat.reduceMul, zero_mul]
  try rfl

def n156 (I : Ins) := k0_pay156 (F := Ideal) (n142 I)
/-- Two heads of the decay, chunk 6, heads 2 and 3. -/
theorem n156_at (I : Ins) (j : Fin 128) : n156 I (ix2 0 j) = cD (lc I 384) (128 + j) := by
  unfold n156
  pointwise [k0_pay156]
  try simp only [n142_at I, n148_at I, n148_at' I, zero_add, ← Nat.add_assoc, Nat.reduceAdd, Nat.reduceMul, zero_mul]
  try rfl

def n157 (I : Ins) := k0_pay157 (F := Ideal) k0_pay14 (k0_pay17 (F := Ideal)) (n145 I)
/-- Two heads of the keys, stacked, chunk 6, heads 2 and 3. -/
theorem n157_at (I : Ins) (r : Fin 128) (j : Fin 128) : n157 I (ix2 r j) = kk (fun r a => cI (dc I 384) (lc I 384) r (128 + a)) r j := by
  unfold n157
  pointwise [k0_pay157, k0_pay17]
  try simp only [n145_at I, mask_keys, select_bit, kk, lo, hi, zero_add, ← Nat.add_assoc, Nat.reduceAdd, Nat.reduceMul, zero_mul]
  try rfl

def n158 (I : Ins) := k0_pay158 (F := Ideal) (n6 I) k0_pay15 (k0_pay18 (F := Ideal))
/-- Two heads of the values, stacked, chunk 6, heads 2 and 3. -/
theorem n158_at (I : Ins) (r : Fin 128) (j : Fin 256) : n158 I (ix2 r j) = vv (fun r e => dc I 384 r (768 + e)) r j := by
  unfold n158
  pointwise [k0_pay158, k0_pay18]
  try simp only [n6_at I, mask_vals, select_bit, vv, dc_at, zero_add, ← Nat.add_assoc, Nat.reduceAdd, Nat.reduceMul, zero_mul]
  try rfl

def n159 (I : Ins) := k0_pay159 (F := Ideal) k0_pay14 (k0_pay17 (F := Ideal)) (n26 I) (n144 I) (n146 I)
/-- One head of the decayed keys, chunk 6, head 2. -/
theorem n159_at (I : Ins) (r : Fin 64) (j : Fin 128) : n159 I (ix2 r j) = lo ((fun r a => cE (dc I 384) (lc I 384) r (128 + a)) r) j := by
  unfold n159
  pointwise [k0_pay159, k0_pay17]
  try simp only [n26_at I, n144_at I, n146_at I, n147_at I, n147_at' I, mask_keys, select_bit, lo, zero_add, ← Nat.add_assoc, Nat.reduceAdd, Nat.reduceMul, zero_mul]
  try rfl

def n160 (I : Ins) := k0_pay160 (F := Ideal) k0_pay14 (k0_pay17 (F := Ideal)) (n26 I) (n144 I) (n146 I)
/-- One head of the decayed keys, chunk 6, head 3. -/
theorem n160_at (I : Ins) (r : Fin 64) (j : Fin 128) : n160 I (ix2 r j) = hi ((fun r a => cE (dc I 384) (lc I 384) r (128 + a)) r) j := by
  unfold n160
  pointwise [k0_pay160, k0_pay17]
  try simp only [n26_at I, n144_at I, n146_at I, n147_at I, n147_at' I, mask_keys, select_bit, hi, zero_add, ← Nat.add_assoc, Nat.reduceAdd, Nat.reduceMul, zero_mul]
  try rfl

def n161 (I : Ins) := k0_pay161 (F := Ideal) (n27 I)
/-- The last running sum, chunk 7. -/
theorem n161_at (I : Ins) (j : Fin 256) : n161 I (ix2 0 j) = cB (lc I 448) 63 j := by
  unfold n161
  pointwise [k0_pay161]
  try simp only [n27_at I, zero_add, ← Nat.add_assoc, Nat.reduceAdd, Nat.reduceMul, zero_mul]
  try rfl
/-- The same value where it is formed in place. -/
theorem n161_at' (I : Ins) (j : Fin 256) : k0_pay161 (F := Ideal) (n27 I) (ix2 0 j) = cB (lc I 448) 63 j := n161_at I j

def n162 (I : Ins) := k0_pay162 (F := Ideal) (n5 I) (n27 I)
/-- The decayed queries, chunk 7. -/
theorem n162_at (I : Ins) (r : Fin 64) (j : Fin 256) : n162 I (ix2 r j) = cQ (dc I 448) (lc I 448) r j := by
  unfold n162
  pointwise [k0_pay162]
  try simp only [n5_at I, n27_at I, cQ, dc_at, zero_add, ← Nat.add_assoc, Nat.reduceAdd, Nat.reduceMul, zero_mul]
  try rfl
/-- The same value where it is formed in place. -/
theorem n162_at' (I : Ins) (r : Fin 64) (j : Fin 256) : k0_pay162 (F := Ideal) (n5 I) (n27 I) (ix2 r j) = cQ (dc I 448) (lc I 448) r j := n162_at I r j

def n163 (I : Ins) := k0_pay163 (F := Ideal) (n5 I)
/-- The keys, chunk 7. -/
theorem n163_at (I : Ins) (r : Fin 64) (j : Fin 256) : n163 I (ix2 r j) = dc I 448 r (256 + j) := by
  unfold n163
  pointwise [k0_pay163]
  try simp only [n5_at I, dc_at, zero_add, ← Nat.add_assoc, Nat.reduceAdd, Nat.reduceMul, zero_mul]
  try rfl
/-- The same value where it is formed in place. -/
theorem n163_at' (I : Ins) (r : Fin 64) (j : Fin 256) : k0_pay163 (F := Ideal) (n5 I) (ix2 r j) = dc I 448 r (256 + j) := n163_at I r j

def n164 (I : Ins) := k0_pay164 (F := Ideal) (n5 I) (n27 I)
/-- The keys with the decay divided out, chunk 7. -/
theorem n164_at (I : Ins) (r : Fin 64) (j : Fin 256) : n164 I (ix2 r j) = cI (dc I 448) (lc I 448) r j := by
  unfold n164
  pointwise [k0_pay164]
  try simp only [n5_at I, n27_at I, n163_at I, n163_at' I, cI, dc_at, zero_add, ← Nat.add_assoc, Nat.reduceAdd, Nat.reduceMul, zero_mul]
  try rfl
/-- The same value where it is formed in place. -/
theorem n164_at' (I : Ins) (r : Fin 64) (j : Fin 256) : k0_pay164 (F := Ideal) (n5 I) (n27 I) (ix2 r j) = cI (dc I 448) (lc I 448) r j := n164_at I r j

def n165 (I : Ins) := k0_pay165 (F := Ideal) (n5 I) (n27 I)
/-- The keys decayed to the end of the chunk, chunk 7. -/
theorem n165_at (I : Ins) (r : Fin 64) (j : Fin 256) : n165 I (ix2 r j) = cE (dc I 448) (lc I 448) r j := by
  unfold n165
  pointwise [k0_pay165]
  try simp only [n5_at I, n27_at I, n163_at I, n163_at' I, n161_at I, n161_at' I, cE, dc_at, zero_add, ← Nat.add_assoc, Nat.reduceAdd, Nat.reduceMul, zero_mul]
  try rfl

def n166 (I : Ins) := k0_pay166 (F := Ideal) (n27 I)
/-- The decay over the chunk, chunk 7. -/
theorem n166_at (I : Ins) (j : Fin 256) : n166 I (ix2 0 j) = cD (lc I 448) j := by
  unfold n166
  pointwise [k0_pay166]
  try simp only [n27_at I, n161_at I, n161_at' I, cD, zero_add, ← Nat.add_assoc, Nat.reduceAdd, Nat.reduceMul, zero_mul]
  try rfl
/-- The same value where it is formed in place. -/
theorem n166_at' (I : Ins) (j : Fin 256) : k0_pay166 (F := Ideal) (n27 I) (ix2 0 j) = cD (lc I 448) j := n166_at I j

def n167 (I : Ins) := k0_pay167 (F := Ideal) (n5 I) (n27 I)
/-- Two heads of the decayed queries, chunk 7, heads 0 and 1. -/
theorem n167_at (I : Ins) (r : Fin 64) (j : Fin 128) : n167 I (ix2 r j) = cQ (dc I 448) (lc I 448) r (j) := by
  unfold n167
  pointwise [k0_pay167]
  try simp only [n5_at I, n27_at I, n162_at I, n162_at' I, zero_add, ← Nat.add_assoc, Nat.reduceAdd, Nat.reduceMul, zero_mul]
  try rfl

def n168 (I : Ins) := k0_pay168 (F := Ideal) (n27 I)
/-- Two heads of the decay, chunk 7, heads 0 and 1. -/
theorem n168_at (I : Ins) (j : Fin 128) : n168 I (ix2 0 j) = cD (lc I 448) (j) := by
  unfold n168
  pointwise [k0_pay168]
  try simp only [n27_at I, n166_at I, n166_at' I, zero_add, ← Nat.add_assoc, Nat.reduceAdd, Nat.reduceMul, zero_mul]
  try rfl

def n169 (I : Ins) := k0_pay169 (F := Ideal) (n5 I) k0_pay14 (k0_pay17 (F := Ideal)) (n27 I)
/-- The keys of a first head, chunk 7, heads 0 and 1. -/
theorem n169_at (I : Ins) (r : Fin 64) (j : Fin 128) : n169 I (ix2 r j) = lo ((fun r a => cI (dc I 448) (lc I 448) r (a)) r) j := by
  unfold n169
  pointwise [k0_pay169, k0_pay17]
  try simp only [n5_at I, n27_at I, n164_at I, n164_at' I, mask_keys, select_bit, lo, zero_add, ← Nat.add_assoc, Nat.reduceAdd, Nat.reduceMul, zero_mul]
  try rfl

def n170 (I : Ins) := k0_pay170 (F := Ideal) k0_pay14 (k0_pay17 (F := Ideal)) (n164 I) (n169 I)
/-- Two heads of the keys, stacked, chunk 7, heads 0 and 1. -/
theorem n170_at (I : Ins) (r : Fin 128) (j : Fin 128) : n170 I (ix2 r j) = kk (fun r a => cI (dc I 448) (lc I 448) r (a)) r j := by
  unfold n170
  pointwise [k0_pay170, k0_pay17]
  try simp only [n164_at I, n169_at I, mask_keys, select_bit, kk, lo, hi, zero_add, ← Nat.add_assoc, Nat.reduceAdd, Nat.reduceMul, zero_mul]
  try rfl

def n171 (I : Ins) := k0_pay171 (F := Ideal) (n6 I) k0_pay15 (k0_pay18 (F := Ideal))
/-- Two heads of the values, stacked, chunk 7, heads 0 and 1. -/
theorem n171_at (I : Ins) (r : Fin 128) (j : Fin 256) : n171 I (ix2 r j) = vv (fun r e => dc I 448 r (512 + e)) r j := by
  unfold n171
  pointwise [k0_pay171, k0_pay18]
  try simp only [n6_at I, mask_vals, select_bit, vv, dc_at, zero_add, ← Nat.add_assoc, Nat.reduceAdd, Nat.reduceMul, zero_mul]
  try rfl

def n172 (I : Ins) := k0_pay172 (F := Ideal) k0_pay14 (k0_pay17 (F := Ideal)) (n165 I)
/-- One head of the decayed keys, chunk 7, head 0. -/
theorem n172_at (I : Ins) (r : Fin 64) (j : Fin 128) : n172 I (ix2 r j) = lo ((fun r a => cE (dc I 448) (lc I 448) r (a)) r) j := by
  unfold n172
  pointwise [k0_pay172, k0_pay17]
  try simp only [n165_at I, mask_keys, select_bit, lo, zero_add, ← Nat.add_assoc, Nat.reduceAdd, Nat.reduceMul, zero_mul]
  try rfl

def n173 (I : Ins) := k0_pay173 (F := Ideal) k0_pay14 (k0_pay17 (F := Ideal)) (n165 I)
/-- One head of the decayed keys, chunk 7, head 1. -/
theorem n173_at (I : Ins) (r : Fin 64) (j : Fin 128) : n173 I (ix2 r j) = hi ((fun r a => cE (dc I 448) (lc I 448) r (a)) r) j := by
  unfold n173
  pointwise [k0_pay173, k0_pay17]
  try simp only [n165_at I, mask_keys, select_bit, hi, zero_add, ← Nat.add_assoc, Nat.reduceAdd, Nat.reduceMul, zero_mul]
  try rfl

def n174 (I : Ins) := k0_pay174 (F := Ideal) (n162 I)
/-- Two heads of the decayed queries, chunk 7, heads 2 and 3. -/
theorem n174_at (I : Ins) (r : Fin 64) (j : Fin 128) : n174 I (ix2 r j) = cQ (dc I 448) (lc I 448) r (128 + j) := by
  unfold n174
  pointwise [k0_pay174]
  try simp only [n162_at I, zero_add, ← Nat.add_assoc, Nat.reduceAdd, Nat.reduceMul, zero_mul]
  try rfl

def n175 (I : Ins) := k0_pay175 (F := Ideal) (n166 I)
/-- Two heads of the decay, chunk 7, heads 2 and 3. -/
theorem n175_at (I : Ins) (j : Fin 128) : n175 I (ix2 0 j) = cD (lc I 448) (128 + j) := by
  unfold n175
  pointwise [k0_pay175]
  try simp only [n166_at I, zero_add, ← Nat.add_assoc, Nat.reduceAdd, Nat.reduceMul, zero_mul]
  try rfl

def n176 (I : Ins) := k0_pay176 (F := Ideal) k0_pay14 (k0_pay17 (F := Ideal)) (n164 I)
/-- Two heads of the keys, stacked, chunk 7, heads 2 and 3. -/
theorem n176_at (I : Ins) (r : Fin 128) (j : Fin 128) : n176 I (ix2 r j) = kk (fun r a => cI (dc I 448) (lc I 448) r (128 + a)) r j := by
  unfold n176
  pointwise [k0_pay176, k0_pay17]
  try simp only [n164_at I, mask_keys, select_bit, kk, lo, hi, zero_add, ← Nat.add_assoc, Nat.reduceAdd, Nat.reduceMul, zero_mul]
  try rfl

def n177 (I : Ins) := k0_pay177 (F := Ideal) (n6 I) k0_pay15 (k0_pay18 (F := Ideal))
/-- Two heads of the values, stacked, chunk 7, heads 2 and 3. -/
theorem n177_at (I : Ins) (r : Fin 128) (j : Fin 256) : n177 I (ix2 r j) = vv (fun r e => dc I 448 r (768 + e)) r j := by
  unfold n177
  pointwise [k0_pay177, k0_pay18]
  try simp only [n6_at I, mask_vals, select_bit, vv, dc_at, zero_add, ← Nat.add_assoc, Nat.reduceAdd, Nat.reduceMul, zero_mul]
  try rfl

def n178 (I : Ins) := k0_pay178 (F := Ideal) k0_pay14 (k0_pay17 (F := Ideal)) (n165 I)
/-- One head of the decayed keys, chunk 7, head 2. -/
theorem n178_at (I : Ins) (r : Fin 64) (j : Fin 128) : n178 I (ix2 r j) = lo ((fun r a => cE (dc I 448) (lc I 448) r (128 + a)) r) j := by
  unfold n178
  pointwise [k0_pay178, k0_pay17]
  try simp only [n165_at I, mask_keys, select_bit, lo, zero_add, ← Nat.add_assoc, Nat.reduceAdd, Nat.reduceMul, zero_mul]
  try rfl

def n179 (I : Ins) := k0_pay179 (F := Ideal) k0_pay14 (k0_pay17 (F := Ideal)) (n165 I)
/-- One head of the decayed keys, chunk 7, head 3. -/
theorem n179_at (I : Ins) (r : Fin 64) (j : Fin 128) : n179 I (ix2 r j) = hi ((fun r a => cE (dc I 448) (lc I 448) r (128 + a)) r) j := by
  unfold n179
  pointwise [k0_pay179, k0_pay17]
  try simp only [n165_at I, mask_keys, select_bit, hi, zero_add, ← Nat.add_assoc, Nat.reduceAdd, Nat.reduceMul, zero_mul]
  try rfl

def n181 (I : Ins) := k0_pay181 (F := Ideal) (n35 I) (n37 I)
/-- The scores of two heads, chunk 0, heads 0 and 1. -/
theorem n181_at (I : Ins) (r : Fin 64) (j : Fin 128) : n181 I (ix2 r j) = ss (fun r a => cQ (dc I 0) (lc I 0) r (a)) (fun r a => cI (dc I 0) (lc I 0) r (a)) r j := by
  unfold n181
  pointwise [k0_pay181]
  simp only [n35_at I, n37_at I, zero_add, ← Nat.add_assoc, Nat.reduceAdd, Nat.reduceMul, zero_mul]
  exact ss_of (fun r a => cQ (dc I 0) (lc I 0) r (a)) (fun r a => cI (dc I 0) (lc I 0) r (a)) r j

def n182 (I : Ins) := k0_pay182 (F := Ideal) (n41 I) (n43 I)
/-- The scores of two heads, chunk 0, heads 2 and 3. -/
theorem n182_at (I : Ins) (r : Fin 64) (j : Fin 128) : n182 I (ix2 r j) = ss (fun r a => cQ (dc I 0) (lc I 0) r (128 + a)) (fun r a => cI (dc I 0) (lc I 0) r (128 + a)) r j := by
  unfold n182
  pointwise [k0_pay182]
  simp only [n41_at I, n43_at I, zero_add, ← Nat.add_assoc, Nat.reduceAdd, Nat.reduceMul, zero_mul]
  exact ss_of (fun r a => cQ (dc I 0) (lc I 0) r (128 + a)) (fun r a => cI (dc I 0) (lc I 0) r (128 + a)) r j

def n183 (I : Ins) := k0_pay183 (F := Ideal) (n6 I) (n39 I)
/-- What the chunk adds to the state of one head, chunk 0, head 0. -/
theorem n183_at (I : Ins) (r : Fin 128) (j : Fin 128) : n183 I (ix2 r j) = lo (fun a => cK (dc I 0) (lc I 0) 0 r (a)) j := by
  unfold n183
  pointwise [k0_pay183]
  simp only [n6_at I, n39_at I, zero_add, ← Nat.add_assoc, Nat.reduceAdd, Nat.reduceMul, zero_mul]
  refine Eq.trans ?_ (lo_sum (fun l => dc I 0 l (512 + 128 * 0 + r)) (fun r a => cE (dc I 0) (lc I 0) r (a)) j)
  simp only [dc_at, zero_add, ← Nat.add_assoc, Nat.reduceAdd, Nat.reduceMul, zero_mul]

def n184 (I : Ins) := k0_pay184 (F := Ideal) (n6 I) (n40 I)
/-- What the chunk adds to the state of one head, chunk 0, head 1. -/
theorem n184_at (I : Ins) (r : Fin 128) (j : Fin 128) : n184 I (ix2 r j) = hi (fun a => cK (dc I 0) (lc I 0) 1 r (a)) j := by
  unfold n184
  pointwise [k0_pay184]
  simp only [n6_at I, n40_at I, zero_add, ← Nat.add_assoc, Nat.reduceAdd, Nat.reduceMul, zero_mul]
  refine Eq.trans ?_ (hi_sum (fun l => dc I 0 l (512 + 128 * 1 + r)) (fun r a => cE (dc I 0) (lc I 0) r (a)) j)
  simp only [dc_at, zero_add, ← Nat.add_assoc, Nat.reduceAdd, Nat.reduceMul, zero_mul]

def n185 (I : Ins) := k0_pay185 (F := Ideal) (n6 I) (n45 I)
/-- What the chunk adds to the state of one head, chunk 0, head 2. -/
theorem n185_at (I : Ins) (r : Fin 128) (j : Fin 128) : n185 I (ix2 r j) = lo (fun a => cK (dc I 0) (lc I 0) 2 r (128 + a)) j := by
  unfold n185
  pointwise [k0_pay185]
  simp only [n6_at I, n45_at I, zero_add, ← Nat.add_assoc, Nat.reduceAdd, Nat.reduceMul, zero_mul]
  refine Eq.trans ?_ (lo_sum (fun l => dc I 0 l (512 + 128 * 2 + r)) (fun r a => cE (dc I 0) (lc I 0) r (128 + a)) j)
  simp only [dc_at, zero_add, ← Nat.add_assoc, Nat.reduceAdd, Nat.reduceMul, zero_mul]

def n186 (I : Ins) := k0_pay186 (F := Ideal) (n6 I) (n46 I)
/-- What the chunk adds to the state of one head, chunk 0, head 3. -/
theorem n186_at (I : Ins) (r : Fin 128) (j : Fin 128) : n186 I (ix2 r j) = hi (fun a => cK (dc I 0) (lc I 0) 3 r (128 + a)) j := by
  unfold n186
  pointwise [k0_pay186]
  simp only [n6_at I, n46_at I, zero_add, ← Nat.add_assoc, Nat.reduceAdd, Nat.reduceMul, zero_mul]
  refine Eq.trans ?_ (hi_sum (fun l => dc I 0 l (512 + 128 * 3 + r)) (fun r a => cE (dc I 0) (lc I 0) r (128 + a)) j)
  simp only [dc_at, zero_add, ← Nat.add_assoc, Nat.reduceAdd, Nat.reduceMul, zero_mul]

def n187 (I : Ins) := k0_pay187 (F := Ideal) (n53 I) (n55 I)
/-- The scores of two heads, chunk 1, heads 0 and 1. -/
theorem n187_at (I : Ins) (r : Fin 64) (j : Fin 128) : n187 I (ix2 r j) = ss (fun r a => cQ (dc I 64) (lc I 64) r (a)) (fun r a => cI (dc I 64) (lc I 64) r (a)) r j := by
  unfold n187
  pointwise [k0_pay187]
  simp only [n53_at I, n55_at I, zero_add, ← Nat.add_assoc, Nat.reduceAdd, Nat.reduceMul, zero_mul]
  exact ss_of (fun r a => cQ (dc I 64) (lc I 64) r (a)) (fun r a => cI (dc I 64) (lc I 64) r (a)) r j

def n188 (I : Ins) := k0_pay188 (F := Ideal) (n62 I) (n64 I)
/-- The scores of two heads, chunk 1, heads 2 and 3. -/
theorem n188_at (I : Ins) (r : Fin 64) (j : Fin 128) : n188 I (ix2 r j) = ss (fun r a => cQ (dc I 64) (lc I 64) r (128 + a)) (fun r a => cI (dc I 64) (lc I 64) r (128 + a)) r j := by
  unfold n188
  pointwise [k0_pay188]
  simp only [n62_at I, n64_at I, zero_add, ← Nat.add_assoc, Nat.reduceAdd, Nat.reduceMul, zero_mul]
  exact ss_of (fun r a => cQ (dc I 64) (lc I 64) r (128 + a)) (fun r a => cI (dc I 64) (lc I 64) r (128 + a)) r j

def n189 (I : Ins) := k0_pay189 (F := Ideal) (n6 I) (n60 I)
/-- What the chunk adds to the state of one head, chunk 1, head 0. -/
theorem n189_at (I : Ins) (r : Fin 128) (j : Fin 128) : n189 I (ix2 r j) = lo (fun a => cK (dc I 64) (lc I 64) 0 r (a)) j := by
  unfold n189
  pointwise [k0_pay189]
  simp only [n6_at I, n60_at I, zero_add, ← Nat.add_assoc, Nat.reduceAdd, Nat.reduceMul, zero_mul]
  refine Eq.trans ?_ (lo_sum (fun l => dc I 64 l (512 + 128 * 0 + r)) (fun r a => cE (dc I 64) (lc I 64) r (a)) j)
  simp only [dc_at, zero_add, ← Nat.add_assoc, Nat.reduceAdd, Nat.reduceMul, zero_mul]

def n190 (I : Ins) := k0_pay190 (F := Ideal) (n6 I) (n61 I)
/-- What the chunk adds to the state of one head, chunk 1, head 1. -/
theorem n190_at (I : Ins) (r : Fin 128) (j : Fin 128) : n190 I (ix2 r j) = hi (fun a => cK (dc I 64) (lc I 64) 1 r (a)) j := by
  unfold n190
  pointwise [k0_pay190]
  simp only [n6_at I, n61_at I, zero_add, ← Nat.add_assoc, Nat.reduceAdd, Nat.reduceMul, zero_mul]
  refine Eq.trans ?_ (hi_sum (fun l => dc I 64 l (512 + 128 * 1 + r)) (fun r a => cE (dc I 64) (lc I 64) r (a)) j)
  simp only [dc_at, zero_add, ← Nat.add_assoc, Nat.reduceAdd, Nat.reduceMul, zero_mul]

def n191 (I : Ins) := k0_pay191 (F := Ideal) (n6 I)
/-- One head of the values, chunk 1, head 2. -/
theorem n191_at (I : Ins) (r : Fin 64) (j : Fin 128) : n191 I (ix2 r j) = dc I 64 r (768 + j) := by
  unfold n191
  pointwise [k0_pay191]
  try simp only [n6_at I, dc_at, zero_add, ← Nat.add_assoc, Nat.reduceAdd, Nat.reduceMul, zero_mul]
  try rfl

def n192 (I : Ins) := k0_pay192 (F := Ideal) (n66 I) (n191 I) (constant S128x128 .f32 0x00000000#32)
/-- What the chunk adds to the state of one head, chunk 1, head 2. -/
theorem n192_at (I : Ins) (r : Fin 128) (j : Fin 128) : n192 I (ix2 r j) = lo (fun a => cK (dc I 64) (lc I 64) 2 r (128 + a)) j := by
  unfold n192
  pointwise [k0_pay192]
  simp only [n66_at I, n191_at I, zero_add, ← Nat.add_assoc, Nat.reduceAdd, Nat.reduceMul, zero_mul]
  refine Eq.trans ?_ (lo_sum (fun l => dc I 64 l (512 + 128 * 2 + r)) (fun r a => cE (dc I 64) (lc I 64) r (128 + a)) j)
  simp only [dc_at, zero_add, ← Nat.add_assoc, Nat.reduceAdd, Nat.reduceMul, zero_mul]

def n193 (I : Ins) := k0_pay193 (F := Ideal) (n6 I) (n67 I)
/-- What the chunk adds to the state of one head, chunk 1, head 3. -/
theorem n193_at (I : Ins) (r : Fin 128) (j : Fin 128) : n193 I (ix2 r j) = hi (fun a => cK (dc I 64) (lc I 64) 3 r (128 + a)) j := by
  unfold n193
  pointwise [k0_pay193]
  simp only [n6_at I, n67_at I, zero_add, ← Nat.add_assoc, Nat.reduceAdd, Nat.reduceMul, zero_mul]
  refine Eq.trans ?_ (hi_sum (fun l => dc I 64 l (512 + 128 * 3 + r)) (fun r a => cE (dc I 64) (lc I 64) r (128 + a)) j)
  simp only [dc_at, zero_add, ← Nat.add_assoc, Nat.reduceAdd, Nat.reduceMul, zero_mul]

def n194 (I : Ins) := k0_pay194 (F := Ideal) (n74 I) (n76 I)
/-- The scores of two heads, chunk 2, heads 0 and 1. -/
theorem n194_at (I : Ins) (r : Fin 64) (j : Fin 128) : n194 I (ix2 r j) = ss (fun r a => cQ (dc I 128) (lc I 128) r (a)) (fun r a => cI (dc I 128) (lc I 128) r (a)) r j := by
  unfold n194
  pointwise [k0_pay194]
  simp only [n74_at I, n76_at I, zero_add, ← Nat.add_assoc, Nat.reduceAdd, Nat.reduceMul, zero_mul]
  exact ss_of (fun r a => cQ (dc I 128) (lc I 128) r (a)) (fun r a => cI (dc I 128) (lc I 128) r (a)) r j

def n195 (I : Ins) := k0_pay195 (F := Ideal) (n80 I) (n83 I)
/-- The scores of two heads, chunk 2, heads 2 and 3. -/
theorem n195_at (I : Ins) (r : Fin 64) (j : Fin 128) : n195 I (ix2 r j) = ss (fun r a => cQ (dc I 128) (lc I 128) r (128 + a)) (fun r a => cI (dc I 128) (lc I 128) r (128 + a)) r j := by
  unfold n195
  pointwise [k0_pay195]
  simp only [n80_at I, n83_at I, zero_add, ← Nat.add_assoc, Nat.reduceAdd, Nat.reduceMul, zero_mul]
  exact ss_of (fun r a => cQ (dc I 128) (lc I 128) r (128 + a)) (fun r a => cI (dc I 128) (lc I 128) r (128 + a)) r j

def n196 (I : Ins) := k0_pay196 (F := Ideal) (n6 I) (n78 I)
/-- What the chunk adds to the state of one head, chunk 2, head 0. -/
theorem n196_at (I : Ins) (r : Fin 128) (j : Fin 128) : n196 I (ix2 r j) = lo (fun a => cK (dc I 128) (lc I 128) 0 r (a)) j := by
  unfold n196
  pointwise [k0_pay196]
  simp only [n6_at I, n78_at I, zero_add, ← Nat.add_assoc, Nat.reduceAdd, Nat.reduceMul, zero_mul]
  refine Eq.trans ?_ (lo_sum (fun l => dc I 128 l (512 + 128 * 0 + r)) (fun r a => cE (dc I 128) (lc I 128) r (a)) j)
  simp only [dc_at, zero_add, ← Nat.add_assoc, Nat.reduceAdd, Nat.reduceMul, zero_mul]

def n197 (I : Ins) := k0_pay197 (F := Ideal) (n6 I) (n79 I)
/-- What the chunk adds to the state of one head, chunk 2, head 1. -/
theorem n197_at (I : Ins) (r : Fin 128) (j : Fin 128) : n197 I (ix2 r j) = hi (fun a => cK (dc I 128) (lc I 128) 1 r (a)) j := by
  unfold n197
  pointwise [k0_pay197]
  simp only [n6_at I, n79_at I, zero_add, ← Nat.add_assoc, Nat.reduceAdd, Nat.reduceMul, zero_mul]
  refine Eq.trans ?_ (hi_sum (fun l => dc I 128 l (512 + 128 * 1 + r)) (fun r a => cE (dc I 128) (lc I 128) r (a)) j)
  simp only [dc_at, zero_add, ← Nat.add_assoc, Nat.reduceAdd, Nat.reduceMul, zero_mul]

def n198 (I : Ins) := k0_pay198 (F := Ideal) (n6 I) (n85 I)
/-- What the chunk adds to the state of one head, chunk 2, head 2. -/
theorem n198_at (I : Ins) (r : Fin 128) (j : Fin 128) : n198 I (ix2 r j) = lo (fun a => cK (dc I 128) (lc I 128) 2 r (128 + a)) j := by
  unfold n198
  pointwise [k0_pay198]
  simp only [n6_at I, n85_at I, zero_add, ← Nat.add_assoc, Nat.reduceAdd, Nat.reduceMul, zero_mul]
  refine Eq.trans ?_ (lo_sum (fun l => dc I 128 l (512 + 128 * 2 + r)) (fun r a => cE (dc I 128) (lc I 128) r (128 + a)) j)
  simp only [dc_at, zero_add, ← Nat.add_assoc, Nat.reduceAdd, Nat.reduceMul, zero_mul]

def n199 (I : Ins) := k0_pay199 (F := Ideal) (n6 I) (n86 I)
/-- What the chunk adds to the state of one head, chunk 2, head 3. -/
theorem n199_at (I : Ins) (r : Fin 128) (j : Fin 128) : n199 I (ix2 r j) = hi (fun a => cK (dc I 128) (lc I 128) 3 r (128 + a)) j := by
  unfold n199
  pointwise [k0_pay199]
  simp only [n6_at I, n86_at I, zero_add, ← Nat.add_assoc, Nat.reduceAdd, Nat.reduceMul, zero_mul]
  refine Eq.trans ?_ (hi_sum (fun l => dc I 128 l (512 + 128 * 3 + r)) (fun r a => cE (dc I 128) (lc I 128) r (128 + a)) j)
  simp only [dc_at, zero_add, ← Nat.add_assoc, Nat.reduceAdd, Nat.reduceMul, zero_mul]

def n200 (I : Ins) := k0_pay200 (F := Ideal) (n93 I) (n95 I)
/-- The scores of two heads, chunk 3, heads 0 and 1. -/
theorem n200_at (I : Ins) (r : Fin 64) (j : Fin 128) : n200 I (ix2 r j) = ss (fun r a => cQ (dc I 192) (lc I 192) r (a)) (fun r a => cI (dc I 192) (lc I 192) r (a)) r j := by
  unfold n200
  pointwise [k0_pay200]
  simp only [n93_at I, n95_at I, zero_add, ← Nat.add_assoc, Nat.reduceAdd, Nat.reduceMul, zero_mul]
  exact ss_of (fun r a => cQ (dc I 192) (lc I 192) r (a)) (fun r a => cI (dc I 192) (lc I 192) r (a)) r j

def n201 (I : Ins) := k0_pay201 (F := Ideal) (n99 I) (n101 I)
/-- The scores of two heads, chunk 3, heads 2 and 3. -/
theorem n201_at (I : Ins) (r : Fin 64) (j : Fin 128) : n201 I (ix2 r j) = ss (fun r a => cQ (dc I 192) (lc I 192) r (128 + a)) (fun r a => cI (dc I 192) (lc I 192) r (128 + a)) r j := by
  unfold n201
  pointwise [k0_pay201]
  simp only [n99_at I, n101_at I, zero_add, ← Nat.add_assoc, Nat.reduceAdd, Nat.reduceMul, zero_mul]
  exact ss_of (fun r a => cQ (dc I 192) (lc I 192) r (128 + a)) (fun r a => cI (dc I 192) (lc I 192) r (128 + a)) r j

def n202 (I : Ins) := k0_pay202 (F := Ideal) (n6 I) (n97 I)
/-- What the chunk adds to the state of one head, chunk 3, head 0. -/
theorem n202_at (I : Ins) (r : Fin 128) (j : Fin 128) : n202 I (ix2 r j) = lo (fun a => cK (dc I 192) (lc I 192) 0 r (a)) j := by
  unfold n202
  pointwise [k0_pay202]
  simp only [n6_at I, n97_at I, zero_add, ← Nat.add_assoc, Nat.reduceAdd, Nat.reduceMul, zero_mul]
  refine Eq.trans ?_ (lo_sum (fun l => dc I 192 l (512 + 128 * 0 + r)) (fun r a => cE (dc I 192) (lc I 192) r (a)) j)
  simp only [dc_at, zero_add, ← Nat.add_assoc, Nat.reduceAdd, Nat.reduceMul, zero_mul]

def n203 (I : Ins) := k0_pay203 (F := Ideal) (n6 I) (n98 I)
/-- What the chunk adds to the state of one head, chunk 3, head 1. -/
theorem n203_at (I : Ins) (r : Fin 128) (j : Fin 128) : n203 I (ix2 r j) = hi (fun a => cK (dc I 192) (lc I 192) 1 r (a)) j := by
  unfold n203
  pointwise [k0_pay203]
  simp only [n6_at I, n98_at I, zero_add, ← Nat.add_assoc, Nat.reduceAdd, Nat.reduceMul, zero_mul]
  refine Eq.trans ?_ (hi_sum (fun l => dc I 192 l (512 + 128 * 1 + r)) (fun r a => cE (dc I 192) (lc I 192) r (a)) j)
  simp only [dc_at, zero_add, ← Nat.add_assoc, Nat.reduceAdd, Nat.reduceMul, zero_mul]

def n204 (I : Ins) := k0_pay204 (F := Ideal) (n6 I) (n103 I)
/-- What the chunk adds to the state of one head, chunk 3, head 2. -/
theorem n204_at (I : Ins) (r : Fin 128) (j : Fin 128) : n204 I (ix2 r j) = lo (fun a => cK (dc I 192) (lc I 192) 2 r (128 + a)) j := by
  unfold n204
  pointwise [k0_pay204]
  simp only [n6_at I, n103_at I, zero_add, ← Nat.add_assoc, Nat.reduceAdd, Nat.reduceMul, zero_mul]
  refine Eq.trans ?_ (lo_sum (fun l => dc I 192 l (512 + 128 * 2 + r)) (fun r a => cE (dc I 192) (lc I 192) r (128 + a)) j)
  simp only [dc_at, zero_add, ← Nat.add_assoc, Nat.reduceAdd, Nat.reduceMul, zero_mul]

def n205 (I : Ins) := k0_pay205 (F := Ideal) (n6 I) (n104 I)
/-- What the chunk adds to the state of one head, chunk 3, head 3. -/
theorem n205_at (I : Ins) (r : Fin 128) (j : Fin 128) : n205 I (ix2 r j) = hi (fun a => cK (dc I 192) (lc I 192) 3 r (128 + a)) j := by
  unfold n205
  pointwise [k0_pay205]
  simp only [n6_at I, n104_at I, zero_add, ← Nat.add_assoc, Nat.reduceAdd, Nat.reduceMul, zero_mul]
  refine Eq.trans ?_ (hi_sum (fun l => dc I 192 l (512 + 128 * 3 + r)) (fun r a => cE (dc I 192) (lc I 192) r (128 + a)) j)
  simp only [dc_at, zero_add, ← Nat.add_assoc, Nat.reduceAdd, Nat.reduceMul, zero_mul]

def n206 (I : Ins) := k0_pay206 (F := Ideal) (n111 I) (n113 I)
/-- The scores of two heads, chunk 4, heads 0 and 1. -/
theorem n206_at (I : Ins) (r : Fin 64) (j : Fin 128) : n206 I (ix2 r j) = ss (fun r a => cQ (dc I 256) (lc I 256) r (a)) (fun r a => cI (dc I 256) (lc I 256) r (a)) r j := by
  unfold n206
  pointwise [k0_pay206]
  simp only [n111_at I, n113_at I, zero_add, ← Nat.add_assoc, Nat.reduceAdd, Nat.reduceMul, zero_mul]
  exact ss_of (fun r a => cQ (dc I 256) (lc I 256) r (a)) (fun r a => cI (dc I 256) (lc I 256) r (a)) r j

def n207 (I : Ins) := k0_pay207 (F := Ideal) (n117 I) (n119 I)
/-- The scores of two heads, chunk 4, heads 2 and 3. -/
theorem n207_at (I : Ins) (r : Fin 64) (j : Fin 128) : n207 I (ix2 r j) = ss (fun r a => cQ (dc I 256) (lc I 256) r (128 + a)) (fun r a => cI (dc I 256) (lc I 256) r (128 + a)) r j := by
  unfold n207
  pointwise [k0_pay207]
  simp only [n117_at I, n119_at I, zero_add, ← Nat.add_assoc, Nat.reduceAdd, Nat.reduceMul, zero_mul]
  exact ss_of (fun r a => cQ (dc I 256) (lc I 256) r (128 + a)) (fun r a => cI (dc I 256) (lc I 256) r (128 + a)) r j

def n208 (I : Ins) := k0_pay208 (F := Ideal) (n6 I) (n115 I)
/-- What the chunk adds to the state of one head, chunk 4, head 0. -/
theorem n208_at (I : Ins) (r : Fin 128) (j : Fin 128) : n208 I (ix2 r j) = lo (fun a => cK (dc I 256) (lc I 256) 0 r (a)) j := by
  unfold n208
  pointwise [k0_pay208]
  simp only [n6_at I, n115_at I, zero_add, ← Nat.add_assoc, Nat.reduceAdd, Nat.reduceMul, zero_mul]
  refine Eq.trans ?_ (lo_sum (fun l => dc I 256 l (512 + 128 * 0 + r)) (fun r a => cE (dc I 256) (lc I 256) r (a)) j)
  simp only [dc_at, zero_add, ← Nat.add_assoc, Nat.reduceAdd, Nat.reduceMul, zero_mul]

def n209 (I : Ins) := k0_pay209 (F := Ideal) (n6 I) (n116 I)
/-- What the chunk adds to the state of one head, chunk 4, head 1. -/
theorem n209_at (I : Ins) (r : Fin 128) (j : Fin 128) : n209 I (ix2 r j) = hi (fun a => cK (dc I 256) (lc I 256) 1 r (a)) j := by
  unfold n209
  pointwise [k0_pay209]
  simp only [n6_at I, n116_at I, zero_add, ← Nat.add_assoc, Nat.reduceAdd, Nat.reduceMul, zero_mul]
  refine Eq.trans ?_ (hi_sum (fun l => dc I 256 l (512 + 128 * 1 + r)) (fun r a => cE (dc I 256) (lc I 256) r (a)) j)
  simp only [dc_at, zero_add, ← Nat.add_assoc, Nat.reduceAdd, Nat.reduceMul, zero_mul]

def n210 (I : Ins) := k0_pay210 (F := Ideal) (n6 I) (n121 I)
/-- What the chunk adds to the state of one head, chunk 4, head 2. -/
theorem n210_at (I : Ins) (r : Fin 128) (j : Fin 128) : n210 I (ix2 r j) = lo (fun a => cK (dc I 256) (lc I 256) 2 r (128 + a)) j := by
  unfold n210
  pointwise [k0_pay210]
  simp only [n6_at I, n121_at I, zero_add, ← Nat.add_assoc, Nat.reduceAdd, Nat.reduceMul, zero_mul]
  refine Eq.trans ?_ (lo_sum (fun l => dc I 256 l (512 + 128 * 2 + r)) (fun r a => cE (dc I 256) (lc I 256) r (128 + a)) j)
  simp only [dc_at, zero_add, ← Nat.add_assoc, Nat.reduceAdd, Nat.reduceMul, zero_mul]

def n211 (I : Ins) := k0_pay211 (F := Ideal) (n6 I) (n122 I)
/-- What the chunk adds to the state of one head, chunk 4, head 3. -/
theorem n211_at (I : Ins) (r : Fin 128) (j : Fin 128) : n211 I (ix2 r j) = hi (fun a => cK (dc I 256) (lc I 256) 3 r (128 + a)) j := by
  unfold n211
  pointwise [k0_pay211]
  simp only [n6_at I, n122_at I, zero_add, ← Nat.add_assoc, Nat.reduceAdd, Nat.reduceMul, zero_mul]
  refine Eq.trans ?_ (hi_sum (fun l => dc I 256 l (512 + 128 * 3 + r)) (fun r a => cE (dc I 256) (lc I 256) r (128 + a)) j)
  simp only [dc_at, zero_add, ← Nat.add_assoc, Nat.reduceAdd, Nat.reduceMul, zero_mul]

def n212 (I : Ins) := k0_pay212 (F := Ideal) (n130 I) (n132 I)
/-- The scores of two heads, chunk 5, heads 0 and 1. -/
theorem n212_at (I : Ins) (r : Fin 64) (j : Fin 128) : n212 I (ix2 r j) = ss (fun r a => cQ (dc I 320) (lc I 320) r (a)) (fun r a => cI (dc I 320) (lc I 320) r (a)) r j := by
  unfold n212
  pointwise [k0_pay212]
  simp only [n130_at I, n132_at I, zero_add, ← Nat.add_assoc, Nat.reduceAdd, Nat.reduceMul, zero_mul]
  exact ss_of (fun r a => cQ (dc I 320) (lc I 320) r (a)) (fun r a => cI (dc I 320) (lc I 320) r (a)) r j

def n213 (I : Ins) := k0_pay213 (F := Ideal) (n136 I) (n138 I)
/-- The scores of two heads, chunk 5, heads 2 and 3. -/
theorem n213_at (I : Ins) (r : Fin 64) (j : Fin 128) : n213 I (ix2 r j) = ss (fun r a => cQ (dc I 320) (lc I 320) r (128 + a)) (fun r a => cI (dc I 320) (lc I 320) r (128 + a)) r j := by
  unfold n213
  pointwise [k0_pay213]
  simp only [n136_at I, n138_at I, zero_add, ← Nat.add_assoc, Nat.reduceAdd, Nat.reduceMul, zero_mul]
  exact ss_of (fun r a => cQ (dc I 320) (lc I 320) r (128 + a)) (fun r a => cI (dc I 320) (lc I 320) r (128 + a)) r j

def n214 (I : Ins) := k0_pay214 (F := Ideal) (n6 I) (n134 I)
/-- What the chunk adds to the state of one head, chunk 5, head 0. -/
theorem n214_at (I : Ins) (r : Fin 128) (j : Fin 128) : n214 I (ix2 r j) = lo (fun a => cK (dc I 320) (lc I 320) 0 r (a)) j := by
  unfold n214
  pointwise [k0_pay214]
  simp only [n6_at I, n134_at I, zero_add, ← Nat.add_assoc, Nat.reduceAdd, Nat.reduceMul, zero_mul]
  refine Eq.trans ?_ (lo_sum (fun l => dc I 320 l (512 + 128 * 0 + r)) (fun r a => cE (dc I 320) (lc I 320) r (a)) j)
  simp only [dc_at, zero_add, ← Nat.add_assoc, Nat.reduceAdd, Nat.reduceMul, zero_mul]

def n215 (I : Ins) := k0_pay215 (F := Ideal) (n6 I)
/-- One head of the values, chunk 5, head 1. -/
theorem n215_at (I : Ins) (r : Fin 64) (j : Fin 128) : n215 I (ix2 r j) = dc I 320 r (640 + j) := by
  unfold n215
  pointwise [k0_pay215]
  try simp only [n6_at I, dc_at, zero_add, ← Nat.add_assoc, Nat.reduceAdd, Nat.reduceMul, zero_mul]
  try rfl

def n216 (I : Ins) := k0_pay216 (F := Ideal) (n135 I) (n215 I)
/-- What the chunk adds to the state of one head, chunk 5, head 1. -/
theorem n216_at (I : Ins) (r : Fin 128) (j : Fin 128) : n216 I (ix2 r j) = hi (fun a => cK (dc I 320) (lc I 320) 1 r (a)) j := by
  unfold n216
  pointwise [k0_pay216]
  simp only [n135_at I, n215_at I, zero_add, ← Nat.add_assoc, Nat.reduceAdd, Nat.reduceMul, zero_mul]
  refine Eq.trans ?_ (hi_sum (fun l => dc I 320 l (512 + 128 * 1 + r)) (fun r a => cE (dc I 320) (lc I 320) r (a)) j)
  simp only [dc_at, zero_add, ← Nat.add_assoc, Nat.reduceAdd, Nat.reduceMul, zero_mul]

def n217 (I : Ins) := k0_pay217 (F := Ideal) (n6 I) (n140 I)
/-- What the chunk adds to the state of one head, chunk 5, head 2. -/
theorem n217_at (I : Ins) (r : Fin 128) (j : Fin 128) : n217 I (ix2 r j) = lo (fun a => cK (dc I 320) (lc I 320) 2 r (128 + a)) j := by
  unfold n217
  pointwise [k0_pay217]
  simp only [n6_at I, n140_at I, zero_add, ← Nat.add_assoc, Nat.reduceAdd, Nat.reduceMul, zero_mul]
  refine Eq.trans ?_ (lo_sum (fun l => dc I 320 l (512 + 128 * 2 + r)) (fun r a => cE (dc I 320) (lc I 320) r (128 + a)) j)
  simp only [dc_at, zero_add, ← Nat.add_assoc, Nat.reduceAdd, Nat.reduceMul, zero_mul]

def n218 (I : Ins) := k0_pay218 (F := Ideal) (n6 I) (n141 I)
/-- What the chunk adds to the state of one head, chunk 5, head 3. -/
theorem n218_at (I : Ins) (r : Fin 128) (j : Fin 128) : n218 I (ix2 r j) = hi (fun a => cK (dc I 320) (lc I 320) 3 r (128 + a)) j := by
  unfold n218
  pointwise [k0_pay218]
  simp only [n6_at I, n141_at I, zero_add, ← Nat.add_assoc, Nat.reduceAdd, Nat.reduceMul, zero_mul]
  refine Eq.trans ?_ (hi_sum (fun l => dc I 320 l (512 + 128 * 3 + r)) (fun r a => cE (dc I 320) (lc I 320) r (128 + a)) j)
  simp only [dc_at, zero_add, ← Nat.add_assoc, Nat.reduceAdd, Nat.reduceMul, zero_mul]

def n219 (I : Ins) := k0_pay219 (F := Ideal) (n149 I) (n151 I)
/-- The scores of two heads, chunk 6, heads 0 and 1. -/
theorem n219_at (I : Ins) (r : Fin 64) (j : Fin 128) : n219 I (ix2 r j) = ss (fun r a => cQ (dc I 384) (lc I 384) r (a)) (fun r a => cI (dc I 384) (lc I 384) r (a)) r j := by
  unfold n219
  pointwise [k0_pay219]
  simp only [n149_at I, n151_at I, zero_add, ← Nat.add_assoc, Nat.reduceAdd, Nat.reduceMul, zero_mul]
  exact ss_of (fun r a => cQ (dc I 384) (lc I 384) r (a)) (fun r a => cI (dc I 384) (lc I 384) r (a)) r j

def n220 (I : Ins) := k0_pay220 (F := Ideal) (n155 I) (n157 I)
/-- The scores of two heads, chunk 6, heads 2 and 3. -/
theorem n220_at (I : Ins) (r : Fin 64) (j : Fin 128) : n220 I (ix2 r j) = ss (fun r a => cQ (dc I 384) (lc I 384) r (128 + a)) (fun r a => cI (dc I 384) (lc I 384) r (128 + a)) r j := by
  unfold n220
  pointwise [k0_pay220]
  simp only [n155_at I, n157_at I, zero_add, ← Nat.add_assoc, Nat.reduceAdd, Nat.reduceMul, zero_mul]
  exact ss_of (fun r a => cQ (dc I 384) (lc I 384) r (128 + a)) (fun r a => cI (dc I 384) (lc I 384) r (128 + a)) r j

def n221 (I : Ins) := k0_pay221 (F := Ideal) (n6 I) (n153 I)
/-- What the chunk adds to the state of one head, chunk 6, head 0. -/
theorem n221_at (I : Ins) (r : Fin 128) (j : Fin 128) : n221 I (ix2 r j) = lo (fun a => cK (dc I 384) (lc I 384) 0 r (a)) j := by
  unfold n221
  pointwise [k0_pay221]
  simp only [n6_at I, n153_at I, zero_add, ← Nat.add_assoc, Nat.reduceAdd, Nat.reduceMul, zero_mul]
  refine Eq.trans ?_ (lo_sum (fun l => dc I 384 l (512 + 128 * 0 + r)) (fun r a => cE (dc I 384) (lc I 384) r (a)) j)
  simp only [dc_at, zero_add, ← Nat.add_assoc, Nat.reduceAdd, Nat.reduceMul, zero_mul]

def n222 (I : Ins) := k0_pay222 (F := Ideal) (n6 I) (n154 I)
/-- What the chunk adds to the state of one head, chunk 6, head 1. -/
theorem n222_at (I : Ins) (r : Fin 128) (j : Fin 128) : n222 I (ix2 r j) = hi (fun a => cK (dc I 384) (lc I 384) 1 r (a)) j := by
  unfold n222
  pointwise [k0_pay222]
  simp only [n6_at I, n154_at I, zero_add, ← Nat.add_assoc, Nat.reduceAdd, Nat.reduceMul, zero_mul]
  refine Eq.trans ?_ (hi_sum (fun l => dc I 384 l (512 + 128 * 1 + r)) (fun r a => cE (dc I 384) (lc I 384) r (a)) j)
  simp only [dc_at, zero_add, ← Nat.add_assoc, Nat.reduceAdd, Nat.reduceMul, zero_mul]

def n223 (I : Ins) := k0_pay223 (F := Ideal) (n6 I) (n159 I)
/-- What the chunk adds to the state of one head, chunk 6, head 2. -/
theorem n223_at (I : Ins) (r : Fin 128) (j : Fin 128) : n223 I (ix2 r j) = lo (fun a => cK (dc I 384) (lc I 384) 2 r (128 + a)) j := by
  unfold n223
  pointwise [k0_pay223]
  simp only [n6_at I, n159_at I, zero_add, ← Nat.add_assoc, Nat.reduceAdd, Nat.reduceMul, zero_mul]
  refine Eq.trans ?_ (lo_sum (fun l => dc I 384 l (512 + 128 * 2 + r)) (fun r a => cE (dc I 384) (lc I 384) r (128 + a)) j)
  simp only [dc_at, zero_add, ← Nat.add_assoc, Nat.reduceAdd, Nat.reduceMul, zero_mul]

def n224 (I : Ins) := k0_pay224 (F := Ideal) (n6 I) (n160 I)
/-- What the chunk adds to the state of one head, chunk 6, head 3. -/
theorem n224_at (I : Ins) (r : Fin 128) (j : Fin 128) : n224 I (ix2 r j) = hi (fun a => cK (dc I 384) (lc I 384) 3 r (128 + a)) j := by
  unfold n224
  pointwise [k0_pay224]
  simp only [n6_at I, n160_at I, zero_add, ← Nat.add_assoc, Nat.reduceAdd, Nat.reduceMul, zero_mul]
  refine Eq.trans ?_ (hi_sum (fun l => dc I 384 l (512 + 128 * 3 + r)) (fun r a => cE (dc I 384) (lc I 384) r (128 + a)) j)
  simp only [dc_at, zero_add, ← Nat.add_assoc, Nat.reduceAdd, Nat.reduceMul, zero_mul]

def n225 (I : Ins) := k0_pay225 (F := Ideal) (n167 I) (n170 I)
/-- The scores of two heads, chunk 7, heads 0 and 1. -/
theorem n225_at (I : Ins) (r : Fin 64) (j : Fin 128) : n225 I (ix2 r j) = ss (fun r a => cQ (dc I 448) (lc I 448) r (a)) (fun r a => cI (dc I 448) (lc I 448) r (a)) r j := by
  unfold n225
  pointwise [k0_pay225]
  simp only [n167_at I, n170_at I, zero_add, ← Nat.add_assoc, Nat.reduceAdd, Nat.reduceMul, zero_mul]
  exact ss_of (fun r a => cQ (dc I 448) (lc I 448) r (a)) (fun r a => cI (dc I 448) (lc I 448) r (a)) r j

def n226 (I : Ins) := k0_pay226 (F := Ideal) (n174 I) (n176 I)
/-- The scores of two heads, chunk 7, heads 2 and 3. -/
theorem n226_at (I : Ins) (r : Fin 64) (j : Fin 128) : n226 I (ix2 r j) = ss (fun r a => cQ (dc I 448) (lc I 448) r (128 + a)) (fun r a => cI (dc I 448) (lc I 448) r (128 + a)) r j := by
  unfold n226
  pointwise [k0_pay226]
  simp only [n174_at I, n176_at I, zero_add, ← Nat.add_assoc, Nat.reduceAdd, Nat.reduceMul, zero_mul]
  exact ss_of (fun r a => cQ (dc I 448) (lc I 448) r (128 + a)) (fun r a => cI (dc I 448) (lc I 448) r (128 + a)) r j

def n227 (I : Ins) := k0_pay227 (F := Ideal) (n6 I) (n172 I)
/-- What the chunk adds to the state of one head, chunk 7, head 0. -/
theorem n227_at (I : Ins) (r : Fin 128) (j : Fin 128) : n227 I (ix2 r j) = lo (fun a => cK (dc I 448) (lc I 448) 0 r (a)) j := by
  unfold n227
  pointwise [k0_pay227]
  simp only [n6_at I, n172_at I, zero_add, ← Nat.add_assoc, Nat.reduceAdd, Nat.reduceMul, zero_mul]
  refine Eq.trans ?_ (lo_sum (fun l => dc I 448 l (512 + 128 * 0 + r)) (fun r a => cE (dc I 448) (lc I 448) r (a)) j)
  simp only [dc_at, zero_add, ← Nat.add_assoc, Nat.reduceAdd, Nat.reduceMul, zero_mul]

def n228 (I : Ins) := k0_pay228 (F := Ideal) (n6 I) (n173 I)
/-- What the chunk adds to the state of one head, chunk 7, head 1. -/
theorem n228_at (I : Ins) (r : Fin 128) (j : Fin 128) : n228 I (ix2 r j) = hi (fun a => cK (dc I 448) (lc I 448) 1 r (a)) j := by
  unfold n228
  pointwise [k0_pay228]
  simp only [n6_at I, n173_at I, zero_add, ← Nat.add_assoc, Nat.reduceAdd, Nat.reduceMul, zero_mul]
  refine Eq.trans ?_ (hi_sum (fun l => dc I 448 l (512 + 128 * 1 + r)) (fun r a => cE (dc I 448) (lc I 448) r (a)) j)
  simp only [dc_at, zero_add, ← Nat.add_assoc, Nat.reduceAdd, Nat.reduceMul, zero_mul]

def n229 (I : Ins) := k0_pay229 (F := Ideal) (n6 I) (n178 I)
/-- What the chunk adds to the state of one head, chunk 7, head 2. -/
theorem n229_at (I : Ins) (r : Fin 128) (j : Fin 128) : n229 I (ix2 r j) = lo (fun a => cK (dc I 448) (lc I 448) 2 r (128 + a)) j := by
  unfold n229
  pointwise [k0_pay229]
  simp only [n6_at I, n178_at I, zero_add, ← Nat.add_assoc, Nat.reduceAdd, Nat.reduceMul, zero_mul]
  refine Eq.trans ?_ (lo_sum (fun l => dc I 448 l (512 + 128 * 2 + r)) (fun r a => cE (dc I 448) (lc I 448) r (128 + a)) j)
  simp only [dc_at, zero_add, ← Nat.add_assoc, Nat.reduceAdd, Nat.reduceMul, zero_mul]

def n230 (I : Ins) := k0_pay230 (F := Ideal) (n6 I) (n179 I)
/-- What the chunk adds to the state of one head, chunk 7, head 3. -/
theorem n230_at (I : Ins) (r : Fin 128) (j : Fin 128) : n230 I (ix2 r j) = hi (fun a => cK (dc I 448) (lc I 448) 3 r (128 + a)) j := by
  unfold n230
  pointwise [k0_pay230]
  simp only [n6_at I, n179_at I, zero_add, ← Nat.add_assoc, Nat.reduceAdd, Nat.reduceMul, zero_mul]
  refine Eq.trans ?_ (hi_sum (fun l => dc I 448 l (512 + 128 * 3 + r)) (fun r a => cE (dc I 448) (lc I 448) r (128 + a)) j)
  simp only [dc_at, zero_add, ← Nat.add_assoc, Nat.reduceAdd, Nat.reduceMul, zero_mul]

def n242 (I : Ins) := k0_pay242 (F := Ideal) k0_pay12 (n181 I)
/-- The masked scores of two heads, chunk 0, heads 0 and 1. -/
theorem n242_at (I : Ins) (r : Fin 64) (j : Fin 128) : n242 I (ix2 r j) = sm (fun r a => cQ (dc I 0) (lc I 0) r (a)) (fun r a => cI (dc I 0) (lc I 0) r (a)) r j := by
  unfold n242
  pointwise [k0_pay242]
  try simp only [n181_at I, mask_causal, select_bit, sm, zero_add, ← Nat.add_assoc, Nat.reduceAdd, Nat.reduceMul, zero_mul]
  try rfl

def n244 (I : Ins) := k0_pay244 (F := Ideal) k0_pay12 (n182 I)
/-- The masked scores of two heads, chunk 0, heads 2 and 3. -/
theorem n244_at (I : Ins) (r : Fin 64) (j : Fin 128) : n244 I (ix2 r j) = sm (fun r a => cQ (dc I 0) (lc I 0) r (128 + a)) (fun r a => cI (dc I 0) (lc I 0) r (128 + a)) r j := by
  unfold n244
  pointwise [k0_pay244]
  try simp only [n182_at I, mask_causal, select_bit, sm, zero_add, ← Nat.add_assoc, Nat.reduceAdd, Nat.reduceMul, zero_mul]
  try rfl

def n245 (I : Ins) := k0_pay245 (F := Ideal) (n244 I)
/-- The masked scores of two heads, chunk 0, heads 2 and 3. -/
theorem n245_at (I : Ins) (r : Fin 64) (j : Fin 128) : n245 I (ix2 r j) = sm (fun r a => cQ (dc I 0) (lc I 0) r (128 + a)) (fun r a => cI (dc I 0) (lc I 0) r (128 + a)) r j := by
  unfold n245
  pointwise [k0_pay245]
  try simp only [n244_at I, sm, zero_add, ← Nat.add_assoc, Nat.reduceAdd, Nat.reduceMul, zero_mul]
  try rfl

def n251 (I : Ins) := k0_pay251 (F := Ideal) k0_pay12 (n187 I)
/-- The masked scores of two heads, chunk 1, heads 0 and 1. -/
theorem n251_at (I : Ins) (r : Fin 64) (j : Fin 128) : n251 I (ix2 r j) = sm (fun r a => cQ (dc I 64) (lc I 64) r (a)) (fun r a => cI (dc I 64) (lc I 64) r (a)) r j := by
  unfold n251
  pointwise [k0_pay251]
  try simp only [n187_at I, mask_causal, select_bit, sm, zero_add, ← Nat.add_assoc, Nat.reduceAdd, Nat.reduceMul, zero_mul]
  try rfl

def n253 (I : Ins) := k0_pay253 (F := Ideal) k0_pay12 (n188 I)
/-- The masked scores of two heads, chunk 1, heads 2 and 3. -/
theorem n253_at (I : Ins) (r : Fin 64) (j : Fin 128) : n253 I (ix2 r j) = sm (fun r a => cQ (dc I 64) (lc I 64) r (128 + a)) (fun r a => cI (dc I 64) (lc I 64) r (128 + a)) r j := by
  unfold n253
  pointwise [k0_pay253]
  try simp only [n188_at I, mask_causal, select_bit, sm, zero_add, ← Nat.add_assoc, Nat.reduceAdd, Nat.reduceMul, zero_mul]
  try rfl

def n259 (I : Ins) := k0_pay259 (F := Ideal) k0_pay12 (n194 I)
/-- The masked scores of two heads, chunk 2, heads 0 and 1. -/
theorem n259_at (I : Ins) (r : Fin 64) (j : Fin 128) : n259 I (ix2 r j) = sm (fun r a => cQ (dc I 128) (lc I 128) r (a)) (fun r a => cI (dc I 128) (lc I 128) r (a)) r j := by
  unfold n259
  pointwise [k0_pay259]
  try simp only [n194_at I, mask_causal, select_bit, sm, zero_add, ← Nat.add_assoc, Nat.reduceAdd, Nat.reduceMul, zero_mul]
  try rfl

def n261 (I : Ins) := k0_pay261 (F := Ideal) k0_pay12 (n195 I)
/-- The masked scores of two heads, chunk 2, heads 2 and 3. -/
theorem n261_at (I : Ins) (r : Fin 64) (j : Fin 128) : n261 I (ix2 r j) = sm (fun r a => cQ (dc I 128) (lc I 128) r (128 + a)) (fun r a => cI (dc I 128) (lc I 128) r (128 + a)) r j := by
  unfold n261
  pointwise [k0_pay261]
  try simp only [n195_at I, mask_causal, select_bit, sm, zero_add, ← Nat.add_assoc, Nat.reduceAdd, Nat.reduceMul, zero_mul]
  try rfl

def n267 (I : Ins) := k0_pay267 (F := Ideal) k0_pay12 (n200 I)
/-- The masked scores of two heads, chunk 3, heads 0 and 1. -/
theorem n267_at (I : Ins) (r : Fin 64) (j : Fin 128) : n267 I (ix2 r j) = sm (fun r a => cQ (dc I 192) (lc I 192) r (a)) (fun r a => cI (dc I 192) (lc I 192) r (a)) r j := by
  unfold n267
  pointwise [k0_pay267]
  try simp only [n200_at I, mask_causal, select_bit, sm, zero_add, ← Nat.add_assoc, Nat.reduceAdd, Nat.reduceMul, zero_mul]
  try rfl

def n269 (I : Ins) := k0_pay269 (F := Ideal) k0_pay12 (n201 I)
/-- The masked scores of two heads, chunk 3, heads 2 and 3. -/
theorem n269_at (I : Ins) (r : Fin 64) (j : Fin 128) : n269 I (ix2 r j) = sm (fun r a => cQ (dc I 192) (lc I 192) r (128 + a)) (fun r a => cI (dc I 192) (lc I 192) r (128 + a)) r j := by
  unfold n269
  pointwise [k0_pay269]
  try simp only [n201_at I, mask_causal, select_bit, sm, zero_add, ← Nat.add_assoc, Nat.reduceAdd, Nat.reduceMul, zero_mul]
  try rfl

def n275 (I : Ins) := k0_pay275 (F := Ideal) k0_pay12 (n206 I)
/-- The masked scores of two heads, chunk 4, heads 0 and 1. -/
theorem n275_at (I : Ins) (r : Fin 64) (j : Fin 128) : n275 I (ix2 r j) = sm (fun r a => cQ (dc I 256) (lc I 256) r (a)) (fun r a => cI (dc I 256) (lc I 256) r (a)) r j := by
  unfold n275
  pointwise [k0_pay275]
  try simp only [n206_at I, mask_causal, select_bit, sm, zero_add, ← Nat.add_assoc, Nat.reduceAdd, Nat.reduceMul, zero_mul]
  try rfl

def n277 (I : Ins) := k0_pay277 (F := Ideal) k0_pay12 (n207 I)
/-- The masked scores of two heads, chunk 4, heads 2 and 3. -/
theorem n277_at (I : Ins) (r : Fin 64) (j : Fin 128) : n277 I (ix2 r j) = sm (fun r a => cQ (dc I 256) (lc I 256) r (128 + a)) (fun r a => cI (dc I 256) (lc I 256) r (128 + a)) r j := by
  unfold n277
  pointwise [k0_pay277]
  try simp only [n207_at I, mask_causal, select_bit, sm, zero_add, ← Nat.add_assoc, Nat.reduceAdd, Nat.reduceMul, zero_mul]
  try rfl

def n283 (I : Ins) := k0_pay283 (F := Ideal) k0_pay12 (n212 I)
/-- The masked scores of two heads, chunk 5, heads 0 and 1. -/
theorem n283_at (I : Ins) (r : Fin 64) (j : Fin 128) : n283 I (ix2 r j) = sm (fun r a => cQ (dc I 320) (lc I 320) r (a)) (fun r a => cI (dc I 320) (lc I 320) r (a)) r j := by
  unfold n283
  pointwise [k0_pay283]
  try simp only [n212_at I, mask_causal, select_bit, sm, zero_add, ← Nat.add_assoc, Nat.reduceAdd, Nat.reduceMul, zero_mul]
  try rfl

def n285 (I : Ins) := k0_pay285 (F := Ideal) k0_pay12 (n213 I)
/-- The masked scores of two heads, chunk 5, heads 2 and 3. -/
theorem n285_at (I : Ins) (r : Fin 64) (j : Fin 128) : n285 I (ix2 r j) = sm (fun r a => cQ (dc I 320) (lc I 320) r (128 + a)) (fun r a => cI (dc I 320) (lc I 320) r (128 + a)) r j := by
  unfold n285
  pointwise [k0_pay285]
  try simp only [n213_at I, mask_causal, select_bit, sm, zero_add, ← Nat.add_assoc, Nat.reduceAdd, Nat.reduceMul, zero_mul]
  try rfl

def n286 (I : Ins) := k0_pay286 (F := Ideal) (n285 I)
/-- The masked scores of two heads, chunk 5, heads 2 and 3. -/
theorem n286_at (I : Ins) (r : Fin 64) (j : Fin 128) : n286 I (ix2 r j) = sm (fun r a => cQ (dc I 320) (lc I 320) r (128 + a)) (fun r a => cI (dc I 320) (lc I 320) r (128 + a)) r j := by
  unfold n286
  pointwise [k0_pay286]
  try simp only [n285_at I, sm, zero_add, ← Nat.add_assoc, Nat.reduceAdd, Nat.reduceMul, zero_mul]
  try rfl

def n292 (I : Ins) := k0_pay292 (F := Ideal) k0_pay12 (n219 I)
/-- The masked scores of two heads, chunk 6, heads 0 and 1. -/
theorem n292_at (I : Ins) (r : Fin 64) (j : Fin 128) : n292 I (ix2 r j) = sm (fun r a => cQ (dc I 384) (lc I 384) r (a)) (fun r a => cI (dc I 384) (lc I 384) r (a)) r j := by
  unfold n292
  pointwise [k0_pay292]
  try simp only [n219_at I, mask_causal, select_bit, sm, zero_add, ← Nat.add_assoc, Nat.reduceAdd, Nat.reduceMul, zero_mul]
  try rfl

def n294 (I : Ins) := k0_pay294 (F := Ideal) k0_pay12 (n220 I)
/-- The masked scores of two heads, chunk 6, heads 2 and 3. -/
theorem n294_at (I : Ins) (r : Fin 64) (j : Fin 128) : n294 I (ix2 r j) = sm (fun r a => cQ (dc I 384) (lc I 384) r (128 + a)) (fun r a => cI (dc I 384) (lc I 384) r (128 + a)) r j := by
  unfold n294
  pointwise [k0_pay294]
  try simp only [n220_at I, mask_causal, select_bit, sm, zero_add, ← Nat.add_assoc, Nat.reduceAdd, Nat.reduceMul, zero_mul]
  try rfl

def n300 (I : Ins) := k0_pay300 (F := Ideal) k0_pay12 (n225 I)
/-- The masked scores of two heads, chunk 7, heads 0 and 1. -/
theorem n300_at (I : Ins) (r : Fin 64) (j : Fin 128) : n300 I (ix2 r j) = sm (fun r a => cQ (dc I 448) (lc I 448) r (a)) (fun r a => cI (dc I 448) (lc I 448) r (a)) r j := by
  unfold n300
  pointwise [k0_pay300]
  try simp only [n225_at I, mask_causal, select_bit, sm, zero_add, ← Nat.add_assoc, Nat.reduceAdd, Nat.reduceMul, zero_mul]
  try rfl

def n302 (I : Ins) := k0_pay302 (F := Ideal) k0_pay12 (n226 I)
/-- The masked scores of two heads, chunk 7, heads 2 and 3. -/
theorem n302_at (I : Ins) (r : Fin 64) (j : Fin 128) : n302 I (ix2 r j) = sm (fun r a => cQ (dc I 448) (lc I 448) r (128 + a)) (fun r a => cI (dc I 448) (lc I 448) r (128 + a)) r j := by
  unfold n302
  pointwise [k0_pay302]
  try simp only [n226_at I, mask_causal, select_bit, sm, zero_add, ← Nat.add_assoc, Nat.reduceAdd, Nat.reduceMul, zero_mul]
  try rfl

end Cert.MixerIdeal.Tile
-- ==== Proof.MixerTileC.lean ====
/- Tile values, third part: the states from chunk to chunk. -/
module

public import proofs.«01_k».proof.Proof.MixerTileB

@[expose] public section

set_option maxRecDepth 16384

noncomputable section

open Idealize.ShloMosaic Idealize.ShloMosaic.TcCoe Idealize.SL.Sem
open scoped BigOperators

namespace Cert.MixerIdeal.Tile

open Cert.MixerIdeal Cert.MixerIdeal.Gen Cert.MixRows

def n238 (I : Ins) := k0_pay238 (F := Ideal) I.s0
/-- The state of one head, chunk 0, head 0. -/
theorem n238_at (I : Ins) (S : ℕ → ℕ → ℕ → EReal) (H : Holds I S) (r : Fin 128) (j : Fin 128) : n238 I (ix2 r j) = lo (fun a => stA I S 0 0 r (a)) j := by
  unfold n238
  pointwise [k0_pay238]
  exact H.h0 r j
/-- The same value where it is formed in place. -/
theorem n238_at' (I : Ins) (S : ℕ → ℕ → ℕ → EReal) (H : Holds I S) (r : Fin 128) (j : Fin 128) : k0_pay238 (F := Ideal) I.s0 (ix2 r j) = lo (fun a => stA I S 0 0 r (a)) j := n238_at I S H r j

def n239 (I : Ins) := k0_pay239 (F := Ideal) I.s1
/-- The state of one head, chunk 0, head 1. -/
theorem n239_at (I : Ins) (S : ℕ → ℕ → ℕ → EReal) (H : Holds I S) (r : Fin 128) (j : Fin 128) : n239 I (ix2 r j) = hi (fun a => stA I S 0 1 r (a)) j := by
  unfold n239
  pointwise [k0_pay239]
  exact H.h1 r j
/-- The same value where it is formed in place. -/
theorem n239_at' (I : Ins) (S : ℕ → ℕ → ℕ → EReal) (H : Holds I S) (r : Fin 128) (j : Fin 128) : k0_pay239 (F := Ideal) I.s1 (ix2 r j) = hi (fun a => stA I S 0 1 r (a)) j := n239_at I S H r j

def n240 (I : Ins) := k0_pay240 (F := Ideal) I.s2
/-- The state of one head, chunk 0, head 2. -/
theorem n240_at (I : Ins) (S : ℕ → ℕ → ℕ → EReal) (H : Holds I S) (r : Fin 128) (j : Fin 128) : n240 I (ix2 r j) = lo (fun a => stA I S 0 2 r (128 + a)) j := by
  unfold n240
  pointwise [k0_pay240]
  exact H.h2 r j

def n241 (I : Ins) := k0_pay241 (F := Ideal) I.s3
/-- The state of one head, chunk 0, head 3. -/
theorem n241_at (I : Ins) (S : ℕ → ℕ → ℕ → EReal) (H : Holds I S) (r : Fin 128) (j : Fin 128) : n241 I (ix2 r j) = hi (fun a => stA I S 0 3 r (128 + a)) j := by
  unfold n241
  pointwise [k0_pay241]
  exact H.h3 r j

def n247 (I : Ins) := k0_pay247 (F := Ideal) (n36 I) (n183 I) (n238 I)
/-- The state of one head, chunk 1, head 0. -/
theorem n247_at (I : Ins) (S : ℕ → ℕ → ℕ → EReal) (H : Holds I S) (r : Fin 128) (j : Fin 128) : n247 I (ix2 r j) = lo (fun a => stA I S 1 0 r (a)) j := by
  unfold n247
  pointwise [k0_pay247]
  simp only [n36_at I, n183_at I, n238_at I S H, zero_add, ← Nat.add_assoc, Nat.reduceAdd, Nat.reduceMul, zero_mul]
  exact lo_step (fun a => stA I S 0 0 r (a)) (fun a => cD (lc I 0) (a)) (fun a => cK (dc I 0) (lc I 0) 0 r (a)) j
/-- The same value where it is formed in place. -/
theorem n247_at' (I : Ins) (S : ℕ → ℕ → ℕ → EReal) (H : Holds I S) (r : Fin 128) (j : Fin 128) : k0_pay247 (F := Ideal) (n36 I) (n183 I) (n238 I) (ix2 r j) = lo (fun a => stA I S 1 0 r (a)) j := n247_at I S H r j

def n248 (I : Ins) := k0_pay248 (F := Ideal) (n36 I) (n184 I) (n239 I)
/-- The state of one head, chunk 1, head 1. -/
theorem n248_at (I : Ins) (S : ℕ → ℕ → ℕ → EReal) (H : Holds I S) (r : Fin 128) (j : Fin 128) : n248 I (ix2 r j) = hi (fun a => stA I S 1 1 r (a)) j := by
  unfold n248
  pointwise [k0_pay248]
  simp only [n36_at I, n184_at I, n239_at I S H, zero_add, ← Nat.add_assoc, Nat.reduceAdd, Nat.reduceMul, zero_mul]
  exact hi_step (fun a => stA I S 0 1 r (a)) (fun a => cD (lc I 0) (a)) (fun a => cK (dc I 0) (lc I 0) 1 r (a)) j
/-- The same value where it is formed in place. -/
theorem n248_at' (I : Ins) (S : ℕ → ℕ → ℕ → EReal) (H : Holds I S) (r : Fin 128) (j : Fin 128) : k0_pay248 (F := Ideal) (n36 I) (n184 I) (n239 I) (ix2 r j) = hi (fun a => stA I S 1 1 r (a)) j := n248_at I S H r j

def n249 (I : Ins) := k0_pay249 (F := Ideal) (n42 I) (n185 I) (n240 I)
/-- The state of one head, chunk 1, head 2. -/
theorem n249_at (I : Ins) (S : ℕ → ℕ → ℕ → EReal) (H : Holds I S) (r : Fin 128) (j : Fin 128) : n249 I (ix2 r j) = lo (fun a => stA I S 1 2 r (128 + a)) j := by
  unfold n249
  pointwise [k0_pay249]
  simp only [n42_at I, n185_at I, n240_at I S H, zero_add, ← Nat.add_assoc, Nat.reduceAdd, Nat.reduceMul, zero_mul]
  exact lo_step (fun a => stA I S 0 2 r (128 + a)) (fun a => cD (lc I 0) (128 + a)) (fun a => cK (dc I 0) (lc I 0) 2 r (128 + a)) j
/-- The same value where it is formed in place. -/
theorem n249_at' (I : Ins) (S : ℕ → ℕ → ℕ → EReal) (H : Holds I S) (r : Fin 128) (j : Fin 128) : k0_pay249 (F := Ideal) (n42 I) (n185 I) (n240 I) (ix2 r j) = lo (fun a => stA I S 1 2 r (128 + a)) j := n249_at I S H r j

def n250 (I : Ins) := k0_pay250 (F := Ideal) (n42 I) (n186 I) (n241 I)
/-- The state of one head, chunk 1, head 3. -/
theorem n250_at (I : Ins) (S : ℕ → ℕ → ℕ → EReal) (H : Holds I S) (r : Fin 128) (j : Fin 128) : n250 I (ix2 r j) = hi (fun a => stA I S 1 3 r (128 + a)) j := by
  unfold n250
  pointwise [k0_pay250]
  simp only [n42_at I, n186_at I, n241_at I S H, zero_add, ← Nat.add_assoc, Nat.reduceAdd, Nat.reduceMul, zero_mul]
  exact hi_step (fun a => stA I S 0 3 r (128 + a)) (fun a => cD (lc I 0) (128 + a)) (fun a => cK (dc I 0) (lc I 0) 3 r (128 + a)) j
/-- The same value where it is formed in place. -/
theorem n250_at' (I : Ins) (S : ℕ → ℕ → ℕ → EReal) (H : Holds I S) (r : Fin 128) (j : Fin 128) : k0_pay250 (F := Ideal) (n42 I) (n186 I) (n241 I) (ix2 r j) = hi (fun a => stA I S 1 3 r (128 + a)) j := n250_at I S H r j

def n255 (I : Ins) := k0_pay255 (F := Ideal) (n36 I) (n54 I) (n183 I) (n189 I) (n238 I)
/-- The state of one head, chunk 2, head 0. -/
theorem n255_at (I : Ins) (S : ℕ → ℕ → ℕ → EReal) (H : Holds I S) (r : Fin 128) (j : Fin 128) : n255 I (ix2 r j) = lo (fun a => stA I S 2 0 r (a)) j := by
  unfold n255
  pointwise [k0_pay255]
  simp only [n36_at I, n54_at I, n183_at I, n189_at I, n238_at I S H, n247_at I S H, n247_at' I S H, zero_add, ← Nat.add_assoc, Nat.reduceAdd, Nat.reduceMul, zero_mul]
  exact lo_step (fun a => stA I S 1 0 r (a)) (fun a => cD (lc I 64) (a)) (fun a => cK (dc I 64) (lc I 64) 0 r (a)) j
/-- The same value where it is formed in place. -/
theorem n255_at' (I : Ins) (S : ℕ → ℕ → ℕ → EReal) (H : Holds I S) (r : Fin 128) (j : Fin 128) : k0_pay255 (F := Ideal) (n36 I) (n54 I) (n183 I) (n189 I) (n238 I) (ix2 r j) = lo (fun a => stA I S 2 0 r (a)) j := n255_at I S H r j

def n256 (I : Ins) := k0_pay256 (F := Ideal) (n36 I) (n54 I) (n184 I) (n190 I) (n239 I)
/-- The state of one head, chunk 2, head 1. -/
theorem n256_at (I : Ins) (S : ℕ → ℕ → ℕ → EReal) (H : Holds I S) (r : Fin 128) (j : Fin 128) : n256 I (ix2 r j) = hi (fun a => stA I S 2 1 r (a)) j := by
  unfold n256
  pointwise [k0_pay256]
  simp only [n36_at I, n54_at I, n184_at I, n190_at I, n239_at I S H, n248_at I S H, n248_at' I S H, zero_add, ← Nat.add_assoc, Nat.reduceAdd, Nat.reduceMul, zero_mul]
  exact hi_step (fun a => stA I S 1 1 r (a)) (fun a => cD (lc I 64) (a)) (fun a => cK (dc I 64) (lc I 64) 1 r (a)) j
/-- The same value where it is formed in place. -/
theorem n256_at' (I : Ins) (S : ℕ → ℕ → ℕ → EReal) (H : Holds I S) (r : Fin 128) (j : Fin 128) : k0_pay256 (F := Ideal) (n36 I) (n54 I) (n184 I) (n190 I) (n239 I) (ix2 r j) = hi (fun a => stA I S 2 1 r (a)) j := n256_at I S H r j

def n257 (I : Ins) := k0_pay257 (F := Ideal) (n42 I) (n63 I) (n185 I) (n192 I) (n240 I)
/-- The state of one head, chunk 2, head 2. -/
theorem n257_at (I : Ins) (S : ℕ → ℕ → ℕ → EReal) (H : Holds I S) (r : Fin 128) (j : Fin 128) : n257 I (ix2 r j) = lo (fun a => stA I S 2 2 r (128 + a)) j := by
  unfold n257
  pointwise [k0_pay257]
  simp only [n42_at I, n63_at I, n185_at I, n192_at I, n240_at I S H, n249_at I S H, n249_at' I S H, zero_add, ← Nat.add_assoc, Nat.reduceAdd, Nat.reduceMul, zero_mul]
  exact lo_step (fun a => stA I S 1 2 r (128 + a)) (fun a => cD (lc I 64) (128 + a)) (fun a => cK (dc I 64) (lc I 64) 2 r (128 + a)) j
/-- The same value where it is formed in place. -/
theorem n257_at' (I : Ins) (S : ℕ → ℕ → ℕ → EReal) (H : Holds I S) (r : Fin 128) (j : Fin 128) : k0_pay257 (F := Ideal) (n42 I) (n63 I) (n185 I) (n192 I) (n240 I) (ix2 r j) = lo (fun a => stA I S 2 2 r (128 + a)) j := n257_at I S H r j

def n258 (I : Ins) := k0_pay258 (F := Ideal) (n42 I) (n63 I) (n186 I) (n193 I) (n241 I)
/-- The state of one head, chunk 2, head 3. -/
theorem n258_at (I : Ins) (S : ℕ → ℕ → ℕ → EReal) (H : Holds I S) (r : Fin 128) (j : Fin 128) : n258 I (ix2 r j) = hi (fun a => stA I S 2 3 r (128 + a)) j := by
  unfold n258
  pointwise [k0_pay258]
  simp only [n42_at I, n63_at I, n186_at I, n193_at I, n241_at I S H, n250_at I S H, n250_at' I S H, zero_add, ← Nat.add_assoc, Nat.reduceAdd, Nat.reduceMul, zero_mul]
  exact hi_step (fun a => stA I S 1 3 r (128 + a)) (fun a => cD (lc I 64) (128 + a)) (fun a => cK (dc I 64) (lc I 64) 3 r (128 + a)) j
/-- The same value where it is formed in place. -/
theorem n258_at' (I : Ins) (S : ℕ → ℕ → ℕ → EReal) (H : Holds I S) (r : Fin 128) (j : Fin 128) : k0_pay258 (F := Ideal) (n42 I) (n63 I) (n186 I) (n193 I) (n241 I) (ix2 r j) = hi (fun a => stA I S 2 3 r (128 + a)) j := n258_at I S H r j

def n263 (I : Ins) := k0_pay263 (F := Ideal) (n36 I) (n54 I) (n75 I) (n183 I) (n189 I) (n196 I) (n238 I)
/-- The state of one head, chunk 3, head 0. -/
theorem n263_at (I : Ins) (S : ℕ → ℕ → ℕ → EReal) (H : Holds I S) (r : Fin 128) (j : Fin 128) : n263 I (ix2 r j) = lo (fun a => stA I S 3 0 r (a)) j := by
  unfold n263
  pointwise [k0_pay263]
  simp only [n36_at I, n54_at I, n75_at I, n183_at I, n189_at I, n196_at I, n238_at I S H, n255_at I S H, n255_at' I S H, zero_add, ← Nat.add_assoc, Nat.reduceAdd, Nat.reduceMul, zero_mul]
  exact lo_step (fun a => stA I S 2 0 r (a)) (fun a => cD (lc I 128) (a)) (fun a => cK (dc I 128) (lc I 128) 0 r (a)) j

def n264 (I : Ins) := k0_pay264 (F := Ideal) (n36 I) (n54 I) (n75 I) (n184 I) (n190 I) (n197 I) (n239 I)
/-- The state of one head, chunk 3, head 1. -/
theorem n264_at (I : Ins) (S : ℕ → ℕ → ℕ → EReal) (H : Holds I S) (r : Fin 128) (j : Fin 128) : n264 I (ix2 r j) = hi (fun a => stA I S 3 1 r (a)) j := by
  unfold n264
  pointwise [k0_pay264]
  simp only [n36_at I, n54_at I, n75_at I, n184_at I, n190_at I, n197_at I, n239_at I S H, n256_at I S H, n256_at' I S H, zero_add, ← Nat.add_assoc, Nat.reduceAdd, Nat.reduceMul, zero_mul]
  exact hi_step (fun a => stA I S 2 1 r (a)) (fun a => cD (lc I 128) (a)) (fun a => cK (dc I 128) (lc I 128) 1 r (a)) j

def n265 (I : Ins) := k0_pay265 (F := Ideal) (n42 I) (n63 I) (n81 I) (n185 I) (n192 I) (n198 I) (n240 I)
/-- The state of one head, chunk 3, head 2. -/
theorem n265_at (I : Ins) (S : ℕ → ℕ → ℕ → EReal) (H : Holds I S) (r : Fin 128) (j : Fin 128) : n265 I (ix2 r j) = lo (fun a => stA I S 3 2 r (128 + a)) j := by
  unfold n265
  pointwise [k0_pay265]
  simp only [n42_at I, n63_at I, n81_at I, n185_at I, n192_at I, n198_at I, n240_at I S H, n257_at I S H, n257_at' I S H, zero_add, ← Nat.add_assoc, Nat.reduceAdd, Nat.reduceMul, zero_mul]
  exact lo_step (fun a => stA I S 2 2 r (128 + a)) (fun a => cD (lc I 128) (128 + a)) (fun a => cK (dc I 128) (lc I 128) 2 r (128 + a)) j

def n266 (I : Ins) := k0_pay266 (F := Ideal) (n81 I) (n199 I) (n258 I)
/-- The state of one head, chunk 3, head 3. -/
theorem n266_at (I : Ins) (S : ℕ → ℕ → ℕ → EReal) (H : Holds I S) (r : Fin 128) (j : Fin 128) : n266 I (ix2 r j) = hi (fun a => stA I S 3 3 r (128 + a)) j := by
  unfold n266
  pointwise [k0_pay266]
  simp only [n81_at I, n199_at I, n258_at I S H, zero_add, ← Nat.add_assoc, Nat.reduceAdd, Nat.reduceMul, zero_mul]
  exact hi_step (fun a => stA I S 2 3 r (128 + a)) (fun a => cD (lc I 128) (128 + a)) (fun a => cK (dc I 128) (lc I 128) 3 r (128 + a)) j
/-- The same value where it is formed in place. -/
theorem n266_at' (I : Ins) (S : ℕ → ℕ → ℕ → EReal) (H : Holds I S) (r : Fin 128) (j : Fin 128) : k0_pay266 (F := Ideal) (n81 I) (n199 I) (n258 I) (ix2 r j) = hi (fun a => stA I S 3 3 r (128 + a)) j := n266_at I S H r j

def n271 (I : Ins) := k0_pay271 (F := Ideal) (n94 I) (n202 I) (n263 I)
/-- The state of one head, chunk 4, head 0. -/
theorem n271_at (I : Ins) (S : ℕ → ℕ → ℕ → EReal) (H : Holds I S) (r : Fin 128) (j : Fin 128) : n271 I (ix2 r j) = lo (fun a => stA I S 4 0 r (a)) j := by
  unfold n271
  pointwise [k0_pay271]
  simp only [n94_at I, n202_at I, n263_at I S H, zero_add, ← Nat.add_assoc, Nat.reduceAdd, Nat.reduceMul, zero_mul]
  exact lo_step (fun a => stA I S 3 0 r (a)) (fun a => cD (lc I 192) (a)) (fun a => cK (dc I 192) (lc I 192) 0 r (a)) j
/-- The same value where it is formed in place. -/
theorem n271_at' (I : Ins) (S : ℕ → ℕ → ℕ → EReal) (H : Holds I S) (r : Fin 128) (j : Fin 128) : k0_pay271 (F := Ideal) (n94 I) (n202 I) (n263 I) (ix2 r j) = lo (fun a => stA I S 4 0 r (a)) j := n271_at I S H r j

def n272 (I : Ins) := k0_pay272 (F := Ideal) (n94 I) (n203 I) (n264 I)
/-- The state of one head, chunk 4, head 1. -/
theorem n272_at (I : Ins) (S : ℕ → ℕ → ℕ → EReal) (H : Holds I S) (r : Fin 128) (j : Fin 128) : n272 I (ix2 r j) = hi (fun a => stA I S 4 1 r (a)) j := by
  unfold n272
  pointwise [k0_pay272]
  simp only [n94_at I, n203_at I, n264_at I S H, zero_add, ← Nat.add_assoc, Nat.reduceAdd, Nat.reduceMul, zero_mul]
  exact hi_step (fun a => stA I S 3 1 r (a)) (fun a => cD (lc I 192) (a)) (fun a => cK (dc I 192) (lc I 192) 1 r (a)) j
/-- The same value where it is formed in place. -/
theorem n272_at' (I : Ins) (S : ℕ → ℕ → ℕ → EReal) (H : Holds I S) (r : Fin 128) (j : Fin 128) : k0_pay272 (F := Ideal) (n94 I) (n203 I) (n264 I) (ix2 r j) = hi (fun a => stA I S 4 1 r (a)) j := n272_at I S H r j

def n273 (I : Ins) := k0_pay273 (F := Ideal) (n100 I) (n204 I) (n265 I)
/-- The state of one head, chunk 4, head 2. -/
theorem n273_at (I : Ins) (S : ℕ → ℕ → ℕ → EReal) (H : Holds I S) (r : Fin 128) (j : Fin 128) : n273 I (ix2 r j) = lo (fun a => stA I S 4 2 r (128 + a)) j := by
  unfold n273
  pointwise [k0_pay273]
  simp only [n100_at I, n204_at I, n265_at I S H, zero_add, ← Nat.add_assoc, Nat.reduceAdd, Nat.reduceMul, zero_mul]
  exact lo_step (fun a => stA I S 3 2 r (128 + a)) (fun a => cD (lc I 192) (128 + a)) (fun a => cK (dc I 192) (lc I 192) 2 r (128 + a)) j
/-- The same value where it is formed in place. -/
theorem n273_at' (I : Ins) (S : ℕ → ℕ → ℕ → EReal) (H : Holds I S) (r : Fin 128) (j : Fin 128) : k0_pay273 (F := Ideal) (n100 I) (n204 I) (n265 I) (ix2 r j) = lo (fun a => stA I S 4 2 r (128 + a)) j := n273_at I S H r j

def n274 (I : Ins) := k0_pay274 (F := Ideal) (n81 I) (n100 I) (n199 I) (n205 I) (n258 I)
/-- The state of one head, chunk 4, head 3. -/
theorem n274_at (I : Ins) (S : ℕ → ℕ → ℕ → EReal) (H : Holds I S) (r : Fin 128) (j : Fin 128) : n274 I (ix2 r j) = hi (fun a => stA I S 4 3 r (128 + a)) j := by
  unfold n274
  pointwise [k0_pay274]
  simp only [n81_at I, n100_at I, n199_at I, n205_at I, n258_at I S H, n266_at I S H, n266_at' I S H, zero_add, ← Nat.add_assoc, Nat.reduceAdd, Nat.reduceMul, zero_mul]
  exact hi_step (fun a => stA I S 3 3 r (128 + a)) (fun a => cD (lc I 192) (128 + a)) (fun a => cK (dc I 192) (lc I 192) 3 r (128 + a)) j
/-- The same value where it is formed in place. -/
theorem n274_at' (I : Ins) (S : ℕ → ℕ → ℕ → EReal) (H : Holds I S) (r : Fin 128) (j : Fin 128) : k0_pay274 (F := Ideal) (n81 I) (n100 I) (n199 I) (n205 I) (n258 I) (ix2 r j) = hi (fun a => stA I S 4 3 r (128 + a)) j := n274_at I S H r j

def n279 (I : Ins) := k0_pay279 (F := Ideal) (n94 I) (n112 I) (n202 I) (n208 I) (n263 I)
/-- The state of one head, chunk 5, head 0. -/
theorem n279_at (I : Ins) (S : ℕ → ℕ → ℕ → EReal) (H : Holds I S) (r : Fin 128) (j : Fin 128) : n279 I (ix2 r j) = lo (fun a => stA I S 5 0 r (a)) j := by
  unfold n279
  pointwise [k0_pay279]
  simp only [n94_at I, n112_at I, n202_at I, n208_at I, n263_at I S H, n271_at I S H, n271_at' I S H, zero_add, ← Nat.add_assoc, Nat.reduceAdd, Nat.reduceMul, zero_mul]
  exact lo_step (fun a => stA I S 4 0 r (a)) (fun a => cD (lc I 256) (a)) (fun a => cK (dc I 256) (lc I 256) 0 r (a)) j
/-- The same value where it is formed in place. -/
theorem n279_at' (I : Ins) (S : ℕ → ℕ → ℕ → EReal) (H : Holds I S) (r : Fin 128) (j : Fin 128) : k0_pay279 (F := Ideal) (n94 I) (n112 I) (n202 I) (n208 I) (n263 I) (ix2 r j) = lo (fun a => stA I S 5 0 r (a)) j := n279_at I S H r j

def n280 (I : Ins) := k0_pay280 (F := Ideal) (n94 I) (n112 I) (n203 I) (n209 I) (n264 I)
/-- The state of one head, chunk 5, head 1. -/
theorem n280_at (I : Ins) (S : ℕ → ℕ → ℕ → EReal) (H : Holds I S) (r : Fin 128) (j : Fin 128) : n280 I (ix2 r j) = hi (fun a => stA I S 5 1 r (a)) j := by
  unfold n280
  pointwise [k0_pay280]
  simp only [n94_at I, n112_at I, n203_at I, n209_at I, n264_at I S H, n272_at I S H, n272_at' I S H, zero_add, ← Nat.add_assoc, Nat.reduceAdd, Nat.reduceMul, zero_mul]
  exact hi_step (fun a => stA I S 4 1 r (a)) (fun a => cD (lc I 256) (a)) (fun a => cK (dc I 256) (lc I 256) 1 r (a)) j
/-- The same value where it is formed in place. -/
theorem n280_at' (I : Ins) (S : ℕ → ℕ → ℕ → EReal) (H : Holds I S) (r : Fin 128) (j : Fin 128) : k0_pay280 (F := Ideal) (n94 I) (n112 I) (n203 I) (n209 I) (n264 I) (ix2 r j) = hi (fun a => stA I S 5 1 r (a)) j := n280_at I S H r j

def n281 (I : Ins) := k0_pay281 (F := Ideal) (n100 I) (n118 I) (n204 I) (n210 I) (n265 I)
/-- The state of one head, chunk 5, head 2. -/
theorem n281_at (I : Ins) (S : ℕ → ℕ → ℕ → EReal) (H : Holds I S) (r : Fin 128) (j : Fin 128) : n281 I (ix2 r j) = lo (fun a => stA I S 5 2 r (128 + a)) j := by
  unfold n281
  pointwise [k0_pay281]
  simp only [n100_at I, n118_at I, n204_at I, n210_at I, n265_at I S H, n273_at I S H, n273_at' I S H, zero_add, ← Nat.add_assoc, Nat.reduceAdd, Nat.reduceMul, zero_mul]
  exact lo_step (fun a => stA I S 4 2 r (128 + a)) (fun a => cD (lc I 256) (128 + a)) (fun a => cK (dc I 256) (lc I 256) 2 r (128 + a)) j

def n282 (I : Ins) := k0_pay282 (F := Ideal) (n81 I) (n100 I) (n118 I) (n199 I) (n205 I) (n211 I) (n258 I)
/-- The state of one head, chunk 5, head 3. -/
theorem n282_at (I : Ins) (S : ℕ → ℕ → ℕ → EReal) (H : Holds I S) (r : Fin 128) (j : Fin 128) : n282 I (ix2 r j) = hi (fun a => stA I S 5 3 r (128 + a)) j := by
  unfold n282
  pointwise [k0_pay282]
  simp only [n81_at I, n100_at I, n118_at I, n199_at I, n205_at I, n211_at I, n258_at I S H, n274_at I S H, n274_at' I S H, zero_add, ← Nat.add_assoc, Nat.reduceAdd, Nat.reduceMul, zero_mul]
  exact hi_step (fun a => stA I S 4 3 r (128 + a)) (fun a => cD (lc I 256) (128 + a)) (fun a => cK (dc I 256) (lc I 256) 3 r (128 + a)) j

def n288 (I : Ins) := k0_pay288 (F := Ideal) (n131 I) (n214 I) (n279 I)
/-- The state of one head, chunk 6, head 0. -/
theorem n288_at (I : Ins) (S : ℕ → ℕ → ℕ → EReal) (H : Holds I S) (r : Fin 128) (j : Fin 128) : n288 I (ix2 r j) = lo (fun a => stA I S 6 0 r (a)) j := by
  unfold n288
  pointwise [k0_pay288]
  simp only [n131_at I, n214_at I, n279_at I S H, zero_add, ← Nat.add_assoc, Nat.reduceAdd, Nat.reduceMul, zero_mul]
  exact lo_step (fun a => stA I S 5 0 r (a)) (fun a => cD (lc I 320) (a)) (fun a => cK (dc I 320) (lc I 320) 0 r (a)) j
/-- The same value where it is formed in place. -/
theorem n288_at' (I : Ins) (S : ℕ → ℕ → ℕ → EReal) (H : Holds I S) (r : Fin 128) (j : Fin 128) : k0_pay288 (F := Ideal) (n131 I) (n214 I) (n279 I) (ix2 r j) = lo (fun a => stA I S 6 0 r (a)) j := n288_at I S H r j

def n289 (I : Ins) := k0_pay289 (F := Ideal) (n131 I) (n216 I) (n280 I)
/-- The state of one head, chunk 6, head 1. -/
theorem n289_at (I : Ins) (S : ℕ → ℕ → ℕ → EReal) (H : Holds I S) (r : Fin 128) (j : Fin 128) : n289 I (ix2 r j) = hi (fun a => stA I S 6 1 r (a)) j := by
  unfold n289
  pointwise [k0_pay289]
  simp only [n131_at I, n216_at I, n280_at I S H, zero_add, ← Nat.add_assoc, Nat.reduceAdd, Nat.reduceMul, zero_mul]
  exact hi_step (fun a => stA I S 5 1 r (a)) (fun a => cD (lc I 320) (a)) (fun a => cK (dc I 320) (lc I 320) 1 r (a)) j
/-- The same value where it is formed in place. -/
theorem n289_at' (I : Ins) (S : ℕ → ℕ → ℕ → EReal) (H : Holds I S) (r : Fin 128) (j : Fin 128) : k0_pay289 (F := Ideal) (n131 I) (n216 I) (n280 I) (ix2 r j) = hi (fun a => stA I S 6 1 r (a)) j := n289_at I S H r j

def n290 (I : Ins) := k0_pay290 (F := Ideal) (n137 I) (n217 I) (n281 I)
/-- The state of one head, chunk 6, head 2. -/
theorem n290_at (I : Ins) (S : ℕ → ℕ → ℕ → EReal) (H : Holds I S) (r : Fin 128) (j : Fin 128) : n290 I (ix2 r j) = lo (fun a => stA I S 6 2 r (128 + a)) j := by
  unfold n290
  pointwise [k0_pay290]
  simp only [n137_at I, n217_at I, n281_at I S H, zero_add, ← Nat.add_assoc, Nat.reduceAdd, Nat.reduceMul, zero_mul]
  exact lo_step (fun a => stA I S 5 2 r (128 + a)) (fun a => cD (lc I 320) (128 + a)) (fun a => cK (dc I 320) (lc I 320) 2 r (128 + a)) j
/-- The same value where it is formed in place. -/
theorem n290_at' (I : Ins) (S : ℕ → ℕ → ℕ → EReal) (H : Holds I S) (r : Fin 128) (j : Fin 128) : k0_pay290 (F := Ideal) (n137 I) (n217 I) (n281 I) (ix2 r j) = lo (fun a => stA I S 6 2 r (128 + a)) j := n290_at I S H r j

def n291 (I : Ins) := k0_pay291 (F := Ideal) (n137 I) (n218 I) (n282 I)
/-- The state of one head, chunk 6, head 3. -/
theorem n291_at (I : Ins) (S : ℕ → ℕ → ℕ → EReal) (H : Holds I S) (r : Fin 128) (j : Fin 128) : n291 I (ix2 r j) = hi (fun a => stA I S 6 3 r (128 + a)) j := by
  unfold n291
  pointwise [k0_pay291]
  simp only [n137_at I, n218_at I, n282_at I S H, zero_add, ← Nat.add_assoc, Nat.reduceAdd, Nat.reduceMul, zero_mul]
  exact hi_step (fun a => stA I S 5 3 r (128 + a)) (fun a => cD (lc I 320) (128 + a)) (fun a => cK (dc I 320) (lc I 320) 3 r (128 + a)) j
/-- The same value where it is formed in place. -/
theorem n291_at' (I : Ins) (S : ℕ → ℕ → ℕ → EReal) (H : Holds I S) (r : Fin 128) (j : Fin 128) : k0_pay291 (F := Ideal) (n137 I) (n218 I) (n282 I) (ix2 r j) = hi (fun a => stA I S 6 3 r (128 + a)) j := n291_at I S H r j

def n296 (I : Ins) := k0_pay296 (F := Ideal) (n131 I) (n150 I) (n214 I) (n221 I) (n279 I)
/-- The state of one head, chunk 7, head 0. -/
theorem n296_at (I : Ins) (S : ℕ → ℕ → ℕ → EReal) (H : Holds I S) (r : Fin 128) (j : Fin 128) : n296 I (ix2 r j) = lo (fun a => stA I S 7 0 r (a)) j := by
  unfold n296
  pointwise [k0_pay296]
  simp only [n131_at I, n150_at I, n214_at I, n221_at I, n279_at I S H, n288_at I S H, n288_at' I S H, zero_add, ← Nat.add_assoc, Nat.reduceAdd, Nat.reduceMul, zero_mul]
  exact lo_step (fun a => stA I S 6 0 r (a)) (fun a => cD (lc I 384) (a)) (fun a => cK (dc I 384) (lc I 384) 0 r (a)) j
/-- The same value where it is formed in place. -/
theorem n296_at' (I : Ins) (S : ℕ → ℕ → ℕ → EReal) (H : Holds I S) (r : Fin 128) (j : Fin 128) : k0_pay296 (F := Ideal) (n131 I) (n150 I) (n214 I) (n221 I) (n279 I) (ix2 r j) = lo (fun a => stA I S 7 0 r (a)) j := n296_at I S H r j

def n297 (I : Ins) := k0_pay297 (F := Ideal) (n131 I) (n150 I) (n216 I) (n222 I) (n280 I)
/-- The state of one head, chunk 7, head 1. -/
theorem n297_at (I : Ins) (S : ℕ → ℕ → ℕ → EReal) (H : Holds I S) (r : Fin 128) (j : Fin 128) : n297 I (ix2 r j) = hi (fun a => stA I S 7 1 r (a)) j := by
  unfold n297
  pointwise [k0_pay297]
  simp only [n131_at I, n150_at I, n216_at I, n222_at I, n280_at I S H, n289_at I S H, n289_at' I S H, zero_add, ← Nat.add_assoc, Nat.reduceAdd, Nat.reduceMul, zero_mul]
  exact hi_step (fun a => stA I S 6 1 r (a)) (fun a => cD (lc I 384) (a)) (fun a => cK (dc I 384) (lc I 384) 1 r (a)) j
/-- The same value where it is formed in place. -/
theorem n297_at' (I : Ins) (S : ℕ → ℕ → ℕ → EReal) (H : Holds I S) (r : Fin 128) (j : Fin 128) : k0_pay297 (F := Ideal) (n131 I) (n150 I) (n216 I) (n222 I) (n280 I) (ix2 r j) = hi (fun a => stA I S 7 1 r (a)) j := n297_at I S H r j

def n298 (I : Ins) := k0_pay298 (F := Ideal) (n137 I) (n156 I) (n217 I) (n223 I) (n281 I)
/-- The state of one head, chunk 7, head 2. -/
theorem n298_at (I : Ins) (S : ℕ → ℕ → ℕ → EReal) (H : Holds I S) (r : Fin 128) (j : Fin 128) : n298 I (ix2 r j) = lo (fun a => stA I S 7 2 r (128 + a)) j := by
  unfold n298
  pointwise [k0_pay298]
  simp only [n137_at I, n156_at I, n217_at I, n223_at I, n281_at I S H, n290_at I S H, n290_at' I S H, zero_add, ← Nat.add_assoc, Nat.reduceAdd, Nat.reduceMul, zero_mul]
  exact lo_step (fun a => stA I S 6 2 r (128 + a)) (fun a => cD (lc I 384) (128 + a)) (fun a => cK (dc I 384) (lc I 384) 2 r (128 + a)) j
/-- The same value where it is formed in place. -/
theorem n298_at' (I : Ins) (S : ℕ → ℕ → ℕ → EReal) (H : Holds I S) (r : Fin 128) (j : Fin 128) : k0_pay298 (F := Ideal) (n137 I) (n156 I) (n217 I) (n223 I) (n281 I) (ix2 r j) = lo (fun a => stA I S 7 2 r (128 + a)) j := n298_at I S H r j

def n299 (I : Ins) := k0_pay299 (F := Ideal) (n137 I) (n156 I) (n218 I) (n224 I) (n282 I)
/-- The state of one head, chunk 7, head 3. -/
theorem n299_at (I : Ins) (S : ℕ → ℕ → ℕ → EReal) (H : Holds I S) (r : Fin 128) (j : Fin 128) : n299 I (ix2 r j) = hi (fun a => stA I S 7 3 r (128 + a)) j := by
  unfold n299
  pointwise [k0_pay299]
  simp only [n137_at I, n156_at I, n218_at I, n224_at I, n282_at I S H, n291_at I S H, n291_at' I S H, zero_add, ← Nat.add_assoc, Nat.reduceAdd, Nat.reduceMul, zero_mul]
  exact hi_step (fun a => stA I S 6 3 r (128 + a)) (fun a => cD (lc I 384) (128 + a)) (fun a => cK (dc I 384) (lc I 384) 3 r (128 + a)) j
/-- The same value where it is formed in place. -/
theorem n299_at' (I : Ins) (S : ℕ → ℕ → ℕ → EReal) (H : Holds I S) (r : Fin 128) (j : Fin 128) : k0_pay299 (F := Ideal) (n137 I) (n156 I) (n218 I) (n224 I) (n282 I) (ix2 r j) = hi (fun a => stA I S 7 3 r (128 + a)) j := n299_at I S H r j

def n304 (I : Ins) := k0_pay304 (F := Ideal) (n131 I) (n150 I) (n168 I) (n214 I) (n221 I) (n227 I) (n279 I)
/-- The state of one head, chunk 8, head 0. -/
theorem n304_at (I : Ins) (S : ℕ → ℕ → ℕ → EReal) (H : Holds I S) (r : Fin 128) (j : Fin 128) : n304 I (ix2 r j) = lo (fun a => stA I S 8 0 r (a)) j := by
  unfold n304
  pointwise [k0_pay304]
  simp only [n131_at I, n150_at I, n168_at I, n214_at I, n221_at I, n227_at I, n279_at I S H, n296_at I S H, n296_at' I S H, zero_add, ← Nat.add_assoc, Nat.reduceAdd, Nat.reduceMul, zero_mul]
  exact lo_step (fun a => stA I S 7 0 r (a)) (fun a => cD (lc I 448) (a)) (fun a => cK (dc I 448) (lc I 448) 0 r (a)) j

def n305 (I : Ins) := k0_pay305 (F := Ideal) (n131 I) (n150 I) (n168 I) (n216 I) (n222 I) (n228 I) (n280 I)
/-- The state of one head, chunk 8, head 1. -/
theorem n305_at (I : Ins) (S : ℕ → ℕ → ℕ → EReal) (H : Holds I S) (r : Fin 128) (j : Fin 128) : n305 I (ix2 r j) = hi (fun a => stA I S 8 1 r (a)) j := by
  unfold n305
  pointwise [k0_pay305]
  simp only [n131_at I, n150_at I, n168_at I, n216_at I, n222_at I, n228_at I, n280_at I S H, n297_at I S H, n297_at' I S H, zero_add, ← Nat.add_assoc, Nat.reduceAdd, Nat.reduceMul, zero_mul]
  exact hi_step (fun a => stA I S 7 1 r (a)) (fun a => cD (lc I 448) (a)) (fun a => cK (dc I 448) (lc I 448) 1 r (a)) j

def n306 (I : Ins) := k0_pay306 (F := Ideal) (n137 I) (n156 I) (n175 I) (n217 I) (n223 I) (n229 I) (n281 I)
/-- The state of one head, chunk 8, head 2. -/
theorem n306_at (I : Ins) (S : ℕ → ℕ → ℕ → EReal) (H : Holds I S) (r : Fin 128) (j : Fin 128) : n306 I (ix2 r j) = lo (fun a => stA I S 8 2 r (128 + a)) j := by
  unfold n306
  pointwise [k0_pay306]
  simp only [n137_at I, n156_at I, n175_at I, n217_at I, n223_at I, n229_at I, n281_at I S H, n298_at I S H, n298_at' I S H, zero_add, ← Nat.add_assoc, Nat.reduceAdd, Nat.reduceMul, zero_mul]
  exact lo_step (fun a => stA I S 7 2 r (128 + a)) (fun a => cD (lc I 448) (128 + a)) (fun a => cK (dc I 448) (lc I 448) 2 r (128 + a)) j

def n307 (I : Ins) := k0_pay307 (F := Ideal) (n304 I)
/-- The state of one head, chunk 8, head 0. -/
theorem n307_at (I : Ins) (S : ℕ → ℕ → ℕ → EReal) (H : Holds I S) (r : Fin 128) (j : Fin 128) : n307 I (ix3 0 r j) = lo (fun a => stA I S 8 0 r (a)) j := by
  unfold n307
  pointwise [k0_pay307]
  try simp only [n304_at I S H, zero_add, ← Nat.add_assoc, Nat.reduceAdd, Nat.reduceMul, zero_mul]
  try rfl

def n308 (I : Ins) := k0_pay308 (F := Ideal) (n305 I)
/-- The state of one head, chunk 8, head 1. -/
theorem n308_at (I : Ins) (S : ℕ → ℕ → ℕ → EReal) (H : Holds I S) (r : Fin 128) (j : Fin 128) : n308 I (ix3 0 r j) = hi (fun a => stA I S 8 1 r (a)) j := by
  unfold n308
  pointwise [k0_pay308]
  try simp only [n305_at I S H, zero_add, ← Nat.add_assoc, Nat.reduceAdd, Nat.reduceMul, zero_mul]
  try rfl

def n309 (I : Ins) := k0_pay309 (F := Ideal) (n306 I)
/-- The state of one head, chunk 8, head 2. -/
theorem n309_at (I : Ins) (S : ℕ → ℕ → ℕ → EReal) (H : Holds I S) (r : Fin 128) (j : Fin 128) : n309 I (ix3 0 r j) = lo (fun a => stA I S 8 2 r (128 + a)) j := by
  unfold n309
  pointwise [k0_pay309]
  try simp only [n306_at I S H, zero_add, ← Nat.add_assoc, Nat.reduceAdd, Nat.reduceMul, zero_mul]
  try rfl

def n310 (I : Ins) := k0_pay310 (F := Ideal) (n175 I) (n230 I) (n299 I)
/-- The state of one head, chunk 8, head 3. -/
theorem n310_at (I : Ins) (S : ℕ → ℕ → ℕ → EReal) (H : Holds I S) (r : Fin 128) (j : Fin 128) : n310 I (ix3 0 r j) = hi (fun a => stA I S 8 3 r (128 + a)) j := by
  unfold n310
  pointwise [k0_pay310]
  simp only [n175_at I, n230_at I, n299_at I S H, zero_add, ← Nat.add_assoc, Nat.reduceAdd, Nat.reduceMul, zero_mul]
  exact hi_step (fun a => stA I S 7 3 r (128 + a)) (fun a => cD (lc I 448) (128 + a)) (fun a => cK (dc I 448) (lc I 448) 3 r (128 + a)) j

end Cert.MixerIdeal.Tile
-- ==== Proof.MixerTileD.lean ====
/- Tile values, fourth part: the attention values. -/
module

public import proofs.«01_k».proof.Proof.MixerTileC

@[expose] public section

set_option maxRecDepth 16384

noncomputable section

open Idealize.ShloMosaic Idealize.ShloMosaic.TcCoe Idealize.SL.Sem
open scoped BigOperators

namespace Cert.MixerIdeal.Tile

open Cert.MixerIdeal Cert.MixerIdeal.Gen Cert.MixRows

def n243 (I : Ins) := k0_pay243 (F := Ideal) I.s0 I.s1
/-- The states of two heads, stacked, chunk 0, heads 0 and 1. -/
theorem n243_at (I : Ins) (S : ℕ → ℕ → ℕ → EReal) (H : Holds I S) (r : Fin 256) (j : Fin 128) : n243 I (ix2 r j) = tt (fun e a => stA I S 0 0 e (a)) (fun e a => stA I S 0 1 e (a)) r j := by
  unfold n243
  pointwise [k0_pay243]
  try simp only [n238_at I S H, n238_at' I S H, n239_at I S H, n239_at' I S H, tt, zero_add, ← Nat.add_assoc, Nat.reduceAdd, Nat.reduceMul, zero_mul]
  try rfl

def n246 (I : Ins) := k0_pay246 (F := Ideal) (n240 I) (n241 I)
/-- The states of two heads, stacked, chunk 0, heads 2 and 3. -/
theorem n246_at (I : Ins) (S : ℕ → ℕ → ℕ → EReal) (H : Holds I S) (r : Fin 256) (j : Fin 128) : n246 I (ix2 r j) = tt (fun e a => stA I S 0 2 e (128 + a)) (fun e a => stA I S 0 3 e (128 + a)) r j := by
  unfold n246
  pointwise [k0_pay246]
  try simp only [n240_at I S H, n241_at I S H, tt, zero_add, ← Nat.add_assoc, Nat.reduceAdd, Nat.reduceMul, zero_mul]
  try rfl

def n252 (I : Ins) := k0_pay252 (F := Ideal) (n36 I) (n183 I) (n184 I) (n238 I) (n239 I)
/-- The states of two heads, stacked, chunk 1, heads 0 and 1. -/
theorem n252_at (I : Ins) (S : ℕ → ℕ → ℕ → EReal) (H : Holds I S) (r : Fin 256) (j : Fin 128) : n252 I (ix2 r j) = tt (fun e a => stA I S 1 0 e (a)) (fun e a => stA I S 1 1 e (a)) r j := by
  unfold n252
  pointwise [k0_pay252]
  try simp only [n36_at I, n183_at I, n184_at I, n238_at I S H, n239_at I S H, n247_at I S H, n247_at' I S H, n248_at I S H, n248_at' I S H, tt, zero_add, ← Nat.add_assoc, Nat.reduceAdd, Nat.reduceMul, zero_mul]
  try rfl

def n254 (I : Ins) := k0_pay254 (F := Ideal) (n42 I) (n185 I) (n186 I) (n240 I) (n241 I)
/-- The states of two heads, stacked, chunk 1, heads 2 and 3. -/
theorem n254_at (I : Ins) (S : ℕ → ℕ → ℕ → EReal) (H : Holds I S) (r : Fin 256) (j : Fin 128) : n254 I (ix2 r j) = tt (fun e a => stA I S 1 2 e (128 + a)) (fun e a => stA I S 1 3 e (128 + a)) r j := by
  unfold n254
  pointwise [k0_pay254]
  try simp only [n42_at I, n185_at I, n186_at I, n240_at I S H, n241_at I S H, n249_at I S H, n249_at' I S H, n250_at I S H, n250_at' I S H, tt, zero_add, ← Nat.add_assoc, Nat.reduceAdd, Nat.reduceMul, zero_mul]
  try rfl

def n260 (I : Ins) := k0_pay260 (F := Ideal) (n36 I) (n54 I) (n183 I) (n184 I) (n189 I) (n190 I) (n238 I) (n239 I)
/-- The states of two heads, stacked, chunk 2, heads 0 and 1. -/
theorem n260_at (I : Ins) (S : ℕ → ℕ → ℕ → EReal) (H : Holds I S) (r : Fin 256) (j : Fin 128) : n260 I (ix2 r j) = tt (fun e a => stA I S 2 0 e (a)) (fun e a => stA I S 2 1 e (a)) r j := by
  unfold n260
  pointwise [k0_pay260]
  try simp only [n36_at I, n54_at I, n183_at I, n184_at I, n189_at I, n190_at I, n238_at I S H, n239_at I S H, n256_at I S H, n256_at' I S H, n255_at I S H, n255_at' I S H, tt, zero_add, ← Nat.add_assoc, Nat.reduceAdd, Nat.reduceMul, zero_mul]
  try rfl

def n262 (I : Ins) := k0_pay262 (F := Ideal) (n42 I) (n63 I) (n185 I) (n186 I) (n192 I) (n193 I) (n240 I) (n241 I)
/-- The states of two heads, stacked, chunk 2, heads 2 and 3. -/
theorem n262_at (I : Ins) (S : ℕ → ℕ → ℕ → EReal) (H : Holds I S) (r : Fin 256) (j : Fin 128) : n262 I (ix2 r j) = tt (fun e a => stA I S 2 2 e (128 + a)) (fun e a => stA I S 2 3 e (128 + a)) r j := by
  unfold n262
  pointwise [k0_pay262]
  try simp only [n42_at I, n63_at I, n185_at I, n186_at I, n192_at I, n193_at I, n240_at I S H, n241_at I S H, n257_at I S H, n257_at' I S H, n258_at I S H, n258_at' I S H, tt, zero_add, ← Nat.add_assoc, Nat.reduceAdd, Nat.reduceMul, zero_mul]
  try rfl

def n268 (I : Ins) := k0_pay268 (F := Ideal) (n263 I) (n264 I)
/-- The states of two heads, stacked, chunk 3, heads 0 and 1. -/
theorem n268_at (I : Ins) (S : ℕ → ℕ → ℕ → EReal) (H : Holds I S) (r : Fin 256) (j : Fin 128) : n268 I (ix2 r j) = tt (fun e a => stA I S 3 0 e (a)) (fun e a => stA I S 3 1 e (a)) r j := by
  unfold n268
  pointwise [k0_pay268]
  try simp only [n263_at I S H, n264_at I S H, tt, zero_add, ← Nat.add_assoc, Nat.reduceAdd, Nat.reduceMul, zero_mul]
  try rfl

def n270 (I : Ins) := k0_pay270 (F := Ideal) (n81 I) (n199 I) (n258 I) (n265 I)
/-- The states of two heads, stacked, chunk 3, heads 2 and 3. -/
theorem n270_at (I : Ins) (S : ℕ → ℕ → ℕ → EReal) (H : Holds I S) (r : Fin 256) (j : Fin 128) : n270 I (ix2 r j) = tt (fun e a => stA I S 3 2 e (128 + a)) (fun e a => stA I S 3 3 e (128 + a)) r j := by
  unfold n270
  pointwise [k0_pay270]
  try simp only [n81_at I, n199_at I, n258_at I S H, n265_at I S H, n266_at I S H, n266_at' I S H, tt, zero_add, ← Nat.add_assoc, Nat.reduceAdd, Nat.reduceMul, zero_mul]
  try rfl

def n276 (I : Ins) := k0_pay276 (F := Ideal) (n94 I) (n202 I) (n203 I) (n263 I) (n264 I)
/-- The states of two heads, stacked, chunk 4, heads 0 and 1. -/
theorem n276_at (I : Ins) (S : ℕ → ℕ → ℕ → EReal) (H : Holds I S) (r : Fin 256) (j : Fin 128) : n276 I (ix2 r j) = tt (fun e a => stA I S 4 0 e (a)) (fun e a => stA I S 4 1 e (a)) r j := by
  unfold n276
  pointwise [k0_pay276]
  try simp only [n94_at I, n202_at I, n203_at I, n263_at I S H, n264_at I S H, n271_at I S H, n271_at' I S H, n272_at I S H, n272_at' I S H, tt, zero_add, ← Nat.add_assoc, Nat.reduceAdd, Nat.reduceMul, zero_mul]
  try rfl

def n278 (I : Ins) := k0_pay278 (F := Ideal) (n81 I) (n100 I) (n199 I) (n204 I) (n205 I) (n258 I) (n265 I)
/-- The states of two heads, stacked, chunk 4, heads 2 and 3. -/
theorem n278_at (I : Ins) (S : ℕ → ℕ → ℕ → EReal) (H : Holds I S) (r : Fin 256) (j : Fin 128) : n278 I (ix2 r j) = tt (fun e a => stA I S 4 2 e (128 + a)) (fun e a => stA I S 4 3 e (128 + a)) r j := by
  unfold n278
  pointwise [k0_pay278]
  try simp only [n81_at I, n100_at I, n199_at I, n204_at I, n205_at I, n258_at I S H, n265_at I S H, n273_at I S H, n273_at' I S H, n274_at I S H, n274_at' I S H, tt, zero_add, ← Nat.add_assoc, Nat.reduceAdd, Nat.reduceMul, zero_mul]
  try rfl

def n284 (I : Ins) := k0_pay284 (F := Ideal) (n94 I) (n112 I) (n202 I) (n203 I) (n208 I) (n209 I) (n263 I) (n264 I)
/-- The states of two heads, stacked, chunk 5, heads 0 and 1. -/
theorem n284_at (I : Ins) (S : ℕ → ℕ → ℕ → EReal) (H : Holds I S) (r : Fin 256) (j : Fin 128) : n284 I (ix2 r j) = tt (fun e a => stA I S 5 0 e (a)) (fun e a => stA I S 5 1 e (a)) r j := by
  unfold n284
  pointwise [k0_pay284]
  try simp only [n94_at I, n112_at I, n202_at I, n203_at I, n208_at I, n209_at I, n263_at I S H, n264_at I S H, n279_at I S H, n279_at' I S H, n280_at I S H, n280_at' I S H, tt, zero_add, ← Nat.add_assoc, Nat.reduceAdd, Nat.reduceMul, zero_mul]
  try rfl

def n287 (I : Ins) := k0_pay287 (F := Ideal) (n281 I) (n282 I)
/-- The states of two heads, stacked, chunk 5, heads 2 and 3. -/
theorem n287_at (I : Ins) (S : ℕ → ℕ → ℕ → EReal) (H : Holds I S) (r : Fin 256) (j : Fin 128) : n287 I (ix2 r j) = tt (fun e a => stA I S 5 2 e (128 + a)) (fun e a => stA I S 5 3 e (128 + a)) r j := by
  unfold n287
  pointwise [k0_pay287]
  try simp only [n281_at I S H, n282_at I S H, tt, zero_add, ← Nat.add_assoc, Nat.reduceAdd, Nat.reduceMul, zero_mul]
  try rfl

def n293 (I : Ins) := k0_pay293 (F := Ideal) (n131 I) (n214 I) (n216 I) (n279 I) (n280 I)
/-- The states of two heads, stacked, chunk 6, heads 0 and 1. -/
theorem n293_at (I : Ins) (S : ℕ → ℕ → ℕ → EReal) (H : Holds I S) (r : Fin 256) (j : Fin 128) : n293 I (ix2 r j) = tt (fun e a => stA I S 6 0 e (a)) (fun e a => stA I S 6 1 e (a)) r j := by
  unfold n293
  pointwise [k0_pay293]
  try simp only [n131_at I, n214_at I, n216_at I, n279_at I S H, n280_at I S H, n289_at I S H, n289_at' I S H, n288_at I S H, n288_at' I S H, tt, zero_add, ← Nat.add_assoc, Nat.reduceAdd, Nat.reduceMul, zero_mul]
  try rfl

def n295 (I : Ins) := k0_pay295 (F := Ideal) (n137 I) (n217 I) (n218 I) (n281 I) (n282 I)
/-- The states of two heads, stacked, chunk 6, heads 2 and 3. -/
theorem n295_at (I : Ins) (S : ℕ → ℕ → ℕ → EReal) (H : Holds I S) (r : Fin 256) (j : Fin 128) : n295 I (ix2 r j) = tt (fun e a => stA I S 6 2 e (128 + a)) (fun e a => stA I S 6 3 e (128 + a)) r j := by
  unfold n295
  pointwise [k0_pay295]
  try simp only [n137_at I, n217_at I, n218_at I, n281_at I S H, n282_at I S H, n291_at I S H, n291_at' I S H, n290_at I S H, n290_at' I S H, tt, zero_add, ← Nat.add_assoc, Nat.reduceAdd, Nat.reduceMul, zero_mul]
  try rfl

def n301 (I : Ins) := k0_pay301 (F := Ideal) (n131 I) (n150 I) (n214 I) (n216 I) (n221 I) (n222 I) (n279 I) (n280 I)
/-- The states of two heads, stacked, chunk 7, heads 0 and 1. -/
theorem n301_at (I : Ins) (S : ℕ → ℕ → ℕ → EReal) (H : Holds I S) (r : Fin 256) (j : Fin 128) : n301 I (ix2 r j) = tt (fun e a => stA I S 7 0 e (a)) (fun e a => stA I S 7 1 e (a)) r j := by
  unfold n301
  pointwise [k0_pay301]
  try simp only [n131_at I, n150_at I, n214_at I, n216_at I, n221_at I, n222_at I, n279_at I S H, n280_at I S H, n297_at I S H, n297_at' I S H, n296_at I S H, n296_at' I S H, tt, zero_add, ← Nat.add_assoc, Nat.reduceAdd, Nat.reduceMul, zero_mul]
  try rfl

def n303 (I : Ins) := k0_pay303 (F := Ideal) (n137 I) (n156 I) (n217 I) (n218 I) (n223 I) (n224 I) (n281 I) (n282 I)
/-- The states of two heads, stacked, chunk 7, heads 2 and 3. -/
theorem n303_at (I : Ins) (S : ℕ → ℕ → ℕ → EReal) (H : Holds I S) (r : Fin 256) (j : Fin 128) : n303 I (ix2 r j) = tt (fun e a => stA I S 7 2 e (128 + a)) (fun e a => stA I S 7 3 e (128 + a)) r j := by
  unfold n303
  pointwise [k0_pay303]
  try simp only [n137_at I, n156_at I, n217_at I, n218_at I, n223_at I, n224_at I, n281_at I S H, n282_at I S H, n299_at I S H, n299_at' I S H, n298_at I S H, n298_at' I S H, tt, zero_add, ← Nat.add_assoc, Nat.reduceAdd, Nat.reduceMul, zero_mul]
  try rfl

def n312 (I : Ins) := k0_pay312 (F := Ideal) (n35 I) (n38 I) (n242 I) (n243 I)
/-- The values of two heads, chunk 0, heads 0 and 1. -/
theorem n312_at (I : Ins) (S : ℕ → ℕ → ℕ → EReal) (H : Holds I S) (r : Fin 64) (j : Fin 256) : n312 I (ix2 r j) = oi (fun r a => cQ (dc I 0) (lc I 0) r (a)) (fun r a => cI (dc I 0) (lc I 0) r (a)) (fun r e => dc I 0 r (512 + e)) r j + ox (fun r a => cQ (dc I 0) (lc I 0) r (a)) (fun e a => stA I S 0 0 e (a)) (fun e a => stA I S 0 1 e (a)) r j := by
  unfold n312
  pointwise [k0_pay312]
  simp only [n35_at I, n38_at I, n242_at I, n243_at I S H, zero_add, ← Nat.add_assoc, Nat.reduceAdd, Nat.reduceMul, zero_mul]
  exact congrArg₂ (· + ·) (oi_of (fun r a => cQ (dc I 0) (lc I 0) r (a)) (fun r a => cI (dc I 0) (lc I 0) r (a)) (fun r e => dc I 0 r (512 + e)) r j) (ox_of (fun r a => cQ (dc I 0) (lc I 0) r (a)) (fun e a => stA I S 0 0 e (a)) (fun e a => stA I S 0 1 e (a)) r j)
/-- Head 0 of it. -/
theorem n312_h0 (I : Ins) (S : ℕ → ℕ → ℕ → EReal) (H : Holds I S) (r : Fin 64) (e : Fin 128) : n312 I (ix2 r ⟨e, by omega⟩) = cO (dc I 0) (lc I 0) (stA I S 0) 0 r e := by
  rw [n312_at I S H]
  refine (head0 (fun r a => cQ (dc I 0) (lc I 0) r (a)) (fun r a => cI (dc I 0) (lc I 0) r (a)) (fun r e => dc I 0 r (512 + e)) (fun e a => stA I S 0 0 e (a)) (fun e a => stA I S 0 1 e (a)) r e).trans ?_
  simp only [cO, zero_add, ← Nat.add_assoc, Nat.reduceAdd, Nat.reduceMul, zero_mul]
/-- Head 1 of it. -/
theorem n312_h1 (I : Ins) (S : ℕ → ℕ → ℕ → EReal) (H : Holds I S) (r : Fin 64) (e : Fin 128) : n312 I (ix2 r ⟨128 + e, by omega⟩) = cO (dc I 0) (lc I 0) (stA I S 0) 1 r e := by
  rw [n312_at I S H]
  refine (head1 (fun r a => cQ (dc I 0) (lc I 0) r (a)) (fun r a => cI (dc I 0) (lc I 0) r (a)) (fun r e => dc I 0 r (512 + e)) (fun e a => stA I S 0 0 e (a)) (fun e a => stA I S 0 1 e (a)) r e).trans ?_
  simp only [cO, zero_add, ← Nat.add_assoc, Nat.reduceAdd, Nat.reduceMul, zero_mul]

def n313 (I : Ins) := k0_pay313 (F := Ideal) (n41 I) (n44 I) (n245 I) (n246 I)
/-- The values of two heads, chunk 0, heads 2 and 3. -/
theorem n313_at (I : Ins) (S : ℕ → ℕ → ℕ → EReal) (H : Holds I S) (r : Fin 64) (j : Fin 256) : n313 I (ix2 r j) = oi (fun r a => cQ (dc I 0) (lc I 0) r (128 + a)) (fun r a => cI (dc I 0) (lc I 0) r (128 + a)) (fun r e => dc I 0 r (768 + e)) r j + ox (fun r a => cQ (dc I 0) (lc I 0) r (128 + a)) (fun e a => stA I S 0 2 e (128 + a)) (fun e a => stA I S 0 3 e (128 + a)) r j := by
  unfold n313
  pointwise [k0_pay313]
  simp only [n41_at I, n44_at I, n245_at I, n246_at I S H, zero_add, ← Nat.add_assoc, Nat.reduceAdd, Nat.reduceMul, zero_mul]
  exact congrArg₂ (· + ·) (oi_of (fun r a => cQ (dc I 0) (lc I 0) r (128 + a)) (fun r a => cI (dc I 0) (lc I 0) r (128 + a)) (fun r e => dc I 0 r (768 + e)) r j) (ox_of (fun r a => cQ (dc I 0) (lc I 0) r (128 + a)) (fun e a => stA I S 0 2 e (128 + a)) (fun e a => stA I S 0 3 e (128 + a)) r j)
/-- Head 2 of it. -/
theorem n313_h0 (I : Ins) (S : ℕ → ℕ → ℕ → EReal) (H : Holds I S) (r : Fin 64) (e : Fin 128) : n313 I (ix2 r ⟨e, by omega⟩) = cO (dc I 0) (lc I 0) (stA I S 0) 2 r e := by
  rw [n313_at I S H]
  refine (head0 (fun r a => cQ (dc I 0) (lc I 0) r (128 + a)) (fun r a => cI (dc I 0) (lc I 0) r (128 + a)) (fun r e => dc I 0 r (768 + e)) (fun e a => stA I S 0 2 e (128 + a)) (fun e a => stA I S 0 3 e (128 + a)) r e).trans ?_
  simp only [cO, zero_add, ← Nat.add_assoc, Nat.reduceAdd, Nat.reduceMul, zero_mul]
/-- Head 3 of it. -/
theorem n313_h1 (I : Ins) (S : ℕ → ℕ → ℕ → EReal) (H : Holds I S) (r : Fin 64) (e : Fin 128) : n313 I (ix2 r ⟨128 + e, by omega⟩) = cO (dc I 0) (lc I 0) (stA I S 0) 3 r e := by
  rw [n313_at I S H]
  refine (head1 (fun r a => cQ (dc I 0) (lc I 0) r (128 + a)) (fun r a => cI (dc I 0) (lc I 0) r (128 + a)) (fun r e => dc I 0 r (768 + e)) (fun e a => stA I S 0 2 e (128 + a)) (fun e a => stA I S 0 3 e (128 + a)) r e).trans ?_
  simp only [cO, zero_add, ← Nat.add_assoc, Nat.reduceAdd, Nat.reduceMul, zero_mul]

def n314 (I : Ins) := k0_pay314 (F := Ideal) (n53 I) (n59 I) (n251 I) (n252 I)
/-- The values of two heads, chunk 1, heads 0 and 1. -/
theorem n314_at (I : Ins) (S : ℕ → ℕ → ℕ → EReal) (H : Holds I S) (r : Fin 64) (j : Fin 256) : n314 I (ix2 r j) = oi (fun r a => cQ (dc I 64) (lc I 64) r (a)) (fun r a => cI (dc I 64) (lc I 64) r (a)) (fun r e => dc I 64 r (512 + e)) r j + ox (fun r a => cQ (dc I 64) (lc I 64) r (a)) (fun e a => stA I S 1 0 e (a)) (fun e a => stA I S 1 1 e (a)) r j := by
  unfold n314
  pointwise [k0_pay314]
  simp only [n53_at I, n59_at I, n251_at I, n252_at I S H, zero_add, ← Nat.add_assoc, Nat.reduceAdd, Nat.reduceMul, zero_mul]
  exact congrArg₂ (· + ·) (oi_of (fun r a => cQ (dc I 64) (lc I 64) r (a)) (fun r a => cI (dc I 64) (lc I 64) r (a)) (fun r e => dc I 64 r (512 + e)) r j) (ox_of (fun r a => cQ (dc I 64) (lc I 64) r (a)) (fun e a => stA I S 1 0 e (a)) (fun e a => stA I S 1 1 e (a)) r j)
/-- Head 0 of it. -/
theorem n314_h0 (I : Ins) (S : ℕ → ℕ → ℕ → EReal) (H : Holds I S) (r : Fin 64) (e : Fin 128) : n314 I (ix2 r ⟨e, by omega⟩) = cO (dc I 64) (lc I 64) (stA I S 1) 0 r e := by
  rw [n314_at I S H]
  refine (head0 (fun r a => cQ (dc I 64) (lc I 64) r (a)) (fun r a => cI (dc I 64) (lc I 64) r (a)) (fun r e => dc I 64 r (512 + e)) (fun e a => stA I S 1 0 e (a)) (fun e a => stA I S 1 1 e (a)) r e).trans ?_
  simp only [cO, zero_add, ← Nat.add_assoc, Nat.reduceAdd, Nat.reduceMul, zero_mul]
/-- Head 1 of it. -/
theorem n314_h1 (I : Ins) (S : ℕ → ℕ → ℕ → EReal) (H : Holds I S) (r : Fin 64) (e : Fin 128) : n314 I (ix2 r ⟨128 + e, by omega⟩) = cO (dc I 64) (lc I 64) (stA I S 1) 1 r e := by
  rw [n314_at I S H]
  refine (head1 (fun r a => cQ (dc I 64) (lc I 64) r (a)) (fun r a => cI (dc I 64) (lc I 64) r (a)) (fun r e => dc I 64 r (512 + e)) (fun e a => stA I S 1 0 e (a)) (fun e a => stA I S 1 1 e (a)) r e).trans ?_
  simp only [cO, zero_add, ← Nat.add_assoc, Nat.reduceAdd, Nat.reduceMul, zero_mul]

def n315 (I : Ins) := k0_pay315 (F := Ideal) (n62 I) (n65 I) (n253 I) (n254 I)
/-- The values of two heads, chunk 1, heads 2 and 3. -/
theorem n315_at (I : Ins) (S : ℕ → ℕ → ℕ → EReal) (H : Holds I S) (r : Fin 64) (j : Fin 256) : n315 I (ix2 r j) = oi (fun r a => cQ (dc I 64) (lc I 64) r (128 + a)) (fun r a => cI (dc I 64) (lc I 64) r (128 + a)) (fun r e => dc I 64 r (768 + e)) r j + ox (fun r a => cQ (dc I 64) (lc I 64) r (128 + a)) (fun e a => stA I S 1 2 e (128 + a)) (fun e a => stA I S 1 3 e (128 + a)) r j := by
  unfold n315
  pointwise [k0_pay315]
  simp only [n62_at I, n65_at I, n253_at I, n254_at I S H, zero_add, ← Nat.add_assoc, Nat.reduceAdd, Nat.reduceMul, zero_mul]
  exact congrArg₂ (· + ·) (oi_of (fun r a => cQ (dc I 64) (lc I 64) r (128 + a)) (fun r a => cI (dc I 64) (lc I 64) r (128 + a)) (fun r e => dc I 64 r (768 + e)) r j) (ox_of (fun r a => cQ (dc I 64) (lc I 64) r (128 + a)) (fun e a => stA I S 1 2 e (128 + a)) (fun e a => stA I S 1 3 e (128 + a)) r j)
/-- Head 2 of it. -/
theorem n315_h0 (I : Ins) (S : ℕ → ℕ → ℕ → EReal) (H : Holds I S) (r : Fin 64) (e : Fin 128) : n315 I (ix2 r ⟨e, by omega⟩) = cO (dc I 64) (lc I 64) (stA I S 1) 2 r e := by
  rw [n315_at I S H]
  refine (head0 (fun r a => cQ (dc I 64) (lc I 64) r (128 + a)) (fun r a => cI (dc I 64) (lc I 64) r (128 + a)) (fun r e => dc I 64 r (768 + e)) (fun e a => stA I S 1 2 e (128 + a)) (fun e a => stA I S 1 3 e (128 + a)) r e).trans ?_
  simp only [cO, zero_add, ← Nat.add_assoc, Nat.reduceAdd, Nat.reduceMul, zero_mul]
/-- Head 3 of it. -/
theorem n315_h1 (I : Ins) (S : ℕ → ℕ → ℕ → EReal) (H : Holds I S) (r : Fin 64) (e : Fin 128) : n315 I (ix2 r ⟨128 + e, by omega⟩) = cO (dc I 64) (lc I 64) (stA I S 1) 3 r e := by
  rw [n315_at I S H]
  refine (head1 (fun r a => cQ (dc I 64) (lc I 64) r (128 + a)) (fun r a => cI (dc I 64) (lc I 64) r (128 + a)) (fun r e => dc I 64 r (768 + e)) (fun e a => stA I S 1 2 e (128 + a)) (fun e a => stA I S 1 3 e (128 + a)) r e).trans ?_
  simp only [cO, zero_add, ← Nat.add_assoc, Nat.reduceAdd, Nat.reduceMul, zero_mul]

def n316 (I : Ins) := k0_pay316 (F := Ideal) (n77 I) (n259 I)
/-- The intra-chunk values of two heads, chunk 2, heads 0 and 1. -/
theorem n316_at (I : Ins) (r : Fin 64) (j : Fin 256) : n316 I (ix2 r j) = oi (fun r a => cQ (dc I 128) (lc I 128) r (a)) (fun r a => cI (dc I 128) (lc I 128) r (a)) (fun r e => dc I 128 r (512 + e)) r j := by
  unfold n316
  pointwise [k0_pay316]
  simp only [n77_at I, n259_at I, zero_add, ← Nat.add_assoc, Nat.reduceAdd, Nat.reduceMul, zero_mul]
  exact oi_of (fun r a => cQ (dc I 128) (lc I 128) r (a)) (fun r a => cI (dc I 128) (lc I 128) r (a)) (fun r e => dc I 128 r (512 + e)) r j

def n317 (I : Ins) := k0_pay317 (F := Ideal) (n74 I) (n260 I) (n316 I) (constant S64x256 .f32 0x00000000#32)
/-- The values of two heads, chunk 2, heads 0 and 1. -/
theorem n317_at (I : Ins) (S : ℕ → ℕ → ℕ → EReal) (H : Holds I S) (r : Fin 64) (j : Fin 256) : n317 I (ix2 r j) = oi (fun r a => cQ (dc I 128) (lc I 128) r (a)) (fun r a => cI (dc I 128) (lc I 128) r (a)) (fun r e => dc I 128 r (512 + e)) r j + ox (fun r a => cQ (dc I 128) (lc I 128) r (a)) (fun e a => stA I S 2 0 e (a)) (fun e a => stA I S 2 1 e (a)) r j := by
  unfold n317
  pointwise [k0_pay317]
  simp only [n74_at I, n260_at I S H, n316_at I, zero_add, ← Nat.add_assoc, Nat.reduceAdd, Nat.reduceMul, zero_mul]
  refine congrArg (oi _ _ _ r j + ·) ?_
  exact ox_of (fun r a => cQ (dc I 128) (lc I 128) r (a)) (fun e a => stA I S 2 0 e (a)) (fun e a => stA I S 2 1 e (a)) r j
/-- Head 0 of it. -/
theorem n317_h0 (I : Ins) (S : ℕ → ℕ → ℕ → EReal) (H : Holds I S) (r : Fin 64) (e : Fin 128) : n317 I (ix2 r ⟨e, by omega⟩) = cO (dc I 128) (lc I 128) (stA I S 2) 0 r e := by
  rw [n317_at I S H]
  refine (head0 (fun r a => cQ (dc I 128) (lc I 128) r (a)) (fun r a => cI (dc I 128) (lc I 128) r (a)) (fun r e => dc I 128 r (512 + e)) (fun e a => stA I S 2 0 e (a)) (fun e a => stA I S 2 1 e (a)) r e).trans ?_
  simp only [cO, zero_add, ← Nat.add_assoc, Nat.reduceAdd, Nat.reduceMul, zero_mul]
/-- Head 1 of it. -/
theorem n317_h1 (I : Ins) (S : ℕ → ℕ → ℕ → EReal) (H : Holds I S) (r : Fin 64) (e : Fin 128) : n317 I (ix2 r ⟨128 + e, by omega⟩) = cO (dc I 128) (lc I 128) (stA I S 2) 1 r e := by
  rw [n317_at I S H]
  refine (head1 (fun r a => cQ (dc I 128) (lc I 128) r (a)) (fun r a => cI (dc I 128) (lc I 128) r (a)) (fun r e => dc I 128 r (512 + e)) (fun e a => stA I S 2 0 e (a)) (fun e a => stA I S 2 1 e (a)) r e).trans ?_
  simp only [cO, zero_add, ← Nat.add_assoc, Nat.reduceAdd, Nat.reduceMul, zero_mul]

def n318 (I : Ins) := k0_pay318 (F := Ideal) (n80 I) (n84 I) (n261 I) (n262 I)
/-- The values of two heads, chunk 2, heads 2 and 3. -/
theorem n318_at (I : Ins) (S : ℕ → ℕ → ℕ → EReal) (H : Holds I S) (r : Fin 64) (j : Fin 256) : n318 I (ix2 r j) = oi (fun r a => cQ (dc I 128) (lc I 128) r (128 + a)) (fun r a => cI (dc I 128) (lc I 128) r (128 + a)) (fun r e => dc I 128 r (768 + e)) r j + ox (fun r a => cQ (dc I 128) (lc I 128) r (128 + a)) (fun e a => stA I S 2 2 e (128 + a)) (fun e a => stA I S 2 3 e (128 + a)) r j := by
  unfold n318
  pointwise [k0_pay318]
  simp only [n80_at I, n84_at I, n261_at I, n262_at I S H, zero_add, ← Nat.add_assoc, Nat.reduceAdd, Nat.reduceMul, zero_mul]
  exact congrArg₂ (· + ·) (oi_of (fun r a => cQ (dc I 128) (lc I 128) r (128 + a)) (fun r a => cI (dc I 128) (lc I 128) r (128 + a)) (fun r e => dc I 128 r (768 + e)) r j) (ox_of (fun r a => cQ (dc I 128) (lc I 128) r (128 + a)) (fun e a => stA I S 2 2 e (128 + a)) (fun e a => stA I S 2 3 e (128 + a)) r j)
/-- Head 2 of it. -/
theorem n318_h0 (I : Ins) (S : ℕ → ℕ → ℕ → EReal) (H : Holds I S) (r : Fin 64) (e : Fin 128) : n318 I (ix2 r ⟨e, by omega⟩) = cO (dc I 128) (lc I 128) (stA I S 2) 2 r e := by
  rw [n318_at I S H]
  refine (head0 (fun r a => cQ (dc I 128) (lc I 128) r (128 + a)) (fun r a => cI (dc I 128) (lc I 128) r (128 + a)) (fun r e => dc I 128 r (768 + e)) (fun e a => stA I S 2 2 e (128 + a)) (fun e a => stA I S 2 3 e (128 + a)) r e).trans ?_
  simp only [cO, zero_add, ← Nat.add_assoc, Nat.reduceAdd, Nat.reduceMul, zero_mul]
/-- Head 3 of it. -/
theorem n318_h1 (I : Ins) (S : ℕ → ℕ → ℕ → EReal) (H : Holds I S) (r : Fin 64) (e : Fin 128) : n318 I (ix2 r ⟨128 + e, by omega⟩) = cO (dc I 128) (lc I 128) (stA I S 2) 3 r e := by
  rw [n318_at I S H]
  refine (head1 (fun r a => cQ (dc I 128) (lc I 128) r (128 + a)) (fun r a => cI (dc I 128) (lc I 128) r (128 + a)) (fun r e => dc I 128 r (768 + e)) (fun e a => stA I S 2 2 e (128 + a)) (fun e a => stA I S 2 3 e (128 + a)) r e).trans ?_
  simp only [cO, zero_add, ← Nat.add_assoc, Nat.reduceAdd, Nat.reduceMul, zero_mul]

def n319 (I : Ins) := k0_pay319 (F := Ideal) (n93 I) (n96 I) (n267 I) (n268 I)
/-- The values of two heads, chunk 3, heads 0 and 1. -/
theorem n319_at (I : Ins) (S : ℕ → ℕ → ℕ → EReal) (H : Holds I S) (r : Fin 64) (j : Fin 256) : n319 I (ix2 r j) = oi (fun r a => cQ (dc I 192) (lc I 192) r (a)) (fun r a => cI (dc I 192) (lc I 192) r (a)) (fun r e => dc I 192 r (512 + e)) r j + ox (fun r a => cQ (dc I 192) (lc I 192) r (a)) (fun e a => stA I S 3 0 e (a)) (fun e a => stA I S 3 1 e (a)) r j := by
  unfold n319
  pointwise [k0_pay319]
  simp only [n93_at I, n96_at I, n267_at I, n268_at I S H, zero_add, ← Nat.add_assoc, Nat.reduceAdd, Nat.reduceMul, zero_mul]
  exact congrArg₂ (· + ·) (oi_of (fun r a => cQ (dc I 192) (lc I 192) r (a)) (fun r a => cI (dc I 192) (lc I 192) r (a)) (fun r e => dc I 192 r (512 + e)) r j) (ox_of (fun r a => cQ (dc I 192) (lc I 192) r (a)) (fun e a => stA I S 3 0 e (a)) (fun e a => stA I S 3 1 e (a)) r j)
/-- Head 0 of it. -/
theorem n319_h0 (I : Ins) (S : ℕ → ℕ → ℕ → EReal) (H : Holds I S) (r : Fin 64) (e : Fin 128) : n319 I (ix2 r ⟨e, by omega⟩) = cO (dc I 192) (lc I 192) (stA I S 3) 0 r e := by
  rw [n319_at I S H]
  refine (head0 (fun r a => cQ (dc I 192) (lc I 192) r (a)) (fun r a => cI (dc I 192) (lc I 192) r (a)) (fun r e => dc I 192 r (512 + e)) (fun e a => stA I S 3 0 e (a)) (fun e a => stA I S 3 1 e (a)) r e).trans ?_
  simp only [cO, zero_add, ← Nat.add_assoc, Nat.reduceAdd, Nat.reduceMul, zero_mul]
/-- Head 1 of it. -/
theorem n319_h1 (I : Ins) (S : ℕ → ℕ → ℕ → EReal) (H : Holds I S) (r : Fin 64) (e : Fin 128) : n319 I (ix2 r ⟨128 + e, by omega⟩) = cO (dc I 192) (lc I 192) (stA I S 3) 1 r e := by
  rw [n319_at I S H]
  refine (head1 (fun r a => cQ (dc I 192) (lc I 192) r (a)) (fun r a => cI (dc I 192) (lc I 192) r (a)) (fun r e => dc I 192 r (512 + e)) (fun e a => stA I S 3 0 e (a)) (fun e a => stA I S 3 1 e (a)) r e).trans ?_
  simp only [cO, zero_add, ← Nat.add_assoc, Nat.reduceAdd, Nat.reduceMul, zero_mul]

def n320 (I : Ins) := k0_pay320 (F := Ideal) (n99 I) (n102 I) (n269 I) (n270 I)
/-- The values of two heads, chunk 3, heads 2 and 3. -/
theorem n320_at (I : Ins) (S : ℕ → ℕ → ℕ → EReal) (H : Holds I S) (r : Fin 64) (j : Fin 256) : n320 I (ix2 r j) = oi (fun r a => cQ (dc I 192) (lc I 192) r (128 + a)) (fun r a => cI (dc I 192) (lc I 192) r (128 + a)) (fun r e => dc I 192 r (768 + e)) r j + ox (fun r a => cQ (dc I 192) (lc I 192) r (128 + a)) (fun e a => stA I S 3 2 e (128 + a)) (fun e a => stA I S 3 3 e (128 + a)) r j := by
  unfold n320
  pointwise [k0_pay320]
  simp only [n99_at I, n102_at I, n269_at I, n270_at I S H, zero_add, ← Nat.add_assoc, Nat.reduceAdd, Nat.reduceMul, zero_mul]
  exact congrArg₂ (· + ·) (oi_of (fun r a => cQ (dc I 192) (lc I 192) r (128 + a)) (fun r a => cI (dc I 192) (lc I 192) r (128 + a)) (fun r e => dc I 192 r (768 + e)) r j) (ox_of (fun r a => cQ (dc I 192) (lc I 192) r (128 + a)) (fun e a => stA I S 3 2 e (128 + a)) (fun e a => stA I S 3 3 e (128 + a)) r j)
/-- Head 2 of it. -/
theorem n320_h0 (I : Ins) (S : ℕ → ℕ → ℕ → EReal) (H : Holds I S) (r : Fin 64) (e : Fin 128) : n320 I (ix2 r ⟨e, by omega⟩) = cO (dc I 192) (lc I 192) (stA I S 3) 2 r e := by
  rw [n320_at I S H]
  refine (head0 (fun r a => cQ (dc I 192) (lc I 192) r (128 + a)) (fun r a => cI (dc I 192) (lc I 192) r (128 + a)) (fun r e => dc I 192 r (768 + e)) (fun e a => stA I S 3 2 e (128 + a)) (fun e a => stA I S 3 3 e (128 + a)) r e).trans ?_
  simp only [cO, zero_add, ← Nat.add_assoc, Nat.reduceAdd, Nat.reduceMul, zero_mul]
/-- Head 3 of it. -/
theorem n320_h1 (I : Ins) (S : ℕ → ℕ → ℕ → EReal) (H : Holds I S) (r : Fin 64) (e : Fin 128) : n320 I (ix2 r ⟨128 + e, by omega⟩) = cO (dc I 192) (lc I 192) (stA I S 3) 3 r e := by
  rw [n320_at I S H]
  refine (head1 (fun r a => cQ (dc I 192) (lc I 192) r (128 + a)) (fun r a => cI (dc I 192) (lc I 192) r (128 + a)) (fun r e => dc I 192 r (768 + e)) (fun e a => stA I S 3 2 e (128 + a)) (fun e a => stA I S 3 3 e (128 + a)) r e).trans ?_
  simp only [cO, zero_add, ← Nat.add_assoc, Nat.reduceAdd, Nat.reduceMul, zero_mul]

def n321 (I : Ins) := k0_pay321 (F := Ideal) (n111 I) (n114 I) (n275 I) (n276 I)
/-- The values of two heads, chunk 4, heads 0 and 1. -/
theorem n321_at (I : Ins) (S : ℕ → ℕ → ℕ → EReal) (H : Holds I S) (r : Fin 64) (j : Fin 256) : n321 I (ix2 r j) = oi (fun r a => cQ (dc I 256) (lc I 256) r (a)) (fun r a => cI (dc I 256) (lc I 256) r (a)) (fun r e => dc I 256 r (512 + e)) r j + ox (fun r a => cQ (dc I 256) (lc I 256) r (a)) (fun e a => stA I S 4 0 e (a)) (fun e a => stA I S 4 1 e (a)) r j := by
  unfold n321
  pointwise [k0_pay321]
  simp only [n111_at I, n114_at I, n275_at I, n276_at I S H, zero_add, ← Nat.add_assoc, Nat.reduceAdd, Nat.reduceMul, zero_mul]
  exact congrArg₂ (· + ·) (oi_of (fun r a => cQ (dc I 256) (lc I 256) r (a)) (fun r a => cI (dc I 256) (lc I 256) r (a)) (fun r e => dc I 256 r (512 + e)) r j) (ox_of (fun r a => cQ (dc I 256) (lc I 256) r (a)) (fun e a => stA I S 4 0 e (a)) (fun e a => stA I S 4 1 e (a)) r j)
/-- Head 0 of it. -/
theorem n321_h0 (I : Ins) (S : ℕ → ℕ → ℕ → EReal) (H : Holds I S) (r : Fin 64) (e : Fin 128) : n321 I (ix2 r ⟨e, by omega⟩) = cO (dc I 256) (lc I 256) (stA I S 4) 0 r e := by
  rw [n321_at I S H]
  refine (head0 (fun r a => cQ (dc I 256) (lc I 256) r (a)) (fun r a => cI (dc I 256) (lc I 256) r (a)) (fun r e => dc I 256 r (512 + e)) (fun e a => stA I S 4 0 e (a)) (fun e a => stA I S 4 1 e (a)) r e).trans ?_
  simp only [cO, zero_add, ← Nat.add_assoc, Nat.reduceAdd, Nat.reduceMul, zero_mul]
/-- Head 1 of it. -/
theorem n321_h1 (I : Ins) (S : ℕ → ℕ → ℕ → EReal) (H : Holds I S) (r : Fin 64) (e : Fin 128) : n321 I (ix2 r ⟨128 + e, by omega⟩) = cO (dc I 256) (lc I 256) (stA I S 4) 1 r e := by
  rw [n321_at I S H]
  refine (head1 (fun r a => cQ (dc I 256) (lc I 256) r (a)) (fun r a => cI (dc I 256) (lc I 256) r (a)) (fun r e => dc I 256 r (512 + e)) (fun e a => stA I S 4 0 e (a)) (fun e a => stA I S 4 1 e (a)) r e).trans ?_
  simp only [cO, zero_add, ← Nat.add_assoc, Nat.reduceAdd, Nat.reduceMul, zero_mul]

def n322 (I : Ins) := k0_pay322 (F := Ideal) (n117 I) (n120 I) (n277 I) (n278 I)
/-- The values of two heads, chunk 4, heads 2 and 3. -/
theorem n322_at (I : Ins) (S : ℕ → ℕ → ℕ → EReal) (H : Holds I S) (r : Fin 64) (j : Fin 256) : n322 I (ix2 r j) = oi (fun r a => cQ (dc I 256) (lc I 256) r (128 + a)) (fun r a => cI (dc I 256) (lc I 256) r (128 + a)) (fun r e => dc I 256 r (768 + e)) r j + ox (fun r a => cQ (dc I 256) (lc I 256) r (128 + a)) (fun e a => stA I S 4 2 e (128 + a)) (fun e a => stA I S 4 3 e (128 + a)) r j := by
  unfold n322
  pointwise [k0_pay322]
  simp only [n117_at I, n120_at I, n277_at I, n278_at I S H, zero_add, ← Nat.add_assoc, Nat.reduceAdd, Nat.reduceMul, zero_mul]
  exact congrArg₂ (· + ·) (oi_of (fun r a => cQ (dc I 256) (lc I 256) r (128 + a)) (fun r a => cI (dc I 256) (lc I 256) r (128 + a)) (fun r e => dc I 256 r (768 + e)) r j) (ox_of (fun r a => cQ (dc I 256) (lc I 256) r (128 + a)) (fun e a => stA I S 4 2 e (128 + a)) (fun e a => stA I S 4 3 e (128 + a)) r j)
/-- Head 2 of it. -/
theorem n322_h0 (I : Ins) (S : ℕ → ℕ → ℕ → EReal) (H : Holds I S) (r : Fin 64) (e : Fin 128) : n322 I (ix2 r ⟨e, by omega⟩) = cO (dc I 256) (lc I 256) (stA I S 4) 2 r e := by
  rw [n322_at I S H]
  refine (head0 (fun r a => cQ (dc I 256) (lc I 256) r (128 + a)) (fun r a => cI (dc I 256) (lc I 256) r (128 + a)) (fun r e => dc I 256 r (768 + e)) (fun e a => stA I S 4 2 e (128 + a)) (fun e a => stA I S 4 3 e (128 + a)) r e).trans ?_
  simp only [cO, zero_add, ← Nat.add_assoc, Nat.reduceAdd, Nat.reduceMul, zero_mul]
/-- Head 3 of it. -/
theorem n322_h1 (I : Ins) (S : ℕ → ℕ → ℕ → EReal) (H : Holds I S) (r : Fin 64) (e : Fin 128) : n322 I (ix2 r ⟨128 + e, by omega⟩) = cO (dc I 256) (lc I 256) (stA I S 4) 3 r e := by
  rw [n322_at I S H]
  refine (head1 (fun r a => cQ (dc I 256) (lc I 256) r (128 + a)) (fun r a => cI (dc I 256) (lc I 256) r (128 + a)) (fun r e => dc I 256 r (768 + e)) (fun e a => stA I S 4 2 e (128 + a)) (fun e a => stA I S 4 3 e (128 + a)) r e).trans ?_
  simp only [cO, zero_add, ← Nat.add_assoc, Nat.reduceAdd, Nat.reduceMul, zero_mul]

def n323 (I : Ins) := k0_pay323 (F := Ideal) (n130 I) (n133 I) (n283 I) (n284 I)
/-- The values of two heads, chunk 5, heads 0 and 1. -/
theorem n323_at (I : Ins) (S : ℕ → ℕ → ℕ → EReal) (H : Holds I S) (r : Fin 64) (j : Fin 256) : n323 I (ix2 r j) = oi (fun r a => cQ (dc I 320) (lc I 320) r (a)) (fun r a => cI (dc I 320) (lc I 320) r (a)) (fun r e => dc I 320 r (512 + e)) r j + ox (fun r a => cQ (dc I 320) (lc I 320) r (a)) (fun e a => stA I S 5 0 e (a)) (fun e a => stA I S 5 1 e (a)) r j := by
  unfold n323
  pointwise [k0_pay323]
  simp only [n130_at I, n133_at I, n283_at I, n284_at I S H, zero_add, ← Nat.add_assoc, Nat.reduceAdd, Nat.reduceMul, zero_mul]
  exact congrArg₂ (· + ·) (oi_of (fun r a => cQ (dc I 320) (lc I 320) r (a)) (fun r a => cI (dc I 320) (lc I 320) r (a)) (fun r e => dc I 320 r (512 + e)) r j) (ox_of (fun r a => cQ (dc I 320) (lc I 320) r (a)) (fun e a => stA I S 5 0 e (a)) (fun e a => stA I S 5 1 e (a)) r j)
/-- Head 0 of it. -/
theorem n323_h0 (I : Ins) (S : ℕ → ℕ → ℕ → EReal) (H : Holds I S) (r : Fin 64) (e : Fin 128) : n323 I (ix2 r ⟨e, by omega⟩) = cO (dc I 320) (lc I 320) (stA I S 5) 0 r e := by
  rw [n323_at I S H]
  refine (head0 (fun r a => cQ (dc I 320) (lc I 320) r (a)) (fun r a => cI (dc I 320) (lc I 320) r (a)) (fun r e => dc I 320 r (512 + e)) (fun e a => stA I S 5 0 e (a)) (fun e a => stA I S 5 1 e (a)) r e).trans ?_
  simp only [cO, zero_add, ← Nat.add_assoc, Nat.reduceAdd, Nat.reduceMul, zero_mul]
/-- Head 1 of it. -/
theorem n323_h1 (I : Ins) (S : ℕ → ℕ → ℕ → EReal) (H : Holds I S) (r : Fin 64) (e : Fin 128) : n323 I (ix2 r ⟨128 + e, by omega⟩) = cO (dc I 320) (lc I 320) (stA I S 5) 1 r e := by
  rw [n323_at I S H]
  refine (head1 (fun r a => cQ (dc I 320) (lc I 320) r (a)) (fun r a => cI (dc I 320) (lc I 320) r (a)) (fun r e => dc I 320 r (512 + e)) (fun e a => stA I S 5 0 e (a)) (fun e a => stA I S 5 1 e (a)) r e).trans ?_
  simp only [cO, zero_add, ← Nat.add_assoc, Nat.reduceAdd, Nat.reduceMul, zero_mul]

def n324 (I : Ins) := k0_pay324 (F := Ideal) (n136 I) (n139 I) (n286 I) (n287 I)
/-- The values of two heads, chunk 5, heads 2 and 3. -/
theorem n324_at (I : Ins) (S : ℕ → ℕ → ℕ → EReal) (H : Holds I S) (r : Fin 64) (j : Fin 256) : n324 I (ix2 r j) = oi (fun r a => cQ (dc I 320) (lc I 320) r (128 + a)) (fun r a => cI (dc I 320) (lc I 320) r (128 + a)) (fun r e => dc I 320 r (768 + e)) r j + ox (fun r a => cQ (dc I 320) (lc I 320) r (128 + a)) (fun e a => stA I S 5 2 e (128 + a)) (fun e a => stA I S 5 3 e (128 + a)) r j := by
  unfold n324
  pointwise [k0_pay324]
  simp only [n136_at I, n139_at I, n286_at I, n287_at I S H, zero_add, ← Nat.add_assoc, Nat.reduceAdd, Nat.reduceMul, zero_mul]
  exact congrArg₂ (· + ·) (oi_of (fun r a => cQ (dc I 320) (lc I 320) r (128 + a)) (fun r a => cI (dc I 320) (lc I 320) r (128 + a)) (fun r e => dc I 320 r (768 + e)) r j) (ox_of (fun r a => cQ (dc I 320) (lc I 320) r (128 + a)) (fun e a => stA I S 5 2 e (128 + a)) (fun e a => stA I S 5 3 e (128 + a)) r j)
/-- Head 2 of it. -/
theorem n324_h0 (I : Ins) (S : ℕ → ℕ → ℕ → EReal) (H : Holds I S) (r : Fin 64) (e : Fin 128) : n324 I (ix2 r ⟨e, by omega⟩) = cO (dc I 320) (lc I 320) (stA I S 5) 2 r e := by
  rw [n324_at I S H]
  refine (head0 (fun r a => cQ (dc I 320) (lc I 320) r (128 + a)) (fun r a => cI (dc I 320) (lc I 320) r (128 + a)) (fun r e => dc I 320 r (768 + e)) (fun e a => stA I S 5 2 e (128 + a)) (fun e a => stA I S 5 3 e (128 + a)) r e).trans ?_
  simp only [cO, zero_add, ← Nat.add_assoc, Nat.reduceAdd, Nat.reduceMul, zero_mul]
/-- Head 3 of it. -/
theorem n324_h1 (I : Ins) (S : ℕ → ℕ → ℕ → EReal) (H : Holds I S) (r : Fin 64) (e : Fin 128) : n324 I (ix2 r ⟨128 + e, by omega⟩) = cO (dc I 320) (lc I 320) (stA I S 5) 3 r e := by
  rw [n324_at I S H]
  refine (head1 (fun r a => cQ (dc I 320) (lc I 320) r (128 + a)) (fun r a => cI (dc I 320) (lc I 320) r (128 + a)) (fun r e => dc I 320 r (768 + e)) (fun e a => stA I S 5 2 e (128 + a)) (fun e a => stA I S 5 3 e (128 + a)) r e).trans ?_
  simp only [cO, zero_add, ← Nat.add_assoc, Nat.reduceAdd, Nat.reduceMul, zero_mul]

def n325 (I : Ins) := k0_pay325 (F := Ideal) (n149 I) (n152 I) (n292 I) (n293 I)
/-- The values of two heads, chunk 6, heads 0 and 1. -/
theorem n325_at (I : Ins) (S : ℕ → ℕ → ℕ → EReal) (H : Holds I S) (r : Fin 64) (j : Fin 256) : n325 I (ix2 r j) = oi (fun r a => cQ (dc I 384) (lc I 384) r (a)) (fun r a => cI (dc I 384) (lc I 384) r (a)) (fun r e => dc I 384 r (512 + e)) r j + ox (fun r a => cQ (dc I 384) (lc I 384) r (a)) (fun e a => stA I S 6 0 e (a)) (fun e a => stA I S 6 1 e (a)) r j := by
  unfold n325
  pointwise [k0_pay325]
  simp only [n149_at I, n152_at I, n292_at I, n293_at I S H, zero_add, ← Nat.add_assoc, Nat.reduceAdd, Nat.reduceMul, zero_mul]
  exact congrArg₂ (· + ·) (oi_of (fun r a => cQ (dc I 384) (lc I 384) r (a)) (fun r a => cI (dc I 384) (lc I 384) r (a)) (fun r e => dc I 384 r (512 + e)) r j) (ox_of (fun r a => cQ (dc I 384) (lc I 384) r (a)) (fun e a => stA I S 6 0 e (a)) (fun e a => stA I S 6 1 e (a)) r j)
/-- Head 0 of it. -/
theorem n325_h0 (I : Ins) (S : ℕ → ℕ → ℕ → EReal) (H : Holds I S) (r : Fin 64) (e : Fin 128) : n325 I (ix2 r ⟨e, by omega⟩) = cO (dc I 384) (lc I 384) (stA I S 6) 0 r e := by
  rw [n325_at I S H]
  refine (head0 (fun r a => cQ (dc I 384) (lc I 384) r (a)) (fun r a => cI (dc I 384) (lc I 384) r (a)) (fun r e => dc I 384 r (512 + e)) (fun e a => stA I S 6 0 e (a)) (fun e a => stA I S 6 1 e (a)) r e).trans ?_
  simp only [cO, zero_add, ← Nat.add_assoc, Nat.reduceAdd, Nat.reduceMul, zero_mul]
/-- Head 1 of it. -/
theorem n325_h1 (I : Ins) (S : ℕ → ℕ → ℕ → EReal) (H : Holds I S) (r : Fin 64) (e : Fin 128) : n325 I (ix2 r ⟨128 + e, by omega⟩) = cO (dc I 384) (lc I 384) (stA I S 6) 1 r e := by
  rw [n325_at I S H]
  refine (head1 (fun r a => cQ (dc I 384) (lc I 384) r (a)) (fun r a => cI (dc I 384) (lc I 384) r (a)) (fun r e => dc I 384 r (512 + e)) (fun e a => stA I S 6 0 e (a)) (fun e a => stA I S 6 1 e (a)) r e).trans ?_
  simp only [cO, zero_add, ← Nat.add_assoc, Nat.reduceAdd, Nat.reduceMul, zero_mul]

def n326 (I : Ins) := k0_pay326 (F := Ideal) (n155 I) (n158 I) (n294 I) (n295 I)
/-- The values of two heads, chunk 6, heads 2 and 3. -/
theorem n326_at (I : Ins) (S : ℕ → ℕ → ℕ → EReal) (H : Holds I S) (r : Fin 64) (j : Fin 256) : n326 I (ix2 r j) = oi (fun r a => cQ (dc I 384) (lc I 384) r (128 + a)) (fun r a => cI (dc I 384) (lc I 384) r (128 + a)) (fun r e => dc I 384 r (768 + e)) r j + ox (fun r a => cQ (dc I 384) (lc I 384) r (128 + a)) (fun e a => stA I S 6 2 e (128 + a)) (fun e a => stA I S 6 3 e (128 + a)) r j := by
  unfold n326
  pointwise [k0_pay326]
  simp only [n155_at I, n158_at I, n294_at I, n295_at I S H, zero_add, ← Nat.add_assoc, Nat.reduceAdd, Nat.reduceMul, zero_mul]
  exact congrArg₂ (· + ·) (oi_of (fun r a => cQ (dc I 384) (lc I 384) r (128 + a)) (fun r a => cI (dc I 384) (lc I 384) r (128 + a)) (fun r e => dc I 384 r (768 + e)) r j) (ox_of (fun r a => cQ (dc I 384) (lc I 384) r (128 + a)) (fun e a => stA I S 6 2 e (128 + a)) (fun e a => stA I S 6 3 e (128 + a)) r j)
/-- Head 2 of it. -/
theorem n326_h0 (I : Ins) (S : ℕ → ℕ → ℕ → EReal) (H : Holds I S) (r : Fin 64) (e : Fin 128) : n326 I (ix2 r ⟨e, by omega⟩) = cO (dc I 384) (lc I 384) (stA I S 6) 2 r e := by
  rw [n326_at I S H]
  refine (head0 (fun r a => cQ (dc I 384) (lc I 384) r (128 + a)) (fun r a => cI (dc I 384) (lc I 384) r (128 + a)) (fun r e => dc I 384 r (768 + e)) (fun e a => stA I S 6 2 e (128 + a)) (fun e a => stA I S 6 3 e (128 + a)) r e).trans ?_
  simp only [cO, zero_add, ← Nat.add_assoc, Nat.reduceAdd, Nat.reduceMul, zero_mul]
/-- Head 3 of it. -/
theorem n326_h1 (I : Ins) (S : ℕ → ℕ → ℕ → EReal) (H : Holds I S) (r : Fin 64) (e : Fin 128) : n326 I (ix2 r ⟨128 + e, by omega⟩) = cO (dc I 384) (lc I 384) (stA I S 6) 3 r e := by
  rw [n326_at I S H]
  refine (head1 (fun r a => cQ (dc I 384) (lc I 384) r (128 + a)) (fun r a => cI (dc I 384) (lc I 384) r (128 + a)) (fun r e => dc I 384 r (768 + e)) (fun e a => stA I S 6 2 e (128 + a)) (fun e a => stA I S 6 3 e (128 + a)) r e).trans ?_
  simp only [cO, zero_add, ← Nat.add_assoc, Nat.reduceAdd, Nat.reduceMul, zero_mul]

def n327 (I : Ins) := k0_pay327 (F := Ideal) (n167 I) (n171 I) (n300 I) (n301 I)
/-- The values of two heads, chunk 7, heads 0 and 1. -/
theorem n327_at (I : Ins) (S : ℕ → ℕ → ℕ → EReal) (H : Holds I S) (r : Fin 64) (j : Fin 256) : n327 I (ix2 r j) = oi (fun r a => cQ (dc I 448) (lc I 448) r (a)) (fun r a => cI (dc I 448) (lc I 448) r (a)) (fun r e => dc I 448 r (512 + e)) r j + ox (fun r a => cQ (dc I 448) (lc I 448) r (a)) (fun e a => stA I S 7 0 e (a)) (fun e a => stA I S 7 1 e (a)) r j := by
  unfold n327
  pointwise [k0_pay327]
  simp only [n167_at I, n171_at I, n300_at I, n301_at I S H, zero_add, ← Nat.add_assoc, Nat.reduceAdd, Nat.reduceMul, zero_mul]
  exact congrArg₂ (· + ·) (oi_of (fun r a => cQ (dc I 448) (lc I 448) r (a)) (fun r a => cI (dc I 448) (lc I 448) r (a)) (fun r e => dc I 448 r (512 + e)) r j) (ox_of (fun r a => cQ (dc I 448) (lc I 448) r (a)) (fun e a => stA I S 7 0 e (a)) (fun e a => stA I S 7 1 e (a)) r j)
/-- Head 0 of it. -/
theorem n327_h0 (I : Ins) (S : ℕ → ℕ → ℕ → EReal) (H : Holds I S) (r : Fin 64) (e : Fin 128) : n327 I (ix2 r ⟨e, by omega⟩) = cO (dc I 448) (lc I 448) (stA I S 7) 0 r e := by
  rw [n327_at I S H]
  refine (head0 (fun r a => cQ (dc I 448) (lc I 448) r (a)) (fun r a => cI (dc I 448) (lc I 448) r (a)) (fun r e => dc I 448 r (512 + e)) (fun e a => stA I S 7 0 e (a)) (fun e a => stA I S 7 1 e (a)) r e).trans ?_
  simp only [cO, zero_add, ← Nat.add_assoc, Nat.reduceAdd, Nat.reduceMul, zero_mul]
/-- Head 1 of it. -/
theorem n327_h1 (I : Ins) (S : ℕ → ℕ → ℕ → EReal) (H : Holds I S) (r : Fin 64) (e : Fin 128) : n327 I (ix2 r ⟨128 + e, by omega⟩) = cO (dc I 448) (lc I 448) (stA I S 7) 1 r e := by
  rw [n327_at I S H]
  refine (head1 (fun r a => cQ (dc I 448) (lc I 448) r (a)) (fun r a => cI (dc I 448) (lc I 448) r (a)) (fun r e => dc I 448 r (512 + e)) (fun e a => stA I S 7 0 e (a)) (fun e a => stA I S 7 1 e (a)) r e).trans ?_
  simp only [cO, zero_add, ← Nat.add_assoc, Nat.reduceAdd, Nat.reduceMul, zero_mul]

def n328 (I : Ins) := k0_pay328 (F := Ideal) (n174 I) (n177 I) (n302 I) (n303 I)
/-- The values of two heads, chunk 7, heads 2 and 3. -/
theorem n328_at (I : Ins) (S : ℕ → ℕ → ℕ → EReal) (H : Holds I S) (r : Fin 64) (j : Fin 256) : n328 I (ix2 r j) = oi (fun r a => cQ (dc I 448) (lc I 448) r (128 + a)) (fun r a => cI (dc I 448) (lc I 448) r (128 + a)) (fun r e => dc I 448 r (768 + e)) r j + ox (fun r a => cQ (dc I 448) (lc I 448) r (128 + a)) (fun e a => stA I S 7 2 e (128 + a)) (fun e a => stA I S 7 3 e (128 + a)) r j := by
  unfold n328
  pointwise [k0_pay328]
  simp only [n174_at I, n177_at I, n302_at I, n303_at I S H, zero_add, ← Nat.add_assoc, Nat.reduceAdd, Nat.reduceMul, zero_mul]
  exact congrArg₂ (· + ·) (oi_of (fun r a => cQ (dc I 448) (lc I 448) r (128 + a)) (fun r a => cI (dc I 448) (lc I 448) r (128 + a)) (fun r e => dc I 448 r (768 + e)) r j) (ox_of (fun r a => cQ (dc I 448) (lc I 448) r (128 + a)) (fun e a => stA I S 7 2 e (128 + a)) (fun e a => stA I S 7 3 e (128 + a)) r j)
/-- Head 2 of it. -/
theorem n328_h0 (I : Ins) (S : ℕ → ℕ → ℕ → EReal) (H : Holds I S) (r : Fin 64) (e : Fin 128) : n328 I (ix2 r ⟨e, by omega⟩) = cO (dc I 448) (lc I 448) (stA I S 7) 2 r e := by
  rw [n328_at I S H]
  refine (head0 (fun r a => cQ (dc I 448) (lc I 448) r (128 + a)) (fun r a => cI (dc I 448) (lc I 448) r (128 + a)) (fun r e => dc I 448 r (768 + e)) (fun e a => stA I S 7 2 e (128 + a)) (fun e a => stA I S 7 3 e (128 + a)) r e).trans ?_
  simp only [cO, zero_add, ← Nat.add_assoc, Nat.reduceAdd, Nat.reduceMul, zero_mul]
/-- Head 3 of it. -/
theorem n328_h1 (I : Ins) (S : ℕ → ℕ → ℕ → EReal) (H : Holds I S) (r : Fin 64) (e : Fin 128) : n328 I (ix2 r ⟨128 + e, by omega⟩) = cO (dc I 448) (lc I 448) (stA I S 7) 3 r e := by
  rw [n328_at I S H]
  refine (head1 (fun r a => cQ (dc I 448) (lc I 448) r (128 + a)) (fun r a => cI (dc I 448) (lc I 448) r (128 + a)) (fun r e => dc I 448 r (768 + e)) (fun e a => stA I S 7 2 e (128 + a)) (fun e a => stA I S 7 3 e (128 + a)) r e).trans ?_
  simp only [cO, zero_add, ← Nat.add_assoc, Nat.reduceAdd, Nat.reduceMul, zero_mul]

end Cert.MixerIdeal.Tile
-- ==== Proof.MixerTileE.lean ====
/- Tile values, fifth part: what the heads hand to the output projection. -/
module

public import proofs.«01_k».proof.Proof.MixerTileD

@[expose] public section

set_option maxRecDepth 16384

noncomputable section

open Idealize.ShloMosaic Idealize.ShloMosaic.TcCoe Idealize.SL.Sem
open scoped BigOperators

namespace Cert.MixerIdeal.Tile

open Cert.MixerIdeal Cert.MixerIdeal.Gen Cert.MixRows

def n330 (I : Ins) := k0_pay330 (F := Ideal) (n7 I) (n16 I) (n312 I)
/-- What one head hands to the output projection, chunk 0, head 0. -/
theorem n330_at (I : Ins) (S : ℕ → ℕ → ℕ → EReal) (H : Holds I S) (r : Fin 64) (j : Fin 128) : n330 I (ix2 r j) = cM (dc I 0) (lc I 0) (stA I S 0) (gn I) 0 r j := by
  unfold n330
  pointwise [k0_pay330]
  try simp only [n7_at I, n16_at I, n312_h0 I S H, cM, nrmH, dc_at, zero_add, ← Nat.add_assoc, Nat.reduceAdd, Nat.reduceMul, zero_mul]
  try rfl

def n331 (I : Ins) := k0_pay331 (F := Ideal) (n7 I)
/-- One head of the output gate, chunk 0, head 1. -/
theorem n331_at (I : Ins) (r : Fin 64) (j : Fin 128) : n331 I (ix2 r j) = dc I 0 r (1152 + j) := by
  unfold n331
  pointwise [k0_pay331]
  try simp only [n7_at I, dc_at, zero_add, ← Nat.add_assoc, Nat.reduceAdd, Nat.reduceMul, zero_mul]
  try rfl
/-- The same value where it is formed in place. -/
theorem n331_at' (I : Ins) (r : Fin 64) (j : Fin 128) : k0_pay331 (F := Ideal) (n7 I) (ix2 r j) = dc I 0 r (1152 + j) := n331_at I r j

def n332 (I : Ins) := k0_pay332 (F := Ideal) (n16 I) (n312 I)
/-- The normalised value of one head, chunk 0, head 1. -/
theorem n332_at (I : Ins) (S : ℕ → ℕ → ℕ → EReal) (H : Holds I S) (r : Fin 64) (j : Fin 128) : n332 I (ix2 r j) = nrmH (fun x => cO (dc I 0) (lc I 0) (stA I S 0) 1 r x) (gn I) j := by
  unfold n332
  pointwise [k0_pay332]
  try simp only [n16_at I, n312_h1 I S H, nrmH, zero_add, ← Nat.add_assoc, Nat.reduceAdd, Nat.reduceMul, zero_mul]
  try rfl

def n333 (I : Ins) := k0_pay333 (F := Ideal) (n7 I)
/-- The exponential of a negated output gate, chunk 0, head 1. -/
theorem n333_at (I : Ins) (r : Fin 64) (j : Fin 128) : n333 I (ix2 r j) = Ideal.exp (0 - dc I 0 r (1152 + j)) := by
  unfold n333
  pointwise [k0_pay333]
  try simp only [n7_at I, n331_at I, n331_at' I, dc_at, zero_add, ← Nat.add_assoc, Nat.reduceAdd, Nat.reduceMul, zero_mul]
  try rfl

def n334 (I : Ins) := k0_pay334 (F := Ideal) (n331 I) (n332 I) (n333 I)
/-- What one head hands to the output projection, chunk 0, head 1. -/
theorem n334_at (I : Ins) (S : ℕ → ℕ → ℕ → EReal) (H : Holds I S) (r : Fin 64) (j : Fin 128) : n334 I (ix2 r j) = cM (dc I 0) (lc I 0) (stA I S 0) (gn I) 1 r j := by
  unfold n334
  pointwise [k0_pay334]
  try simp only [n331_at I, n332_at I S H, n333_at I, cM, nrmH, dc_at, zero_add, ← Nat.add_assoc, Nat.reduceAdd, Nat.reduceMul, zero_mul]
  try rfl

def n335 (I : Ins) := k0_pay335 (F := Ideal) (n7 I) (n16 I) (n313 I)
/-- What one head hands to the output projection, chunk 0, head 2. -/
theorem n335_at (I : Ins) (S : ℕ → ℕ → ℕ → EReal) (H : Holds I S) (r : Fin 64) (j : Fin 128) : n335 I (ix2 r j) = cM (dc I 0) (lc I 0) (stA I S 0) (gn I) 2 r j := by
  unfold n335
  pointwise [k0_pay335]
  try simp only [n7_at I, n16_at I, n313_h0 I S H, cM, nrmH, dc_at, zero_add, ← Nat.add_assoc, Nat.reduceAdd, Nat.reduceMul, zero_mul]
  try rfl

def n336 (I : Ins) := k0_pay336 (F := Ideal) (n7 I)
/-- One head of the output gate, chunk 0, head 3. -/
theorem n336_at (I : Ins) (r : Fin 64) (j : Fin 128) : n336 I (ix2 r j) = dc I 0 r (1408 + j) := by
  unfold n336
  pointwise [k0_pay336]
  try simp only [n7_at I, dc_at, zero_add, ← Nat.add_assoc, Nat.reduceAdd, Nat.reduceMul, zero_mul]
  try rfl

def n337 (I : Ins) := k0_pay337 (F := Ideal) (n313 I)
/-- The value of one head, chunk 0, head 3. -/
theorem n337_at (I : Ins) (S : ℕ → ℕ → ℕ → EReal) (H : Holds I S) (r : Fin 64) (j : Fin 128) : n337 I (ix2 r j) = cO (dc I 0) (lc I 0) (stA I S 0) 3 r j := by
  unfold n337
  pointwise [k0_pay337]
  try simp only [n313_h1 I S H, zero_add, ← Nat.add_assoc, Nat.reduceAdd, Nat.reduceMul, zero_mul]
  try rfl
/-- The same value where it is formed in place. -/
theorem n337_at' (I : Ins) (S : ℕ → ℕ → ℕ → EReal) (H : Holds I S) (r : Fin 64) (j : Fin 128) : k0_pay337 (F := Ideal) (n313 I) (ix2 r j) = cO (dc I 0) (lc I 0) (stA I S 0) 3 r j := n337_at I S H r j

def n338 (I : Ins) := k0_pay338 (F := Ideal) (n313 I)
/-- The mean square of one head, chunk 0, head 3. -/
theorem n338_at (I : Ins) (S : ℕ → ℕ → ℕ → EReal) (H : Holds I S) (r : Fin 64) (j : Fin 1) : n338 I (ix2 r j) = Ideal.div (∑ x : Fin 128, cO (dc I 0) (lc I 0) (stA I S 0) 3 r x * cO (dc I 0) (lc I 0) (stA I S 0) 3 r x) (Ideal.ofBits FTy.f32 0x43000000#32) := by
  unfold n338
  pointwise [k0_pay338]
  try simp only [n313_h1 I S H, n337_at I S H, n337_at' I S H, zero_add, ← Nat.add_assoc, Nat.reduceAdd, Nat.reduceMul, zero_mul]
  try rfl

def n339 (I : Ins) := k0_pay339 (F := Ideal) (n16 I) (n336 I) (n337 I) (n338 I)
/-- What one head hands to the output projection, chunk 0, head 3. -/
theorem n339_at (I : Ins) (S : ℕ → ℕ → ℕ → EReal) (H : Holds I S) (r : Fin 64) (j : Fin 128) : n339 I (ix2 r j) = cM (dc I 0) (lc I 0) (stA I S 0) (gn I) 3 r j := by
  unfold n339
  pointwise [k0_pay339]
  try simp only [n16_at I, n336_at I, n337_at I S H, n338_at I S H, cM, nrmH, dc_at, zero_add, ← Nat.add_assoc, Nat.reduceAdd, Nat.reduceMul, zero_mul]
  try rfl

def n340 (I : Ins) := k0_pay340 (F := Ideal) (n7 I) (n16 I) (n314 I)
/-- What one head hands to the output projection, chunk 1, head 0. -/
theorem n340_at (I : Ins) (S : ℕ → ℕ → ℕ → EReal) (H : Holds I S) (r : Fin 64) (j : Fin 128) : n340 I (ix2 r j) = cM (dc I 64) (lc I 64) (stA I S 1) (gn I) 0 r j := by
  unfold n340
  pointwise [k0_pay340]
  try simp only [n7_at I, n16_at I, n314_h0 I S H, cM, nrmH, dc_at, zero_add, ← Nat.add_assoc, Nat.reduceAdd, Nat.reduceMul, zero_mul]
  try rfl

def n341 (I : Ins) := k0_pay341 (F := Ideal) (n340 I)
/-- What one head hands to the output projection, chunk 1, head 0. -/
theorem n341_at (I : Ins) (S : ℕ → ℕ → ℕ → EReal) (H : Holds I S) (r : Fin 64) (j : Fin 128) : n341 I (ix2 r j) = cM (dc I 64) (lc I 64) (stA I S 1) (gn I) 0 r j := by
  unfold n341
  pointwise [k0_pay341]
  try simp only [n340_at I S H, cM, nrmH, dc_at, zero_add, ← Nat.add_assoc, Nat.reduceAdd, Nat.reduceMul, zero_mul]
  try rfl

def n342 (I : Ins) := k0_pay342 (F := Ideal) (n7 I) (n16 I) (n314 I)
/-- What one head hands to the output projection, chunk 1, head 1. -/
theorem n342_at (I : Ins) (S : ℕ → ℕ → ℕ → EReal) (H : Holds I S) (r : Fin 64) (j : Fin 128) : n342 I (ix2 r j) = cM (dc I 64) (lc I 64) (stA I S 1) (gn I) 1 r j := by
  unfold n342
  pointwise [k0_pay342]
  try simp only [n7_at I, n16_at I, n314_h1 I S H, cM, nrmH, dc_at, zero_add, ← Nat.add_assoc, Nat.reduceAdd, Nat.reduceMul, zero_mul]
  try rfl

def n343 (I : Ins) := k0_pay343 (F := Ideal) (n7 I)
/-- One head of the output gate, chunk 1, head 2. -/
theorem n343_at (I : Ins) (r : Fin 64) (j : Fin 128) : n343 I (ix2 r j) = dc I 64 r (1280 + j) := by
  unfold n343
  pointwise [k0_pay343]
  try simp only [n7_at I, dc_at, zero_add, ← Nat.add_assoc, Nat.reduceAdd, Nat.reduceMul, zero_mul]
  try rfl
/-- The same value where it is formed in place. -/
theorem n343_at' (I : Ins) (r : Fin 64) (j : Fin 128) : k0_pay343 (F := Ideal) (n7 I) (ix2 r j) = dc I 64 r (1280 + j) := n343_at I r j

def n344 (I : Ins) := k0_pay344 (F := Ideal) (n16 I) (n315 I)
/-- The normalised value of one head, chunk 1, head 2. -/
theorem n344_at (I : Ins) (S : ℕ → ℕ → ℕ → EReal) (H : Holds I S) (r : Fin 64) (j : Fin 128) : n344 I (ix2 r j) = nrmH (fun x => cO (dc I 64) (lc I 64) (stA I S 1) 2 r x) (gn I) j := by
  unfold n344
  pointwise [k0_pay344]
  try simp only [n16_at I, n315_h0 I S H, nrmH, zero_add, ← Nat.add_assoc, Nat.reduceAdd, Nat.reduceMul, zero_mul]
  try rfl

def n345 (I : Ins) := k0_pay345 (F := Ideal) (n7 I)
/-- The exponential of a negated output gate, chunk 1, head 2. -/
theorem n345_at (I : Ins) (r : Fin 64) (j : Fin 128) : n345 I (ix2 r j) = Ideal.exp (0 - dc I 64 r (1280 + j)) := by
  unfold n345
  pointwise [k0_pay345]
  try simp only [n7_at I, n343_at I, n343_at' I, dc_at, zero_add, ← Nat.add_assoc, Nat.reduceAdd, Nat.reduceMul, zero_mul]
  try rfl

def n346 (I : Ins) := k0_pay346 (F := Ideal) (n343 I) (n344 I) (n345 I)
/-- What one head hands to the output projection, chunk 1, head 2. -/
theorem n346_at (I : Ins) (S : ℕ → ℕ → ℕ → EReal) (H : Holds I S) (r : Fin 64) (j : Fin 128) : n346 I (ix2 r j) = cM (dc I 64) (lc I 64) (stA I S 1) (gn I) 2 r j := by
  unfold n346
  pointwise [k0_pay346]
  try simp only [n343_at I, n344_at I S H, n345_at I, cM, nrmH, dc_at, zero_add, ← Nat.add_assoc, Nat.reduceAdd, Nat.reduceMul, zero_mul]
  try rfl

def n347 (I : Ins) := k0_pay347 (F := Ideal) (n7 I) (n16 I) (n315 I)
/-- What one head hands to the output projection, chunk 1, head 3. -/
theorem n347_at (I : Ins) (S : ℕ → ℕ → ℕ → EReal) (H : Holds I S) (r : Fin 64) (j : Fin 128) : n347 I (ix2 r j) = cM (dc I 64) (lc I 64) (stA I S 1) (gn I) 3 r j := by
  unfold n347
  pointwise [k0_pay347]
  try simp only [n7_at I, n16_at I, n315_h1 I S H, cM, nrmH, dc_at, zero_add, ← Nat.add_assoc, Nat.reduceAdd, Nat.reduceMul, zero_mul]
  try rfl

def n348 (I : Ins) := k0_pay348 (F := Ideal) (n7 I)
/-- One head of the output gate, chunk 2, head 0. -/
theorem n348_at (I : Ins) (r : Fin 64) (j : Fin 128) : n348 I (ix2 r j) = dc I 128 r (1024 + j) := by
  unfold n348
  pointwise [k0_pay348]
  try simp only [n7_at I, dc_at, zero_add, ← Nat.add_assoc, Nat.reduceAdd, Nat.reduceMul, zero_mul]
  try rfl

def n349 (I : Ins) := k0_pay349 (F := Ideal) (n317 I)
/-- The value of one head, chunk 2, head 0. -/
theorem n349_at (I : Ins) (S : ℕ → ℕ → ℕ → EReal) (H : Holds I S) (r : Fin 64) (j : Fin 128) : n349 I (ix2 r j) = cO (dc I 128) (lc I 128) (stA I S 2) 0 r j := by
  unfold n349
  pointwise [k0_pay349]
  try simp only [n317_h0 I S H, zero_add, ← Nat.add_assoc, Nat.reduceAdd, Nat.reduceMul, zero_mul]
  try rfl
/-- The same value where it is formed in place. -/
theorem n349_at' (I : Ins) (S : ℕ → ℕ → ℕ → EReal) (H : Holds I S) (r : Fin 64) (j : Fin 128) : k0_pay349 (F := Ideal) (n317 I) (ix2 r j) = cO (dc I 128) (lc I 128) (stA I S 2) 0 r j := n349_at I S H r j

def n350 (I : Ins) := k0_pay350 (F := Ideal) (n317 I)
/-- The mean square of one head, chunk 2, head 0. -/
theorem n350_at (I : Ins) (S : ℕ → ℕ → ℕ → EReal) (H : Holds I S) (r : Fin 64) (j : Fin 1) : n350 I (ix2 r j) = Ideal.div (∑ x : Fin 128, cO (dc I 128) (lc I 128) (stA I S 2) 0 r x * cO (dc I 128) (lc I 128) (stA I S 2) 0 r x) (Ideal.ofBits FTy.f32 0x43000000#32) := by
  unfold n350
  pointwise [k0_pay350]
  try simp only [n317_h0 I S H, n349_at I S H, n349_at' I S H, zero_add, ← Nat.add_assoc, Nat.reduceAdd, Nat.reduceMul, zero_mul]
  try rfl

def n351 (I : Ins) := k0_pay351 (F := Ideal) (n16 I) (n348 I) (n349 I) (n350 I)
/-- What one head hands to the output projection, chunk 2, head 0. -/
theorem n351_at (I : Ins) (S : ℕ → ℕ → ℕ → EReal) (H : Holds I S) (r : Fin 64) (j : Fin 128) : n351 I (ix2 r j) = cM (dc I 128) (lc I 128) (stA I S 2) (gn I) 0 r j := by
  unfold n351
  pointwise [k0_pay351]
  try simp only [n16_at I, n348_at I, n349_at I S H, n350_at I S H, cM, nrmH, dc_at, zero_add, ← Nat.add_assoc, Nat.reduceAdd, Nat.reduceMul, zero_mul]
  try rfl

def n352 (I : Ins) := k0_pay352 (F := Ideal) (n7 I) (n16 I) (n317 I)
/-- What one head hands to the output projection, chunk 2, head 1. -/
theorem n352_at (I : Ins) (S : ℕ → ℕ → ℕ → EReal) (H : Holds I S) (r : Fin 64) (j : Fin 128) : n352 I (ix2 r j) = cM (dc I 128) (lc I 128) (stA I S 2) (gn I) 1 r j := by
  unfold n352
  pointwise [k0_pay352]
  try simp only [n7_at I, n16_at I, n317_h1 I S H, cM, nrmH, dc_at, zero_add, ← Nat.add_assoc, Nat.reduceAdd, Nat.reduceMul, zero_mul]
  try rfl

def n353 (I : Ins) := k0_pay353 (F := Ideal) (n352 I)
/-- What one head hands to the output projection, chunk 2, head 1. -/
theorem n353_at (I : Ins) (S : ℕ → ℕ → ℕ → EReal) (H : Holds I S) (r : Fin 64) (j : Fin 128) : n353 I (ix2 r j) = cM (dc I 128) (lc I 128) (stA I S 2) (gn I) 1 r j := by
  unfold n353
  pointwise [k0_pay353]
  try simp only [n352_at I S H, cM, nrmH, dc_at, zero_add, ← Nat.add_assoc, Nat.reduceAdd, Nat.reduceMul, zero_mul]
  try rfl

def n354 (I : Ins) := k0_pay354 (F := Ideal) (n7 I) (n16 I) (n318 I)
/-- What one head hands to the output projection, chunk 2, head 2. -/
theorem n354_at (I : Ins) (S : ℕ → ℕ → ℕ → EReal) (H : Holds I S) (r : Fin 64) (j : Fin 128) : n354 I (ix2 r j) = cM (dc I 128) (lc I 128) (stA I S 2) (gn I) 2 r j := by
  unfold n354
  pointwise [k0_pay354]
  try simp only [n7_at I, n16_at I, n318_h0 I S H, cM, nrmH, dc_at, zero_add, ← Nat.add_assoc, Nat.reduceAdd, Nat.reduceMul, zero_mul]
  try rfl

def n355 (I : Ins) := k0_pay355 (F := Ideal) (n7 I)
/-- One head of the output gate, chunk 2, head 3. -/
theorem n355_at (I : Ins) (r : Fin 64) (j : Fin 128) : n355 I (ix2 r j) = dc I 128 r (1408 + j) := by
  unfold n355
  pointwise [k0_pay355]
  try simp only [n7_at I, dc_at, zero_add, ← Nat.add_assoc, Nat.reduceAdd, Nat.reduceMul, zero_mul]
  try rfl
/-- The same value where it is formed in place. -/
theorem n355_at' (I : Ins) (r : Fin 64) (j : Fin 128) : k0_pay355 (F := Ideal) (n7 I) (ix2 r j) = dc I 128 r (1408 + j) := n355_at I r j

def n356 (I : Ins) := k0_pay356 (F := Ideal) (n16 I) (n318 I)
/-- The normalised value of one head, chunk 2, head 3. -/
theorem n356_at (I : Ins) (S : ℕ → ℕ → ℕ → EReal) (H : Holds I S) (r : Fin 64) (j : Fin 128) : n356 I (ix2 r j) = nrmH (fun x => cO (dc I 128) (lc I 128) (stA I S 2) 3 r x) (gn I) j := by
  unfold n356
  pointwise [k0_pay356]
  try simp only [n16_at I, n318_h1 I S H, nrmH, zero_add, ← Nat.add_assoc, Nat.reduceAdd, Nat.reduceMul, zero_mul]
  try rfl

def n357 (I : Ins) := k0_pay357 (F := Ideal) (n7 I)
/-- The exponential of a negated output gate, chunk 2, head 3. -/
theorem n357_at (I : Ins) (r : Fin 64) (j : Fin 128) : n357 I (ix2 r j) = Ideal.exp (0 - dc I 128 r (1408 + j)) := by
  unfold n357
  pointwise [k0_pay357]
  try simp only [n7_at I, n355_at I, n355_at' I, dc_at, zero_add, ← Nat.add_assoc, Nat.reduceAdd, Nat.reduceMul, zero_mul]
  try rfl

def n358 (I : Ins) := k0_pay358 (F := Ideal) (n355 I) (n356 I) (n357 I)
/-- What one head hands to the output projection, chunk 2, head 3. -/
theorem n358_at (I : Ins) (S : ℕ → ℕ → ℕ → EReal) (H : Holds I S) (r : Fin 64) (j : Fin 128) : n358 I (ix2 r j) = cM (dc I 128) (lc I 128) (stA I S 2) (gn I) 3 r j := by
  unfold n358
  pointwise [k0_pay358]
  try simp only [n355_at I, n356_at I S H, n357_at I, cM, nrmH, dc_at, zero_add, ← Nat.add_assoc, Nat.reduceAdd, Nat.reduceMul, zero_mul]
  try rfl

def n359 (I : Ins) := k0_pay359 (F := Ideal) (n7 I) (n16 I) (n319 I)
/-- What one head hands to the output projection, chunk 3, head 0. -/
theorem n359_at (I : Ins) (S : ℕ → ℕ → ℕ → EReal) (H : Holds I S) (r : Fin 64) (j : Fin 128) : n359 I (ix2 r j) = cM (dc I 192) (lc I 192) (stA I S 3) (gn I) 0 r j := by
  unfold n359
  pointwise [k0_pay359]
  try simp only [n7_at I, n16_at I, n319_h0 I S H, cM, nrmH, dc_at, zero_add, ← Nat.add_assoc, Nat.reduceAdd, Nat.reduceMul, zero_mul]
  try rfl

def n360 (I : Ins) := k0_pay360 (F := Ideal) (n7 I)
/-- One head of the output gate, chunk 3, head 1. -/
theorem n360_at (I : Ins) (r : Fin 64) (j : Fin 128) : n360 I (ix2 r j) = dc I 192 r (1152 + j) := by
  unfold n360
  pointwise [k0_pay360]
  try simp only [n7_at I, dc_at, zero_add, ← Nat.add_assoc, Nat.reduceAdd, Nat.reduceMul, zero_mul]
  try rfl

def n361 (I : Ins) := k0_pay361 (F := Ideal) (n319 I)
/-- The value of one head, chunk 3, head 1. -/
theorem n361_at (I : Ins) (S : ℕ → ℕ → ℕ → EReal) (H : Holds I S) (r : Fin 64) (j : Fin 128) : n361 I (ix2 r j) = cO (dc I 192) (lc I 192) (stA I S 3) 1 r j := by
  unfold n361
  pointwise [k0_pay361]
  try simp only [n319_h1 I S H, zero_add, ← Nat.add_assoc, Nat.reduceAdd, Nat.reduceMul, zero_mul]
  try rfl
/-- The same value where it is formed in place. -/
theorem n361_at' (I : Ins) (S : ℕ → ℕ → ℕ → EReal) (H : Holds I S) (r : Fin 64) (j : Fin 128) : k0_pay361 (F := Ideal) (n319 I) (ix2 r j) = cO (dc I 192) (lc I 192) (stA I S 3) 1 r j := n361_at I S H r j

def n362 (I : Ins) := k0_pay362 (F := Ideal) (n319 I)
/-- The mean square of one head, chunk 3, head 1. -/
theorem n362_at (I : Ins) (S : ℕ → ℕ → ℕ → EReal) (H : Holds I S) (r : Fin 64) (j : Fin 1) : n362 I (ix2 r j) = Ideal.div (∑ x : Fin 128, cO (dc I 192) (lc I 192) (stA I S 3) 1 r x * cO (dc I 192) (lc I 192) (stA I S 3) 1 r x) (Ideal.ofBits FTy.f32 0x43000000#32) := by
  unfold n362
  pointwise [k0_pay362]
  try simp only [n319_h1 I S H, n361_at I S H, n361_at' I S H, zero_add, ← Nat.add_assoc, Nat.reduceAdd, Nat.reduceMul, zero_mul]
  try rfl

def n363 (I : Ins) := k0_pay363 (F := Ideal) (n16 I) (n360 I) (n361 I) (n362 I)
/-- What one head hands to the output projection, chunk 3, head 1. -/
theorem n363_at (I : Ins) (S : ℕ → ℕ → ℕ → EReal) (H : Holds I S) (r : Fin 64) (j : Fin 128) : n363 I (ix2 r j) = cM (dc I 192) (lc I 192) (stA I S 3) (gn I) 1 r j := by
  unfold n363
  pointwise [k0_pay363]
  try simp only [n16_at I, n360_at I, n361_at I S H, n362_at I S H, cM, nrmH, dc_at, zero_add, ← Nat.add_assoc, Nat.reduceAdd, Nat.reduceMul, zero_mul]
  try rfl

def n364 (I : Ins) := k0_pay364 (F := Ideal) (n7 I) (n16 I) (n320 I)
/-- What one head hands to the output projection, chunk 3, head 2. -/
theorem n364_at (I : Ins) (S : ℕ → ℕ → ℕ → EReal) (H : Holds I S) (r : Fin 64) (j : Fin 128) : n364 I (ix2 r j) = cM (dc I 192) (lc I 192) (stA I S 3) (gn I) 2 r j := by
  unfold n364
  pointwise [k0_pay364]
  try simp only [n7_at I, n16_at I, n320_h0 I S H, cM, nrmH, dc_at, zero_add, ← Nat.add_assoc, Nat.reduceAdd, Nat.reduceMul, zero_mul]
  try rfl

def n365 (I : Ins) := k0_pay365 (F := Ideal) (n364 I)
/-- What one head hands to the output projection, chunk 3, head 2. -/
theorem n365_at (I : Ins) (S : ℕ → ℕ → ℕ → EReal) (H : Holds I S) (r : Fin 64) (j : Fin 128) : n365 I (ix2 r j) = cM (dc I 192) (lc I 192) (stA I S 3) (gn I) 2 r j := by
  unfold n365
  pointwise [k0_pay365]
  try simp only [n364_at I S H, cM, nrmH, dc_at, zero_add, ← Nat.add_assoc, Nat.reduceAdd, Nat.reduceMul, zero_mul]
  try rfl

def n366 (I : Ins) := k0_pay366 (F := Ideal) (n7 I) (n16 I) (n320 I)
/-- What one head hands to the output projection, chunk 3, head 3. -/
theorem n366_at (I : Ins) (S : ℕ → ℕ → ℕ → EReal) (H : Holds I S) (r : Fin 64) (j : Fin 128) : n366 I (ix2 r j) = cM (dc I 192) (lc I 192) (stA I S 3) (gn I) 3 r j := by
  unfold n366
  pointwise [k0_pay366]
  try simp only [n7_at I, n16_at I, n320_h1 I S H, cM, nrmH, dc_at, zero_add, ← Nat.add_assoc, Nat.reduceAdd, Nat.reduceMul, zero_mul]
  try rfl

def n367 (I : Ins) := k0_pay367 (F := Ideal) (n7 I)
/-- One head of the output gate, chunk 4, head 0. -/
theorem n367_at (I : Ins) (r : Fin 64) (j : Fin 128) : n367 I (ix2 r j) = dc I 256 r (1024 + j) := by
  unfold n367
  pointwise [k0_pay367]
  try simp only [n7_at I, dc_at, zero_add, ← Nat.add_assoc, Nat.reduceAdd, Nat.reduceMul, zero_mul]
  try rfl
/-- The same value where it is formed in place. -/
theorem n367_at' (I : Ins) (r : Fin 64) (j : Fin 128) : k0_pay367 (F := Ideal) (n7 I) (ix2 r j) = dc I 256 r (1024 + j) := n367_at I r j

def n368 (I : Ins) := k0_pay368 (F := Ideal) (n16 I) (n321 I)
/-- The normalised value of one head, chunk 4, head 0. -/
theorem n368_at (I : Ins) (S : ℕ → ℕ → ℕ → EReal) (H : Holds I S) (r : Fin 64) (j : Fin 128) : n368 I (ix2 r j) = nrmH (fun x => cO (dc I 256) (lc I 256) (stA I S 4) 0 r x) (gn I) j := by
  unfold n368
  pointwise [k0_pay368]
  try simp only [n16_at I, n321_h0 I S H, nrmH, zero_add, ← Nat.add_assoc, Nat.reduceAdd, Nat.reduceMul, zero_mul]
  try rfl

def n369 (I : Ins) := k0_pay369 (F := Ideal) (n7 I)
/-- The exponential of a negated output gate, chunk 4, head 0. -/
theorem n369_at (I : Ins) (r : Fin 64) (j : Fin 128) : n369 I (ix2 r j) = Ideal.exp (0 - dc I 256 r (1024 + j)) := by
  unfold n369
  pointwise [k0_pay369]
  try simp only [n7_at I, n367_at I, n367_at' I, dc_at, zero_add, ← Nat.add_assoc, Nat.reduceAdd, Nat.reduceMul, zero_mul]
  try rfl

def n370 (I : Ins) := k0_pay370 (F := Ideal) (n367 I) (n368 I) (n369 I)
/-- What one head hands to the output projection, chunk 4, head 0. -/
theorem n370_at (I : Ins) (S : ℕ → ℕ → ℕ → EReal) (H : Holds I S) (r : Fin 64) (j : Fin 128) : n370 I (ix2 r j) = cM (dc I 256) (lc I 256) (stA I S 4) (gn I) 0 r j := by
  unfold n370
  pointwise [k0_pay370]
  try simp only [n367_at I, n368_at I S H, n369_at I, cM, nrmH, dc_at, zero_add, ← Nat.add_assoc, Nat.reduceAdd, Nat.reduceMul, zero_mul]
  try rfl

def n371 (I : Ins) := k0_pay371 (F := Ideal) (n7 I) (n16 I) (n321 I)
/-- What one head hands to the output projection, chunk 4, head 1. -/
theorem n371_at (I : Ins) (S : ℕ → ℕ → ℕ → EReal) (H : Holds I S) (r : Fin 64) (j : Fin 128) : n371 I (ix2 r j) = cM (dc I 256) (lc I 256) (stA I S 4) (gn I) 1 r j := by
  unfold n371
  pointwise [k0_pay371]
  try simp only [n7_at I, n16_at I, n321_h1 I S H, cM, nrmH, dc_at, zero_add, ← Nat.add_assoc, Nat.reduceAdd, Nat.reduceMul, zero_mul]
  try rfl

def n372 (I : Ins) := k0_pay372 (F := Ideal) (n7 I)
/-- One head of the output gate, chunk 4, head 2. -/
theorem n372_at (I : Ins) (r : Fin 64) (j : Fin 128) : n372 I (ix2 r j) = dc I 256 r (1280 + j) := by
  unfold n372
  pointwise [k0_pay372]
  try simp only [n7_at I, dc_at, zero_add, ← Nat.add_assoc, Nat.reduceAdd, Nat.reduceMul, zero_mul]
  try rfl

def n373 (I : Ins) := k0_pay373 (F := Ideal) (n322 I)
/-- The value of one head, chunk 4, head 2. -/
theorem n373_at (I : Ins) (S : ℕ → ℕ → ℕ → EReal) (H : Holds I S) (r : Fin 64) (j : Fin 128) : n373 I (ix2 r j) = cO (dc I 256) (lc I 256) (stA I S 4) 2 r j := by
  unfold n373
  pointwise [k0_pay373]
  try simp only [n322_h0 I S H, zero_add, ← Nat.add_assoc, Nat.reduceAdd, Nat.reduceMul, zero_mul]
  try rfl
/-- The same value where it is formed in place. -/
theorem n373_at' (I : Ins) (S : ℕ → ℕ → ℕ → EReal) (H : Holds I S) (r : Fin 64) (j : Fin 128) : k0_pay373 (F := Ideal) (n322 I) (ix2 r j) = cO (dc I 256) (lc I 256) (stA I S 4) 2 r j := n373_at I S H r j

def n374 (I : Ins) := k0_pay374 (F := Ideal) (n322 I)
/-- The mean square of one head, chunk 4, head 2. -/
theorem n374_at (I : Ins) (S : ℕ → ℕ → ℕ → EReal) (H : Holds I S) (r : Fin 64) (j : Fin 1) : n374 I (ix2 r j) = Ideal.div (∑ x : Fin 128, cO (dc I 256) (lc I 256) (stA I S 4) 2 r x * cO (dc I 256) (lc I 256) (stA I S 4) 2 r x) (Ideal.ofBits FTy.f32 0x43000000#32) := by
  unfold n374
  pointwise [k0_pay374]
  try simp only [n322_h0 I S H, n373_at I S H, n373_at' I S H, zero_add, ← Nat.add_assoc, Nat.reduceAdd, Nat.reduceMul, zero_mul]
  try rfl

def n375 (I : Ins) := k0_pay375 (F := Ideal) (n16 I) (n372 I) (n373 I) (n374 I)
/-- What one head hands to the output projection, chunk 4, head 2. -/
theorem n375_at (I : Ins) (S : ℕ → ℕ → ℕ → EReal) (H : Holds I S) (r : Fin 64) (j : Fin 128) : n375 I (ix2 r j) = cM (dc I 256) (lc I 256) (stA I S 4) (gn I) 2 r j := by
  unfold n375
  pointwise [k0_pay375]
  try simp only [n16_at I, n372_at I, n373_at I S H, n374_at I S H, cM, nrmH, dc_at, zero_add, ← Nat.add_assoc, Nat.reduceAdd, Nat.reduceMul, zero_mul]
  try rfl

def n376 (I : Ins) := k0_pay376 (F := Ideal) (n7 I) (n16 I) (n322 I)
/-- What one head hands to the output projection, chunk 4, head 3. -/
theorem n376_at (I : Ins) (S : ℕ → ℕ → ℕ → EReal) (H : Holds I S) (r : Fin 64) (j : Fin 128) : n376 I (ix2 r j) = cM (dc I 256) (lc I 256) (stA I S 4) (gn I) 3 r j := by
  unfold n376
  pointwise [k0_pay376]
  try simp only [n7_at I, n16_at I, n322_h1 I S H, cM, nrmH, dc_at, zero_add, ← Nat.add_assoc, Nat.reduceAdd, Nat.reduceMul, zero_mul]
  try rfl

def n377 (I : Ins) := k0_pay377 (F := Ideal) (n376 I)
/-- What one head hands to the output projection, chunk 4, head 3. -/
theorem n377_at (I : Ins) (S : ℕ → ℕ → ℕ → EReal) (H : Holds I S) (r : Fin 64) (j : Fin 128) : n377 I (ix2 r j) = cM (dc I 256) (lc I 256) (stA I S 4) (gn I) 3 r j := by
  unfold n377
  pointwise [k0_pay377]
  try simp only [n376_at I S H, cM, nrmH, dc_at, zero_add, ← Nat.add_assoc, Nat.reduceAdd, Nat.reduceMul, zero_mul]
  try rfl

def n378 (I : Ins) := k0_pay378 (F := Ideal) (n7 I) (n16 I) (n323 I)
/-- What one head hands to the output projection, chunk 5, head 0. -/
theorem n378_at (I : Ins) (S : ℕ → ℕ → ℕ → EReal) (H : Holds I S) (r : Fin 64) (j : Fin 128) : n378 I (ix2 r j) = cM (dc I 320) (lc I 320) (stA I S 5) (gn I) 0 r j := by
  unfold n378
  pointwise [k0_pay378]
  try simp only [n7_at I, n16_at I, n323_h0 I S H, cM, nrmH, dc_at, zero_add, ← Nat.add_assoc, Nat.reduceAdd, Nat.reduceMul, zero_mul]
  try rfl

def n379 (I : Ins) := k0_pay379 (F := Ideal) (n7 I)
/-- One head of the output gate, chunk 5, head 1. -/
theorem n379_at (I : Ins) (r : Fin 64) (j : Fin 128) : n379 I (ix2 r j) = dc I 320 r (1152 + j) := by
  unfold n379
  pointwise [k0_pay379]
  try simp only [n7_at I, dc_at, zero_add, ← Nat.add_assoc, Nat.reduceAdd, Nat.reduceMul, zero_mul]
  try rfl
/-- The same value where it is formed in place. -/
theorem n379_at' (I : Ins) (r : Fin 64) (j : Fin 128) : k0_pay379 (F := Ideal) (n7 I) (ix2 r j) = dc I 320 r (1152 + j) := n379_at I r j

def n380 (I : Ins) := k0_pay380 (F := Ideal) (n16 I) (n323 I)
/-- The normalised value of one head, chunk 5, head 1. -/
theorem n380_at (I : Ins) (S : ℕ → ℕ → ℕ → EReal) (H : Holds I S) (r : Fin 64) (j : Fin 128) : n380 I (ix2 r j) = nrmH (fun x => cO (dc I 320) (lc I 320) (stA I S 5) 1 r x) (gn I) j := by
  unfold n380
  pointwise [k0_pay380]
  try simp only [n16_at I, n323_h1 I S H, nrmH, zero_add, ← Nat.add_assoc, Nat.reduceAdd, Nat.reduceMul, zero_mul]
  try rfl

def n381 (I : Ins) := k0_pay381 (F := Ideal) (n7 I)
/-- The exponential of a negated output gate, chunk 5, head 1. -/
theorem n381_at (I : Ins) (r : Fin 64) (j : Fin 128) : n381 I (ix2 r j) = Ideal.exp (0 - dc I 320 r (1152 + j)) := by
  unfold n381
  pointwise [k0_pay381]
  try simp only [n7_at I, n379_at I, n379_at' I, dc_at, zero_add, ← Nat.add_assoc, Nat.reduceAdd, Nat.reduceMul, zero_mul]
  try rfl

def n382 (I : Ins) := k0_pay382 (F := Ideal) (n379 I) (n380 I) (n381 I)
/-- What one head hands to the output projection, chunk 5, head 1. -/
theorem n382_at (I : Ins) (S : ℕ → ℕ → ℕ → EReal) (H : Holds I S) (r : Fin 64) (j : Fin 128) : n382 I (ix2 r j) = cM (dc I 320) (lc I 320) (stA I S 5) (gn I) 1 r j := by
  unfold n382
  pointwise [k0_pay382]
  try simp only [n379_at I, n380_at I S H, n381_at I, cM, nrmH, dc_at, zero_add, ← Nat.add_assoc, Nat.reduceAdd, Nat.reduceMul, zero_mul]
  try rfl

def n383 (I : Ins) := k0_pay383 (F := Ideal) (n7 I) (n16 I) (n324 I)
/-- What one head hands to the output projection, chunk 5, head 2. -/
theorem n383_at (I : Ins) (S : ℕ → ℕ → ℕ → EReal) (H : Holds I S) (r : Fin 64) (j : Fin 128) : n383 I (ix2 r j) = cM (dc I 320) (lc I 320) (stA I S 5) (gn I) 2 r j := by
  unfold n383
  pointwise [k0_pay383]
  try simp only [n7_at I, n16_at I, n324_h0 I S H, cM, nrmH, dc_at, zero_add, ← Nat.add_assoc, Nat.reduceAdd, Nat.reduceMul, zero_mul]
  try rfl

def n384 (I : Ins) := k0_pay384 (F := Ideal) (n7 I)
/-- One head of the output gate, chunk 5, head 3. -/
theorem n384_at (I : Ins) (r : Fin 64) (j : Fin 128) : n384 I (ix2 r j) = dc I 320 r (1408 + j) := by
  unfold n384
  pointwise [k0_pay384]
  try simp only [n7_at I, dc_at, zero_add, ← Nat.add_assoc, Nat.reduceAdd, Nat.reduceMul, zero_mul]
  try rfl

def n385 (I : Ins) := k0_pay385 (F := Ideal) (n324 I)
/-- The value of one head, chunk 5, head 3. -/
theorem n385_at (I : Ins) (S : ℕ → ℕ → ℕ → EReal) (H : Holds I S) (r : Fin 64) (j : Fin 128) : n385 I (ix2 r j) = cO (dc I 320) (lc I 320) (stA I S 5) 3 r j := by
  unfold n385
  pointwise [k0_pay385]
  try simp only [n324_h1 I S H, zero_add, ← Nat.add_assoc, Nat.reduceAdd, Nat.reduceMul, zero_mul]
  try rfl
/-- The same value where it is formed in place. -/
theorem n385_at' (I : Ins) (S : ℕ → ℕ → ℕ → EReal) (H : Holds I S) (r : Fin 64) (j : Fin 128) : k0_pay385 (F := Ideal) (n324 I) (ix2 r j) = cO (dc I 320) (lc I 320) (stA I S 5) 3 r j := n385_at I S H r j

def n386 (I : Ins) := k0_pay386 (F := Ideal) (n324 I)
/-- The mean square of one head, chunk 5, head 3. -/
theorem n386_at (I : Ins) (S : ℕ → ℕ → ℕ → EReal) (H : Holds I S) (r : Fin 64) (j : Fin 1) : n386 I (ix2 r j) = Ideal.div (∑ x : Fin 128, cO (dc I 320) (lc I 320) (stA I S 5) 3 r x * cO (dc I 320) (lc I 320) (stA I S 5) 3 r x) (Ideal.ofBits FTy.f32 0x43000000#32) := by
  unfold n386
  pointwise [k0_pay386]
  try simp only [n324_h1 I S H, n385_at I S H, n385_at' I S H, zero_add, ← Nat.add_assoc, Nat.reduceAdd, Nat.reduceMul, zero_mul]
  try rfl

def n387 (I : Ins) := k0_pay387 (F := Ideal) (n16 I) (n384 I) (n385 I) (n386 I)
/-- What one head hands to the output projection, chunk 5, head 3. -/
theorem n387_at (I : Ins) (S : ℕ → ℕ → ℕ → EReal) (H : Holds I S) (r : Fin 64) (j : Fin 128) : n387 I (ix2 r j) = cM (dc I 320) (lc I 320) (stA I S 5) (gn I) 3 r j := by
  unfold n387
  pointwise [k0_pay387]
  try simp only [n16_at I, n384_at I, n385_at I S H, n386_at I S H, cM, nrmH, dc_at, zero_add, ← Nat.add_assoc, Nat.reduceAdd, Nat.reduceMul, zero_mul]
  try rfl

def n388 (I : Ins) := k0_pay388 (F := Ideal) (n7 I) (n16 I) (n325 I)
/-- What one head hands to the output projection, chunk 6, head 0. -/
theorem n388_at (I : Ins) (S : ℕ → ℕ → ℕ → EReal) (H : Holds I S) (r : Fin 64) (j : Fin 128) : n388 I (ix2 r j) = cM (dc I 384) (lc I 384) (stA I S 6) (gn I) 0 r j := by
  unfold n388
  pointwise [k0_pay388]
  try simp only [n7_at I, n16_at I, n325_h0 I S H, cM, nrmH, dc_at, zero_add, ← Nat.add_assoc, Nat.reduceAdd, Nat.reduceMul, zero_mul]
  try rfl

def n389 (I : Ins) := k0_pay389 (F := Ideal) (n388 I)
/-- What one head hands to the output projection, chunk 6, head 0. -/
theorem n389_at (I : Ins) (S : ℕ → ℕ → ℕ → EReal) (H : Holds I S) (r : Fin 64) (j : Fin 128) : n389 I (ix2 r j) = cM (dc I 384) (lc I 384) (stA I S 6) (gn I) 0 r j := by
  unfold n389
  pointwise [k0_pay389]
  try simp only [n388_at I S H, cM, nrmH, dc_at, zero_add, ← Nat.add_assoc, Nat.reduceAdd, Nat.reduceMul, zero_mul]
  try rfl

def n390 (I : Ins) := k0_pay390 (F := Ideal) (n7 I) (n16 I) (n325 I)
/-- What one head hands to the output projection, chunk 6, head 1. -/
theorem n390_at (I : Ins) (S : ℕ → ℕ → ℕ → EReal) (H : Holds I S) (r : Fin 64) (j : Fin 128) : n390 I (ix2 r j) = cM (dc I 384) (lc I 384) (stA I S 6) (gn I) 1 r j := by
  unfold n390
  pointwise [k0_pay390]
  try simp only [n7_at I, n16_at I, n325_h1 I S H, cM, nrmH, dc_at, zero_add, ← Nat.add_assoc, Nat.reduceAdd, Nat.reduceMul, zero_mul]
  try rfl

def n391 (I : Ins) := k0_pay391 (F := Ideal) (n7 I)
/-- One head of the output gate, chunk 6, head 2. -/
theorem n391_at (I : Ins) (r : Fin 64) (j : Fin 128) : n391 I (ix2 r j) = dc I 384 r (1280 + j) := by
  unfold n391
  pointwise [k0_pay391]
  try simp only [n7_at I, dc_at, zero_add, ← Nat.add_assoc, Nat.reduceAdd, Nat.reduceMul, zero_mul]
  try rfl
/-- The same value where it is formed in place. -/
theorem n391_at' (I : Ins) (r : Fin 64) (j : Fin 128) : k0_pay391 (F := Ideal) (n7 I) (ix2 r j) = dc I 384 r (1280 + j) := n391_at I r j

def n392 (I : Ins) := k0_pay392 (F := Ideal) (n16 I) (n326 I)
/-- The normalised value of one head, chunk 6, head 2. -/
theorem n392_at (I : Ins) (S : ℕ → ℕ → ℕ → EReal) (H : Holds I S) (r : Fin 64) (j : Fin 128) : n392 I (ix2 r j) = nrmH (fun x => cO (dc I 384) (lc I 384) (stA I S 6) 2 r x) (gn I) j := by
  unfold n392
  pointwise [k0_pay392]
  try simp only [n16_at I, n326_h0 I S H, nrmH, zero_add, ← Nat.add_assoc, Nat.reduceAdd, Nat.reduceMul, zero_mul]
  try rfl

def n393 (I : Ins) := k0_pay393 (F := Ideal) (n7 I)
/-- The exponential of a negated output gate, chunk 6, head 2. -/
theorem n393_at (I : Ins) (r : Fin 64) (j : Fin 128) : n393 I (ix2 r j) = Ideal.exp (0 - dc I 384 r (1280 + j)) := by
  unfold n393
  pointwise [k0_pay393]
  try simp only [n7_at I, n391_at I, n391_at' I, dc_at, zero_add, ← Nat.add_assoc, Nat.reduceAdd, Nat.reduceMul, zero_mul]
  try rfl

def n394 (I : Ins) := k0_pay394 (F := Ideal) (n391 I) (n392 I) (n393 I)
/-- What one head hands to the output projection, chunk 6, head 2. -/
theorem n394_at (I : Ins) (S : ℕ → ℕ → ℕ → EReal) (H : Holds I S) (r : Fin 64) (j : Fin 128) : n394 I (ix2 r j) = cM (dc I 384) (lc I 384) (stA I S 6) (gn I) 2 r j := by
  unfold n394
  pointwise [k0_pay394]
  try simp only [n391_at I, n392_at I S H, n393_at I, cM, nrmH, dc_at, zero_add, ← Nat.add_assoc, Nat.reduceAdd, Nat.reduceMul, zero_mul]
  try rfl

def n395 (I : Ins) := k0_pay395 (F := Ideal) (n7 I) (n16 I) (n326 I)
/-- What one head hands to the output projection, chunk 6, head 3. -/
theorem n395_at (I : Ins) (S : ℕ → ℕ → ℕ → EReal) (H : Holds I S) (r : Fin 64) (j : Fin 128) : n395 I (ix2 r j) = cM (dc I 384) (lc I 384) (stA I S 6) (gn I) 3 r j := by
  unfold n395
  pointwise [k0_pay395]
  try simp only [n7_at I, n16_at I, n326_h1 I S H, cM, nrmH, dc_at, zero_add, ← Nat.add_assoc, Nat.reduceAdd, Nat.reduceMul, zero_mul]
  try rfl

def n396 (I : Ins) := k0_pay396 (F := Ideal) (n7 I)
/-- One head of the output gate, chunk 7, head 0. -/
theorem n396_at (I : Ins) (r : Fin 64) (j : Fin 128) : n396 I (ix2 r j) = dc I 448 r (1024 + j) := by
  unfold n396
  pointwise [k0_pay396]
  try simp only [n7_at I, dc_at, zero_add, ← Nat.add_assoc, Nat.reduceAdd, Nat.reduceMul, zero_mul]
  try rfl

def n397 (I : Ins) := k0_pay397 (F := Ideal) (n327 I)
/-- The value of one head, chunk 7, head 0. -/
theorem n397_at (I : Ins) (S : ℕ → ℕ → ℕ → EReal) (H : Holds I S) (r : Fin 64) (j : Fin 128) : n397 I (ix2 r j) = cO (dc I 448) (lc I 448) (stA I S 7) 0 r j := by
  unfold n397
  pointwise [k0_pay397]
  try simp only [n327_h0 I S H, zero_add, ← Nat.add_assoc, Nat.reduceAdd, Nat.reduceMul, zero_mul]
  try rfl
/-- The same value where it is formed in place. -/
theorem n397_at' (I : Ins) (S : ℕ → ℕ → ℕ → EReal) (H : Holds I S) (r : Fin 64) (j : Fin 128) : k0_pay397 (F := Ideal) (n327 I) (ix2 r j) = cO (dc I 448) (lc I 448) (stA I S 7) 0 r j := n397_at I S H r j

def n398 (I : Ins) := k0_pay398 (F := Ideal) (n327 I)
/-- The mean square of one head, chunk 7, head 0. -/
theorem n398_at (I : Ins) (S : ℕ → ℕ → ℕ → EReal) (H : Holds I S) (r : Fin 64) (j : Fin 1) : n398 I (ix2 r j) = Ideal.div (∑ x : Fin 128, cO (dc I 448) (lc I 448) (stA I S 7) 0 r x * cO (dc I 448) (lc I 448) (stA I S 7) 0 r x) (Ideal.ofBits FTy.f32 0x43000000#32) := by
  unfold n398
  pointwise [k0_pay398]
  try simp only [n327_h0 I S H, n397_at I S H, n397_at' I S H, zero_add, ← Nat.add_assoc, Nat.reduceAdd, Nat.reduceMul, zero_mul]
  try rfl

def n399 (I : Ins) := k0_pay399 (F := Ideal) (n16 I) (n396 I) (n397 I) (n398 I)
/-- What one head hands to the output projection, chunk 7, head 0. -/
theorem n399_at (I : Ins) (S : ℕ → ℕ → ℕ → EReal) (H : Holds I S) (r : Fin 64) (j : Fin 128) : n399 I (ix2 r j) = cM (dc I 448) (lc I 448) (stA I S 7) (gn I) 0 r j := by
  unfold n399
  pointwise [k0_pay399]
  try simp only [n16_at I, n396_at I, n397_at I S H, n398_at I S H, cM, nrmH, dc_at, zero_add, ← Nat.add_assoc, Nat.reduceAdd, Nat.reduceMul, zero_mul]
  try rfl

def n400 (I : Ins) := k0_pay400 (F := Ideal) (n7 I) (n16 I) (n327 I)
/-- What one head hands to the output projection, chunk 7, head 1. -/
theorem n400_at (I : Ins) (S : ℕ → ℕ → ℕ → EReal) (H : Holds I S) (r : Fin 64) (j : Fin 128) : n400 I (ix2 r j) = cM (dc I 448) (lc I 448) (stA I S 7) (gn I) 1 r j := by
  unfold n400
  pointwise [k0_pay400]
  try simp only [n7_at I, n16_at I, n327_h1 I S H, cM, nrmH, dc_at, zero_add, ← Nat.add_assoc, Nat.reduceAdd, Nat.reduceMul, zero_mul]
  try rfl

def n401 (I : Ins) := k0_pay401 (F := Ideal) (n400 I)
/-- What one head hands to the output projection, chunk 7, head 1. -/
theorem n401_at (I : Ins) (S : ℕ → ℕ → ℕ → EReal) (H : Holds I S) (r : Fin 64) (j : Fin 128) : n401 I (ix2 r j) = cM (dc I 448) (lc I 448) (stA I S 7) (gn I) 1 r j := by
  unfold n401
  pointwise [k0_pay401]
  try simp only [n400_at I S H, cM, nrmH, dc_at, zero_add, ← Nat.add_assoc, Nat.reduceAdd, Nat.reduceMul, zero_mul]
  try rfl

def n402 (I : Ins) := k0_pay402 (F := Ideal) (n7 I) (n16 I) (n328 I)
/-- What one head hands to the output projection, chunk 7, head 2. -/
theorem n402_at (I : Ins) (S : ℕ → ℕ → ℕ → EReal) (H : Holds I S) (r : Fin 64) (j : Fin 128) : n402 I (ix2 r j) = cM (dc I 448) (lc I 448) (stA I S 7) (gn I) 2 r j := by
  unfold n402
  pointwise [k0_pay402]
  try simp only [n7_at I, n16_at I, n328_h0 I S H, cM, nrmH, dc_at, zero_add, ← Nat.add_assoc, Nat.reduceAdd, Nat.reduceMul, zero_mul]
  try rfl

def n403 (I : Ins) := k0_pay403 (F := Ideal) (n7 I)
/-- One head of the output gate, chunk 7, head 3. -/
theorem n403_at (I : Ins) (r : Fin 64) (j : Fin 128) : n403 I (ix2 r j) = dc I 448 r (1408 + j) := by
  unfold n403
  pointwise [k0_pay403]
  try simp only [n7_at I, dc_at, zero_add, ← Nat.add_assoc, Nat.reduceAdd, Nat.reduceMul, zero_mul]
  try rfl
/-- The same value where it is formed in place. -/
theorem n403_at' (I : Ins) (r : Fin 64) (j : Fin 128) : k0_pay403 (F := Ideal) (n7 I) (ix2 r j) = dc I 448 r (1408 + j) := n403_at I r j

def n404 (I : Ins) := k0_pay404 (F := Ideal) (n16 I) (n328 I)
/-- The normalised value of one head, chunk 7, head 3. -/
theorem n404_at (I : Ins) (S : ℕ → ℕ → ℕ → EReal) (H : Holds I S) (r : Fin 64) (j : Fin 128) : n404 I (ix2 r j) = nrmH (fun x => cO (dc I 448) (lc I 448) (stA I S 7) 3 r x) (gn I) j := by
  unfold n404
  pointwise [k0_pay404]
  try simp only [n16_at I, n328_h1 I S H, nrmH, zero_add, ← Nat.add_assoc, Nat.reduceAdd, Nat.reduceMul, zero_mul]
  try rfl

def n405 (I : Ins) := k0_pay405 (F := Ideal) (n7 I)
/-- The exponential of a negated output gate, chunk 7, head 3. -/
theorem n405_at (I : Ins) (r : Fin 64) (j : Fin 128) : n405 I (ix2 r j) = Ideal.exp (0 - dc I 448 r (1408 + j)) := by
  unfold n405
  pointwise [k0_pay405]
  try simp only [n7_at I, n403_at I, n403_at' I, dc_at, zero_add, ← Nat.add_assoc, Nat.reduceAdd, Nat.reduceMul, zero_mul]
  try rfl

def n406 (I : Ins) := k0_pay406 (F := Ideal) (n403 I) (n404 I) (n405 I)
/-- What one head hands to the output projection, chunk 7, head 3. -/
theorem n406_at (I : Ins) (S : ℕ → ℕ → ℕ → EReal) (H : Holds I S) (r : Fin 64) (j : Fin 128) : n406 I (ix2 r j) = cM (dc I 448) (lc I 448) (stA I S 7) (gn I) 3 r j := by
  unfold n406
  pointwise [k0_pay406]
  try simp only [n403_at I, n404_at I S H, n405_at I, cM, nrmH, dc_at, zero_add, ← Nat.add_assoc, Nat.reduceAdd, Nat.reduceMul, zero_mul]
  try rfl

end Cert.MixerIdeal.Tile
-- ==== Proof.MixerMix.lean ====
/- The buffer the output projection reads, at one grid point. -/
module

public import proofs.«01_k».proof.Proof.MixerTileE

@[expose] public section

set_option maxRecDepth 16384

noncomputable section

open Idealize.ShloMosaic Idealize.ShloMosaic.TcCoe Idealize.SL.Sem
open scoped BigOperators

namespace Cert.MixerIdeal.Tile

open Cert.MixerIdeal Cert.MixerIdeal.Gen Cert.MixRows

/-- One channel of the gated short convolution at row `R` of the tile: `U ρ` is the convolution's input two rows before
    row `ρ`. -/
def cv (I : Ins) (U : ℕ → ℕ → EReal) (R d : ℕ) : EReal :=
  pr I R (1536 + d) * (I.x6 (ix2 0 ⟨d % 512, Nat.mod_lt _ (by decide)⟩) * U R d + I.x6 (ix2 1 ⟨d % 512, Nat.mod_lt _ (by decide)⟩) * U (R + 1) d
    + I.x6 (ix2 2 ⟨d % 512, Nat.mod_lt _ (by decide)⟩) * (pr I R (2048 + d) * pr I R (2560 + d)))

/-- The shifted loads hold the convolution's input two rows and one row back. -/
structure HoldsU (I : Ins) (U : ℕ → ℕ → EReal) : Prop where
  a0 : ∀ (r : Fin 512) (j : Fin 256), I.u_6_0 (ix2 r j) = U r j
  b0 : ∀ (r : Fin 512) (j : Fin 256), I.u_7_0 (ix2 r j) = U (r + 1) j
  a1 : ∀ (r : Fin 512) (j : Fin 256), I.u_6_256 (ix2 r j) = U r (256 + j)
  b1 : ∀ (r : Fin 512) (j : Fin 256), I.u_7_256 (ix2 r j) = U (r + 1) (256 + j)

/-- What row `R` of the tile hands to the output projection. -/
def mixR (I : Ins) (S : ℕ → ℕ → ℕ → EReal) (U : ℕ → ℕ → EReal) (R j : ℕ) : EReal :=
  if j < 512 then
    cM (dc I (64 * (R / 64))) (lc I (64 * (R / 64))) (stA I S (R / 64)) (gn I) (j / 128) ⟨R % 64, Nat.mod_lt _ (by decide)⟩ ⟨j % 128, Nat.mod_lt _ (by decide)⟩
  else cv I U R (j - 512)

/-- The attention columns, by chunk and head. -/
theorem mixR_head (I : Ins) (S : ℕ → ℕ → ℕ → EReal) (U : ℕ → ℕ → EReal) (c h R j : ℕ) (a : Fin 64) (b : Fin 128) (hh : h < 4)
    (hr : R = 64 * c + a) (hj : j = 128 * h + b) :
    cM (dc I (64 * c)) (lc I (64 * c)) (stA I S c) (gn I) h a b = mixR I S U R j := by
  subst hr hj
  have ha := a.isLt
  have hb := b.isLt
  unfold mixR
  rw [if_pos (by omega)]
  have e1 : (64 * c + (a : ℕ)) / 64 = c := by omega
  have e2 : (128 * h + (b : ℕ)) / 128 = h := by omega
  have e3 : (⟨(64 * c + (a : ℕ)) % 64, Nat.mod_lt _ (by decide)⟩ : Fin 64) = a := Fin.ext (by simp only; omega)
  have e4 : (⟨(128 * h + (b : ℕ)) % 128, Nat.mod_lt _ (by decide)⟩ : Fin 128) = b := Fin.ext (by simp only; omega)
  rw [e1, e2, e3, e4]

/-- The convolution's columns, first half. -/
theorem mixR_conv0 (I : Ins) (S : ℕ → ℕ → ℕ → EReal) (U : ℕ → ℕ → EReal) (H : HoldsU I U) (R j : ℕ) (a : Fin 512) (b : Fin 256)
    (hr : R = a) (hj : j = 512 + b) :
    pr I a (1536 + b) * (I.x6 (ix2 0 ⟨b, by omega⟩) * I.u_6_0 (ix2 a b) + I.x6 (ix2 1 ⟨b, by omega⟩) * I.u_7_0 (ix2 a b)
      + I.x6 (ix2 2 ⟨b, by omega⟩) * (pr I a (2048 + b) * pr I a (2560 + b))) = mixR I S U R j := by
  subst hr hj
  have hb := b.isLt
  unfold mixR cv
  rw [if_neg (by omega), H.a0, H.b0]
  simp (disch := omega) only [Nat.add_sub_cancel_left, Nat.mod_eq_of_lt]

/-- The convolution's columns, second half. -/
theorem mixR_conv1 (I : Ins) (S : ℕ → ℕ → ℕ → EReal) (U : ℕ → ℕ → EReal) (H : HoldsU I U) (R j : ℕ) (a : Fin 512) (b : Fin 256)
    (hr : R = a) (hj : j = 768 + b) :
    pr I a (1792 + b) * (I.x6 (ix2 0 ⟨256 + b, by omega⟩) * I.u_6_256 (ix2 a b) + I.x6 (ix2 1 ⟨256 + b, by omega⟩) * I.u_7_256 (ix2 a b)
      + I.x6 (ix2 2 ⟨256 + b, by omega⟩) * (pr I a (2304 + b) * pr I a (2816 + b))) = mixR I S U R j := by
  subst hr hj
  have hb := b.isLt
  have e : 768 + (b : ℕ) - 512 = 256 + b := by omega
  unfold mixR cv
  rw [if_neg (by omega), H.a1, H.b1, e]
  simp (disch := omega) only [← Nat.add_assoc, Nat.reduceAdd, Nat.mod_eq_of_lt]

/-- What the point stores into the buffer the output projection reads, last store first. -/
def mixL (I : Ins) : List (View.Piece (Elt Ideal) S512x1024 .bf16) :=
  [⟨Rect.unit ![0, 768] ![512, 256] inb_S512x1024_S512x256_0_768, n409 I⟩,
   ⟨Rect.unit ![448, 384] ![64, 128] inb_S512x1024_S64x128_448_384, n406 I⟩,
   ⟨Rect.unit ![448, 256] ![64, 128] inb_S512x1024_S64x128_448_256, n402 I⟩,
   ⟨Rect.unit ![448, 128] ![64, 128] inb_S512x1024_S64x128_448_128, n401 I⟩,
   ⟨Rect.unit ![448, 0] ![64, 128] inb_S512x1024_S64x128_448_0, n399 I⟩,
   ⟨Rect.unit ![384, 384] ![64, 128] inb_S512x1024_S64x128_384_384, n395 I⟩,
   ⟨Rect.unit ![384, 256] ![64, 128] inb_S512x1024_S64x128_384_256, n394 I⟩,
   ⟨Rect.unit ![384, 128] ![64, 128] inb_S512x1024_S64x128_384_128, n390 I⟩,
   ⟨Rect.unit ![384, 0] ![64, 128] inb_S512x1024_S64x128_384_0, n389 I⟩,
   ⟨Rect.unit ![320, 384] ![64, 128] inb_S512x1024_S64x128_320_384, n387 I⟩,
   ⟨Rect.unit ![320, 256] ![64, 128] inb_S512x1024_S64x128_320_256, n383 I⟩,
   ⟨Rect.unit ![320, 128] ![64, 128] inb_S512x1024_S64x128_320_128, n382 I⟩,
   ⟨Rect.unit ![320, 0] ![64, 128] inb_S512x1024_S64x128_320_0, n378 I⟩,
   ⟨Rect.unit ![256, 384] ![64, 128] inb_S512x1024_S64x128_256_384, n377 I⟩,
   ⟨Rect.unit ![256, 256] ![64, 128] inb_S512x1024_S64x128_256_256, n375 I⟩,
   ⟨Rect.unit ![256, 128] ![64, 128] inb_S512x1024_S64x128_256_128, n371 I⟩,
   ⟨Rect.unit ![256, 0] ![64, 128] inb_S512x1024_S64x128_256_0, n370 I⟩,
   ⟨Rect.unit ![192, 384] ![64, 128] inb_S512x1024_S64x128_192_384, n366 I⟩,
   ⟨Rect.unit ![192, 256] ![64, 128] inb_S512x1024_S64x128_192_256, n365 I⟩,
   ⟨Rect.unit ![192, 128] ![64, 128] inb_S512x1024_S64x128_192_128, n363 I⟩,
   ⟨Rect.unit ![192, 0] ![64, 128] inb_S512x1024_S64x128_192_0, n359 I⟩,
   ⟨Rect.unit ![128, 384] ![64, 128] inb_S512x1024_S64x128_128_384, n358 I⟩,
   ⟨Rect.unit ![128, 256] ![64, 128] inb_S512x1024_S64x128_128_256, n354 I⟩,
   ⟨Rect.unit ![128, 128] ![64, 128] inb_S512x1024_S64x128_128_128, n353 I⟩,
   ⟨Rect.unit ![128, 0] ![64, 128] inb_S512x1024_S64x128_128_0, n351 I⟩,
   ⟨Rect.unit ![64, 384] ![64, 128] inb_S512x1024_S64x128_64_384, n347 I⟩,
   ⟨Rect.unit ![64, 256] ![64, 128] inb_S512x1024_S64x128_64_256, n346 I⟩,
   ⟨Rect.unit ![64, 128] ![64, 128] inb_S512x1024_S64x128_64_128, n342 I⟩,
   ⟨Rect.unit ![64, 0] ![64, 128] inb_S512x1024_S64x128_64_0, n341 I⟩,
   ⟨Rect.unit ![0, 384] ![64, 128] inb_S512x1024_S64x128_0_384, n339 I⟩,
   ⟨Rect.unit ![0, 256] ![64, 128] inb_S512x1024_S64x128_0_256, n335 I⟩,
   ⟨Rect.unit ![0, 128] ![64, 128] inb_S512x1024_S64x128_0_128, n334 I⟩,
   ⟨Rect.unit ![0, 0] ![64, 128] inb_S512x1024_S64x128_0_0, n330 I⟩,
   ⟨Rect.unit ![0, 512] ![512, 256] inb_S512x1024_S512x256_0_512, n236 I⟩]

set_option maxHeartbeats 4000000 in
/-- The buffer the output projection reads holds, row by row, the attention values and the convolution. -/
theorem mixL_at (I : Ins) (S : ℕ → ℕ → ℕ → EReal) (H : Holds I S) (U : ℕ → ℕ → EReal) (HU : HoldsU I U) (y : S512x1024.Idx) :
    View.canon (mixL I) y = mixR I S U (y 0) (y 1) := by
  unfold mixL
  canon_tiles x h using (View.cover_of_tiledBy _ ![64, 128] (by sl_kernel_rfl) y)
  · obtain ⟨a, b, rfl⟩ : ∃ a b, x = ix2 a b := ⟨x 0, x 1, eq_ix2 x⟩
    exact (n409_at I a b).trans (mixR_conv1 I S U HU _ _ a b (by simpa using h0) h1)
  · obtain ⟨a, b, rfl⟩ : ∃ a b, x = ix2 a b := ⟨x 0, x 1, eq_ix2 x⟩
    exact (n406_at I S H a b).trans (mixR_head I S U 7 3 _ _ a b (by decide) (by simpa using h0) (by simpa using h1))
  · obtain ⟨a, b, rfl⟩ : ∃ a b, x = ix2 a b := ⟨x 0, x 1, eq_ix2 x⟩
    exact (n402_at I S H a b).trans (mixR_head I S U 7 2 _ _ a b (by decide) (by simpa using h0) (by simpa using h1))
  · obtain ⟨a, b, rfl⟩ : ∃ a b, x = ix2 a b := ⟨x 0, x 1, eq_ix2 x⟩
    exact (n401_at I S H a b).trans (mixR_head I S U 7 1 _ _ a b (by decide) (by simpa using h0) (by simpa using h1))
  · obtain ⟨a, b, rfl⟩ : ∃ a b, x = ix2 a b := ⟨x 0, x 1, eq_ix2 x⟩
    exact (n399_at I S H a b).trans (mixR_head I S U 7 0 _ _ a b (by decide) (by simpa using h0) (by simpa using h1))
  · obtain ⟨a, b, rfl⟩ : ∃ a b, x = ix2 a b := ⟨x 0, x 1, eq_ix2 x⟩
    exact (n395_at I S H a b).trans (mixR_head I S U 6 3 _ _ a b (by decide) (by simpa using h0) (by simpa using h1))
  · obtain ⟨a, b, rfl⟩ : ∃ a b, x = ix2 a b := ⟨x 0, x 1, eq_ix2 x⟩
    exact (n394_at I S H a b).trans (mixR_head I S U 6 2 _ _ a b (by decide) (by simpa using h0) (by simpa using h1))
  · obtain ⟨a, b, rfl⟩ : ∃ a b, x = ix2 a b := ⟨x 0, x 1, eq_ix2 x⟩
    exact (n390_at I S H a b).trans (mixR_head I S U 6 1 _ _ a b (by decide) (by simpa using h0) (by simpa using h1))
  · obtain ⟨a, b, rfl⟩ : ∃ a b, x = ix2 a b := ⟨x 0, x 1, eq_ix2 x⟩
    exact (n389_at I S H a b).trans (mixR_head I S U 6 0 _ _ a b (by decide) (by simpa using h0) (by simpa using h1))
  · obtain ⟨a, b, rfl⟩ : ∃ a b, x = ix2 a b := ⟨x 0, x 1, eq_ix2 x⟩
    exact (n387_at I S H a b).trans (mixR_head I S U 5 3 _ _ a b (by decide) (by simpa using h0) (by simpa using h1))
  · obtain ⟨a, b, rfl⟩ : ∃ a b, x = ix2 a b := ⟨x 0, x 1, eq_ix2 x⟩
    exact (n383_at I S H a b).trans (mixR_head I S U 5 2 _ _ a b (by decide) (by simpa using h0) (by simpa using h1))
  · obtain ⟨a, b, rfl⟩ : ∃ a b, x = ix2 a b := ⟨x 0, x 1, eq_ix2 x⟩
    exact (n382_at I S H a b).trans (mixR_head I S U 5 1 _ _ a b (by decide) (by simpa using h0) (by simpa using h1))
  · obtain ⟨a, b, rfl⟩ : ∃ a b, x = ix2 a b := ⟨x 0, x 1, eq_ix2 x⟩
    exact (n378_at I S H a b).trans (mixR_head I S U 5 0 _ _ a b (by decide) (by simpa using h0) (by simpa using h1))
  · obtain ⟨a, b, rfl⟩ : ∃ a b, x = ix2 a b := ⟨x 0, x 1, eq_ix2 x⟩
    exact (n377_at I S H a b).trans (mixR_head I S U 4 3 _ _ a b (by decide) (by simpa using h0) (by simpa using h1))
  · obtain ⟨a, b, rfl⟩ : ∃ a b, x = ix2 a b := ⟨x 0, x 1, eq_ix2 x⟩
    exact (n375_at I S H a b).trans (mixR_head I S U 4 2 _ _ a b (by decide) (by simpa using h0) (by simpa using h1))
  · obtain ⟨a, b, rfl⟩ : ∃ a b, x = ix2 a b := ⟨x 0, x 1, eq_ix2 x⟩
    exact (n371_at I S H a b).trans (mixR_head I S U 4 1 _ _ a b (by decide) (by simpa using h0) (by simpa using h1))
  · obtain ⟨a, b, rfl⟩ : ∃ a b, x = ix2 a b := ⟨x 0, x 1, eq_ix2 x⟩
    exact (n370_at I S H a b).trans (mixR_head I S U 4 0 _ _ a b (by decide) (by simpa using h0) (by simpa using h1))
  · obtain ⟨a, b, rfl⟩ : ∃ a b, x = ix2 a b := ⟨x 0, x 1, eq_ix2 x⟩
    exact (n366_at I S H a b).trans (mixR_head I S U 3 3 _ _ a b (by decide) (by simpa using h0) (by simpa using h1))
  · obtain ⟨a, b, rfl⟩ : ∃ a b, x = ix2 a b := ⟨x 0, x 1, eq_ix2 x⟩
    exact (n365_at I S H a b).trans (mixR_head I S U 3 2 _ _ a b (by decide) (by simpa using h0) (by simpa using h1))
  · obtain ⟨a, b, rfl⟩ : ∃ a b, x = ix2 a b := ⟨x 0, x 1, eq_ix2 x⟩
    exact (n363_at I S H a b).trans (mixR_head I S U 3 1 _ _ a b (by decide) (by simpa using h0) (by simpa using h1))
  · obtain ⟨a, b, rfl⟩ : ∃ a b, x = ix2 a b := ⟨x 0, x 1, eq_ix2 x⟩
    exact (n359_at I S H a b).trans (mixR_head I S U 3 0 _ _ a b (by decide) (by simpa using h0) (by simpa using h1))
  · obtain ⟨a, b, rfl⟩ : ∃ a b, x = ix2 a b := ⟨x 0, x 1, eq_ix2 x⟩
    exact (n358_at I S H a b).trans (mixR_head I S U 2 3 _ _ a b (by decide) (by simpa using h0) (by simpa using h1))
  · obtain ⟨a, b, rfl⟩ : ∃ a b, x = ix2 a b := ⟨x 0, x 1, eq_ix2 x⟩
    exact (n354_at I S H a b).trans (mixR_head I S U 2 2 _ _ a b (by decide) (by simpa using h0) (by simpa using h1))
  · obtain ⟨a, b, rfl⟩ : ∃ a b, x = ix2 a b := ⟨x 0, x 1, eq_ix2 x⟩
    exact (n353_at I S H a b).trans (mixR_head I S U 2 1 _ _ a b (by decide) (by simpa using h0) (by simpa using h1))
  · obtain ⟨a, b, rfl⟩ : ∃ a b, x = ix2 a b := ⟨x 0, x 1, eq_ix2 x⟩
    exact (n351_at I S H a b).trans (mixR_head I S U 2 0 _ _ a b (by decide) (by simpa using h0) (by simpa using h1))
  · obtain ⟨a, b, rfl⟩ : ∃ a b, x = ix2 a b := ⟨x 0, x 1, eq_ix2 x⟩
    exact (n347_at I S H a b).trans (mixR_head I S U 1 3 _ _ a b (by decide) (by simpa using h0) (by simpa using h1))
  · obtain ⟨a, b, rfl⟩ : ∃ a b, x = ix2 a b := ⟨x 0, x 1, eq_ix2 x⟩
    exact (n346_at I S H a b).trans (mixR_head I S U 1 2 _ _ a b (by decide) (by simpa using h0) (by simpa using h1))
  · obtain ⟨a, b, rfl⟩ : ∃ a b, x = ix2 a b := ⟨x 0, x 1, eq_ix2 x⟩
    exact (n342_at I S H a b).trans (mixR_head I S U 1 1 _ _ a b (by decide) (by simpa using h0) (by simpa using h1))
  · obtain ⟨a, b, rfl⟩ : ∃ a b, x = ix2 a b := ⟨x 0, x 1, eq_ix2 x⟩
    exact (n341_at I S H a b).trans (mixR_head I S U 1 0 _ _ a b (by decide) (by simpa using h0) (by simpa using h1))
  · obtain ⟨a, b, rfl⟩ : ∃ a b, x = ix2 a b := ⟨x 0, x 1, eq_ix2 x⟩
    exact (n339_at I S H a b).trans (mixR_head I S U 0 3 _ _ a b (by decide) (by simpa using h0) (by simpa using h1))
  · obtain ⟨a, b, rfl⟩ : ∃ a b, x = ix2 a b := ⟨x 0, x 1, eq_ix2 x⟩
    exact (n335_at I S H a b).trans (mixR_head I S U 0 2 _ _ a b (by decide) (by simpa using h0) (by simpa using h1))
  · obtain ⟨a, b, rfl⟩ : ∃ a b, x = ix2 a b := ⟨x 0, x 1, eq_ix2 x⟩
    exact (n334_at I S H a b).trans (mixR_head I S U 0 1 _ _ a b (by decide) (by simpa using h0) (by simpa using h1))
  · obtain ⟨a, b, rfl⟩ : ∃ a b, x = ix2 a b := ⟨x 0, x 1, eq_ix2 x⟩
    exact (n330_at I S H a b).trans (mixR_head I S U 0 0 _ _ a b (by decide) (by simpa using h0) (by simpa using h1))
  · obtain ⟨a, b, rfl⟩ : ∃ a b, x = ix2 a b := ⟨x 0, x 1, eq_ix2 x⟩
    exact (n236_at I a b).trans (mixR_conv0 I S U HU _ _ a b (by simpa using h0) h1)

end Cert.MixerIdeal.Tile
-- ==== Proof.MixerOut.lean ====
/- What one grid point of the token mixer leaves: its block of the result, the carried rows of the short convolution's
   input and the carried states. -/
module

public import proofs.«01_k».proof.Proof.MixerMix

@[expose] public section

set_option maxRecDepth 16384

noncomputable section

open Idealize.ShloMosaic Idealize.ShloMosaic.TcCoe Idealize.SL.Sem
open scoped BigOperators

namespace Cert.MixerIdeal.Tile

open Cert.MixerIdeal Cert.MixerIdeal.Gen Cert.MixRows

/-! ## Reading what a list of stores left -/

section Stores

variable {Val : EltTy → Type} [∀ e, Nonempty (Val e)] {e : EltTy} {n0 n1 n2 o0 o1 o2 s0 s1 s2 : ℕ}

/-- An index of a matrix the last store wrote reads that store's value. -/
theorem canon_hit2 {inb} {w : (⟨2, ![s0, s1]⟩ : Shape).Idx → Val e} {L : List (View.Piece Val ⟨2, ![n0, n1]⟩ e)}
    (a : Fin s0) (b : Fin s1) (y0 : Fin n0) (y1 : Fin n1) (h0 : (y0 : ℕ) = o0 + a) (h1 : (y1 : ℕ) = o1 + b) :
    View.canon (⟨Rect.unit ![o0, o1] ![s0, s1] inb, w⟩ :: L) (ix2 y0 y1) = w (ix2 a b) := by
  have hy : (Rect.unit (s := ⟨2, ![n0, n1]⟩) ![o0, o1] ![s0, s1] inb).emb (ix2 a b) = ix2 y0 y1 := funext fun c => Fin.ext (by
    refine (Rect.idx_unit_val ..).trans ?_
    match c with
    | ⟨0, _⟩ => exact h0.symm
    | ⟨1, _⟩ => exact h1.symm)
  rw [← hy]
  exact View.canon_cons_emb (Rect.unit (s := ⟨2, ![n0, n1]⟩) ![o0, o1] ![s0, s1] inb) w L (ix2 a b)

/-- An index of a matrix the last store did not write reads what the earlier stores left. -/
theorem canon_miss2 {inb} {w : (⟨2, ![s0, s1]⟩ : Shape).Idx → Val e} {L : List (View.Piece Val ⟨2, ![n0, n1]⟩ e)}
    (y0 : Fin n0) (y1 : Fin n1) (h : ((y0 : ℕ) < o0 ∨ o0 + s0 ≤ y0) ∨ ((y1 : ℕ) < o1 ∨ o1 + s1 ≤ y1)) :
    View.canon (⟨Rect.unit ![o0, o1] ![s0, s1] inb, w⟩ :: L) (ix2 y0 y1) = View.canon L (ix2 y0 y1) :=
  View.canon_cons_of_not_mem _ L (fun hm => by
    have h1 : o0 ≤ (y0 : ℕ) ∧ (y0 : ℕ) < o0 + s0 := (Rect.mem_set_unit (inb := inb)).mp hm 0
    have h2 : o1 ≤ (y1 : ℕ) ∧ (y1 : ℕ) < o1 + s1 := (Rect.mem_set_unit (inb := inb)).mp hm 1
    omega)

/-- An index of a stack of matrices the last store wrote reads that store's value. -/
theorem canon_hit3 {inb} {w : (⟨3, ![s0, s1, s2]⟩ : Shape).Idx → Val e} {L : List (View.Piece Val ⟨3, ![n0, n1, n2]⟩ e)}
    (a : Fin s0) (b : Fin s1) (d : Fin s2) (y0 : Fin n0) (y1 : Fin n1) (y2 : Fin n2) (h0 : (y0 : ℕ) = o0 + a) (h1 : (y1 : ℕ) = o1 + b)
    (h2 : (y2 : ℕ) = o2 + d) :
    View.canon (⟨Rect.unit ![o0, o1, o2] ![s0, s1, s2] inb, w⟩ :: L) (ix3 y0 y1 y2) = w (ix3 a b d) := by
  have hy : (Rect.unit (s := ⟨3, ![n0, n1, n2]⟩) ![o0, o1, o2] ![s0, s1, s2] inb).emb (ix3 a b d) = ix3 y0 y1 y2 := funext fun c => Fin.ext (by
    refine (Rect.idx_unit_val ..).trans ?_
    match c with
    | ⟨0, _⟩ => exact h0.symm
    | ⟨1, _⟩ => exact h1.symm
    | ⟨2, _⟩ => exact h2.symm)
  rw [← hy]
  exact View.canon_cons_emb (Rect.unit (s := ⟨3, ![n0, n1, n2]⟩) ![o0, o1, o2] ![s0, s1, s2] inb) w L (ix3 a b d)

/-- An index of a stack of matrices the last store did not write reads what the earlier stores left. -/
theorem canon_miss3 {inb} {w : (⟨3, ![s0, s1, s2]⟩ : Shape).Idx → Val e} {L : List (View.Piece Val ⟨3, ![n0, n1, n2]⟩ e)}
    (y0 : Fin n0) (y1 : Fin n1) (y2 : Fin n2) (h : (y0 : ℕ) < o0 ∨ o0 + s0 ≤ y0) :
    View.canon (⟨Rect.unit ![o0, o1, o2] ![s0, s1, s2] inb, w⟩ :: L) (ix3 y0 y1 y2) = View.canon L (ix3 y0 y1 y2) :=
  View.canon_cons_of_not_mem _ L (fun hm => by
    have h1 : o0 ≤ (y0 : ℕ) ∧ (y0 : ℕ) < o0 + s0 := (Rect.mem_set_unit (inb := inb)).mp hm 0
    omega)

variable {sig : RefSig} {κ : Kind} {sp : Space}

/-- The same over known earlier contents, written. -/
theorem read_hit2 (v : View sig κ sp ⟨2, ![n0, n1]⟩ e) (f : v.ty.Contents Val) {inb} {w : (⟨2, ![s0, s1]⟩ : Shape).Idx → Val e}
    {L : List (View.Piece Val ⟨2, ![n0, n1]⟩ e)} (a : Fin s0) (b : Fin s1) (y0 : Fin n0) (y1 : Fin n1) (h0 : (y0 : ℕ) = o0 + a)
    (h1 : (y1 : ℕ) = o1 + b) :
    v.read Val (v.writes Val f (⟨Rect.unit ![o0, o1] ![s0, s1] inb, w⟩ :: L)) (ix2 y0 y1) = w (ix2 a b) := by
  have hy : (Rect.unit (s := ⟨2, ![n0, n1]⟩) ![o0, o1] ![s0, s1] inb).emb (ix2 a b) = ix2 y0 y1 := funext fun c => Fin.ext (by
    refine (Rect.idx_unit_val ..).trans ?_
    match c with
    | ⟨0, _⟩ => exact h0.symm
    | ⟨1, _⟩ => exact h1.symm)
  rw [← hy]
  exact View.read_writes_cons_emb ..

/-- The same over known earlier contents, not written. -/
theorem read_miss2 (v : View sig κ sp ⟨2, ![n0, n1]⟩ e) (f : v.ty.Contents Val) {inb} {w : (⟨2, ![s0, s1]⟩ : Shape).Idx → Val e}
    {L : List (View.Piece Val ⟨2, ![n0, n1]⟩ e)} (y0 : Fin n0) (y1 : Fin n1)
    (h : ((y0 : ℕ) < o0 ∨ o0 + s0 ≤ y0) ∨ ((y1 : ℕ) < o1 ∨ o1 + s1 ≤ y1)) :
    v.read Val (v.writes Val f (⟨Rect.unit ![o0, o1] ![s0, s1] inb, w⟩ :: L)) (ix2 y0 y1) = v.read Val (v.writes Val f L) (ix2 y0 y1) := by
  have hm : ix2 y0 y1 ∉ (Rect.unit (s := ⟨2, ![n0, n1]⟩) ![o0, o1] ![s0, s1] inb).set := fun hm => by
    have h1 : o0 ≤ (y0 : ℕ) ∧ (y0 : ℕ) < o0 + s0 := (Rect.mem_set_unit (inb := inb)).mp hm 0
    have h2 : o1 ≤ (y1 : ℕ) ∧ (y1 : ℕ) < o1 + s1 := (Rect.mem_set_unit (inb := inb)).mp hm 1
    omega
  have hy : ix2 y0 y1 ∉ Finset.univ.map (Rect.unit (s := ⟨2, ![n0, n1]⟩) ![o0, o1] ![s0, s1] inb).emb := by rwa [Rect.map_emb_univ]
  rw [View.writes_cons, View.read_slice_write_of_not_mem _ _ _ _ hy]

/-- A load through a unit rectangle of a matrix reads the shifted index. -/
theorem ld_at2 {X : (⟨2, ![n0, n1]⟩ : Shape).Idx → Val e} {inb} (a : Fin s0) (b : Fin s1) (y0 : Fin n0) (y1 : Fin n1) (h0 : (y0 : ℕ) = o0 + a)
    (h1 : (y1 : ℕ) = o1 + b) : View.ld X (Rect.unit (s := ⟨2, ![n0, n1]⟩) ![o0, o1] ![s0, s1] inb) (ix2 a b) = X (ix2 y0 y1) :=
  View.ld_unit_apply_of X _ _ _ _ _ (by
    intro c
    match c with
    | ⟨0, _⟩ => exact h0
    | ⟨1, _⟩ => exact h1)

/-- A load through a unit rectangle of a stack of matrices reads the shifted index. -/
theorem ld_at3 {X : (⟨3, ![n0, n1, n2]⟩ : Shape).Idx → Val e} {inb} (a : Fin s0) (b : Fin s1) (d : Fin s2) (y0 : Fin n0) (y1 : Fin n1) (y2 : Fin n2)
    (h0 : (y0 : ℕ) = o0 + a) (h1 : (y1 : ℕ) = o1 + b) (h2 : (y2 : ℕ) = o2 + d) :
    View.ld X (Rect.unit (s := ⟨3, ![n0, n1, n2]⟩) ![o0, o1, o2] ![s0, s1, s2] inb) (ix3 a b d) = X (ix3 y0 y1 y2) :=
  View.ld_unit_apply_of X _ _ _ _ _ (by
    intro c
    match c with
    | ⟨0, _⟩ => exact h0
    | ⟨1, _⟩ => exact h1
    | ⟨2, _⟩ => exact h2)

/-- A load of stores into a matrix reads what they left at the shifted index. -/
theorem readCov_at2 (v : View sig κ sp ⟨2, ![n0, n1]⟩ e) (L : List (View.Piece Val ⟨2, ![n0, n1]⟩ e)) {inb} (a : Fin s0) (b : Fin s1)
    (y0 : Fin n0) (y1 : Fin n1) (h0 : (y0 : ℕ) = o0 + a) (h1 : (y1 : ℕ) = o1 + b) :
    v.readCov L (Rect.unit (s := ⟨2, ![n0, n1]⟩) ![o0, o1] ![s0, s1] inb).toLoadRect (ix2 a b) = View.canon L (ix2 y0 y1) := by
  rw [View.readCov_eq_canon']
  refine congrArg _ (funext fun c => Fin.ext ?_)
  refine (Rect.idx_unit_val ..).trans ?_
  match c with
  | ⟨0, _⟩ => exact h0.symm
  | ⟨1, _⟩ => exact h1.symm

/-- A load of stores into a stack of matrices reads what they left at the shifted index. -/
theorem readCov_at3 (v : View sig κ sp ⟨3, ![n0, n1, n2]⟩ e) (L : List (View.Piece Val ⟨3, ![n0, n1, n2]⟩ e)) {inb} (a : Fin s0) (b : Fin s1)
    (d : Fin s2) (y0 : Fin n0) (y1 : Fin n1) (y2 : Fin n2) (h0 : (y0 : ℕ) = o0 + a) (h1 : (y1 : ℕ) = o1 + b) (h2 : (y2 : ℕ) = o2 + d) :
    v.readCov L (Rect.unit (s := ⟨3, ![n0, n1, n2]⟩) ![o0, o1, o2] ![s0, s1, s2] inb).toLoadRect (ix3 a b d) = View.canon L (ix3 y0 y1 y2) := by
  rw [View.readCov_eq_canon']
  refine congrArg _ (funext fun c => Fin.ext ?_)
  refine (Rect.idx_unit_val ..).trans ?_
  match c with
  | ⟨0, _⟩ => exact h0.symm
  | ⟨1, _⟩ => exact h1.symm
  | ⟨2, _⟩ => exact h2.symm

end Stores

/-- Every number is itself past zero. -/
theorem zadd (n : ℕ) : n = 0 + n := (Nat.zero_add n).symm

/-! ## The block of the result -/

/-- The buffer the output projection reads, as loaded. -/
def mixV (I : Ins) : FVec Ideal S512x1024 .bf16 :=
  View.readCov (Val := Elt Ideal) (s := S512x1024) (e := EltTy.bf16) (View.whole cc0_scratch2) (mixL I) (Rect.unit (s := S512x1024) ![0, 0] ![512, 1024] inb_S512x1024_S512x1024_0_0).toLoadRect

/-- The block of the result that one grid point stores. -/
def outV (I : Ins) : FVec Ideal S1x512x1024 .f32 := k0_pay411 (n3 I) (mixV I) I.x7

/-- One entry of it. -/
theorem outV_at (I : Ins) (S : ℕ → ℕ → ℕ → EReal) (H : Holds I S) (U : ℕ → ℕ → EReal) (HU : HoldsU I U) (r : Fin 512) (j : Fin 1024) :
    outV I (ix3 0 r j) = I.x0 (ix3 0 r j) + ∑ k : Fin 1024, mixR I S U r k * I.x7 (ix2 k j) := by
  unfold outV
  pointwise [k0_pay411]
  rw [n3_at]
  refine congrArg (_ + ·) (Finset.sum_congr rfl fun k _ => congrArg (· * _) ?_)
  exact (readCov_at2 _ _ r k r k (zadd _) (zadd _)).trans (mixL_at I S H U HU (ix2 r k))

/-! ## The carried rows of the convolution's input -/

/-- The stores of the convolution's input, first half of the channels. -/
def uL0 (I : Ins) (T : List (View.Piece (Elt Ideal) S520x512 .f32)) : List (View.Piece (Elt Ideal) S520x512 .f32) :=
  ⟨Rect.unit ![8, 0] ![512, 256] inb_S520x512_S512x256_8_0, k0_pay233 (n28 I) (n180 I)⟩ :: T

/-- Its last eight rows, first half of the channels. -/
def tail0 (I : Ins) (T : List (View.Piece (Elt Ideal) S520x512 .f32)) : FVec Ideal S8x256 .f32 :=
  View.readCov (Val := Elt Ideal) (s := S520x512) (e := EltTy.f32) (View.whole cc0_scratch0) (uL0 I T) (Rect.unit (s := S520x512) ![512, 0] ![8, 256] inb_S520x512_S8x256_512_0).toLoadRect

/-- The stores of the convolution's input, second half. -/
def uL1 (I : Ins) (T : List (View.Piece (Elt Ideal) S520x512 .f32)) : List (View.Piece (Elt Ideal) S520x512 .f32) :=
  ⟨Rect.unit ![8, 256] ![512, 256] inb_S520x512_S512x256_8_256, n408 I⟩ ::
  ⟨Rect.unit ![0, 0] ![8, 256] inb_S520x512_S8x256_0_0, k0_pay237 (F := Ideal) (tail0 I T)⟩ :: uL0 I T

/-- The last eight rows, second half of the channels. -/
def tail1 (I : Ins) (T : List (View.Piece (Elt Ideal) S520x512 .f32)) : FVec Ideal S8x256 .f32 :=
  View.readCov (Val := Elt Ideal) (s := S520x512) (e := EltTy.f32) (View.whole cc0_scratch0) (uL1 I T) (Rect.unit (s := S520x512) ![512, 256] ![8, 256] inb_S520x512_S8x256_512_256).toLoadRect

/-- All stores into the convolution's input buffer. -/
def uL2 (I : Ins) (T : List (View.Piece (Elt Ideal) S520x512 .f32)) : List (View.Piece (Elt Ideal) S520x512 .f32) :=
  ⟨Rect.unit ![0, 256] ![8, 256] inb_S520x512_S8x256_0_256, k0_pay410 (F := Ideal) (tail1 I T)⟩ :: uL1 I T

/-- The convolution's input at row `r` of the tile. -/
def uu (I : Ins) (r d : ℕ) : EReal := pr I r (2048 + d) * pr I r (2560 + d)

/-- The second half of the channels at a row. -/
theorem uu_second (I : Ins) (r : Fin 512) (d : ℕ) (h : 256 ≤ d) (h2 : d - 256 < 256) : n408 I (ix2 r ⟨d - 256, h2⟩) = uu I r d := by
  have e1 : 2304 + (d - 256) = 2048 + d := by omega
  have e2 : 2816 + (d - 256) = 2560 + d := by omega
  rw [n408_at I]
  simp only [e1, e2, uu]

/-- The first eight rows end as the tile's last eight rows of the convolution's input. -/
theorem uL2_at (I : Ins) (T : List (View.Piece (Elt Ideal) S520x512 .f32)) (r : Fin 520) (d : Fin 512) (hr : (r : ℕ) < 8) :
    View.canon (uL2 I T) (ix2 r d) = uu I (504 + r) d := by
  have hd' := d.isLt
  unfold uL2
  by_cases hd : (d : ℕ) < 256
  · refine (canon_miss2 (Val := Elt Ideal) r d (Or.inr (Or.inl hd))).trans ?_
    refine (canon_miss2 (Val := Elt Ideal) r d (Or.inr (Or.inl hd))).trans ?_
    refine (canon_hit2 (Val := Elt Ideal) (⟨r, hr⟩ : Fin 8) (⟨d, hd⟩ : Fin 256) r d (zadd _) (zadd _)).trans ?_
    pointwise [k0_pay237]
    refine (readCov_at2 _ _ (⟨r, hr⟩ : Fin 8) (⟨d, hd⟩ : Fin 256) (⟨512 + r, by omega⟩ : Fin 520) d rfl (zadd _)).trans ?_
    refine (canon_hit2 (Val := Elt Ideal) (⟨504 + r, by omega⟩ : Fin 512) (⟨d, hd⟩ : Fin 256) _ d (by show 512 + (r : ℕ) = 8 + (504 + r); omega) (zadd _)).trans ?_
    exact n233_at I _ _
  · refine (canon_hit2 (Val := Elt Ideal) (⟨r, hr⟩ : Fin 8) (⟨d - 256, by omega⟩ : Fin 256) r d (zadd _) (by show (d : ℕ) = 256 + (d - 256); omega)).trans ?_
    pointwise [k0_pay410]
    refine (readCov_at2 _ _ (⟨r, hr⟩ : Fin 8) (⟨d - 256, by omega⟩ : Fin 256) (⟨512 + r, by omega⟩ : Fin 520) d rfl (by show (d : ℕ) = 256 + (d - 256); omega)).trans ?_
    refine (canon_hit2 (Val := Elt Ideal) (⟨504 + r, by omega⟩ : Fin 512) (⟨d - 256, by omega⟩ : Fin 256) _ d (by show 512 + (r : ℕ) = 8 + (504 + r); omega) (by show (d : ℕ) = 256 + (d - 256); omega)).trans ?_
    exact uu_second I _ d (by omega) (by omega)

/-! ## The carried states -/

/-- The stores of the states. -/
def sL (I : Ins) (T : List (View.Piece (Elt Ideal) S4x128x128 .f32)) : List (View.Piece (Elt Ideal) S4x128x128 .f32) :=
  ⟨Rect.unit ![3, 0, 0] ![1, 128, 128] inb_S4x128x128_S1x128x128_3_0_0, n310 I⟩ ::
  ⟨Rect.unit ![2, 0, 0] ![1, 128, 128] inb_S4x128x128_S1x128x128_2_0_0, n309 I⟩ ::
  ⟨Rect.unit ![1, 0, 0] ![1, 128, 128] inb_S4x128x128_S1x128x128_1_0_0, n308 I⟩ ::
  ⟨Rect.unit ![0, 0, 0] ![1, 128, 128] inb_S4x128x128_S1x128x128_0_0_0, n307 I⟩ :: T

/-- A state `S` as the carried buffer holds it: each pair of heads shares 128 lanes. -/
def packed (S : ℕ → ℕ → ℕ → EReal) (h : Fin 4) (e a : ℕ) : EReal :=
  match h with
  | ⟨0, _⟩ => lo (fun a => S 0 e a) a
  | ⟨1, _⟩ => hi (fun a => S 1 e a) a
  | ⟨2, _⟩ => lo (fun a => S 2 e (128 + a)) a
  | ⟨3, _⟩ => hi (fun a => S 3 e (128 + a)) a

/-- The carried states end as the states after the tile's eight chunks. -/
theorem sL_at (I : Ins) (S : ℕ → ℕ → ℕ → EReal) (H : Holds I S) (T : List (View.Piece (Elt Ideal) S4x128x128 .f32)) (h : Fin 4) (e a : Fin 128) :
    View.canon (sL I T) (ix3 h e a) = packed (stA I S 8) h e a := by
  match h with
  | ⟨0, _⟩ =>
    refine (canon_miss3 (Val := Elt Ideal) _ e a (Or.inl (by show 0 < 3; decide))).trans ?_
    refine (canon_miss3 (Val := Elt Ideal) _ e a (Or.inl (by show 0 < 2; decide))).trans ?_
    refine (canon_miss3 (Val := Elt Ideal) _ e a (Or.inl (by show 0 < 1; decide))).trans ?_
    refine (canon_hit3 (Val := Elt Ideal) (0 : Fin 1) e a _ e a (by rfl) (zadd _) (zadd _)).trans ?_
    exact n307_at I S H e a
  | ⟨1, _⟩ =>
    refine (canon_miss3 (Val := Elt Ideal) _ e a (Or.inl (by show 1 < 3; decide))).trans ?_
    refine (canon_miss3 (Val := Elt Ideal) _ e a (Or.inl (by show 1 < 2; decide))).trans ?_
    refine (canon_hit3 (Val := Elt Ideal) (0 : Fin 1) e a _ e a (by rfl) (zadd _) (zadd _)).trans ?_
    exact n308_at I S H e a
  | ⟨2, _⟩ =>
    refine (canon_miss3 (Val := Elt Ideal) _ e a (Or.inl (by show 2 < 3; decide))).trans ?_
    refine (canon_hit3 (Val := Elt Ideal) (0 : Fin 1) e a _ e a (by rfl) (zadd _) (zadd _)).trans ?_
    exact n309_at I S H e a
  | ⟨3, _⟩ =>
    refine (canon_hit3 (Val := Elt Ideal) (0 : Fin 1) e a _ e a (by rfl) (zadd _) (zadd _)).trans ?_
    exact n310_at I S H e a

/-! ## What the loads at the point's start read -/

/-- The four loads of a carried state, at an entry. -/
theorem packed_holds (I : Ins) (S : ℕ → ℕ → ℕ → EReal) (P : FVec Ideal S4x128x128 .f32) (hP : ∀ (h : Fin 4) (e a : Fin 128), P (ix3 h e a) = packed S h e a)
    (h0 : ∀ e a : Fin 128, I.s0 (ix3 0 e a) = P (ix3 0 e a)) (h1 : ∀ e a : Fin 128, I.s1 (ix3 0 e a) = P (ix3 1 e a))
    (h2 : ∀ e a : Fin 128, I.s2 (ix3 0 e a) = P (ix3 2 e a)) (h3 : ∀ e a : Fin 128, I.s3 (ix3 0 e a) = P (ix3 3 e a)) : Holds I S where
  h0 e a := (h0 e a).trans (hP 0 e a)
  h1 e a := (h1 e a).trans (hP 1 e a)
  h2 e a := (h2 e a).trans (hP 2 e a)
  h3 e a := (h3 e a).trans (hP 3 e a)

end Cert.MixerIdeal.Tile
-- ==== Proof.MixerPoint.lean ====
/- One grid point of the token mixer against the plain functions of its blocks, in each of its two cases: the first tile
   of a sequence starts from nothing, every other tile from what the tile before left. -/
module

public import proofs.«01_k».proof.Proof.MixerOut

@[expose] public section

set_option maxRecDepth 16384

noncomputable section

open Idealize.ShloMosaic Idealize.ShloMosaic.TcCoe Idealize.SL.Sem
open scoped BigOperators

namespace Cert.MixerIdeal.Tile

open Cert.MixerIdeal Cert.MixerIdeal.Gen Cert.MixRows

variable (m : (ℓ : Loc nD τ sig) → Buf (Elt Ideal) ℓ) (c : Dev nD)

/-- The operand blocks of a grid point, with nothing carried. -/
def base (t : Fin cfg0.N) : Ins where
  x0 := iblk m c 0 t
  x1 := iblk m c 1 t
  x2 := iblk m c 2 t
  x3 := iblk m c 3 t
  x4 := iblk m c 4 t
  x5 := iblk m c 5 t
  x6 := iblk m c 6 t
  x7 := iblk m c 7 t
  s0 := fun _ => 0
  s1 := fun _ => 0
  s2 := fun _ => 0
  s3 := fun _ => 0
  u_6_0 := fun _ => 0
  u_7_0 := fun _ => 0
  u_6_256 := fun _ => 0
  u_7_256 := fun _ => 0

/-- The convolution's input buffer after the stores `L` over the carried contents `P`. -/
def uBuf (P : FVec Ideal S520x512 .f32) (L : List (View.Piece (Elt Ideal) S520x512 .f32)) : FVec Ideal S520x512 .f32 :=
  View.read (Elt Ideal) (View.whole cc0_scratch0) ((View.whole cc0_scratch0).writes (Elt Ideal) ((Memref.isWhole_whole cc0_scratch0).unread P) L)

/-- The carried states, as read. -/
def sBuf (P : FVec Ideal S4x128x128 .f32) : FVec Ideal S4x128x128 .f32 :=
  View.read (Elt Ideal) (View.whole cc0_scratch1) ((Memref.isWhole_whole cc0_scratch1).unread P)

/-- Reading back the carried states. -/
theorem sBuf_eq (P : FVec Ideal S4x128x128 .f32) : sBuf P = P := Memref.IsWhole.read_unread (Val := Elt Ideal) (Memref.isWhole_whole cc0_scratch1) P

/-- Reading back the carried rows, no store made. -/
theorem uBuf_nil (P : FVec Ideal S520x512 .f32) : uBuf P [] = P := Memref.IsWhole.read_unread (Val := Elt Ideal) (Memref.isWhole_whole cc0_scratch0) P

/-- A shifted load of the convolution's input, over carried contents. -/
def ldB_6_0 (I : Ins) (P : FVec Ideal S520x512 .f32) : FVec Ideal S512x256 .f32 :=
  View.ld (Val := Elt Ideal) (e' := EltTy.f32) (S := S520x512) (uBuf P (uL0 I [])) (Rect.unit (s := S520x512) ![6, 0] ![512, 256] inb_S520x512_S512x256_6_0)

/-- The same where nothing is carried: the first rows were filled. -/
def ldA_6_0 (I : Ins) : FVec Ideal S512x256 .f32 :=
  View.readCov (Val := Elt Ideal) (s := S520x512) (e := EltTy.f32) (View.whole cc0_scratch0)
    (uL0 I [⟨Rect.unit ![0, 0] ![8, 512] inb_S520x512_S8x512_0_0, k0_pay2 (F := Ideal)⟩]) (Rect.unit (s := S520x512) ![6, 0] ![512, 256] inb_S520x512_S512x256_6_0).toLoadRect

/-- A shifted load of the convolution's input, over carried contents. -/
def ldB_7_0 (I : Ins) (P : FVec Ideal S520x512 .f32) : FVec Ideal S512x256 .f32 :=
  View.ld (Val := Elt Ideal) (e' := EltTy.f32) (S := S520x512) (uBuf P (uL0 I [])) (Rect.unit (s := S520x512) ![7, 0] ![512, 256] inb_S520x512_S512x256_7_0)

/-- The same where nothing is carried: the first rows were filled. -/
def ldA_7_0 (I : Ins) : FVec Ideal S512x256 .f32 :=
  View.readCov (Val := Elt Ideal) (s := S520x512) (e := EltTy.f32) (View.whole cc0_scratch0)
    (uL0 I [⟨Rect.unit ![0, 0] ![8, 512] inb_S520x512_S8x512_0_0, k0_pay2 (F := Ideal)⟩]) (Rect.unit (s := S520x512) ![7, 0] ![512, 256] inb_S520x512_S512x256_7_0).toLoadRect

/-- A shifted load of the convolution's input, over carried contents. -/
def ldB_6_256 (I : Ins) (P : FVec Ideal S520x512 .f32) : FVec Ideal S512x256 .f32 :=
  View.ld (Val := Elt Ideal) (e' := EltTy.f32) (S := S520x512) (uBuf P (uL1 I [])) (Rect.unit (s := S520x512) ![6, 256] ![512, 256] inb_S520x512_S512x256_6_256)

/-- The same where nothing is carried: the first rows were filled. -/
def ldA_6_256 (I : Ins) : FVec Ideal S512x256 .f32 :=
  View.readCov (Val := Elt Ideal) (s := S520x512) (e := EltTy.f32) (View.whole cc0_scratch0)
    (uL1 I [⟨Rect.unit ![0, 0] ![8, 512] inb_S520x512_S8x512_0_0, k0_pay2 (F := Ideal)⟩]) (Rect.unit (s := S520x512) ![6, 256] ![512, 256] inb_S520x512_S512x256_6_256).toLoadRect

/-- A shifted load of the convolution's input, over carried contents. -/
def ldB_7_256 (I : Ins) (P : FVec Ideal S520x512 .f32) : FVec Ideal S512x256 .f32 :=
  View.ld (Val := Elt Ideal) (e' := EltTy.f32) (S := S520x512) (uBuf P (uL1 I [])) (Rect.unit (s := S520x512) ![7, 256] ![512, 256] inb_S520x512_S512x256_7_256)

/-- The same where nothing is carried: the first rows were filled. -/
def ldA_7_256 (I : Ins) : FVec Ideal S512x256 .f32 :=
  View.readCov (Val := Elt Ideal) (s := S520x512) (e := EltTy.f32) (View.whole cc0_scratch0)
    (uL1 I [⟨Rect.unit ![0, 0] ![8, 512] inb_S520x512_S8x512_0_0, k0_pay2 (F := Ideal)⟩]) (Rect.unit (s := S520x512) ![7, 256] ![512, 256] inb_S520x512_S512x256_7_256).toLoadRect

/-- The load of one carried state. -/
def sdB_0 (P : FVec Ideal S4x128x128 .f32) : FVec Ideal S1x128x128 .f32 :=
  View.ld (Val := Elt Ideal) (e' := EltTy.f32) (S := S4x128x128) (sBuf P) (Rect.unit (s := S4x128x128) ![0, 0, 0] ![1, 128, 128] inb_S4x128x128_S1x128x128_0_0_0)

/-- The load of one state where nothing is carried. -/
def sdA_0 : FVec Ideal S1x128x128 .f32 :=
  View.readCov (Val := Elt Ideal) (s := S4x128x128) (e := EltTy.f32) (View.whole cc0_scratch1)
    [⟨Rect.unit ![0, 0, 0] ![4, 128, 128] inb_S4x128x128_S4x128x128_0_0_0, k0_pay1 (F := Ideal)⟩] (Rect.unit (s := S4x128x128) ![0, 0, 0] ![1, 128, 128] inb_S4x128x128_S1x128x128_0_0_0).toLoadRect

/-- One entry of it. -/
theorem sdB_0_at (P : FVec Ideal S4x128x128 .f32) (e a : Fin 128) : sdB_0 P (ix3 0 e a) = P (ix3 0 e a) := by
  unfold sdB_0
  rw [sBuf_eq]
  exact ld_at3 (Val := Elt Ideal) (0 : Fin 1) e a (0 : Fin 4) e a (by rfl) (zadd _) (zadd _)

/-- One entry of it. -/
theorem sdA_0_at (e a : Fin 128) : sdA_0 (ix3 0 e a) = 0 := by
  unfold sdA_0
  refine (readCov_at3 (Val := Elt Ideal) _ _ (0 : Fin 1) e a (0 : Fin 4) e a (by rfl) (zadd _) (zadd _)).trans ?_
  refine (canon_hit3 (Val := Elt Ideal) (0 : Fin 4) e a _ e a (zadd _) (zadd _) (zadd _)).trans ?_
  pointwise [k0_pay1]

/-- The load of one carried state. -/
def sdB_1 (P : FVec Ideal S4x128x128 .f32) : FVec Ideal S1x128x128 .f32 :=
  View.ld (Val := Elt Ideal) (e' := EltTy.f32) (S := S4x128x128) (sBuf P) (Rect.unit (s := S4x128x128) ![1, 0, 0] ![1, 128, 128] inb_S4x128x128_S1x128x128_1_0_0)

/-- The load of one state where nothing is carried. -/
def sdA_1 : FVec Ideal S1x128x128 .f32 :=
  View.readCov (Val := Elt Ideal) (s := S4x128x128) (e := EltTy.f32) (View.whole cc0_scratch1)
    [⟨Rect.unit ![0, 0, 0] ![4, 128, 128] inb_S4x128x128_S4x128x128_0_0_0, k0_pay1 (F := Ideal)⟩] (Rect.unit (s := S4x128x128) ![1, 0, 0] ![1, 128, 128] inb_S4x128x128_S1x128x128_1_0_0).toLoadRect

/-- One entry of it. -/
theorem sdB_1_at (P : FVec Ideal S4x128x128 .f32) (e a : Fin 128) : sdB_1 P (ix3 0 e a) = P (ix3 1 e a) := by
  unfold sdB_1
  rw [sBuf_eq]
  exact ld_at3 (Val := Elt Ideal) (0 : Fin 1) e a (1 : Fin 4) e a (by rfl) (zadd _) (zadd _)

/-- One entry of it. -/
theorem sdA_1_at (e a : Fin 128) : sdA_1 (ix3 0 e a) = 0 := by
  unfold sdA_1
  refine (readCov_at3 (Val := Elt Ideal) _ _ (0 : Fin 1) e a (1 : Fin 4) e a (by rfl) (zadd _) (zadd _)).trans ?_
  refine (canon_hit3 (Val := Elt Ideal) (1 : Fin 4) e a _ e a (zadd _) (zadd _) (zadd _)).trans ?_
  pointwise [k0_pay1]

/-- The load of one carried state. -/
def sdB_2 (P : FVec Ideal S4x128x128 .f32) : FVec Ideal S1x128x128 .f32 :=
  View.ld (Val := Elt Ideal) (e' := EltTy.f32) (S := S4x128x128) (sBuf P) (Rect.unit (s := S4x128x128) ![2, 0, 0] ![1, 128, 128] inb_S4x128x128_S1x128x128_2_0_0)

/-- The load of one state where nothing is carried. -/
def sdA_2 : FVec Ideal S1x128x128 .f32 :=
  View.readCov (Val := Elt Ideal) (s := S4x128x128) (e := EltTy.f32) (View.whole cc0_scratch1)
    [⟨Rect.unit ![0, 0, 0] ![4, 128, 128] inb_S4x128x128_S4x128x128_0_0_0, k0_pay1 (F := Ideal)⟩] (Rect.unit (s := S4x128x128) ![2, 0, 0] ![1, 128, 128] inb_S4x128x128_S1x128x128_2_0_0).toLoadRect

/-- One entry of it. -/
theorem sdB_2_at (P : FVec Ideal S4x128x128 .f32) (e a : Fin 128) : sdB_2 P (ix3 0 e a) = P (ix3 2 e a) := by
  unfold sdB_2
  rw [sBuf_eq]
  exact ld_at3 (Val := Elt Ideal) (0 : Fin 1) e a (2 : Fin 4) e a (by rfl) (zadd _) (zadd _)

/-- One entry of it. -/
theorem sdA_2_at (e a : Fin 128) : sdA_2 (ix3 0 e a) = 0 := by
  unfold sdA_2
  refine (readCov_at3 (Val := Elt Ideal) _ _ (0 : Fin 1) e a (2 : Fin 4) e a (by rfl) (zadd _) (zadd _)).trans ?_
  refine (canon_hit3 (Val := Elt Ideal) (2 : Fin 4) e a _ e a (zadd _) (zadd _) (zadd _)).trans ?_
  pointwise [k0_pay1]

/-- The load of one carried state. -/
def sdB_3 (P : FVec Ideal S4x128x128 .f32) : FVec Ideal S1x128x128 .f32 :=
  View.ld (Val := Elt Ideal) (e' := EltTy.f32) (S := S4x128x128) (sBuf P) (Rect.unit (s := S4x128x128) ![3, 0, 0] ![1, 128, 128] inb_S4x128x128_S1x128x128_3_0_0)

/-- The load of one state where nothing is carried. -/
def sdA_3 : FVec Ideal S1x128x128 .f32 :=
  View.readCov (Val := Elt Ideal) (s := S4x128x128) (e := EltTy.f32) (View.whole cc0_scratch1)
    [⟨Rect.unit ![0, 0, 0] ![4, 128, 128] inb_S4x128x128_S4x128x128_0_0_0, k0_pay1 (F := Ideal)⟩] (Rect.unit (s := S4x128x128) ![3, 0, 0] ![1, 128, 128] inb_S4x128x128_S1x128x128_3_0_0).toLoadRect

/-- One entry of it. -/
theorem sdB_3_at (P : FVec Ideal S4x128x128 .f32) (e a : Fin 128) : sdB_3 P (ix3 0 e a) = P (ix3 3 e a) := by
  unfold sdB_3
  rw [sBuf_eq]
  exact ld_at3 (Val := Elt Ideal) (0 : Fin 1) e a (3 : Fin 4) e a (by rfl) (zadd _) (zadd _)

/-- One entry of it. -/
theorem sdA_3_at (e a : Fin 128) : sdA_3 (ix3 0 e a) = 0 := by
  unfold sdA_3
  refine (readCov_at3 (Val := Elt Ideal) _ _ (0 : Fin 1) e a (3 : Fin 4) e a (by rfl) (zadd _) (zadd _)).trans ?_
  refine (canon_hit3 (Val := Elt Ideal) (3 : Fin 4) e a _ e a (zadd _) (zadd _) (zadd _)).trans ?_
  pointwise [k0_pay1]

/-- A tile's blocks with what the tile before left. -/
def insB (t : Fin cfg0.N) (P : FVec Ideal S520x512 .f32) (Q : FVec Ideal S4x128x128 .f32) : Ins where
  x0 := iblk m c 0 t
  x1 := iblk m c 1 t
  x2 := iblk m c 2 t
  x3 := iblk m c 3 t
  x4 := iblk m c 4 t
  x5 := iblk m c 5 t
  x6 := iblk m c 6 t
  x7 := iblk m c 7 t
  s0 := sdB_0 Q
  s1 := sdB_1 Q
  s2 := sdB_2 Q
  s3 := sdB_3 Q
  u_6_0 := ldB_6_0 (base m c t) P
  u_7_0 := ldB_7_0 (base m c t) P
  u_6_256 := ldB_6_256 (base m c t) P
  u_7_256 := ldB_7_256 (base m c t) P

/-- A sequence's first tile's blocks. -/
def insA (t : Fin cfg0.N) : Ins where
  x0 := iblk m c 0 t
  x1 := iblk m c 1 t
  x2 := iblk m c 2 t
  x3 := iblk m c 3 t
  x4 := iblk m c 4 t
  x5 := iblk m c 5 t
  x6 := iblk m c 6 t
  x7 := iblk m c 7 t
  s0 := sdA_0
  s1 := sdA_1
  s2 := sdA_2
  s3 := sdA_3
  u_6_0 := ldA_6_0 (base m c t)
  u_7_0 := ldA_7_0 (base m c t)
  u_6_256 := ldA_6_256 (base m c t)
  u_7_256 := ldA_7_256 (base m c t)

/-- Row `ρ` of the convolution's input buffer: eight carried rows, then the tile's own. -/
def pad (I : Ins) (C : ℕ → ℕ → EReal) (ρ d : ℕ) : EReal := if ρ < 2 then C (6 + ρ) d else uu I (ρ - 2) d

/-- A store of the first half of the channels read at its row. -/
theorem uBuf_lo (I : Ins) (P : FVec Ideal S520x512 .f32) (r : Fin 520) (d : Fin 512) (hd : (d : ℕ) < 256) :
    uBuf P (uL0 I []) (ix2 r d) = if (r : ℕ) < 8 then P (ix2 r d) else uu I (r - 8) d := by
  have hr := r.isLt
  unfold uBuf uL0
  by_cases h : (r : ℕ) < 8
  · rw [if_pos h]
    refine (read_miss2 (Val := Elt Ideal) _ _ r d (Or.inl (Or.inl h))).trans ?_
    exact congrFun (uBuf_nil P) (ix2 r d)
  · rw [if_neg h]
    refine (read_hit2 (Val := Elt Ideal) _ _ (⟨r - 8, by omega⟩ : Fin 512) (⟨d, hd⟩ : Fin 256) r d (by show (r : ℕ) = 8 + (r - 8); omega) (zadd _)).trans ?_
    exact n233_at I _ _

/-- A store of the second half of the channels read at its row. -/
theorem uBuf_hi (I : Ins) (P : FVec Ideal S520x512 .f32) (r : Fin 520) (d : Fin 512) (hd : 256 ≤ (d : ℕ)) :
    uBuf P (uL1 I []) (ix2 r d) = if (r : ℕ) < 8 then P (ix2 r d) else uu I (r - 8) d := by
  have hr := r.isLt
  have hd' := d.isLt
  unfold uBuf uL1
  by_cases h : (r : ℕ) < 8
  · rw [if_pos h]
    refine (read_miss2 (Val := Elt Ideal) _ _ r d (Or.inl (Or.inl h))).trans ?_
    refine (read_miss2 (Val := Elt Ideal) _ _ r d (Or.inr (Or.inr hd))).trans ?_
    refine (read_miss2 (Val := Elt Ideal) _ _ r d (Or.inl (Or.inl h))).trans ?_
    exact congrFun (uBuf_nil P) (ix2 r d)
  · rw [if_neg h]
    refine (read_hit2 (Val := Elt Ideal) _ _ (⟨r - 8, by omega⟩ : Fin 512) (⟨d - 256, by omega⟩ : Fin 256) r d (by show (r : ℕ) = 8 + (r - 8); omega)
      (by show (d : ℕ) = 256 + (d - 256); omega)).trans ?_
    exact uu_second I _ d hd (by omega)

/-- The fill of the first rows. -/
def fill0 : List (View.Piece (Elt Ideal) S520x512 .f32) := [⟨Rect.unit ![0, 0] ![8, 512] inb_S520x512_S8x512_0_0, k0_pay2 (F := Ideal)⟩]

/-- The fill reads zero. -/
theorem fill0_at (r : Fin 520) (d : Fin 512) (h : (r : ℕ) < 8) : View.canon fill0 (ix2 r d) = 0 := by
  unfold fill0
  refine (canon_hit2 (Val := Elt Ideal) (⟨r, h⟩ : Fin 8) d r d (zadd _) (zadd _)).trans ?_
  pointwise [k0_pay2]

/-- Over the fill, the first half of the channels. -/
theorem uFill_lo (I : Ins) (r : Fin 520) (d : Fin 512) (hd : (d : ℕ) < 256) :
    View.canon (uL0 I fill0) (ix2 r d) = if (r : ℕ) < 8 then 0 else uu I (r - 8) d := by
  have hr := r.isLt
  unfold uL0
  by_cases h : (r : ℕ) < 8
  · rw [if_pos h]
    exact (canon_miss2 (Val := Elt Ideal) r d (Or.inl (Or.inl h))).trans (fill0_at r d h)
  · rw [if_neg h]
    refine (canon_hit2 (Val := Elt Ideal) (⟨r - 8, by omega⟩ : Fin 512) (⟨d, hd⟩ : Fin 256) r d (by show (r : ℕ) = 8 + (r - 8); omega) (zadd _)).trans ?_
    exact n233_at I _ _

/-- Over the fill, the second half of the channels. -/
theorem uFill_hi (I : Ins) (r : Fin 520) (d : Fin 512) (hd : 256 ≤ (d : ℕ)) :
    View.canon (uL1 I fill0) (ix2 r d) = if (r : ℕ) < 8 then 0 else uu I (r - 8) d := by
  have hr := r.isLt
  have hd' := d.isLt
  unfold uL1 uL0
  by_cases h : (r : ℕ) < 8
  · rw [if_pos h]
    refine (canon_miss2 (Val := Elt Ideal) r d (Or.inl (Or.inl h))).trans ?_
    refine (canon_miss2 (Val := Elt Ideal) r d (Or.inr (Or.inr hd))).trans ?_
    exact (canon_miss2 (Val := Elt Ideal) r d (Or.inl (Or.inl h))).trans (fill0_at r d h)
  · rw [if_neg h]
    refine (canon_hit2 (Val := Elt Ideal) (⟨r - 8, by omega⟩ : Fin 512) (⟨d - 256, by omega⟩ : Fin 256) r d (by show (r : ℕ) = 8 + (r - 8); omega)
      (by show (d : ℕ) = 256 + (d - 256); omega)).trans ?_
    exact uu_second I _ d hd (by omega)

/-- A row of the buffer, from the value at its place. -/
theorem pad_of (I : Ins) (C : ℕ → ℕ → EReal) (ρ d : ℕ) (x : EReal) (h : x = if 6 + ρ < 8 then C (6 + ρ) d else uu I (6 + ρ - 8) d) :
    x = pad I C ρ d := by
  rw [h]
  unfold pad
  by_cases hp : ρ < 2
  · rw [if_pos hp, if_pos (by omega)]
  · rw [if_neg hp, if_neg (by omega), show 6 + ρ - 8 = ρ - 2 by omega]

set_option maxHeartbeats 2000000 in
/-- The shifted loads over carried rows. -/
theorem holdsU_B (t : Fin cfg0.N) (P : FVec Ideal S520x512 .f32) (Q : FVec Ideal S4x128x128 .f32) (C : ℕ → ℕ → EReal)
    (hC : ∀ (r : Fin 520) (d : Fin 512), (r : ℕ) < 8 → P (ix2 r d) = C r d) : HoldsU (insB m c t P Q) (pad (base m c t) C) where
  a0 r j := by
    have e0 : (insB m c t P Q).u_6_0 = ldB_6_0 (base m c t) P := by unfold insB; rfl
    rw [e0]
    unfold ldB_6_0
    refine (ld_at2 (Val := Elt Ideal) r j (⟨6 + r, by omega⟩ : Fin 520) (⟨j, by omega⟩ : Fin 512) (by rfl) (zadd _)).trans ?_
    refine pad_of _ _ _ _ _ ((uBuf_lo _ P _ _ j.isLt).trans ?_)
    split
    · rename_i h; exact hC _ _ h
    · rfl
  b0 r j := by
    have e0 : (insB m c t P Q).u_7_0 = ldB_7_0 (base m c t) P := by unfold insB; rfl
    rw [e0]
    unfold ldB_7_0
    refine (ld_at2 (Val := Elt Ideal) r j (⟨7 + r, by omega⟩ : Fin 520) (⟨j, by omega⟩ : Fin 512) (by rfl) (zadd _)).trans ?_
    refine pad_of _ _ _ _ _ ((uBuf_lo _ P _ _ j.isLt).trans ?_)
    have e : 6 + ((r : ℕ) + 1) = 7 + r := by omega
    rw [e]
    split
    · rename_i h; exact hC _ _ h
    · rfl
  a1 r j := by
    have e0 : (insB m c t P Q).u_6_256 = ldB_6_256 (base m c t) P := by unfold insB; rfl
    rw [e0]
    unfold ldB_6_256
    refine (ld_at2 (Val := Elt Ideal) r j (⟨6 + r, by omega⟩ : Fin 520) (⟨256 + j, by omega⟩ : Fin 512) (by rfl) (by rfl)).trans ?_
    refine pad_of _ _ _ _ _ ((uBuf_hi _ P _ _ (by show 256 ≤ 256 + (j : ℕ); omega)).trans ?_)
    split
    · rename_i h; exact hC _ _ h
    · rfl
  b1 r j := by
    have e0 : (insB m c t P Q).u_7_256 = ldB_7_256 (base m c t) P := by unfold insB; rfl
    rw [e0]
    unfold ldB_7_256
    refine (ld_at2 (Val := Elt Ideal) r j (⟨7 + r, by omega⟩ : Fin 520) (⟨256 + j, by omega⟩ : Fin 512) (by rfl) (by rfl)).trans ?_
    refine pad_of _ _ _ _ _ ((uBuf_hi _ P _ _ (by show 256 ≤ 256 + (j : ℕ); omega)).trans ?_)
    have e : 6 + ((r : ℕ) + 1) = 7 + r := by omega
    rw [e]
    split
    · rename_i h; exact hC _ _ h
    · rfl

set_option maxHeartbeats 2000000 in
/-- The shifted loads over the fill. -/
theorem holdsU_A (t : Fin cfg0.N) : HoldsU (insA m c t) (pad (base m c t) (fun _ _ => 0)) where
  a0 r j := by
    have e0 : (insA m c t).u_6_0 = ldA_6_0 (base m c t) := by unfold insA; rfl
    rw [e0]
    unfold ldA_6_0
    refine (readCov_at2 (Val := Elt Ideal) _ _ r j (⟨6 + r, by omega⟩ : Fin 520) (⟨j, by omega⟩ : Fin 512) (by rfl) (zadd _)).trans ?_
    exact pad_of _ _ _ _ _ (uFill_lo _ _ _ j.isLt)
  b0 r j := by
    have e0 : (insA m c t).u_7_0 = ldA_7_0 (base m c t) := by unfold insA; rfl
    rw [e0]
    unfold ldA_7_0
    refine (readCov_at2 (Val := Elt Ideal) _ _ r j (⟨7 + r, by omega⟩ : Fin 520) (⟨j, by omega⟩ : Fin 512) (by rfl) (zadd _)).trans ?_
    refine pad_of _ _ _ _ _ ((uFill_lo _ _ _ j.isLt).trans ?_)
    have e : 6 + ((r : ℕ) + 1) = 7 + r := by omega
    rw [e]
  a1 r j := by
    have e0 : (insA m c t).u_6_256 = ldA_6_256 (base m c t) := by unfold insA; rfl
    rw [e0]
    unfold ldA_6_256
    refine (readCov_at2 (Val := Elt Ideal) _ _ r j (⟨6 + r, by omega⟩ : Fin 520) (⟨256 + j, by omega⟩ : Fin 512) (by rfl) (by rfl)).trans ?_
    exact pad_of _ _ _ _ _ (uFill_hi _ _ _ (by show 256 ≤ 256 + (j : ℕ); omega))
  b1 r j := by
    have e0 : (insA m c t).u_7_256 = ldA_7_256 (base m c t) := by unfold insA; rfl
    rw [e0]
    unfold ldA_7_256
    refine (readCov_at2 (Val := Elt Ideal) _ _ r j (⟨7 + r, by omega⟩ : Fin 520) (⟨256 + j, by omega⟩ : Fin 512) (by rfl) (by rfl)).trans ?_
    refine pad_of _ _ _ _ _ ((uFill_hi _ _ _ (by show 256 ≤ 256 + (j : ℕ); omega)).trans ?_)
    have e : 6 + ((r : ℕ) + 1) = 7 + r := by omega
    rw [e]

/-- The loads of carried states. -/
theorem holds_B (t : Fin cfg0.N) (P : FVec Ideal S520x512 .f32) (Q : FVec Ideal S4x128x128 .f32) (S : ℕ → ℕ → ℕ → EReal)
    (hS : ∀ (h : Fin 4) (e a : Fin 128), Q (ix3 h e a) = packed S h e a) : Holds (insB m c t P Q) S :=
  packed_holds _ S Q hS (sdB_0_at Q) (sdB_1_at Q) (sdB_2_at Q) (sdB_3_at Q)

/-- The loads of states where nothing is carried: all zero. -/
theorem holds_A (t : Fin cfg0.N) : Holds (insA m c t) (fun _ _ _ => 0) where
  h0 e a := by
    have e0 : (insA m c t).s0 = sdA_0 := by unfold insA; rfl
    rw [e0, sdA_0_at]
    simp [lo]
  h1 e a := by
    have e0 : (insA m c t).s1 = sdA_1 := by unfold insA; rfl
    rw [e0, sdA_1_at]
    simp [hi]
  h2 e a := by
    have e0 : (insA m c t).s2 = sdA_2 := by unfold insA; rfl
    rw [e0, sdA_2_at]
    simp [lo]
  h3 e a := by
    have e0 : (insA m c t).s3 = sdA_3 := by unfold insA; rfl
    rw [e0, sdA_3_at]
    simp [hi]

/-! ## The pipeline's contents -/

/-- What the tile before left in the convolution's input buffer. -/
def prevU (t : Fin cfg0.N) : FVec Ideal S520x512 .f32 := (outsAt0 m c (t.val - 1) (Nat.lt_of_le_of_lt (Nat.sub_le _ _) t.isLt)).2.1

/-- What the tile before left in the states. -/
def prevS (t : Fin cfg0.N) : FVec Ideal S4x128x128 .f32 := (outsAt0 m c (t.val - 1) (Nat.lt_of_le_of_lt (Nat.sub_le _ _) t.isLt)).2.2

end Cert.MixerIdeal.Tile
-- ==== Proof.MixerPointX.lean ====
/- One grid point of the token mixer against the plain functions of its blocks, in each of its two cases: the first tile
   of a sequence starts from nothing, every other tile from what the tile before left. -/
module

public import proofs.«01_k».proof.Proof.MixerPoint

@[expose] public section

set_option maxRecDepth 16384

noncomputable section

open Idealize.ShloMosaic Idealize.ShloMosaic.TcCoe Idealize.SL.Sem
open scoped BigOperators

namespace Cert.MixerIdeal.Tile

open Cert.MixerIdeal Cert.MixerIdeal.Gen Cert.MixRows

variable (m : (ℓ : Loc nD τ sig) → Buf (Elt Ideal) ℓ) (c : Dev nD)

set_option maxHeartbeats 8000000 in
/-- The rows a later tile starts from, after a first tile. -/
theorem u_A (t : Fin cfg0.N) (h : t.val % 4 = 0) (r : Fin 520) (d : Fin 512) (hr : (r : ℕ) < 8) :
    (outsAt0 m c t.val t.isLt).2.1 (ix2 r d) = uu (base m c t) (504 + r) d := by
  rw [outsAt0_A m c t h]
  frame_out
  refine Eq.trans ?_ (uL2_at (base m c t) fill0 r d hr)
  dsimp only [uL0, uL1, uL2, tail0, tail1, sL, outV, mixV, mixL, base, uBuf, sBuf, fill0, prevU, prevS, insA, insB, ldA_6_0, ldA_7_0,
    ldA_6_256, ldA_7_256, ldB_6_0, ldB_7_0, ldB_6_256, ldB_7_256, sdA_0, sdA_1, sdA_2, sdA_3, sdB_0, sdB_1, sdB_2, sdB_3,
    ld_x2_S1024x3200_S1024x256_0_2304, ld_x2_S1024x3200_S1024x256_0_2816, ld_x2_S1024x3200_S1024x256_0_1792, ld_x6_S3x512_S3x256_0_256,
    ld_x2_S1024x3200_S1024x256_0_2048, ld_x2_S1024x3200_S1024x256_0_2560, ld_x2_S1024x3200_S1024x512_0_1024, ld_x2_S1024x3200_S1024x512_0_0,
    ld_x2_S1024x3200_S1024x128_0_3072, ld_x2_S1024x3200_S1024x512_0_512, ld_x2_S1024x3200_S1024x256_0_1536, ld_x6_S3x512_S3x256_0_0, n3, n4,
    n5, n6, n7, n8, n9, n10, n11, n16, n19, n20, n21, n22, n23, n24, n25, n26, n27, n28, n180, n231, n232, n233, n234, n235, n236, n311,
    n329, n407, n408, n409, n29, n30, n31, n32, n33, n34, n35, n36, n37, n38, n39, n40, n41, n42, n43, n44, n45, n46, n47, n48, n49, n50,
    n51, n52, n53, n54, n55, n56, n57, n58, n59, n60, n61, n62, n63, n64, n65, n66, n67, n68, n69, n70, n71, n72, n73, n74, n75, n76, n77,
    n78, n79, n80, n81, n82, n83, n84, n85, n86, n87, n88, n89, n90, n91, n92, n93, n94, n95, n96, n97, n98, n99, n100, n101, n102, n103,
    n104, n105, n106, n107, n108, n109, n110, n111, n112, n113, n114, n115, n116, n117, n118, n119, n120, n121, n122, n123, n124, n125,
    n126, n127, n128, n129, n130, n131, n132, n133, n134, n135, n136, n137, n138, n139, n140, n141, n142, n143, n144, n145, n146, n147,
    n148, n149, n150, n151, n152, n153, n154, n155, n156, n157, n158, n159, n160, n161, n162, n163, n164, n165, n166, n167, n168, n169,
    n170, n171, n172, n173, n174, n175, n176, n177, n178, n179, n181, n182, n183, n184, n185, n186, n187, n188, n189, n190, n191, n192,
    n193, n194, n195, n196, n197, n198, n199, n200, n201, n202, n203, n204, n205, n206, n207, n208, n209, n210, n211, n212, n213, n214,
    n215, n216, n217, n218, n219, n220, n221, n222, n223, n224, n225, n226, n227, n228, n229, n230, n242, n244, n245, n251, n253, n259,
    n261, n267, n269, n275, n277, n283, n285, n286, n292, n294, n300, n302, n238, n239, n240, n241, n247, n248, n249, n250, n255, n256,
    n257, n258, n263, n264, n265, n266, n271, n272, n273, n274, n279, n280, n281, n282, n288, n289, n290, n291, n296, n297, n298, n299,
    n304, n305, n306, n307, n308, n309, n310, n243, n246, n252, n254, n260, n262, n268, n270, n276, n278, n284, n287, n293, n295, n301,
    n303, n312, n313, n314, n315, n316, n317, n318, n319, n320, n321, n322, n323, n324, n325, n326, n327, n328, n330, n331, n332, n333,
    n334, n335, n336, n337, n338, n339, n340, n341, n342, n343, n344, n345, n346, n347, n348, n349, n350, n351, n352, n353, n354, n355,
    n356, n357, n358, n359, n360, n361, n362, n363, n364, n365, n366, n367, n368, n369, n370, n371, n372, n373, n374, n375, n376, n377,
    n378, n379, n380, n381, n382, n383, n384, n385, n386, n387, n388, n389, n390, n391, n392, n393, n394, n395, n396, n397, n398, n399,
    n400, n401, n402, n403, n404, n405, n406]

set_option maxHeartbeats 8000000 in
/-- The rows a later tile starts from, after any other tile. -/
theorem u_B (t : Fin cfg0.N) (h : ¬ t.val % 4 = 0) (r : Fin 520) (d : Fin 512) (hr : (r : ℕ) < 8) :
    (outsAt0 m c t.val t.isLt).2.1 (ix2 r d) = uu (base m c t) (504 + r) d := by
  rw [outsAt0_B m c t h]
  frame_out
  refine Eq.trans ?_ (uL2_at (base m c t) [] r d hr)
  dsimp only [uL0, uL1, uL2, tail0, tail1, sL, outV, mixV, mixL, base, uBuf, sBuf, fill0, prevU, prevS, insA, insB, ldA_6_0, ldA_7_0,
    ldA_6_256, ldA_7_256, ldB_6_0, ldB_7_0, ldB_6_256, ldB_7_256, sdA_0, sdA_1, sdA_2, sdA_3, sdB_0, sdB_1, sdB_2, sdB_3,
    ld_x2_S1024x3200_S1024x256_0_2304, ld_x2_S1024x3200_S1024x256_0_2816, ld_x2_S1024x3200_S1024x256_0_1792, ld_x6_S3x512_S3x256_0_256,
    ld_x2_S1024x3200_S1024x256_0_2048, ld_x2_S1024x3200_S1024x256_0_2560, ld_x2_S1024x3200_S1024x512_0_1024, ld_x2_S1024x3200_S1024x512_0_0,
    ld_x2_S1024x3200_S1024x128_0_3072, ld_x2_S1024x3200_S1024x512_0_512, ld_x2_S1024x3200_S1024x256_0_1536, ld_x6_S3x512_S3x256_0_0, n3, n4,
    n5, n6, n7, n8, n9, n10, n11, n16, n19, n20, n21, n22, n23, n24, n25, n26, n27, n28, n180, n231, n232, n233, n234, n235, n236, n311,
    n329, n407, n408, n409, n29, n30, n31, n32, n33, n34, n35, n36, n37, n38, n39, n40, n41, n42, n43, n44, n45, n46, n47, n48, n49, n50,
    n51, n52, n53, n54, n55, n56, n57, n58, n59, n60, n61, n62, n63, n64, n65, n66, n67, n68, n69, n70, n71, n72, n73, n74, n75, n76, n77,
    n78, n79, n80, n81, n82, n83, n84, n85, n86, n87, n88, n89, n90, n91, n92, n93, n94, n95, n96, n97, n98, n99, n100, n101, n102, n103,
    n104, n105, n106, n107, n108, n109, n110, n111, n112, n113, n114, n115, n116, n117, n118, n119, n120, n121, n122, n123, n124, n125,
    n126, n127, n128, n129, n130, n131, n132, n133, n134, n135, n136, n137, n138, n139, n140, n141, n142, n143, n144, n145, n146, n147,
    n148, n149, n150, n151, n152, n153, n154, n155, n156, n157, n158, n159, n160, n161, n162, n163, n164, n165, n166, n167, n168, n169,
    n170, n171, n172, n173, n174, n175, n176, n177, n178, n179, n181, n182, n183, n184, n185, n186, n187, n188, n189, n190, n191, n192,
    n193, n194, n195, n196, n197, n198, n199, n200, n201, n202, n203, n204, n205, n206, n207, n208, n209, n210, n211, n212, n213, n214,
    n215, n216, n217, n218, n219, n220, n221, n222, n223, n224, n225, n226, n227, n228, n229, n230, n242, n244, n245, n251, n253, n259,
    n261, n267, n269, n275, n277, n283, n285, n286, n292, n294, n300, n302, n238, n239, n240, n241, n247, n248, n249, n250, n255, n256,
    n257, n258, n263, n264, n265, n266, n271, n272, n273, n274, n279, n280, n281, n282, n288, n289, n290, n291, n296, n297, n298, n299,
    n304, n305, n306, n307, n308, n309, n310, n243, n246, n252, n254, n260, n262, n268, n270, n276, n278, n284, n287, n293, n295, n301,
    n303, n312, n313, n314, n315, n316, n317, n318, n319, n320, n321, n322, n323, n324, n325, n326, n327, n328, n330, n331, n332, n333,
    n334, n335, n336, n337, n338, n339, n340, n341, n342, n343, n344, n345, n346, n347, n348, n349, n350, n351, n352, n353, n354, n355,
    n356, n357, n358, n359, n360, n361, n362, n363, n364, n365, n366, n367, n368, n369, n370, n371, n372, n373, n374, n375, n376, n377,
    n378, n379, n380, n381, n382, n383, n384, n385, n386, n387, n388, n389, n390, n391, n392, n393, n394, n395, n396, n397, n398, n399,
    n400, n401, n402, n403, n404, n405, n406]

set_option maxHeartbeats 8000000 in
/-- The states after a first tile. -/
theorem s_A (t : Fin cfg0.N) (h : t.val % 4 = 0) (k : Fin 4) (e a : Fin 128) :
    (outsAt0 m c t.val t.isLt).2.2 (ix3 k e a) = packed (stA (insA m c t) (fun _ _ _ => 0) 8) k e a := by
  refine Eq.trans ?_ (sL_at (insA m c t) _ (holds_A m c t) [⟨Rect.unit ![0, 0, 0] ![4, 128, 128] inb_S4x128x128_S4x128x128_0_0_0, k0_pay1 (F := Ideal)⟩] k e a)
  rw [outsAt0_A m c t h]
  frame_out
  dsimp only [uL0, uL1, uL2, tail0, tail1, sL, outV, mixV, mixL, base, uBuf, sBuf, fill0, prevU, prevS, insA, insB, ldA_6_0, ldA_7_0,
    ldA_6_256, ldA_7_256, ldB_6_0, ldB_7_0, ldB_6_256, ldB_7_256, sdA_0, sdA_1, sdA_2, sdA_3, sdB_0, sdB_1, sdB_2, sdB_3,
    ld_x2_S1024x3200_S1024x256_0_2304, ld_x2_S1024x3200_S1024x256_0_2816, ld_x2_S1024x3200_S1024x256_0_1792, ld_x6_S3x512_S3x256_0_256,
    ld_x2_S1024x3200_S1024x256_0_2048, ld_x2_S1024x3200_S1024x256_0_2560, ld_x2_S1024x3200_S1024x512_0_1024, ld_x2_S1024x3200_S1024x512_0_0,
    ld_x2_S1024x3200_S1024x128_0_3072, ld_x2_S1024x3200_S1024x512_0_512, ld_x2_S1024x3200_S1024x256_0_1536, ld_x6_S3x512_S3x256_0_0, n3, n4,
    n5, n6, n7, n8, n9, n10, n11, n16, n19, n20, n21, n22, n23, n24, n25, n26, n27, n28, n180, n231, n232, n233, n234, n235, n236, n311,
    n329, n407, n408, n409, n29, n30, n31, n32, n33, n34, n35, n36, n37, n38, n39, n40, n41, n42, n43, n44, n45, n46, n47, n48, n49, n50,
    n51, n52, n53, n54, n55, n56, n57, n58, n59, n60, n61, n62, n63, n64, n65, n66, n67, n68, n69, n70, n71, n72, n73, n74, n75, n76, n77,
    n78, n79, n80, n81, n82, n83, n84, n85, n86, n87, n88, n89, n90, n91, n92, n93, n94, n95, n96, n97, n98, n99, n100, n101, n102, n103,
    n104, n105, n106, n107, n108, n109, n110, n111, n112, n113, n114, n115, n116, n117, n118, n119, n120, n121, n122, n123, n124, n125,
    n126, n127, n128, n129, n130, n131, n132, n133, n134, n135, n136, n137, n138, n139, n140, n141, n142, n143, n144, n145, n146, n147,
    n148, n149, n150, n151, n152, n153, n154, n155, n156, n157, n158, n159, n160, n161, n162, n163, n164, n165, n166, n167, n168, n169,
    n170, n171, n172, n173, n174, n175, n176, n177, n178, n179, n181, n182, n183, n184, n185, n186, n187, n188, n189, n190, n191, n192,
    n193, n194, n195, n196, n197, n198, n199, n200, n201, n202, n203, n204, n205, n206, n207, n208, n209, n210, n211, n212, n213, n214,
    n215, n216, n217, n218, n219, n220, n221, n222, n223, n224, n225, n226, n227, n228, n229, n230, n242, n244, n245, n251, n253, n259,
    n261, n267, n269, n275, n277, n283, n285, n286, n292, n294, n300, n302, n238, n239, n240, n241, n247, n248, n249, n250, n255, n256,
    n257, n258, n263, n264, n265, n266, n271, n272, n273, n274, n279, n280, n281, n282, n288, n289, n290, n291, n296, n297, n298, n299,
    n304, n305, n306, n307, n308, n309, n310, n243, n246, n252, n254, n260, n262, n268, n270, n276, n278, n284, n287, n293, n295, n301,
    n303, n312, n313, n314, n315, n316, n317, n318, n319, n320, n321, n322, n323, n324, n325, n326, n327, n328, n330, n331, n332, n333,
    n334, n335, n336, n337, n338, n339, n340, n341, n342, n343, n344, n345, n346, n347, n348, n349, n350, n351, n352, n353, n354, n355,
    n356, n357, n358, n359, n360, n361, n362, n363, n364, n365, n366, n367, n368, n369, n370, n371, n372, n373, n374, n375, n376, n377,
    n378, n379, n380, n381, n382, n383, n384, n385, n386, n387, n388, n389, n390, n391, n392, n393, n394, n395, n396, n397, n398, n399,
    n400, n401, n402, n403, n404, n405, n406]

set_option maxHeartbeats 8000000 in
/-- The states after any other tile. -/
theorem s_B (t : Fin cfg0.N) (h : ¬ t.val % 4 = 0) (S : ℕ → ℕ → ℕ → EReal)
    (hS : ∀ (h : Fin 4) (e a : Fin 128), prevS m c t (ix3 h e a) = packed S h e a) (k : Fin 4) (e a : Fin 128) :
    (outsAt0 m c t.val t.isLt).2.2 (ix3 k e a) = packed (stA (insB m c t (prevU m c t) (prevS m c t)) S 8) k e a := by
  refine Eq.trans ?_ (sL_at (insB m c t (prevU m c t) (prevS m c t)) S (holds_B m c t _ _ S hS) [] k e a)
  rw [outsAt0_B m c t h]
  frame_out
  dsimp only [uL0, uL1, uL2, tail0, tail1, sL, outV, mixV, mixL, base, uBuf, sBuf, fill0, prevU, prevS, insA, insB, ldA_6_0, ldA_7_0,
    ldA_6_256, ldA_7_256, ldB_6_0, ldB_7_0, ldB_6_256, ldB_7_256, sdA_0, sdA_1, sdA_2, sdA_3, sdB_0, sdB_1, sdB_2, sdB_3,
    ld_x2_S1024x3200_S1024x256_0_2304, ld_x2_S1024x3200_S1024x256_0_2816, ld_x2_S1024x3200_S1024x256_0_1792, ld_x6_S3x512_S3x256_0_256,
    ld_x2_S1024x3200_S1024x256_0_2048, ld_x2_S1024x3200_S1024x256_0_2560, ld_x2_S1024x3200_S1024x512_0_1024, ld_x2_S1024x3200_S1024x512_0_0,
    ld_x2_S1024x3200_S1024x128_0_3072, ld_x2_S1024x3200_S1024x512_0_512, ld_x2_S1024x3200_S1024x256_0_1536, ld_x6_S3x512_S3x256_0_0, n3, n4,
    n5, n6, n7, n8, n9, n10, n11, n16, n19, n20, n21, n22, n23, n24, n25, n26, n27, n28, n180, n231, n232, n233, n234, n235, n236, n311,
    n329, n407, n408, n409, n29, n30, n31, n32, n33, n34, n35, n36, n37, n38, n39, n40, n41, n42, n43, n44, n45, n46, n47, n48, n49, n50,
    n51, n52, n53, n54, n55, n56, n57, n58, n59, n60, n61, n62, n63, n64, n65, n66, n67, n68, n69, n70, n71, n72, n73, n74, n75, n76, n77,
    n78, n79, n80, n81, n82, n83, n84, n85, n86, n87, n88, n89, n90, n91, n92, n93, n94, n95, n96, n97, n98, n99, n100, n101, n102, n103,
    n104, n105, n106, n107, n108, n109, n110, n111, n112, n113, n114, n115, n116, n117, n118, n119, n120, n121, n122, n123, n124, n125,
    n126, n127, n128, n129, n130, n131, n132, n133, n134, n135, n136, n137, n138, n139, n140, n141, n142, n143, n144, n145, n146, n147,
    n148, n149, n150, n151, n152, n153, n154, n155, n156, n157, n158, n159, n160, n161, n162, n163, n164, n165, n166, n167, n168, n169,
    n170, n171, n172, n173, n174, n175, n176, n177, n178, n179, n181, n182, n183, n184, n185, n186, n187, n188, n189, n190, n191, n192,
    n193, n194, n195, n196, n197, n198, n199, n200, n201, n202, n203, n204, n205, n206, n207, n208, n209, n210, n211, n212, n213, n214,
    n215, n216, n217, n218, n219, n220, n221, n222, n223, n224, n225, n226, n227, n228, n229, n230, n242, n244, n245, n251, n253, n259,
    n261, n267, n269, n275, n277, n283, n285, n286, n292, n294, n300, n302, n238, n239, n240, n241, n247, n248, n249, n250, n255, n256,
    n257, n258, n263, n264, n265, n266, n271, n272, n273, n274, n279, n280, n281, n282, n288, n289, n290, n291, n296, n297, n298, n299,
    n304, n305, n306, n307, n308, n309, n310, n243, n246, n252, n254, n260, n262, n268, n270, n276, n278, n284, n287, n293, n295, n301,
    n303, n312, n313, n314, n315, n316, n317, n318, n319, n320, n321, n322, n323, n324, n325, n326, n327, n328, n330, n331, n332, n333,
    n334, n335, n336, n337, n338, n339, n340, n341, n342, n343, n344, n345, n346, n347, n348, n349, n350, n351, n352, n353, n354, n355,
    n356, n357, n358, n359, n360, n361, n362, n363, n364, n365, n366, n367, n368, n369, n370, n371, n372, n373, n374, n375, n376, n377,
    n378, n379, n380, n381, n382, n383, n384, n385, n386, n387, n388, n389, n390, n391, n392, n393, n394, n395, n396, n397, n398, n399,
    n400, n401, n402, n403, n404, n405, n406]

set_option maxHeartbeats 8000000 in
/-- The block of the result, a first tile. -/
theorem o_A (t : Fin cfg0.N) (h : t.val % 4 = 0) (y) : (outsAt0 m c t.val t.isLt).1 y = outV (insA m c t) y := by
  rw [outsAt0_A m c t h]
  frame_out
  dsimp only [uL0, uL1, uL2, tail0, tail1, sL, outV, mixV, mixL, base, uBuf, sBuf, fill0, prevU, prevS, insA, insB, ldA_6_0, ldA_7_0,
    ldA_6_256, ldA_7_256, ldB_6_0, ldB_7_0, ldB_6_256, ldB_7_256, sdA_0, sdA_1, sdA_2, sdA_3, sdB_0, sdB_1, sdB_2, sdB_3,
    ld_x2_S1024x3200_S1024x256_0_2304, ld_x2_S1024x3200_S1024x256_0_2816, ld_x2_S1024x3200_S1024x256_0_1792, ld_x6_S3x512_S3x256_0_256,
    ld_x2_S1024x3200_S1024x256_0_2048, ld_x2_S1024x3200_S1024x256_0_2560, ld_x2_S1024x3200_S1024x512_0_1024, ld_x2_S1024x3200_S1024x512_0_0,
    ld_x2_S1024x3200_S1024x128_0_3072, ld_x2_S1024x3200_S1024x512_0_512, ld_x2_S1024x3200_S1024x256_0_1536, ld_x6_S3x512_S3x256_0_0, n3, n4,
    n5, n6, n7, n8, n9, n10, n11, n16, n19, n20, n21, n22, n23, n24, n25, n26, n27, n28, n180, n231, n232, n233, n234, n235, n236, n311,
    n329, n407, n408, n409, n29, n30, n31, n32, n33, n34, n35, n36, n37, n38, n39, n40, n41, n42, n43, n44, n45, n46, n47, n48, n49, n50,
    n51, n52, n53, n54, n55, n56, n57, n58, n59, n60, n61, n62, n63, n64, n65, n66, n67, n68, n69, n70, n71, n72, n73, n74, n75, n76, n77,
    n78, n79, n80, n81, n82, n83, n84, n85, n86, n87, n88, n89, n90, n91, n92, n93, n94, n95, n96, n97, n98, n99, n100, n101, n102, n103,
    n104, n105, n106, n107, n108, n109, n110, n111, n112, n113, n114, n115, n116, n117, n118, n119, n120, n121, n122, n123, n124, n125,
    n126, n127, n128, n129, n130, n131, n132, n133, n134, n135, n136, n137, n138, n139, n140, n141, n142, n143, n144, n145, n146, n147,
    n148, n149, n150, n151, n152, n153, n154, n155, n156, n157, n158, n159, n160, n161, n162, n163, n164, n165, n166, n167, n168, n169,
    n170, n171, n172, n173, n174, n175, n176, n177, n178, n179, n181, n182, n183, n184, n185, n186, n187, n188, n189, n190, n191, n192,
    n193, n194, n195, n196, n197, n198, n199, n200, n201, n202, n203, n204, n205, n206, n207, n208, n209, n210, n211, n212, n213, n214,
    n215, n216, n217, n218, n219, n220, n221, n222, n223, n224, n225, n226, n227, n228, n229, n230, n242, n244, n245, n251, n253, n259,
    n261, n267, n269, n275, n277, n283, n285, n286, n292, n294, n300, n302, n238, n239, n240, n241, n247, n248, n249, n250, n255, n256,
    n257, n258, n263, n264, n265, n266, n271, n272, n273, n274, n279, n280, n281, n282, n288, n289, n290, n291, n296, n297, n298, n299,
    n304, n305, n306, n307, n308, n309, n310, n243, n246, n252, n254, n260, n262, n268, n270, n276, n278, n284, n287, n293, n295, n301,
    n303, n312, n313, n314, n315, n316, n317, n318, n319, n320, n321, n322, n323, n324, n325, n326, n327, n328, n330, n331, n332, n333,
    n334, n335, n336, n337, n338, n339, n340, n341, n342, n343, n344, n345, n346, n347, n348, n349, n350, n351, n352, n353, n354, n355,
    n356, n357, n358, n359, n360, n361, n362, n363, n364, n365, n366, n367, n368, n369, n370, n371, n372, n373, n374, n375, n376, n377,
    n378, n379, n380, n381, n382, n383, n384, n385, n386, n387, n388, n389, n390, n391, n392, n393, n394, n395, n396, n397, n398, n399,
    n400, n401, n402, n403, n404, n405, n406]

set_option maxHeartbeats 8000000 in
/-- The block of the result, any other tile. -/
theorem o_B (t : Fin cfg0.N) (h : ¬ t.val % 4 = 0) (y) :
    (outsAt0 m c t.val t.isLt).1 y = outV (insB m c t (prevU m c t) (prevS m c t)) y := by
  rw [outsAt0_B m c t h]
  frame_out
  dsimp only [uL0, uL1, uL2, tail0, tail1, sL, outV, mixV, mixL, base, uBuf, sBuf, fill0, prevU, prevS, insA, insB, ldA_6_0, ldA_7_0,
    ldA_6_256, ldA_7_256, ldB_6_0, ldB_7_0, ldB_6_256, ldB_7_256, sdA_0, sdA_1, sdA_2, sdA_3, sdB_0, sdB_1, sdB_2, sdB_3,
    ld_x2_S1024x3200_S1024x256_0_2304, ld_x2_S1024x3200_S1024x256_0_2816, ld_x2_S1024x3200_S1024x256_0_1792, ld_x6_S3x512_S3x256_0_256,
    ld_x2_S1024x3200_S1024x256_0_2048, ld_x2_S1024x3200_S1024x256_0_2560, ld_x2_S1024x3200_S1024x512_0_1024, ld_x2_S1024x3200_S1024x512_0_0,
    ld_x2_S1024x3200_S1024x128_0_3072, ld_x2_S1024x3200_S1024x512_0_512, ld_x2_S1024x3200_S1024x256_0_1536, ld_x6_S3x512_S3x256_0_0, n3, n4,
    n5, n6, n7, n8, n9, n10, n11, n16, n19, n20, n21, n22, n23, n24, n25, n26, n27, n28, n180, n231, n232, n233, n234, n235, n236, n311,
    n329, n407, n408, n409, n29, n30, n31, n32, n33, n34, n35, n36, n37, n38, n39, n40, n41, n42, n43, n44, n45, n46, n47, n48, n49, n50,
    n51, n52, n53, n54, n55, n56, n57, n58, n59, n60, n61, n62, n63, n64, n65, n66, n67, n68, n69, n70, n71, n72, n73, n74, n75, n76, n77,
    n78, n79, n80, n81, n82, n83, n84, n85, n86, n87, n88, n89, n90, n91, n92, n93, n94, n95, n96, n97, n98, n99, n100, n101, n102, n103,
    n104, n105, n106, n107, n108, n109, n110, n111, n112, n113, n114, n115, n116, n117, n118, n119, n120, n121, n122, n123, n124, n125,
    n126, n127, n128, n129, n130, n131, n132, n133, n134, n135, n136, n137, n138, n139, n140, n141, n142, n143, n144, n145, n146, n147,
    n148, n149, n150, n151, n152, n153, n154, n155, n156, n157, n158, n159, n160, n161, n162, n163, n164, n165, n166, n167, n168, n169,
    n170, n171, n172, n173, n174, n175, n176, n177, n178, n179, n181, n182, n183, n184, n185, n186, n187, n188, n189, n190, n191, n192,
    n193, n194, n195, n196, n197, n198, n199, n200, n201, n202, n203, n204, n205, n206, n207, n208, n209, n210, n211, n212, n213, n214,
    n215, n216, n217, n218, n219, n220, n221, n222, n223, n224, n225, n226, n227, n228, n229, n230, n242, n244, n245, n251, n253, n259,
    n261, n267, n269, n275, n277, n283, n285, n286, n292, n294, n300, n302, n238, n239, n240, n241, n247, n248, n249, n250, n255, n256,
    n257, n258, n263, n264, n265, n266, n271, n272, n273, n274, n279, n280, n281, n282, n288, n289, n290, n291, n296, n297, n298, n299,
    n304, n305, n306, n307, n308, n309, n310, n243, n246, n252, n254, n260, n262, n268, n270, n276, n278, n284, n287, n293, n295, n301,
    n303, n312, n313, n314, n315, n316, n317, n318, n319, n320, n321, n322, n323, n324, n325, n326, n327, n328, n330, n331, n332, n333,
    n334, n335, n336, n337, n338, n339, n340, n341, n342, n343, n344, n345, n346, n347, n348, n349, n350, n351, n352, n353, n354, n355,
    n356, n357, n358, n359, n360, n361, n362, n363, n364, n365, n366, n367, n368, n369, n370, n371, n372, n373, n374, n375, n376, n377,
    n378, n379, n380, n381, n382, n383, n384, n385, n386, n387, n388, n389, n390, n391, n392, n393, n394, n395, n396, n397, n398, n399,
    n400, n401, n402, n403, n404, n405, n406]

end Cert.MixerIdeal.Tile
-- ==== Proof.MixerReads.lean ====
/- Every block the token mixer's pipeline stages, as entries of the operands. -/
module

public import proofs.«01_k».proof.Proof.MixerPointX
public import proofs.«01_k».proof.Proof.MixerNet
public import Idealize.ShloMosaic.Lib.StableHlo.ReadAt

@[expose] public section

set_option maxRecDepth 16384

noncomputable section

open Idealize.ShloMosaic Idealize.ShloMosaic.TcCoe Idealize.SL.Sem
open scoped BigOperators

namespace Cert.MixerIdeal.Tile

open Cert.MixerIdeal Cert.MixerIdeal.Gen Cert.MixRows

variable (m : (ℓ : Loc nD τ sig) → Buf (Elt Ideal) ℓ)

/-- The index maps of the windows: the token tiles move with the grid point, the weights stay. -/
theorem idx_val : ∀ t : Fin cfg0.N, win0_0.index t = ![t.val / 4, t.val % 4, 0]
    ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0]
    ∧ win0_8.index t = ![t.val / 4, t.val % 4, 0] :=
  (by decide +kernel : ∀ t : Fin grid0.N, _)

/-- The token block. -/
theorem read0 (c : Dev nD) (t : Fin cfg0.N) (r : Fin 512) (k : Fin 1024) : iblk m c 0 t (ix3 0 r k)
    = m ((c : Thread nD τ).loc main_arg0) (ix3 ⟨t.val / 4, by have : t.val < 64 := t.isLt; omega⟩ ⟨512 * (t.val % 4) + r.val, by omega⟩ k) := by
  blk_point [iblk, V, idx_val t]

/-- The normalisation weights as the kernel takes them. -/
theorem V1 (c : Dev nD) (k : Fin 1024) : V m c main_v11 (ix2 0 k) = m ((c : Thread nD τ).loc main_arg1) (ix2 0 k) := by
  unfold V
  after_reads_at
/-- The forget gate's bias as the kernel takes it. -/
theorem V4 (c : Dev nD) (k : Fin 256) : V m c main_v13 (ix2 0 k) = m ((c : Thread nD τ).loc main_arg4) (ix2 0 k) := by
  unfold V
  after_reads_at
/-- The heads' normalisation weights as the kernel takes them. -/
theorem V5 (c : Dev nD) (k : Fin 128) : V m c main_v15 (ix2 0 k) = m ((c : Thread nD τ).loc main_arg5) (ix2 0 k) := by
  unfold V
  after_reads_at
/-- The short convolution's weights as the kernel takes them. -/
theorem V6 (c : Dev nD) (i : Fin 3) (k : Fin 512) : V m c main_v16 (ix2 i k) = m ((c : Thread nD τ).loc main_arg6) (ix3 0 i k) := by
  unfold V
  after_reads_at
/-- The output projection as the kernel takes it. -/
theorem V7 (c : Dev nD) (l k : Fin 1024) : V m c main_v18 (ix2 l k) = m ((c : Thread nD τ).loc main_arg7) (ix3 0 l k) := by
  unfold V
  after_reads_at
/-- The forget gate's second projection, padded with zero rows. -/
theorem V3 (c : Dev nD) (x : Fin 128) (k : Fin 256) : V m c main_v9 (ix2 x k) = if h : (x : ℕ) < 16 then m ((c : Thread nD τ).loc main_arg3) (ix3 0 ⟨x, h⟩ k) else (0 : EReal) := by
  unfold V
  after_reads_at
  by_cases h : (x : ℕ) < 16
  · rw [dif_pos h, dif_pos h]
  · rw [dif_neg h, dif_neg h]
    show (((0#32 : BitVec 32).toInt : ℝ) : EReal) = 0
    simp
/-- The input projection's columns as the kernel orders them. -/
theorem V2 (c : Dev nD) (x : Fin 1024) (k : Fin 3200) : V m c main_v6 (ix2 x k)
    = Cert.MixNet.order (fun x j => m ((c : Thread nD τ).loc main_arg2) (ix3 0 x j)) x k := by
  unfold V Cert.MixNet.order
  after_reads_at
  split
  · after_reads_at
  · split
    · after_reads_at
      have h3 : (k : ℕ) < 3072 := by omega
      simp only [h3, ↓reduceDIte]
      have e : 1552 + ((k : ℕ) - 1536) = k + 16 := by omega
      simp only [e]
    · after_reads_at
      have h3 : ¬ (k : ℕ) < 3072 := by omega
      simp only [h3, ↓reduceDIte]
      by_cases h : (k : ℕ) < 3088
      · have h4 : (k : ℕ) - 1536 - 1536 < 16 := by omega
        simp only [h, h4, ↓reduceDIte]
        have e : 1536 + ((k : ℕ) - 1536 - 1536) = k - 1536 := by omega
        simp only [e]
      · have h4 : ¬ (k : ℕ) - 1536 - 1536 < 16 := by omega
        simp only [h, h4, ↓reduceDIte]
        show (((0#32 : BitVec 32).toInt : ℝ) : EReal) = 0
        simp
/-- Where the normalisation weights' block lies in its array: at the same place. -/
theorem emb1 (t : Fin cfg0.N) (r : Fin 1) (j : Fin 1024) : ((cfg0.win 1).blk t).view.emb (ix2 r j) = (ix2 r j : S1x1024.Idx) := by
  blk_ext [idx_val t]
/-- Where a result tile lies in the result. -/
theorem emb8 (t : Fin cfg0.N) (r : Fin 512) (j : Fin 1024) : ((cfg0.win 8).blk t).view.emb (ix3 0 r j)
    = (ix3 ⟨t.val / 4, by have : t.val < 64 := t.isLt; omega⟩ ⟨512 * (t.val % 4) + r.val, by omega⟩ j : S16x2048x1024.Idx) := by
  blk_ext [idx_val t]

/-- A staged block is its operand. -/
theorem read1 (c : Dev nD) (t : Fin cfg0.N) (k : Fin 1024) : iblk m c 1 t (ix2 0 k) = m ((c : Thread nD τ).loc main_arg1) (ix2 0 k) := by
  refine Eq.trans ?_ (V1 m c k)
  blk_ext [iblk, idx_val t]
/-- A staged block is its operand. -/
theorem read4 (c : Dev nD) (t : Fin cfg0.N) (k : Fin 256) : iblk m c 4 t (ix2 0 k) = m ((c : Thread nD τ).loc main_arg4) (ix2 0 k) := by
  refine Eq.trans ?_ (V4 m c k)
  blk_ext [iblk, idx_val t]
/-- A staged block is its operand. -/
theorem read5 (c : Dev nD) (t : Fin cfg0.N) (k : Fin 128) : iblk m c 5 t (ix2 0 k) = m ((c : Thread nD τ).loc main_arg5) (ix2 0 k) := by
  refine Eq.trans ?_ (V5 m c k)
  blk_ext [iblk, idx_val t]
/-- A staged block is its operand. -/
theorem read6 (c : Dev nD) (t : Fin cfg0.N) (i : Fin 3) (k : Fin 512) : iblk m c 6 t (ix2 i k) = m ((c : Thread nD τ).loc main_arg6) (ix3 0 i k) := by
  refine Eq.trans ?_ (V6 m c i k)
  blk_ext [iblk, idx_val t]
/-- A staged block is its operand. -/
theorem read7 (c : Dev nD) (t : Fin cfg0.N) (i k : Fin 1024) : iblk m c 7 t (ix2 i k) = m ((c : Thread nD τ).loc main_arg7) (ix3 0 i k) := by
  refine Eq.trans ?_ (V7 m c i k)
  blk_ext [iblk, idx_val t]
/-- A staged block is its operand. -/
theorem read3 (c : Dev nD) (t : Fin cfg0.N) (i : Fin 128) (k : Fin 256) : iblk m c 3 t (ix2 i k) = if h : (i : ℕ) < 16 then m ((c : Thread nD τ).loc main_arg3) (ix3 0 ⟨i, h⟩ k) else (0 : EReal) := by
  refine Eq.trans ?_ (V3 m c i k)
  blk_ext [iblk, idx_val t]
/-- A staged block is its operand. -/
theorem read2 (c : Dev nD) (t : Fin cfg0.N) (i : Fin 1024) (k : Fin 3200) : iblk m c 2 t (ix2 i k) = Cert.MixNet.order (fun x j => m ((c : Thread nD τ).loc main_arg2) (ix3 0 x j)) i k := by
  refine Eq.trans ?_ (V2 m c i k)
  blk_ext [iblk, idx_val t]

end Cert.MixerIdeal.Tile
-- ==== Proof.MixerFinal.lean ====
/- What the token mixer leaves in its result array: the carried states and rows by induction over the tiles, then the
   array from its blocks. -/
module

public import proofs.«01_k».proof.Proof.MixerReads

@[expose] public section

set_option maxRecDepth 16384

noncomputable section

open Idealize.ShloMosaic Idealize.ShloMosaic.TcCoe Idealize.SL.Sem
open scoped BigOperators

namespace Cert.MixerIdeal.Tile

open Cert.MixerIdeal Cert.MixerIdeal.Gen Cert.MixRows Cert.MixNet

variable (m : (ℓ : Loc nD τ sig) → Buf (Elt Ideal) ℓ)

/-- The operands as the kernel's arrays hold them. -/
def net (c : Dev nD) : Net where
  X R k := m ((c : Thread nD τ).loc main_arg0) (ix3 ⟨R / 2048 % 16, Nat.mod_lt _ (by decide)⟩ ⟨R % 2048, Nat.mod_lt _ (by decide)⟩ k)
  G1 k := m ((c : Thread nD τ).loc main_arg1) (ix2 0 k)
  W := order (fun x j => m ((c : Thread nD τ).loc main_arg2) (ix3 0 x j))
  WU a k := m ((c : Thread nD τ).loc main_arg3) (ix3 0 a k)
  BG k := m ((c : Thread nD τ).loc main_arg4) (ix2 0 k)
  GN k := m ((c : Thread nD τ).loc main_arg5) (ix2 0 k)
  CW i k := m ((c : Thread nD τ).loc main_arg6) (ix3 0 i k)
  WO i k := m ((c : Thread nD τ).loc main_arg7) (ix3 0 i k)

/-- The blocks of tile `t` are the operands' entries. -/
structure Fits (I : Ins) (N : Net) (t : ℕ) : Prop where
  h0 : ∀ (r : Fin 512) (k : Fin 1024), I.x0 (ix3 0 r k) = N.X (512 * t + r) k
  h1 : ∀ k : Fin 1024, I.x1 (ix2 0 k) = N.G1 k
  h2 : ∀ (k : Fin 1024) (j : Fin 3200), I.x2 (ix2 k j) = N.W k j
  h3 : ∀ (x : Fin 128) (k : Fin 256), I.x3 (ix2 x k) = if h : (x : ℕ) < 16 then N.WU ⟨x, h⟩ k else 0
  h4 : ∀ k : Fin 256, I.x4 (ix2 0 k) = N.BG k
  h5 : ∀ k : Fin 128, I.x5 (ix2 0 k) = N.GN k
  h6 : ∀ (i : Fin 3) (k : Fin 512), I.x6 (ix2 i k) = N.CW i k
  h7 : ∀ i k : Fin 1024, I.x7 (ix2 i k) = N.WO i k

/-- The staged blocks fit. -/
theorem fits_base (c : Dev nD) (t : Fin cfg0.N) : Fits (base m c t) (net m c) t where
  h0 r k := by
    refine (read0 m c t r k).trans ?_
    have ht : t.val < 64 := t.isLt
    have hr := r.isLt
    exact congrArg₂ (fun a b => m ((c : Thread nD τ).loc main_arg0) (ix3 a b k)) (Fin.ext (by show t.val / 4 = (512 * t.val + r) / 2048 % 16; omega))
      (Fin.ext (by show 512 * (t.val % 4) + (r : ℕ) = (512 * t.val + r) % 2048; omega))
  h1 := read1 m c t
  h2 := read2 m c t
  h3 := read3 m c t
  h4 := read4 m c t
  h5 := read5 m c t
  h6 := read6 m c t
  h7 := read7 m c t

/-- The inputs of a sequence's first tile are those that the mathematics takes. -/
theorem fits_A (c : Dev nD) (t : Fin cfg0.N) : Fits (insA m c t) (net m c) t :=
  have H := fits_base m c t
  ⟨H.h0, H.h1, H.h2, H.h3, H.h4, H.h5, H.h6, H.h7⟩

/-- The inputs of a later tile, whatever it carries, are those that the mathematics takes. -/
theorem fits_B (c : Dev nD) (t : Fin cfg0.N) (P : FVec Ideal S520x512 .f32) (Q : FVec Ideal S4x128x128 .f32) :
    Fits (insB m c t P Q) (net m c) t :=
  have H := fits_base m c t
  ⟨H.h0, H.h1, H.h2, H.h3, H.h4, H.h5, H.h6, H.h7⟩

section
variable {I : Ins} {N : Net} {t : ℕ} (H : Fits I N t)
include H

/-- The tile's projected tokens. -/
theorem pr_eq (R j : ℕ) (hR : R < 512) : pr I R j = P N (512 * t + R) j := by
  unfold pr P
  refine Finset.sum_congr rfl fun k _ => ?_
  rw [H.h2]
  refine congrArg (· * _) ?_
  unfold hb
  have e : (⟨R % 512, Nat.mod_lt _ (by decide)⟩ : Fin 512) = ⟨R, hR⟩ := Fin.ext (Nat.mod_eq_of_lt hR)
  rw [e]
  have e1 : (fun k => I.x0 (ix3 0 ⟨R, hR⟩ k)) = N.X (512 * t + R) := funext fun k => H.h0 ⟨R, hR⟩ k
  have e2 : (fun k => I.x1 (ix2 0 k)) = N.G1 := funext H.h1
  rw [e1, e2]

/-- The tile's gate logarithms. -/
theorem lg_eq (R j : ℕ) (hR : R < 512) : lg I R j = G N (512 * t + R) j := by
  unfold lg G
  rw [H.h4]
  refine congrArg (fun s => gate (s + _)) ?_
  simp only [H.h3, pr_eq H R _ hR]
  rw [Fin.sum_univ_add (a := 16) (b := 112)]
  rw [Finset.sum_eq_zero (s := Finset.univ) (f := fun i : Fin 112 => _) (fun i _ => by
    rw [dif_neg (by simp), mul_zero]), add_zero]
  exact Finset.sum_congr rfl fun a _ => by
    rw [dif_pos (by simp)]
    rfl

/-- A chunk of the tile. -/
theorem dc_eq (n : ℕ) (hn : n < 8) : dc I (64 * n) = D N (8 * t + n) := by
  funext r j
  have hr := r.isLt
  rw [dc_at, pr_eq H _ _ (by omega)]
  show _ = P N (64 * (8 * t + n) + r) j
  rw [show 64 * (8 * t + n) + (r : ℕ) = 512 * t + (64 * n + r) by omega]

/-- A chunk's gate logarithms. -/
theorem lc_eq (n : ℕ) (hn : n < 8) : lc I (64 * n) = L N (8 * t + n) := by
  funext r j
  have hr := r.isLt
  rw [lc_at, lg_eq H _ _ (by omega)]
  show _ = G N (64 * (8 * t + n) + r) j
  rw [show 64 * (8 * t + n) + (r : ℕ) = 512 * t + (64 * n + r) by omega]

/-- The states inside the tile. -/
theorem stA_eq : ∀ n, n < 8 → stA I (St N (8 * t)) n = St N (8 * t + n)
  | 0, _ => rfl
  | n + 1, h => by
    rw [show 8 * t + (n + 1) = 8 * t + n + 1 by omega, St_next N _ (by omega), ← stA_eq n (by omega), ← dc_eq H n (by omega),
      ← lc_eq H n (by omega)]
    rfl

/-- The state after the tile, inside a sequence. -/
theorem stA_end (h : (t + 1) % 4 ≠ 0) : stA I (St N (8 * t)) 8 = St N (8 * (t + 1)) := by
  rw [show 8 * (t + 1) = 8 * t + 7 + 1 by omega, St_next N _ (by omega), ← stA_eq H 7 (by omega), ← dc_eq H 7 (by omega),
    ← lc_eq H 7 (by omega)]
  rfl

/-- The tile's convolution input. -/
theorem uu_eq (r d : ℕ) (hr : r < 512) : uu I r d = U N (512 * t + r) d := by
  unfold uu U
  rw [pr_eq H _ _ hr, pr_eq H _ _ hr]

/-- What the tile's rows hand to the output projection. -/
theorem mixR_eq (V : ℕ → ℕ → EReal) (h2 : ∀ R d, R < 512 → V R d = back N 2 (512 * t + R) d) (h1 : ∀ R d, R < 512 → V (R + 1) d = back N 1 (512 * t + R) d)
    (R j : ℕ) (hR : R < 512) : mixR I (St N (8 * t)) V R j = Cert.MixNet.M N (512 * t + R) j := by
  unfold mixR Cert.MixNet.M
  have e1 : (512 * t + R) / 64 = 8 * t + R / 64 := by omega
  have e2 : (512 * t + R) % 64 = R % 64 := by omega
  split
  · rw [dc_eq H _ (by omega), lc_eq H _ (by omega), stA_eq H _ (by omega), e1]
    have e3 : gn I = N.GN := funext H.h5
    rw [e3]
    simp only [e2]
  · unfold cv
    rw [H.h6, H.h6, H.h6, h2 _ _ hR, h1 _ _ hR, pr_eq H _ _ hR, pr_eq H _ _ hR, pr_eq H _ _ hR]
    rfl

/-- The tile's result. -/
theorem outV_eq (S : ℕ → ℕ → ℕ → EReal) (hS : S = St N (8 * t)) (HS : Holds I S) (V : ℕ → ℕ → EReal) (HV : HoldsU I V)
    (h2 : ∀ R d, R < 512 → V R d = back N 2 (512 * t + R) d) (h1 : ∀ R d, R < 512 → V (R + 1) d = back N 1 (512 * t + R) d)
    (r : Fin 512) (j : Fin 1024) : outV I (ix3 0 r j) = Out N (512 * t + r) j := by
  subst hS
  rw [outV_at I _ HS V HV]
  unfold Out
  rw [H.h0]
  refine congrArg (_ + ·) (Finset.sum_congr rfl fun k _ => ?_)
  rw [H.h7, mixR_eq H V h2 h1 _ _ r.isLt]

end

/-- The buffer's rows two and one back at a sequence's first tile. -/
theorem pad_first (c : Dev nD) (t : Fin cfg0.N) (h : t.val % 4 = 0) (k R d : ℕ) (hk : k ≤ 2) (hk1 : 1 ≤ k) (hR : R < 512) :
    pad (base m c t) (fun _ _ => 0) (R + (2 - k)) d = back (net m c) k (512 * t.val + R) d := by
  unfold pad back
  by_cases hp : R < k
  · rw [if_pos (by omega), if_pos (by omega)]
  · rw [if_neg (by omega), if_neg (by omega), uu_eq (fits_base m c t) _ _ (by omega)]
    rw [show 512 * t.val + (R + (2 - k) - 2) = 512 * t.val + R - k by omega]

/-- The buffer's rows two and one back at any other tile. -/
theorem pad_later (c : Dev nD) (t : Fin cfg0.N) (h : ¬ t.val % 4 = 0) (k R d : ℕ) (hk : k ≤ 2) (hk1 : 1 ≤ k) (hR : R < 512) :
    pad (base m c t) (fun ρ d => U (net m c) (512 * (t.val - 1) + (504 + ρ)) d) (R + (2 - k)) d = back (net m c) k (512 * t.val + R) d := by
  unfold pad back
  by_cases hp : R < k
  · rw [if_pos (by omega), if_neg (by omega)]
    show U (net m c) (512 * (t.val - 1) + (504 + (6 + (R + (2 - k))))) d = _
    rw [show 512 * (t.val - 1) + (504 + (6 + (R + (2 - k)))) = 512 * t.val + R - k by omega]
  · rw [if_neg (by omega), if_neg (by omega), uu_eq (fits_base m c t) _ _ (by omega)]
    rw [show 512 * t.val + (R + (2 - k) - 2) = 512 * t.val + R - k by omega]

/-- What every tile leaves in the convolution's buffer. -/
theorem left_u (c : Dev nD) (t : Fin cfg0.N) (r : Fin 520) (d : Fin 512) (hr : (r : ℕ) < 8) :
    (outsAt0 m c t.val t.isLt).2.1 (ix2 r d) = U (net m c) (512 * t.val + (504 + r)) d := by
  have e : uu (base m c t) (504 + r) d = U (net m c) (512 * t.val + (504 + r)) d := uu_eq (fits_base m c t) _ _ (by omega)
  by_cases h : t.val % 4 = 0
  · exact (u_A m c t h r d hr).trans e
  · exact (u_B m c t h r d hr).trans e

/-- What every tile leaves in the states, except a sequence's last. -/
theorem left_s (c : Dev nD) : ∀ (n : ℕ) (hn : n < cfg0.N), (n + 1) % 4 ≠ 0 → ∀ (k : Fin 4) (e a : Fin 128),
    (outsAt0 m c n hn).2.2 (ix3 k e a) = packed (St (net m c) (8 * (n + 1))) k e a := by
  intro n
  induction n with
  | zero =>
    intro hn h k e a
    refine (s_A m c ⟨0, hn⟩ (by rfl) k e a).trans ?_
    rw [← stA_end (fits_A m c ⟨0, hn⟩) h, St_start _ _ (by rfl)]
  | succ n ih =>
    intro hn h k e a
    by_cases h0 : (n + 1) % 4 = 0
    · refine (s_A m c ⟨n + 1, hn⟩ h0 k e a).trans ?_
      rw [← stA_end (fits_A m c ⟨n + 1, hn⟩) h, St_start _ _ (by show 8 * (n + 1) % 32 = 0; omega)]
    · refine (s_B m c ⟨n + 1, hn⟩ h0 (St (net m c) (8 * (n + 1))) (fun k e a => ih (by omega) h0 k e a) k e a).trans ?_
      rw [← stA_end (fits_B m c ⟨n + 1, hn⟩ _ _) h]

/-- The result's block of every tile. -/
theorem out_t (c : Dev nD) (t : Fin cfg0.N) (r : Fin 512) (j : Fin 1024) :
    (outsAt0 m c t.val t.isLt).1 (ix3 0 r j) = Out (net m c) (512 * t.val + r) j := by
  by_cases h : t.val % 4 = 0
  · refine (o_A m c t h _).trans ?_
    refine outV_eq (fits_A m c t) _ (St_start _ _ (by omega)).symm (holds_A m c t) _ (holdsU_A m c t) ?_ ?_ r j
    · exact fun R d hR => pad_first m c t h 2 R d (by omega) (by omega) hR
    · exact fun R d hR => pad_first m c t h 1 R d (by omega) (by omega) hR
  · refine (o_B m c t h _).trans ?_
    have ht : t.val < cfg0.N := t.isLt
    refine outV_eq (fits_B m c t _ _) _ rfl (holds_B m c t _ _ _ fun k e a => ?_) _
      (holdsU_B m c t _ _ (fun ρ d => U (net m c) (512 * (t.val - 1) + (504 + ρ)) d) fun r d hr => ?_) ?_ ?_ r j
    · refine (left_s m c (t.val - 1) (by omega) (by omega) k e a).trans ?_
      rw [show 8 * (t.val - 1 + 1) = 8 * t.val by omega]
    · exact left_u m c ⟨t.val - 1, by omega⟩ r d hr
    · exact fun R d hR => pad_later m c t h 2 R d (by omega) (by omega) hR
    · exact fun R d hR => pad_later m c t h 1 R d (by omega) (by omega) hR

/-- The result as one array. -/
def RES (N : Net) : FVec Ideal S16x2048x1024 .f32 := fun i => Out N (2048 * (i 0).val + (i 1).val) (i 2)

/-- The result array after the run. -/
theorem final (c : Dev nD) : (dats m 0 c).arrAt 8 (cfgs 0).N = RES (net m c) := by
  refine (dats m 0 c).arrAt_eq_of_covers 8 _ (by decide +kernel) fun t hf y => ?_
  blk_simp; rw [after0_8]
  obtain ⟨z, r, j, rfl⟩ : ∃ (z : Fin 1) (r : Fin 512) (j : Fin 1024), y = ix3 z r j := ⟨y 0, y 1, y 2, eq_ix3 y⟩
  obtain rfl : z = 0 := Subsingleton.elim _ _
  refine (out_t m c t r j).trans ?_
  have e := emb8 t r j
  refine Eq.trans ?_ (congrArg (RES (net m c)) e.symm)
  show _ = Out (net m c) (2048 * (t.val / 4) + (512 * (t.val % 4) + r)) j
  rw [show 2048 * (t.val / 4) + (512 * (t.val % 4) + (r : ℕ)) = 512 * t.val + r by omega]

end Cert.MixerIdeal.Tile
-- ==== Proof.lean ====
module

public import proofs.«01_k».proof.Defs
public import proofs.«01_k».proof.Proof.Gen.Mixer
public import proofs.«01_k».proof.Proof.Gen.Mixer.Frame
public import proofs.«01_k».proof.Proof.Gen.MixerIdeal
public import proofs.«01_k».proof.Proof.Gen.MixerIdeal.Frame
public import proofs.«01_k».proof.Proof.Gen.MixerIdeal.Value
public import proofs.«01_k».proof.Proof.Gen.MixerReferenceIdeal
public import proofs.«01_k».proof.Proof.Gen.MixerReferenceIdeal.Run
public import proofs.«01_k».proof.Proof.Gen.Ffn
public import proofs.«01_k».proof.Proof.Gen.Ffn.Frame
public import proofs.«01_k».proof.Proof.Gen.FfnIdeal
public import proofs.«01_k».proof.Proof.Gen.FfnIdeal.Frame
public import proofs.«01_k».proof.Proof.Gen.FfnIdeal.Value
public import proofs.«01_k».proof.Proof.Gen.FfnReferenceIdeal
public import proofs.«01_k».proof.Proof.Gen.FfnReferenceIdeal.Run
public import proofs.«01_k».proof.Proof.FfnValue
public import proofs.«01_k».proof.Proof.MixerRefRun
public import proofs.«01_k».proof.Proof.MixerRefPost
public import proofs.«01_k».proof.Proof.MixerFinal
public import Idealize.ShloMosaic.Adequacy
public import Idealize.ShloMosaic.Init
public import Idealize.ShloMosaic.Lib.Claim

@[expose] public section

set_option maxRecDepth 16384

noncomputable section

namespace Cert.Proof

open Idealize.ShloMosaic Idealize.SL.Sem

/-- The mixing program's frame. -/
theorem frame_mixer : Cert.quiescent_Mixer := fun m g _ => Cert.Mixer.Gen.frame m g

/-- The idealised mixing program's frame. -/
theorem frame_mixer_ideal : Cert.quiescent_MixerIdeal := fun m g _ => Cert.MixerIdeal.Gen.frame m g

/-- The mixing reference's frame: no operation writes an argument, and the program declares no semaphore. -/
theorem frame_mixer_ref : Cert.quiescent_MixerReferenceIdeal := fun m g _ =>
  (θ_run (Cert.MixerReferenceIdeal.defs (F := Ideal)) _ _).mono (fun _ h => ⟨fun c => (h.1 c).2, h.2⟩) (Cert.MixerReferenceIdeal.Kept.run_kept m g)

/-- The feed-forward program's frame. -/
theorem frame_ffn : Cert.quiescent_Ffn := fun m g _ => Cert.Ffn.Gen.frame m g

/-- The idealised feed-forward program's frame. -/
theorem frame_ffn_ideal : Cert.quiescent_FfnIdeal := fun m g _ => Cert.FfnIdeal.Gen.frame m g

/-- The feed-forward reference's frame: no operation writes an argument, and the program declares no semaphore. -/
theorem frame_ffn_ref : Cert.quiescent_FfnReferenceIdeal := fun m g _ =>
  (θ_run (Cert.FfnReferenceIdeal.defs (F := Ideal)) _ _).mono (fun _ h => ⟨fun c => (h c).2, funext fun x => by
    obtain ⟨t, s⟩ := x
    cases s <;> (rename_i i; exact i.elim0)⟩) (Cert.FfnReferenceIdeal.Value.run m g)

/-- The mixing kernel's result is the reference's. -/
theorem algebraic_mixer : Cert.algebraic_MixerIdeal_MixerReferenceIdeal := by
  pair_intro
  · run_from Cert.MixerIdeal.Gen.run_main m g
    · exact Cert.MixerIdeal.Gen.V_main_arg1 m c
    · exact Cert.MixerIdeal.Gen.V_main_arg2 m c
    · exact Cert.MixerIdeal.Gen.V_main_arg3 m c
    · exact Cert.MixerIdeal.Gen.V_main_arg4 m c
    · exact Cert.MixerIdeal.Gen.V_main_arg5 m c
    · exact Cert.MixerIdeal.Gen.V_main_arg6 m c
    · exact Cert.MixerIdeal.Gen.V_main_arg7 m c
  · refine (θ_run (Cert.MixerReferenceIdeal.defs (F := Ideal)) _ _).mono (fun r h c => ⟨(h.1 c).1.trans ?_, (h.1 c).2⟩)
      (Cert.MixerReferenceIdeal.Kept.run_kept m' g')
    refine (Cert.MixerReferenceIdeal.Pre.res_eq m' c).trans ?_
    obtain ⟨h0, h1, h2, h3, h4, h5, h6, h7⟩ := hagree c
    rw [Cert.MixerIdeal.Tile.final m c]
    have hN : Cert.MixerReferenceIdeal.Pre.netV (Cert.MixerReferenceIdeal.Pre.v0 m' c) = Cert.MixerIdeal.Tile.net m c := by
      unfold Cert.MixerReferenceIdeal.Pre.netV Cert.MixerIdeal.Tile.net
      congr 1
      · exact funext fun R => funext fun k => congrFun h0 _
      · exact funext fun k => congrFun h1 _
      · exact congrArg Cert.MixNet.order (funext fun x => funext fun j => congrFun h2 _)
      · exact funext fun a => funext fun k => congrFun h3 _
      · exact funext fun k => congrFun h4 _
      · exact funext fun k => congrFun h5 _
      · exact funext fun i => funext fun k => congrFun h6 _
      · exact funext fun i => funext fun k => congrFun h7 _
    rw [hN]
    rfl

/-- The feed-forward kernel's result is the reference's. -/
theorem algebraic_ffn : Cert.algebraic_FfnIdeal_FfnReferenceIdeal := by
  pair_intro
  · run_from Cert.FfnIdeal.Gen.run_main m g
  · run_from Cert.FfnReferenceIdeal.Value.run m' g'
    refine (Cert.FfnReferenceIdeal.FfnValue.res_eq m' c).trans ?_
    obtain ⟨h0, h1, h2, h3, h4, h5⟩ := hagree c
    rw [Cert.FfnIdeal.FfnValue.final m c]
    exact (congr (congr (congr (congr (congr (congrArg Cert.FfnReferenceIdeal.FfnValue.REF h0) h1) h2) h3) h4) h5)

/-- Every claim. -/
theorem claim : Cert.Claim := ⟨Cert.Mixer.Gen.facts, Cert.MixerIdeal.Gen.facts, Cert.MixerReferenceIdeal.Gen.facts, Cert.Ffn.Gen.facts, Cert.FfnIdeal.Gen.facts, Cert.FfnReferenceIdeal.Gen.facts,
  frame_mixer, frame_mixer_ideal, frame_mixer_ref, frame_ffn, frame_ffn_ideal, frame_ffn_ref, trivial, algebraic_mixer, trivial, algebraic_ffn⟩

end Cert.Proof

end
